-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def Pre_Qk (m : (ℓ : Loc Cert.Qk.nD Cert.Qk.τ Cert.Qk.sig) → Buf (Elt Bits) ℓ) : Prop :=
  True

def Pre_QkIdeal (m : (ℓ : Loc Cert.QkIdeal.nD Cert.QkIdeal.τ Cert.QkIdeal.sig) → Buf (Elt Ideal) ℓ) : Prop :=
  True

def Pre_RefQkIdeal (m : (ℓ : Loc Cert.RefQkIdeal.nD Cert.RefQkIdeal.τ Cert.RefQkIdeal.sig) → Buf (Elt Ideal) ℓ) : Prop :=
  True

def Pre_Vt (m : (ℓ : Loc Cert.Vt.nD Cert.Vt.τ Cert.Vt.sig) → Buf (Elt Bits) ℓ) : Prop :=
  True

def Pre_VtIdeal (m : (ℓ : Loc Cert.VtIdeal.nD Cert.VtIdeal.τ Cert.VtIdeal.sig) → Buf (Elt Ideal) ℓ) : Prop :=
  True

def Pre_RefVtIdeal (m : (ℓ : Loc Cert.RefVtIdeal.nD Cert.RefVtIdeal.τ Cert.RefVtIdeal.sig) → Buf (Elt Ideal) ℓ) : Prop :=
  True

def Pre_Rkv (m : (ℓ : Loc Cert.Rkv.nD Cert.Rkv.τ Cert.Rkv.sig) → Buf (Elt Bits) ℓ) : Prop :=
  True

def Pre_RkvIdeal (m : (ℓ : Loc Cert.RkvIdeal.nD Cert.RkvIdeal.τ Cert.RkvIdeal.sig) → Buf (Elt Ideal) ℓ) : Prop :=
  True

def Pre_RefRkvIdeal (m : (ℓ : Loc Cert.RefRkvIdeal.nD Cert.RefRkvIdeal.τ Cert.RefRkvIdeal.sig) → Buf (Elt Ideal) ℓ) : Prop :=
  True

def Pre_Gg (m : (ℓ : Loc Cert.Gg.nD Cert.Gg.τ Cert.Gg.sig) → Buf (Elt Bits) ℓ) : Prop :=
  True

def Pre_GgIdeal (m : (ℓ : Loc Cert.GgIdeal.nD Cert.GgIdeal.τ Cert.GgIdeal.sig) → Buf (Elt Ideal) ℓ) : Prop :=
  True

def Pre_RefGgIdeal (m : (ℓ : Loc Cert.RefGgIdeal.nD Cert.RefGgIdeal.τ Cert.RefGgIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_RefOutIdeal (m : (ℓ : Loc Cert.RefOutIdeal.nD Cert.RefOutIdeal.τ Cert.RefOutIdeal.sig) → Buf (Elt Ideal) ℓ) : Prop :=
  True

def Pre_Nm (m : (ℓ : Loc Cert.Nm.nD Cert.Nm.τ Cert.Nm.sig) → Buf (Elt Bits) ℓ) : Prop :=
  True

def Pre_NmIdeal (m : (ℓ : Loc Cert.NmIdeal.nD Cert.NmIdeal.τ Cert.NmIdeal.sig) → Buf (Elt Ideal) ℓ) : Prop :=
  True

def Pre_RefNmIdeal (m : (ℓ : Loc Cert.RefNmIdeal.nD Cert.RefNmIdeal.τ Cert.RefNmIdeal.sig) → Buf (Elt Ideal) ℓ) : Prop :=
  True

def Pre_Mx (m : (ℓ : Loc Cert.Mx.nD Cert.Mx.τ Cert.Mx.sig) → Buf (Elt Bits) ℓ) : Prop :=
  True

def Pre_MxIdeal (m : (ℓ : Loc Cert.MxIdeal.nD Cert.MxIdeal.τ Cert.MxIdeal.sig) → Buf (Elt Ideal) ℓ) : Prop :=
  True

def Pre_RefMxIdeal (m : (ℓ : Loc Cert.RefMxIdeal.nD Cert.RefMxIdeal.τ Cert.RefMxIdeal.sig) → Buf (Elt Ideal) ℓ) : Prop :=
  True

def Pre_Lo (m : (ℓ : Loc Cert.Lo.nD Cert.Lo.τ Cert.Lo.sig) → Buf (Elt Bits) ℓ) : Prop :=
  True

def Pre_LoIdeal (m : (ℓ : Loc Cert.LoIdeal.nD Cert.LoIdeal.τ Cert.LoIdeal.sig) → Buf (Elt Ideal) ℓ) : Prop :=
  True

def Pre_RefLoIdeal (m : (ℓ : Loc Cert.RefLoIdeal.nD Cert.RefLoIdeal.τ Cert.RefLoIdeal.sig) → Buf (Elt Ideal) ℓ) : Prop :=
  True

def Pre_Lp (m : (ℓ : Loc Cert.Lp.nD Cert.Lp.τ Cert.Lp.sig) → Buf (Elt Bits) ℓ) : Prop :=
  True

def Pre_LpIdeal (m : (ℓ : Loc Cert.LpIdeal.nD Cert.LpIdeal.τ Cert.LpIdeal.sig) → Buf (Elt Ideal) ℓ) : Prop :=
  True

def Pre_RefLpIdeal (m : (ℓ : Loc Cert.RefLpIdeal.nD Cert.RefLpIdeal.τ Cert.RefLpIdeal.sig) → Buf (Elt Ideal) ℓ) : Prop :=
  True

def Pre_Li (m : (ℓ : Loc Cert.Li.nD Cert.Li.τ Cert.Li.sig) → Buf (Elt Bits) ℓ) : Prop :=
  True

def Pre_LiIdeal (m : (ℓ : Loc Cert.LiIdeal.nD Cert.LiIdeal.τ Cert.LiIdeal.sig) → Buf (Elt Ideal) ℓ) : Prop :=
  True

def Pre_LiIdeal_finite_li [hPre_finite_li : Cert.Pre_finite_li.Facts] (m : (ℓ : Loc Cert.LiIdeal.nD Cert.LiIdeal.τ Cert.LiIdeal.sig) → Buf (Elt Ideal) ℓ) : Prop :=
  ∀ c : Dev Cert.LiIdeal.nD,
    (Cert.Pre_finite_li.fn (F := Ideal) (m ((c.tc : Thread Cert.LiIdeal.nD Cert.LiIdeal.τ).loc Cert.LiIdeal.main_arg0)) (m ((c.tc : Thread Cert.LiIdeal.nD Cert.LiIdeal.τ).loc Cert.LiIdeal.main_arg1)) (m ((c.tc : Thread Cert.LiIdeal.nD Cert.LiIdeal.τ).loc Cert.LiIdeal.main_arg2)) (m ((c.tc : Thread Cert.LiIdeal.nD Cert.LiIdeal.τ).loc Cert.LiIdeal.main_arg3)) (m ((c.tc : Thread Cert.LiIdeal.nD Cert.LiIdeal.τ).loc Cert.LiIdeal.main_arg4)) (m ((c.tc : Thread Cert.LiIdeal.nD Cert.LiIdeal.τ).loc Cert.LiIdeal.main_arg5)) (m ((c.tc : Thread Cert.LiIdeal.nD Cert.LiIdeal.τ).loc Cert.LiIdeal.main_arg6)) (m ((c.tc : Thread Cert.LiIdeal.nD Cert.LiIdeal.τ).loc Cert.LiIdeal.main_arg7))).1 = (fun _ => 1#1)
    ∧ (Cert.Pre_finite_li.fn (F := Ideal) (m ((c.tc : Thread Cert.LiIdeal.nD Cert.LiIdeal.τ).loc Cert.LiIdeal.main_arg0)) (m ((c.tc : Thread Cert.LiIdeal.nD Cert.LiIdeal.τ).loc Cert.LiIdeal.main_arg1)) (m ((c.tc : Thread Cert.LiIdeal.nD Cert.LiIdeal.τ).loc Cert.LiIdeal.main_arg2)) (m ((c.tc : Thread Cert.LiIdeal.nD Cert.LiIdeal.τ).loc Cert.LiIdeal.main_arg3)) (m ((c.tc : Thread Cert.LiIdeal.nD Cert.LiIdeal.τ).loc Cert.LiIdeal.main_arg4)) (m ((c.tc : Thread Cert.LiIdeal.nD Cert.LiIdeal.τ).loc Cert.LiIdeal.main_arg5)) (m ((c.tc : Thread Cert.LiIdeal.nD Cert.LiIdeal.τ).loc Cert.LiIdeal.main_arg6)) (m ((c.tc : Thread Cert.LiIdeal.nD Cert.LiIdeal.τ).loc Cert.LiIdeal.main_arg7))).2.1 = (fun _ => 1#1)
    ∧ (Cert.Pre_finite_li.fn (F := Ideal) (m ((c.tc : Thread Cert.LiIdeal.nD Cert.LiIdeal.τ).loc Cert.LiIdeal.main_arg0)) (m ((c.tc : Thread Cert.LiIdeal.nD Cert.LiIdeal.τ).loc Cert.LiIdeal.main_arg1)) (m ((c.tc : Thread Cert.LiIdeal.nD Cert.LiIdeal.τ).loc Cert.LiIdeal.main_arg2)) (m ((c.tc : Thread Cert.LiIdeal.nD Cert.LiIdeal.τ).loc Cert.LiIdeal.main_arg3)) (m ((c.tc : Thread Cert.LiIdeal.nD Cert.LiIdeal.τ).loc Cert.LiIdeal.main_arg4)) (m ((c.tc : Thread Cert.LiIdeal.nD Cert.LiIdeal.τ).loc Cert.LiIdeal.main_arg5)) (m ((c.tc : Thread Cert.LiIdeal.nD Cert.LiIdeal.τ).loc Cert.LiIdeal.main_arg6)) (m ((c.tc : Thread Cert.LiIdeal.nD Cert.LiIdeal.τ).loc Cert.LiIdeal.main_arg7))).2.2.1 = (fun _ => 1#1)
    ∧ (Cert.Pre_finite_li.fn (F := Ideal) (m ((c.tc : Thread Cert.LiIdeal.nD Cert.LiIdeal.τ).loc Cert.LiIdeal.main_arg0)) (m ((c.tc : Thread Cert.LiIdeal.nD Cert.LiIdeal.τ).loc Cert.LiIdeal.main_arg1)) (m ((c.tc : Thread Cert.LiIdeal.nD Cert.LiIdeal.τ).loc Cert.LiIdeal.main_arg2)) (m ((c.tc : Thread Cert.LiIdeal.nD Cert.LiIdeal.τ).loc Cert.LiIdeal.main_arg3)) (m ((c.tc : Thread Cert.LiIdeal.nD Cert.LiIdeal.τ).loc Cert.LiIdeal.main_arg4)) (m ((c.tc : Thread Cert.LiIdeal.nD Cert.LiIdeal.τ).loc Cert.LiIdeal.main_arg5)) (m ((c.tc : Thread Cert.LiIdeal.nD Cert.LiIdeal.τ).loc Cert.LiIdeal.main_arg6)) (m ((c.tc : Thread Cert.LiIdeal.nD Cert.LiIdeal.τ).loc Cert.LiIdeal.main_arg7))).2.2.2 = (fun _ => 1#1)

def Pre_RefLiIdeal (m : (ℓ : Loc Cert.RefLiIdeal.nD Cert.RefLiIdeal.τ Cert.RefLiIdeal.sig) → Buf (Elt Ideal) ℓ) : Prop :=
  True

def Pre_RefLiIdeal_finite_li [hPre_finite_li : Cert.Pre_finite_li.Facts] (m : (ℓ : Loc Cert.RefLiIdeal.nD Cert.RefLiIdeal.τ Cert.RefLiIdeal.sig) → Buf (Elt Ideal) ℓ) : Prop :=
  ∀ c : Dev Cert.RefLiIdeal.nD,
    (Cert.Pre_finite_li.fn (F := Ideal) (m ((c.tc : Thread Cert.RefLiIdeal.nD Cert.RefLiIdeal.τ).loc Cert.RefLiIdeal.main_arg0)) (m ((c.tc : Thread Cert.RefLiIdeal.nD Cert.RefLiIdeal.τ).loc Cert.RefLiIdeal.main_arg1)) (m ((c.tc : Thread Cert.RefLiIdeal.nD Cert.RefLiIdeal.τ).loc Cert.RefLiIdeal.main_arg2)) (m ((c.tc : Thread Cert.RefLiIdeal.nD Cert.RefLiIdeal.τ).loc Cert.RefLiIdeal.main_arg3)) (m ((c.tc : Thread Cert.RefLiIdeal.nD Cert.RefLiIdeal.τ).loc Cert.RefLiIdeal.main_arg4)) (m ((c.tc : Thread Cert.RefLiIdeal.nD Cert.RefLiIdeal.τ).loc Cert.RefLiIdeal.main_arg5)) (m ((c.tc : Thread Cert.RefLiIdeal.nD Cert.RefLiIdeal.τ).loc Cert.RefLiIdeal.main_arg6)) (m ((c.tc : Thread Cert.RefLiIdeal.nD Cert.RefLiIdeal.τ).loc Cert.RefLiIdeal.main_arg7))).1 = (fun _ => 1#1)
    ∧ (Cert.Pre_finite_li.fn (F := Ideal) (m ((c.tc : Thread Cert.RefLiIdeal.nD Cert.RefLiIdeal.τ).loc Cert.RefLiIdeal.main_arg0)) (m ((c.tc : Thread Cert.RefLiIdeal.nD Cert.RefLiIdeal.τ).loc Cert.RefLiIdeal.main_arg1)) (m ((c.tc : Thread Cert.RefLiIdeal.nD Cert.RefLiIdeal.τ).loc Cert.RefLiIdeal.main_arg2)) (m ((c.tc : Thread Cert.RefLiIdeal.nD Cert.RefLiIdeal.τ).loc Cert.RefLiIdeal.main_arg3)) (m ((c.tc : Thread Cert.RefLiIdeal.nD Cert.RefLiIdeal.τ).loc Cert.RefLiIdeal.main_arg4)) (m ((c.tc : Thread Cert.RefLiIdeal.nD Cert.RefLiIdeal.τ).loc Cert.RefLiIdeal.main_arg5)) (m ((c.tc : Thread Cert.RefLiIdeal.nD Cert.RefLiIdeal.τ).loc Cert.RefLiIdeal.main_arg6)) (m ((c.tc : Thread Cert.RefLiIdeal.nD Cert.RefLiIdeal.τ).loc Cert.RefLiIdeal.main_arg7))).2.1 = (fun _ => 1#1)
    ∧ (Cert.Pre_finite_li.fn (F := Ideal) (m ((c.tc : Thread Cert.RefLiIdeal.nD Cert.RefLiIdeal.τ).loc Cert.RefLiIdeal.main_arg0)) (m ((c.tc : Thread Cert.RefLiIdeal.nD Cert.RefLiIdeal.τ).loc Cert.RefLiIdeal.main_arg1)) (m ((c.tc : Thread Cert.RefLiIdeal.nD Cert.RefLiIdeal.τ).loc Cert.RefLiIdeal.main_arg2)) (m ((c.tc : Thread Cert.RefLiIdeal.nD Cert.RefLiIdeal.τ).loc Cert.RefLiIdeal.main_arg3)) (m ((c.tc : Thread Cert.RefLiIdeal.nD Cert.RefLiIdeal.τ).loc Cert.RefLiIdeal.main_arg4)) (m ((c.tc : Thread Cert.RefLiIdeal.nD Cert.RefLiIdeal.τ).loc Cert.RefLiIdeal.main_arg5)) (m ((c.tc : Thread Cert.RefLiIdeal.nD Cert.RefLiIdeal.τ).loc Cert.RefLiIdeal.main_arg6)) (m ((c.tc : Thread Cert.RefLiIdeal.nD Cert.RefLiIdeal.τ).loc Cert.RefLiIdeal.main_arg7))).2.2.1 = (fun _ => 1#1)
    ∧ (Cert.Pre_finite_li.fn (F := Ideal) (m ((c.tc : Thread Cert.RefLiIdeal.nD Cert.RefLiIdeal.τ).loc Cert.RefLiIdeal.main_arg0)) (m ((c.tc : Thread Cert.RefLiIdeal.nD Cert.RefLiIdeal.τ).loc Cert.RefLiIdeal.main_arg1)) (m ((c.tc : Thread Cert.RefLiIdeal.nD Cert.RefLiIdeal.τ).loc Cert.RefLiIdeal.main_arg2)) (m ((c.tc : Thread Cert.RefLiIdeal.nD Cert.RefLiIdeal.τ).loc Cert.RefLiIdeal.main_arg3)) (m ((c.tc : Thread Cert.RefLiIdeal.nD Cert.RefLiIdeal.τ).loc Cert.RefLiIdeal.main_arg4)) (m ((c.tc : Thread Cert.RefLiIdeal.nD Cert.RefLiIdeal.τ).loc Cert.RefLiIdeal.main_arg5)) (m ((c.tc : Thread Cert.RefLiIdeal.nD Cert.RefLiIdeal.τ).loc Cert.RefLiIdeal.main_arg6)) (m ((c.tc : Thread Cert.RefLiIdeal.nD Cert.RefLiIdeal.τ).loc Cert.RefLiIdeal.main_arg7))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Qk [hQk : Cert.Qk.Facts] : Prop :=
  ∀ (m : (ℓ : Loc Cert.Qk.nD Cert.Qk.τ Cert.Qk.sig) → Buf (Elt Bits) ℓ) (g : Dev Cert.Qk.nD → PrngReg), Pre_Qk m →
    θ_run (Cert.Qk.defs (F := Bits)) (onTc (τ := Cert.Qk.τ) (Cert.Qk.main (F := Bits))) ⟨m, fun _ => 0, g⟩ (fun r => (∀ c : Dev Cert.Qk.nD,
      r.2.mem ((c.tc : Thread Cert.Qk.nD Cert.Qk.τ).loc Cert.Qk.main_arg0) = m ((c.tc : Thread Cert.Qk.nD Cert.Qk.τ).loc Cert.Qk.main_arg0)
      ∧ r.2.mem ((c.tc : Thread Cert.Qk.nD Cert.Qk.τ).loc Cert.Qk.main_arg1) = m ((c.tc : Thread Cert.Qk.nD Cert.Qk.τ).loc Cert.Qk.main_arg1))
      ∧ r.2.sem = fun _ => 0)

def quiescent_QkIdeal [hQkIdeal : Cert.QkIdeal.Facts] : Prop :=
  ∀ (m : (ℓ : Loc Cert.QkIdeal.nD Cert.QkIdeal.τ Cert.QkIdeal.sig) → Buf (Elt Ideal) ℓ) (g : Dev Cert.QkIdeal.nD → PrngReg), Pre_QkIdeal m →
    θ_run (Cert.QkIdeal.defs (F := Ideal)) (onTc (τ := Cert.QkIdeal.τ) (Cert.QkIdeal.main (F := Ideal))) ⟨m, fun _ => 0, g⟩ (fun r => (∀ c : Dev Cert.QkIdeal.nD,
      r.2.mem ((c.tc : Thread Cert.QkIdeal.nD Cert.QkIdeal.τ).loc Cert.QkIdeal.main_arg0) = m ((c.tc : Thread Cert.QkIdeal.nD Cert.QkIdeal.τ).loc Cert.QkIdeal.main_arg0)
      ∧ r.2.mem ((c.tc : Thread Cert.QkIdeal.nD Cert.QkIdeal.τ).loc Cert.QkIdeal.main_arg1) = m ((c.tc : Thread Cert.QkIdeal.nD Cert.QkIdeal.τ).loc Cert.QkIdeal.main_arg1))
      ∧ r.2.sem = fun _ => 0)

def quiescent_RefQkIdeal [hRefQkIdeal : Cert.RefQkIdeal.Facts] : Prop :=
  ∀ (m : (ℓ : Loc Cert.RefQkIdeal.nD Cert.RefQkIdeal.τ Cert.RefQkIdeal.sig) → Buf (Elt Ideal) ℓ) (g : Dev Cert.RefQkIdeal.nD → PrngReg), Pre_RefQkIdeal m →
    θ_run (Cert.RefQkIdeal.defs (F := Ideal)) (onTc (τ := Cert.RefQkIdeal.τ) (Cert.RefQkIdeal.main (F := Ideal))) ⟨m, fun _ => 0, g⟩ (fun r => (∀ c : Dev Cert.RefQkIdeal.nD,
      r.2.mem ((c.tc : Thread Cert.RefQkIdeal.nD Cert.RefQkIdeal.τ).loc Cert.RefQkIdeal.main_arg0) = m ((c.tc : Thread Cert.RefQkIdeal.nD Cert.RefQkIdeal.τ).loc Cert.RefQkIdeal.main_arg0)
      ∧ r.2.mem ((c.tc : Thread Cert.RefQkIdeal.nD Cert.RefQkIdeal.τ).loc Cert.RefQkIdeal.main_arg1) = m ((c.tc : Thread Cert.RefQkIdeal.nD Cert.RefQkIdeal.τ).loc Cert.RefQkIdeal.main_arg1))
      ∧ r.2.sem = fun _ => 0)

def quiescent_Vt [hVt : Cert.Vt.Facts] : Prop :=
  ∀ (m : (ℓ : Loc Cert.Vt.nD Cert.Vt.τ Cert.Vt.sig) → Buf (Elt Bits) ℓ) (g : Dev Cert.Vt.nD → PrngReg), Pre_Vt m →
    θ_run (Cert.Vt.defs (F := Bits)) (onTc (τ := Cert.Vt.τ) (Cert.Vt.main (F := Bits))) ⟨m, fun _ => 0, g⟩ (fun r => (∀ c : Dev Cert.Vt.nD,
      r.2.mem ((c.tc : Thread Cert.Vt.nD Cert.Vt.τ).loc Cert.Vt.main_arg0) = m ((c.tc : Thread Cert.Vt.nD Cert.Vt.τ).loc Cert.Vt.main_arg0)
      ∧ r.2.mem ((c.tc : Thread Cert.Vt.nD Cert.Vt.τ).loc Cert.Vt.main_arg1) = m ((c.tc : Thread Cert.Vt.nD Cert.Vt.τ).loc Cert.Vt.main_arg1))
      ∧ r.2.sem = fun _ => 0)

def quiescent_VtIdeal [hVtIdeal : Cert.VtIdeal.Facts] : Prop :=
  ∀ (m : (ℓ : Loc Cert.VtIdeal.nD Cert.VtIdeal.τ Cert.VtIdeal.sig) → Buf (Elt Ideal) ℓ) (g : Dev Cert.VtIdeal.nD → PrngReg), Pre_VtIdeal m →
    θ_run (Cert.VtIdeal.defs (F := Ideal)) (onTc (τ := Cert.VtIdeal.τ) (Cert.VtIdeal.main (F := Ideal))) ⟨m, fun _ => 0, g⟩ (fun r => (∀ c : Dev Cert.VtIdeal.nD,
      r.2.mem ((c.tc : Thread Cert.VtIdeal.nD Cert.VtIdeal.τ).loc Cert.VtIdeal.main_arg0) = m ((c.tc : Thread Cert.VtIdeal.nD Cert.VtIdeal.τ).loc Cert.VtIdeal.main_arg0)
      ∧ r.2.mem ((c.tc : Thread Cert.VtIdeal.nD Cert.VtIdeal.τ).loc Cert.VtIdeal.main_arg1) = m ((c.tc : Thread Cert.VtIdeal.nD Cert.VtIdeal.τ).loc Cert.VtIdeal.main_arg1))
      ∧ r.2.sem = fun _ => 0)

def quiescent_RefVtIdeal [hRefVtIdeal : Cert.RefVtIdeal.Facts] : Prop :=
  ∀ (m : (ℓ : Loc Cert.RefVtIdeal.nD Cert.RefVtIdeal.τ Cert.RefVtIdeal.sig) → Buf (Elt Ideal) ℓ) (g : Dev Cert.RefVtIdeal.nD → PrngReg), Pre_RefVtIdeal m →
    θ_run (Cert.RefVtIdeal.defs (F := Ideal)) (onTc (τ := Cert.RefVtIdeal.τ) (Cert.RefVtIdeal.main (F := Ideal))) ⟨m, fun _ => 0, g⟩ (fun r => (∀ c : Dev Cert.RefVtIdeal.nD,
      r.2.mem ((c.tc : Thread Cert.RefVtIdeal.nD Cert.RefVtIdeal.τ).loc Cert.RefVtIdeal.main_arg0) = m ((c.tc : Thread Cert.RefVtIdeal.nD Cert.RefVtIdeal.τ).loc Cert.RefVtIdeal.main_arg0)
      ∧ r.2.mem ((c.tc : Thread Cert.RefVtIdeal.nD Cert.RefVtIdeal.τ).loc Cert.RefVtIdeal.main_arg1) = m ((c.tc : Thread Cert.RefVtIdeal.nD Cert.RefVtIdeal.τ).loc Cert.RefVtIdeal.main_arg1))
      ∧ r.2.sem = fun _ => 0)

def quiescent_Rkv [hRkv : Cert.Rkv.Facts] : Prop :=
  ∀ (m : (ℓ : Loc Cert.Rkv.nD Cert.Rkv.τ Cert.Rkv.sig) → Buf (Elt Bits) ℓ) (g : Dev Cert.Rkv.nD → PrngReg), Pre_Rkv m →
    θ_run (Cert.Rkv.defs (F := Bits)) (onTc (τ := Cert.Rkv.τ) (Cert.Rkv.main (F := Bits))) ⟨m, fun _ => 0, g⟩ (fun r => (∀ c : Dev Cert.Rkv.nD,
      r.2.mem ((c.tc : Thread Cert.Rkv.nD Cert.Rkv.τ).loc Cert.Rkv.main_arg0) = m ((c.tc : Thread Cert.Rkv.nD Cert.Rkv.τ).loc Cert.Rkv.main_arg0)
      ∧ r.2.mem ((c.tc : Thread Cert.Rkv.nD Cert.Rkv.τ).loc Cert.Rkv.main_arg1) = m ((c.tc : Thread Cert.Rkv.nD Cert.Rkv.τ).loc Cert.Rkv.main_arg1))
      ∧ r.2.sem = fun _ => 0)

def quiescent_RkvIdeal [hRkvIdeal : Cert.RkvIdeal.Facts] : Prop :=
  ∀ (m : (ℓ : Loc Cert.RkvIdeal.nD Cert.RkvIdeal.τ Cert.RkvIdeal.sig) → Buf (Elt Ideal) ℓ) (g : Dev Cert.RkvIdeal.nD → PrngReg), Pre_RkvIdeal m →
    θ_run (Cert.RkvIdeal.defs (F := Ideal)) (onTc (τ := Cert.RkvIdeal.τ) (Cert.RkvIdeal.main (F := Ideal))) ⟨m, fun _ => 0, g⟩ (fun r => (∀ c : Dev Cert.RkvIdeal.nD,
      r.2.mem ((c.tc : Thread Cert.RkvIdeal.nD Cert.RkvIdeal.τ).loc Cert.RkvIdeal.main_arg0) = m ((c.tc : Thread Cert.RkvIdeal.nD Cert.RkvIdeal.τ).loc Cert.RkvIdeal.main_arg0)
      ∧ r.2.mem ((c.tc : Thread Cert.RkvIdeal.nD Cert.RkvIdeal.τ).loc Cert.RkvIdeal.main_arg1) = m ((c.tc : Thread Cert.RkvIdeal.nD Cert.RkvIdeal.τ).loc Cert.RkvIdeal.main_arg1))
      ∧ r.2.sem = fun _ => 0)

def quiescent_RefRkvIdeal [hRefRkvIdeal : Cert.RefRkvIdeal.Facts] : Prop :=
  ∀ (m : (ℓ : Loc Cert.RefRkvIdeal.nD Cert.RefRkvIdeal.τ Cert.RefRkvIdeal.sig) → Buf (Elt Ideal) ℓ) (g : Dev Cert.RefRkvIdeal.nD → PrngReg), Pre_RefRkvIdeal m →
    θ_run (Cert.RefRkvIdeal.defs (F := Ideal)) (onTc (τ := Cert.RefRkvIdeal.τ) (Cert.RefRkvIdeal.main (F := Ideal))) ⟨m, fun _ => 0, g⟩ (fun r => (∀ c : Dev Cert.RefRkvIdeal.nD,
      r.2.mem ((c.tc : Thread Cert.RefRkvIdeal.nD Cert.RefRkvIdeal.τ).loc Cert.RefRkvIdeal.main_arg0) = m ((c.tc : Thread Cert.RefRkvIdeal.nD Cert.RefRkvIdeal.τ).loc Cert.RefRkvIdeal.main_arg0)
      ∧ r.2.mem ((c.tc : Thread Cert.RefRkvIdeal.nD Cert.RefRkvIdeal.τ).loc Cert.RefRkvIdeal.main_arg1) = m ((c.tc : Thread Cert.RefRkvIdeal.nD Cert.RefRkvIdeal.τ).loc Cert.RefRkvIdeal.main_arg1))
      ∧ r.2.sem = fun _ => 0)

def quiescent_Gg [hGg : Cert.Gg.Facts] : Prop :=
  ∀ (m : (ℓ : Loc Cert.Gg.nD Cert.Gg.τ Cert.Gg.sig) → Buf (Elt Bits) ℓ) (g : Dev Cert.Gg.nD → PrngReg), Pre_Gg m →
    θ_run (Cert.Gg.defs (F := Bits)) (onTc (τ := Cert.Gg.τ) (Cert.Gg.main (F := Bits))) ⟨m, fun _ => 0, g⟩ (fun r => (∀ c : Dev Cert.Gg.nD,
      r.2.mem ((c.tc : Thread Cert.Gg.nD Cert.Gg.τ).loc Cert.Gg.main_arg0) = m ((c.tc : Thread Cert.Gg.nD Cert.Gg.τ).loc Cert.Gg.main_arg0)
      ∧ r.2.mem ((c.tc : Thread Cert.Gg.nD Cert.Gg.τ).loc Cert.Gg.main_arg1) = m ((c.tc : Thread Cert.Gg.nD Cert.Gg.τ).loc Cert.Gg.main_arg1))
      ∧ r.2.sem = fun _ => 0)

def quiescent_GgIdeal [hGgIdeal : Cert.GgIdeal.Facts] : Prop :=
  ∀ (m : (ℓ : Loc Cert.GgIdeal.nD Cert.GgIdeal.τ Cert.GgIdeal.sig) → Buf (Elt Ideal) ℓ) (g : Dev Cert.GgIdeal.nD → PrngReg), Pre_GgIdeal m →
    θ_run (Cert.GgIdeal.defs (F := Ideal)) (onTc (τ := Cert.GgIdeal.τ) (Cert.GgIdeal.main (F := Ideal))) ⟨m, fun _ => 0, g⟩ (fun r => (∀ c : Dev Cert.GgIdeal.nD,
      r.2.mem ((c.tc : Thread Cert.GgIdeal.nD Cert.GgIdeal.τ).loc Cert.GgIdeal.main_arg0) = m ((c.tc : Thread Cert.GgIdeal.nD Cert.GgIdeal.τ).loc Cert.GgIdeal.main_arg0)
      ∧ r.2.mem ((c.tc : Thread Cert.GgIdeal.nD Cert.GgIdeal.τ).loc Cert.GgIdeal.main_arg1) = m ((c.tc : Thread Cert.GgIdeal.nD Cert.GgIdeal.τ).loc Cert.GgIdeal.main_arg1))
      ∧ r.2.sem = fun _ => 0)

def quiescent_RefGgIdeal [hRefGgIdeal : Cert.RefGgIdeal.Facts] : Prop :=
  ∀ (m : (ℓ : Loc Cert.RefGgIdeal.nD Cert.RefGgIdeal.τ Cert.RefGgIdeal.sig) → Buf (Elt Ideal) ℓ) (g : Dev Cert.RefGgIdeal.nD → PrngReg), Pre_RefGgIdeal m →
    θ_run (Cert.RefGgIdeal.defs (F := Ideal)) (onTc (τ := Cert.RefGgIdeal.τ) (Cert.RefGgIdeal.main (F := Ideal))) ⟨m, fun _ => 0, g⟩ (fun r => (∀ c : Dev Cert.RefGgIdeal.nD,
      r.2.mem ((c.tc : Thread Cert.RefGgIdeal.nD Cert.RefGgIdeal.τ).loc Cert.RefGgIdeal.main_arg0) = m ((c.tc : Thread Cert.RefGgIdeal.nD Cert.RefGgIdeal.τ).loc Cert.RefGgIdeal.main_arg0)
      ∧ r.2.mem ((c.tc : Thread Cert.RefGgIdeal.nD Cert.RefGgIdeal.τ).loc Cert.RefGgIdeal.main_arg1) = m ((c.tc : Thread Cert.RefGgIdeal.nD Cert.RefGgIdeal.τ).loc Cert.RefGgIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_RefOutIdeal [hRefOutIdeal : Cert.RefOutIdeal.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1)
      ∧ r.2.mem ((c.tc : Thread Cert.RefOutIdeal.nD Cert.RefOutIdeal.τ).loc Cert.RefOutIdeal.main_arg2) = m ((c.tc : Thread Cert.RefOutIdeal.nD Cert.RefOutIdeal.τ).loc Cert.RefOutIdeal.main_arg2)
      ∧ r.2.mem ((c.tc : Thread Cert.RefOutIdeal.nD Cert.RefOutIdeal.τ).loc Cert.RefOutIdeal.main_arg3) = m ((c.tc : Thread Cert.RefOutIdeal.nD Cert.RefOutIdeal.τ).loc Cert.RefOutIdeal.main_arg3))
      ∧ r.2.sem = fun _ => 0)

def quiescent_Nm [hNm : Cert.Nm.Facts] : Prop :=
  ∀ (m : (ℓ : Loc Cert.Nm.nD Cert.Nm.τ Cert.Nm.sig) → Buf (Elt Bits) ℓ) (g : Dev Cert.Nm.nD → PrngReg), Pre_Nm m →
    θ_run (Cert.Nm.defs (F := Bits)) (onTc (τ := Cert.Nm.τ) (Cert.Nm.main (F := Bits))) ⟨m, fun _ => 0, g⟩ (fun r => (∀ c : Dev Cert.Nm.nD,
      r.2.mem ((c.tc : Thread Cert.Nm.nD Cert.Nm.τ).loc Cert.Nm.main_arg0) = m ((c.tc : Thread Cert.Nm.nD Cert.Nm.τ).loc Cert.Nm.main_arg0)
      ∧ r.2.mem ((c.tc : Thread Cert.Nm.nD Cert.Nm.τ).loc Cert.Nm.main_arg1) = m ((c.tc : Thread Cert.Nm.nD Cert.Nm.τ).loc Cert.Nm.main_arg1)
      ∧ r.2.mem ((c.tc : Thread Cert.Nm.nD Cert.Nm.τ).loc Cert.Nm.main_arg2) = m ((c.tc : Thread Cert.Nm.nD Cert.Nm.τ).loc Cert.Nm.main_arg2)
      ∧ r.2.mem ((c.tc : Thread Cert.Nm.nD Cert.Nm.τ).loc Cert.Nm.main_arg3) = m ((c.tc : Thread Cert.Nm.nD Cert.Nm.τ).loc Cert.Nm.main_arg3))
      ∧ r.2.sem = fun _ => 0)

def quiescent_NmIdeal [hNmIdeal : Cert.NmIdeal.Facts] : Prop :=
  ∀ (m : (ℓ : Loc Cert.NmIdeal.nD Cert.NmIdeal.τ Cert.NmIdeal.sig) → Buf (Elt Ideal) ℓ) (g : Dev Cert.NmIdeal.nD → PrngReg), Pre_NmIdeal m →
    θ_run (Cert.NmIdeal.defs (F := Ideal)) (onTc (τ := Cert.NmIdeal.τ) (Cert.NmIdeal.main (F := Ideal))) ⟨m, fun _ => 0, g⟩ (fun r => (∀ c : Dev Cert.NmIdeal.nD,
      r.2.mem ((c.tc : Thread Cert.NmIdeal.nD Cert.NmIdeal.τ).loc Cert.NmIdeal.main_arg0) = m ((c.tc : Thread Cert.NmIdeal.nD Cert.NmIdeal.τ).loc Cert.NmIdeal.main_arg0)
      ∧ r.2.mem ((c.tc : Thread Cert.NmIdeal.nD Cert.NmIdeal.τ).loc Cert.NmIdeal.main_arg1) = m ((c.tc : Thread Cert.NmIdeal.nD Cert.NmIdeal.τ).loc Cert.NmIdeal.main_arg1)
      ∧ r.2.mem ((c.tc : Thread Cert.NmIdeal.nD Cert.NmIdeal.τ).loc Cert.NmIdeal.main_arg2) = m ((c.tc : Thread Cert.NmIdeal.nD Cert.NmIdeal.τ).loc Cert.NmIdeal.main_arg2)
      ∧ r.2.mem ((c.tc : Thread Cert.NmIdeal.nD Cert.NmIdeal.τ).loc Cert.NmIdeal.main_arg3) = m ((c.tc : Thread Cert.NmIdeal.nD Cert.NmIdeal.τ).loc Cert.NmIdeal.main_arg3))
      ∧ r.2.sem = fun _ => 0)

def quiescent_RefNmIdeal [hRefNmIdeal : Cert.RefNmIdeal.Facts] : Prop :=
  ∀ (m : (ℓ : Loc Cert.RefNmIdeal.nD Cert.RefNmIdeal.τ Cert.RefNmIdeal.sig) → Buf (Elt Ideal) ℓ) (g : Dev Cert.RefNmIdeal.nD → PrngReg), Pre_RefNmIdeal m →
    θ_run (Cert.RefNmIdeal.defs (F := Ideal)) (onTc (τ := Cert.RefNmIdeal.τ) (Cert.RefNmIdeal.main (F := Ideal))) ⟨m, fun _ => 0, g⟩ (fun r => (∀ c : Dev Cert.RefNmIdeal.nD,
      r.2.mem ((c.tc : Thread Cert.RefNmIdeal.nD Cert.RefNmIdeal.τ).loc Cert.RefNmIdeal.main_arg0) = m ((c.tc : Thread Cert.RefNmIdeal.nD Cert.RefNmIdeal.τ).loc Cert.RefNmIdeal.main_arg0)
      ∧ r.2.mem ((c.tc : Thread Cert.RefNmIdeal.nD Cert.RefNmIdeal.τ).loc Cert.RefNmIdeal.main_arg1) = m ((c.tc : Thread Cert.RefNmIdeal.nD Cert.RefNmIdeal.τ).loc Cert.RefNmIdeal.main_arg1)
      ∧ r.2.mem ((c.tc : Thread Cert.RefNmIdeal.nD Cert.RefNmIdeal.τ).loc Cert.RefNmIdeal.main_arg2) = m ((c.tc : Thread Cert.RefNmIdeal.nD Cert.RefNmIdeal.τ).loc Cert.RefNmIdeal.main_arg2)
      ∧ r.2.mem ((c.tc : Thread Cert.RefNmIdeal.nD Cert.RefNmIdeal.τ).loc Cert.RefNmIdeal.main_arg3) = m ((c.tc : Thread Cert.RefNmIdeal.nD Cert.RefNmIdeal.τ).loc Cert.RefNmIdeal.main_arg3))
      ∧ r.2.sem = fun _ => 0)

def quiescent_Mx [hMx : Cert.Mx.Facts] : Prop :=
  ∀ (m : (ℓ : Loc Cert.Mx.nD Cert.Mx.τ Cert.Mx.sig) → Buf (Elt Bits) ℓ) (g : Dev Cert.Mx.nD → PrngReg), Pre_Mx m →
    θ_run (Cert.Mx.defs (F := Bits)) (onTc (τ := Cert.Mx.τ) (Cert.Mx.main (F := Bits))) ⟨m, fun _ => 0, g⟩ (fun r => (∀ c : Dev Cert.Mx.nD,
      r.2.mem ((c.tc : Thread Cert.Mx.nD Cert.Mx.τ).loc Cert.Mx.main_arg0) = m ((c.tc : Thread Cert.Mx.nD Cert.Mx.τ).loc Cert.Mx.main_arg0)
      ∧ r.2.mem ((c.tc : Thread Cert.Mx.nD Cert.Mx.τ).loc Cert.Mx.main_arg1) = m ((c.tc : Thread Cert.Mx.nD Cert.Mx.τ).loc Cert.Mx.main_arg1)
      ∧ r.2.mem ((c.tc : Thread Cert.Mx.nD Cert.Mx.τ).loc Cert.Mx.main_arg2) = m ((c.tc : Thread Cert.Mx.nD Cert.Mx.τ).loc Cert.Mx.main_arg2)
      ∧ r.2.mem ((c.tc : Thread Cert.Mx.nD Cert.Mx.τ).loc Cert.Mx.main_arg3) = m ((c.tc : Thread Cert.Mx.nD Cert.Mx.τ).loc Cert.Mx.main_arg3)
      ∧ r.2.mem ((c.tc : Thread Cert.Mx.nD Cert.Mx.τ).loc Cert.Mx.main_arg4) = m ((c.tc : Thread Cert.Mx.nD Cert.Mx.τ).loc Cert.Mx.main_arg4))
      ∧ r.2.sem = fun _ => 0)

def quiescent_MxIdeal [hMxIdeal : Cert.MxIdeal.Facts] : Prop :=
  ∀ (m : (ℓ : Loc Cert.MxIdeal.nD Cert.MxIdeal.τ Cert.MxIdeal.sig) → Buf (Elt Ideal) ℓ) (g : Dev Cert.MxIdeal.nD → PrngReg), Pre_MxIdeal m →
    θ_run (Cert.MxIdeal.defs (F := Ideal)) (onTc (τ := Cert.MxIdeal.τ) (Cert.MxIdeal.main (F := Ideal))) ⟨m, fun _ => 0, g⟩ (fun r => (∀ c : Dev Cert.MxIdeal.nD,
      r.2.mem ((c.tc : Thread Cert.MxIdeal.nD Cert.MxIdeal.τ).loc Cert.MxIdeal.main_arg0) = m ((c.tc : Thread Cert.MxIdeal.nD Cert.MxIdeal.τ).loc Cert.MxIdeal.main_arg0)
      ∧ r.2.mem ((c.tc : Thread Cert.MxIdeal.nD Cert.MxIdeal.τ).loc Cert.MxIdeal.main_arg1) = m ((c.tc : Thread Cert.MxIdeal.nD Cert.MxIdeal.τ).loc Cert.MxIdeal.main_arg1)
      ∧ r.2.mem ((c.tc : Thread Cert.MxIdeal.nD Cert.MxIdeal.τ).loc Cert.MxIdeal.main_arg2) = m ((c.tc : Thread Cert.MxIdeal.nD Cert.MxIdeal.τ).loc Cert.MxIdeal.main_arg2)
      ∧ r.2.mem ((c.tc : Thread Cert.MxIdeal.nD Cert.MxIdeal.τ).loc Cert.MxIdeal.main_arg3) = m ((c.tc : Thread Cert.MxIdeal.nD Cert.MxIdeal.τ).loc Cert.MxIdeal.main_arg3)
      ∧ r.2.mem ((c.tc : Thread Cert.MxIdeal.nD Cert.MxIdeal.τ).loc Cert.MxIdeal.main_arg4) = m ((c.tc : Thread Cert.MxIdeal.nD Cert.MxIdeal.τ).loc Cert.MxIdeal.main_arg4))
      ∧ r.2.sem = fun _ => 0)

def quiescent_RefMxIdeal [hRefMxIdeal : Cert.RefMxIdeal.Facts] : Prop :=
  ∀ (m : (ℓ : Loc Cert.RefMxIdeal.nD Cert.RefMxIdeal.τ Cert.RefMxIdeal.sig) → Buf (Elt Ideal) ℓ) (g : Dev Cert.RefMxIdeal.nD → PrngReg), Pre_RefMxIdeal m →
    θ_run (Cert.RefMxIdeal.defs (F := Ideal)) (onTc (τ := Cert.RefMxIdeal.τ) (Cert.RefMxIdeal.main (F := Ideal))) ⟨m, fun _ => 0, g⟩ (fun r => (∀ c : Dev Cert.RefMxIdeal.nD,
      r.2.mem ((c.tc : Thread Cert.RefMxIdeal.nD Cert.RefMxIdeal.τ).loc Cert.RefMxIdeal.main_arg0) = m ((c.tc : Thread Cert.RefMxIdeal.nD Cert.RefMxIdeal.τ).loc Cert.RefMxIdeal.main_arg0)
      ∧ r.2.mem ((c.tc : Thread Cert.RefMxIdeal.nD Cert.RefMxIdeal.τ).loc Cert.RefMxIdeal.main_arg1) = m ((c.tc : Thread Cert.RefMxIdeal.nD Cert.RefMxIdeal.τ).loc Cert.RefMxIdeal.main_arg1)
      ∧ r.2.mem ((c.tc : Thread Cert.RefMxIdeal.nD Cert.RefMxIdeal.τ).loc Cert.RefMxIdeal.main_arg2) = m ((c.tc : Thread Cert.RefMxIdeal.nD Cert.RefMxIdeal.τ).loc Cert.RefMxIdeal.main_arg2)
      ∧ r.2.mem ((c.tc : Thread Cert.RefMxIdeal.nD Cert.RefMxIdeal.τ).loc Cert.RefMxIdeal.main_arg3) = m ((c.tc : Thread Cert.RefMxIdeal.nD Cert.RefMxIdeal.τ).loc Cert.RefMxIdeal.main_arg3)
      ∧ r.2.mem ((c.tc : Thread Cert.RefMxIdeal.nD Cert.RefMxIdeal.τ).loc Cert.RefMxIdeal.main_arg4) = m ((c.tc : Thread Cert.RefMxIdeal.nD Cert.RefMxIdeal.τ).loc Cert.RefMxIdeal.main_arg4))
      ∧ r.2.sem = fun _ => 0)

def quiescent_Lo [hLo : Cert.Lo.Facts] : Prop :=
  ∀ (m : (ℓ : Loc Cert.Lo.nD Cert.Lo.τ Cert.Lo.sig) → Buf (Elt Bits) ℓ) (g : Dev Cert.Lo.nD → PrngReg), Pre_Lo m →
    θ_run (Cert.Lo.defs (F := Bits)) (onTc (τ := Cert.Lo.τ) (Cert.Lo.main (F := Bits))) ⟨m, fun _ => 0, g⟩ (fun r => (∀ c : Dev Cert.Lo.nD,
      r.2.mem ((c.tc : Thread Cert.Lo.nD Cert.Lo.τ).loc Cert.Lo.main_arg0) = m ((c.tc : Thread Cert.Lo.nD Cert.Lo.τ).loc Cert.Lo.main_arg0)
      ∧ r.2.mem ((c.tc : Thread Cert.Lo.nD Cert.Lo.τ).loc Cert.Lo.main_arg1) = m ((c.tc : Thread Cert.Lo.nD Cert.Lo.τ).loc Cert.Lo.main_arg1))
      ∧ r.2.sem = fun _ => 0)

def quiescent_LoIdeal [hLoIdeal : Cert.LoIdeal.Facts] : Prop :=
  ∀ (m : (ℓ : Loc Cert.LoIdeal.nD Cert.LoIdeal.τ Cert.LoIdeal.sig) → Buf (Elt Ideal) ℓ) (g : Dev Cert.LoIdeal.nD → PrngReg), Pre_LoIdeal m →
    θ_run (Cert.LoIdeal.defs (F := Ideal)) (onTc (τ := Cert.LoIdeal.τ) (Cert.LoIdeal.main (F := Ideal))) ⟨m, fun _ => 0, g⟩ (fun r => (∀ c : Dev Cert.LoIdeal.nD,
      r.2.mem ((c.tc : Thread Cert.LoIdeal.nD Cert.LoIdeal.τ).loc Cert.LoIdeal.main_arg0) = m ((c.tc : Thread Cert.LoIdeal.nD Cert.LoIdeal.τ).loc Cert.LoIdeal.main_arg0)
      ∧ r.2.mem ((c.tc : Thread Cert.LoIdeal.nD Cert.LoIdeal.τ).loc Cert.LoIdeal.main_arg1) = m ((c.tc : Thread Cert.LoIdeal.nD Cert.LoIdeal.τ).loc Cert.LoIdeal.main_arg1))
      ∧ r.2.sem = fun _ => 0)

def quiescent_RefLoIdeal [hRefLoIdeal : Cert.RefLoIdeal.Facts] : Prop :=
  ∀ (m : (ℓ : Loc Cert.RefLoIdeal.nD Cert.RefLoIdeal.τ Cert.RefLoIdeal.sig) → Buf (Elt Ideal) ℓ) (g : Dev Cert.RefLoIdeal.nD → PrngReg), Pre_RefLoIdeal m →
    θ_run (Cert.RefLoIdeal.defs (F := Ideal)) (onTc (τ := Cert.RefLoIdeal.τ) (Cert.RefLoIdeal.main (F := Ideal))) ⟨m, fun _ => 0, g⟩ (fun r => (∀ c : Dev Cert.RefLoIdeal.nD,
      r.2.mem ((c.tc : Thread Cert.RefLoIdeal.nD Cert.RefLoIdeal.τ).loc Cert.RefLoIdeal.main_arg0) = m ((c.tc : Thread Cert.RefLoIdeal.nD Cert.RefLoIdeal.τ).loc Cert.RefLoIdeal.main_arg0)
      ∧ r.2.mem ((c.tc : Thread Cert.RefLoIdeal.nD Cert.RefLoIdeal.τ).loc Cert.RefLoIdeal.main_arg1) = m ((c.tc : Thread Cert.RefLoIdeal.nD Cert.RefLoIdeal.τ).loc Cert.RefLoIdeal.main_arg1))
      ∧ r.2.sem = fun _ => 0)

def quiescent_Lp [hLp : Cert.Lp.Facts] : Prop :=
  ∀ (m : (ℓ : Loc Cert.Lp.nD Cert.Lp.τ Cert.Lp.sig) → Buf (Elt Bits) ℓ) (g : Dev Cert.Lp.nD → PrngReg), Pre_Lp m →
    θ_run (Cert.Lp.defs (F := Bits)) (onTc (τ := Cert.Lp.τ) (Cert.Lp.main (F := Bits))) ⟨m, fun _ => 0, g⟩ (fun r => (∀ c : Dev Cert.Lp.nD,
      r.2.mem ((c.tc : Thread Cert.Lp.nD Cert.Lp.τ).loc Cert.Lp.main_arg0) = m ((c.tc : Thread Cert.Lp.nD Cert.Lp.τ).loc Cert.Lp.main_arg0)
      ∧ r.2.mem ((c.tc : Thread Cert.Lp.nD Cert.Lp.τ).loc Cert.Lp.main_arg1) = m ((c.tc : Thread Cert.Lp.nD Cert.Lp.τ).loc Cert.Lp.main_arg1))
      ∧ r.2.sem = fun _ => 0)

def quiescent_LpIdeal [hLpIdeal : Cert.LpIdeal.Facts] : Prop :=
  ∀ (m : (ℓ : Loc Cert.LpIdeal.nD Cert.LpIdeal.τ Cert.LpIdeal.sig) → Buf (Elt Ideal) ℓ) (g : Dev Cert.LpIdeal.nD → PrngReg), Pre_LpIdeal m →
    θ_run (Cert.LpIdeal.defs (F := Ideal)) (onTc (τ := Cert.LpIdeal.τ) (Cert.LpIdeal.main (F := Ideal))) ⟨m, fun _ => 0, g⟩ (fun r => (∀ c : Dev Cert.LpIdeal.nD,
      r.2.mem ((c.tc : Thread Cert.LpIdeal.nD Cert.LpIdeal.τ).loc Cert.LpIdeal.main_arg0) = m ((c.tc : Thread Cert.LpIdeal.nD Cert.LpIdeal.τ).loc Cert.LpIdeal.main_arg0)
      ∧ r.2.mem ((c.tc : Thread Cert.LpIdeal.nD Cert.LpIdeal.τ).loc Cert.LpIdeal.main_arg1) = m ((c.tc : Thread Cert.LpIdeal.nD Cert.LpIdeal.τ).loc Cert.LpIdeal.main_arg1))
      ∧ r.2.sem = fun _ => 0)

def quiescent_RefLpIdeal [hRefLpIdeal : Cert.RefLpIdeal.Facts] : Prop :=
  ∀ (m : (ℓ : Loc Cert.RefLpIdeal.nD Cert.RefLpIdeal.τ Cert.RefLpIdeal.sig) → Buf (Elt Ideal) ℓ) (g : Dev Cert.RefLpIdeal.nD → PrngReg), Pre_RefLpIdeal m →
    θ_run (Cert.RefLpIdeal.defs (F := Ideal)) (onTc (τ := Cert.RefLpIdeal.τ) (Cert.RefLpIdeal.main (F := Ideal))) ⟨m, fun _ => 0, g⟩ (fun r => (∀ c : Dev Cert.RefLpIdeal.nD,
      r.2.mem ((c.tc : Thread Cert.RefLpIdeal.nD Cert.RefLpIdeal.τ).loc Cert.RefLpIdeal.main_arg0) = m ((c.tc : Thread Cert.RefLpIdeal.nD Cert.RefLpIdeal.τ).loc Cert.RefLpIdeal.main_arg0)
      ∧ r.2.mem ((c.tc : Thread Cert.RefLpIdeal.nD Cert.RefLpIdeal.τ).loc Cert.RefLpIdeal.main_arg1) = m ((c.tc : Thread Cert.RefLpIdeal.nD Cert.RefLpIdeal.τ).loc Cert.RefLpIdeal.main_arg1))
      ∧ r.2.sem = fun _ => 0)

def quiescent_Li [hLi : Cert.Li.Facts] : Prop :=
  ∀ (m : (ℓ : Loc Cert.Li.nD Cert.Li.τ Cert.Li.sig) → Buf (Elt Bits) ℓ) (g : Dev Cert.Li.nD → PrngReg), Pre_Li m →
    θ_run (Cert.Li.defs (F := Bits)) (onTc (τ := Cert.Li.τ) (Cert.Li.main (F := Bits))) ⟨m, fun _ => 0, g⟩ (fun r => (∀ c : Dev Cert.Li.nD,
      r.2.mem ((c.tc : Thread Cert.Li.nD Cert.Li.τ).loc Cert.Li.main_arg0) = m ((c.tc : Thread Cert.Li.nD Cert.Li.τ).loc Cert.Li.main_arg0)
      ∧ r.2.mem ((c.tc : Thread Cert.Li.nD Cert.Li.τ).loc Cert.Li.main_arg1) = m ((c.tc : Thread Cert.Li.nD Cert.Li.τ).loc Cert.Li.main_arg1)
      ∧ r.2.mem ((c.tc : Thread Cert.Li.nD Cert.Li.τ).loc Cert.Li.main_arg2) = m ((c.tc : Thread Cert.Li.nD Cert.Li.τ).loc Cert.Li.main_arg2)
      ∧ r.2.mem ((c.tc : Thread Cert.Li.nD Cert.Li.τ).loc Cert.Li.main_arg3) = m ((c.tc : Thread Cert.Li.nD Cert.Li.τ).loc Cert.Li.main_arg3)
      ∧ r.2.mem ((c.tc : Thread Cert.Li.nD Cert.Li.τ).loc Cert.Li.main_arg4) = m ((c.tc : Thread Cert.Li.nD Cert.Li.τ).loc Cert.Li.main_arg4)
      ∧ r.2.mem ((c.tc : Thread Cert.Li.nD Cert.Li.τ).loc Cert.Li.main_arg5) = m ((c.tc : Thread Cert.Li.nD Cert.Li.τ).loc Cert.Li.main_arg5)
      ∧ r.2.mem ((c.tc : Thread Cert.Li.nD Cert.Li.τ).loc Cert.Li.main_arg6) = m ((c.tc : Thread Cert.Li.nD Cert.Li.τ).loc Cert.Li.main_arg6)
      ∧ r.2.mem ((c.tc : Thread Cert.Li.nD Cert.Li.τ).loc Cert.Li.main_arg7) = m ((c.tc : Thread Cert.Li.nD Cert.Li.τ).loc Cert.Li.main_arg7))
      ∧ r.2.sem = fun _ => 0)

def quiescent_LiIdeal [hLiIdeal : Cert.LiIdeal.Facts] : Prop :=
  ∀ (m : (ℓ : Loc Cert.LiIdeal.nD Cert.LiIdeal.τ Cert.LiIdeal.sig) → Buf (Elt Ideal) ℓ) (g : Dev Cert.LiIdeal.nD → PrngReg), Pre_LiIdeal m →
    θ_run (Cert.LiIdeal.defs (F := Ideal)) (onTc (τ := Cert.LiIdeal.τ) (Cert.LiIdeal.main (F := Ideal))) ⟨m, fun _ => 0, g⟩ (fun r => (∀ c : Dev Cert.LiIdeal.nD,
      r.2.mem ((c.tc : Thread Cert.LiIdeal.nD Cert.LiIdeal.τ).loc Cert.LiIdeal.main_arg0) = m ((c.tc : Thread Cert.LiIdeal.nD Cert.LiIdeal.τ).loc Cert.LiIdeal.main_arg0)
      ∧ r.2.mem ((c.tc : Thread Cert.LiIdeal.nD Cert.LiIdeal.τ).loc Cert.LiIdeal.main_arg1) = m ((c.tc : Thread Cert.LiIdeal.nD Cert.LiIdeal.τ).loc Cert.LiIdeal.main_arg1)
      ∧ r.2.mem ((c.tc : Thread Cert.LiIdeal.nD Cert.LiIdeal.τ).loc Cert.LiIdeal.main_arg2) = m ((c.tc : Thread Cert.LiIdeal.nD Cert.LiIdeal.τ).loc Cert.LiIdeal.main_arg2)
      ∧ r.2.mem ((c.tc : Thread Cert.LiIdeal.nD Cert.LiIdeal.τ).loc Cert.LiIdeal.main_arg3) = m ((c.tc : Thread Cert.LiIdeal.nD Cert.LiIdeal.τ).loc Cert.LiIdeal.main_arg3)
      ∧ r.2.mem ((c.tc : Thread Cert.LiIdeal.nD Cert.LiIdeal.τ).loc Cert.LiIdeal.main_arg4) = m ((c.tc : Thread Cert.LiIdeal.nD Cert.LiIdeal.τ).loc Cert.LiIdeal.main_arg4)
      ∧ r.2.mem ((c.tc : Thread Cert.LiIdeal.nD Cert.LiIdeal.τ).loc Cert.LiIdeal.main_arg5) = m ((c.tc : Thread Cert.LiIdeal.nD Cert.LiIdeal.τ).loc Cert.LiIdeal.main_arg5)
      ∧ r.2.mem ((c.tc : Thread Cert.LiIdeal.nD Cert.LiIdeal.τ).loc Cert.LiIdeal.main_arg6) = m ((c.tc : Thread Cert.LiIdeal.nD Cert.LiIdeal.τ).loc Cert.LiIdeal.main_arg6)
      ∧ r.2.mem ((c.tc : Thread Cert.LiIdeal.nD Cert.LiIdeal.τ).loc Cert.LiIdeal.main_arg7) = m ((c.tc : Thread Cert.LiIdeal.nD Cert.LiIdeal.τ).loc Cert.LiIdeal.main_arg7))
      ∧ r.2.sem = fun _ => 0)

def quiescent_LiIdeal_pre_finite_li [hLiIdeal : Cert.LiIdeal.Facts] [hPre_finite_li : Cert.Pre_finite_li.Facts] : Prop :=
  ∀ (m : (ℓ : Loc Cert.LiIdeal.nD Cert.LiIdeal.τ Cert.LiIdeal.sig) → Buf (Elt Ideal) ℓ) (g : Dev Cert.LiIdeal.nD → PrngReg), Pre_LiIdeal_finite_li m →
    θ_run (Cert.LiIdeal.defs (F := Ideal)) (onTc (τ := Cert.LiIdeal.τ) (Cert.LiIdeal.main (F := Ideal))) ⟨m, fun _ => 0, g⟩ (fun r => (∀ c : Dev Cert.LiIdeal.nD,
      r.2.mem ((c.tc : Thread Cert.LiIdeal.nD Cert.LiIdeal.τ).loc Cert.LiIdeal.main_arg0) = m ((c.tc : Thread Cert.LiIdeal.nD Cert.LiIdeal.τ).loc Cert.LiIdeal.main_arg0)
      ∧ r.2.mem ((c.tc : Thread Cert.LiIdeal.nD Cert.LiIdeal.τ).loc Cert.LiIdeal.main_arg1) = m ((c.tc : Thread Cert.LiIdeal.nD Cert.LiIdeal.τ).loc Cert.LiIdeal.main_arg1)
      ∧ r.2.mem ((c.tc : Thread Cert.LiIdeal.nD Cert.LiIdeal.τ).loc Cert.LiIdeal.main_arg2) = m ((c.tc : Thread Cert.LiIdeal.nD Cert.LiIdeal.τ).loc Cert.LiIdeal.main_arg2)
      ∧ r.2.mem ((c.tc : Thread Cert.LiIdeal.nD Cert.LiIdeal.τ).loc Cert.LiIdeal.main_arg3) = m ((c.tc : Thread Cert.LiIdeal.nD Cert.LiIdeal.τ).loc Cert.LiIdeal.main_arg3)
      ∧ r.2.mem ((c.tc : Thread Cert.LiIdeal.nD Cert.LiIdeal.τ).loc Cert.LiIdeal.main_arg4) = m ((c.tc : Thread Cert.LiIdeal.nD Cert.LiIdeal.τ).loc Cert.LiIdeal.main_arg4)
      ∧ r.2.mem ((c.tc : Thread Cert.LiIdeal.nD Cert.LiIdeal.τ).loc Cert.LiIdeal.main_arg5) = m ((c.tc : Thread Cert.LiIdeal.nD Cert.LiIdeal.τ).loc Cert.LiIdeal.main_arg5)
      ∧ r.2.mem ((c.tc : Thread Cert.LiIdeal.nD Cert.LiIdeal.τ).loc Cert.LiIdeal.main_arg6) = m ((c.tc : Thread Cert.LiIdeal.nD Cert.LiIdeal.τ).loc Cert.LiIdeal.main_arg6)
      ∧ r.2.mem ((c.tc : Thread Cert.LiIdeal.nD Cert.LiIdeal.τ).loc Cert.LiIdeal.main_arg7) = m ((c.tc : Thread Cert.LiIdeal.nD Cert.LiIdeal.τ).loc Cert.LiIdeal.main_arg7))
      ∧ r.2.sem = fun _ => 0)

def quiescent_RefLiIdeal [hRefLiIdeal : Cert.RefLiIdeal.Facts] : Prop :=
  ∀ (m : (ℓ : Loc Cert.RefLiIdeal.nD Cert.RefLiIdeal.τ Cert.RefLiIdeal.sig) → Buf (Elt Ideal) ℓ) (g : Dev Cert.RefLiIdeal.nD → PrngReg), Pre_RefLiIdeal m →
    θ_run (Cert.RefLiIdeal.defs (F := Ideal)) (onTc (τ := Cert.RefLiIdeal.τ) (Cert.RefLiIdeal.main (F := Ideal))) ⟨m, fun _ => 0, g⟩ (fun r => (∀ c : Dev Cert.RefLiIdeal.nD,
      r.2.mem ((c.tc : Thread Cert.RefLiIdeal.nD Cert.RefLiIdeal.τ).loc Cert.RefLiIdeal.main_arg0) = m ((c.tc : Thread Cert.RefLiIdeal.nD Cert.RefLiIdeal.τ).loc Cert.RefLiIdeal.main_arg0)
      ∧ r.2.mem ((c.tc : Thread Cert.RefLiIdeal.nD Cert.RefLiIdeal.τ).loc Cert.RefLiIdeal.main_arg1) = m ((c.tc : Thread Cert.RefLiIdeal.nD Cert.RefLiIdeal.τ).loc Cert.RefLiIdeal.main_arg1)
      ∧ r.2.mem ((c.tc : Thread Cert.RefLiIdeal.nD Cert.RefLiIdeal.τ).loc Cert.RefLiIdeal.main_arg2) = m ((c.tc : Thread Cert.RefLiIdeal.nD Cert.RefLiIdeal.τ).loc Cert.RefLiIdeal.main_arg2)
      ∧ r.2.mem ((c.tc : Thread Cert.RefLiIdeal.nD Cert.RefLiIdeal.τ).loc Cert.RefLiIdeal.main_arg3) = m ((c.tc : Thread Cert.RefLiIdeal.nD Cert.RefLiIdeal.τ).loc Cert.RefLiIdeal.main_arg3)
      ∧ r.2.mem ((c.tc : Thread Cert.RefLiIdeal.nD Cert.RefLiIdeal.τ).loc Cert.RefLiIdeal.main_arg4) = m ((c.tc : Thread Cert.RefLiIdeal.nD Cert.RefLiIdeal.τ).loc Cert.RefLiIdeal.main_arg4)
      ∧ r.2.mem ((c.tc : Thread Cert.RefLiIdeal.nD Cert.RefLiIdeal.τ).loc Cert.RefLiIdeal.main_arg5) = m ((c.tc : Thread Cert.RefLiIdeal.nD Cert.RefLiIdeal.τ).loc Cert.RefLiIdeal.main_arg5)
      ∧ r.2.mem ((c.tc : Thread Cert.RefLiIdeal.nD Cert.RefLiIdeal.τ).loc Cert.RefLiIdeal.main_arg6) = m ((c.tc : Thread Cert.RefLiIdeal.nD Cert.RefLiIdeal.τ).loc Cert.RefLiIdeal.main_arg6)
      ∧ r.2.mem ((c.tc : Thread Cert.RefLiIdeal.nD Cert.RefLiIdeal.τ).loc Cert.RefLiIdeal.main_arg7) = m ((c.tc : Thread Cert.RefLiIdeal.nD Cert.RefLiIdeal.τ).loc Cert.RefLiIdeal.main_arg7))
      ∧ r.2.sem = fun _ => 0)

def quiescent_RefLiIdeal_pre_finite_li [hRefLiIdeal : Cert.RefLiIdeal.Facts] [hPre_finite_li : Cert.Pre_finite_li.Facts] : Prop :=
  ∀ (m : (ℓ : Loc Cert.RefLiIdeal.nD Cert.RefLiIdeal.τ Cert.RefLiIdeal.sig) → Buf (Elt Ideal) ℓ) (g : Dev Cert.RefLiIdeal.nD → PrngReg), Pre_RefLiIdeal_finite_li m →
    θ_run (Cert.RefLiIdeal.defs (F := Ideal)) (onTc (τ := Cert.RefLiIdeal.τ) (Cert.RefLiIdeal.main (F := Ideal))) ⟨m, fun _ => 0, g⟩ (fun r => (∀ c : Dev Cert.RefLiIdeal.nD,
      r.2.mem ((c.tc : Thread Cert.RefLiIdeal.nD Cert.RefLiIdeal.τ).loc Cert.RefLiIdeal.main_arg0) = m ((c.tc : Thread Cert.RefLiIdeal.nD Cert.RefLiIdeal.τ).loc Cert.RefLiIdeal.main_arg0)
      ∧ r.2.mem ((c.tc : Thread Cert.RefLiIdeal.nD Cert.RefLiIdeal.τ).loc Cert.RefLiIdeal.main_arg1) = m ((c.tc : Thread Cert.RefLiIdeal.nD Cert.RefLiIdeal.τ).loc Cert.RefLiIdeal.main_arg1)
      ∧ r.2.mem ((c.tc : Thread Cert.RefLiIdeal.nD Cert.RefLiIdeal.τ).loc Cert.RefLiIdeal.main_arg2) = m ((c.tc : Thread Cert.RefLiIdeal.nD Cert.RefLiIdeal.τ).loc Cert.RefLiIdeal.main_arg2)
      ∧ r.2.mem ((c.tc : Thread Cert.RefLiIdeal.nD Cert.RefLiIdeal.τ).loc Cert.RefLiIdeal.main_arg3) = m ((c.tc : Thread Cert.RefLiIdeal.nD Cert.RefLiIdeal.τ).loc Cert.RefLiIdeal.main_arg3)
      ∧ r.2.mem ((c.tc : Thread Cert.RefLiIdeal.nD Cert.RefLiIdeal.τ).loc Cert.RefLiIdeal.main_arg4) = m ((c.tc : Thread Cert.RefLiIdeal.nD Cert.RefLiIdeal.τ).loc Cert.RefLiIdeal.main_arg4)
      ∧ r.2.mem ((c.tc : Thread Cert.RefLiIdeal.nD Cert.RefLiIdeal.τ).loc Cert.RefLiIdeal.main_arg5) = m ((c.tc : Thread Cert.RefLiIdeal.nD Cert.RefLiIdeal.τ).loc Cert.RefLiIdeal.main_arg5)
      ∧ r.2.mem ((c.tc : Thread Cert.RefLiIdeal.nD Cert.RefLiIdeal.τ).loc Cert.RefLiIdeal.main_arg6) = m ((c.tc : Thread Cert.RefLiIdeal.nD Cert.RefLiIdeal.τ).loc Cert.RefLiIdeal.main_arg6)
      ∧ r.2.mem ((c.tc : Thread Cert.RefLiIdeal.nD Cert.RefLiIdeal.τ).loc Cert.RefLiIdeal.main_arg7) = m ((c.tc : Thread Cert.RefLiIdeal.nD Cert.RefLiIdeal.τ).loc Cert.RefLiIdeal.main_arg7))
      ∧ r.2.sem = fun _ => 0)

def preserves_Kernel_KernelIdeal : Prop :=
  IdealRules.named_const.Statement Cert.KernelIdeal.κ "scale" .f32 0x3E38AA3B#32 (((1 / 8) * (Real.log 2)⁻¹ : ℝ) : EReal)
  ∧ IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Qk_QkIdeal : Prop :=
  True

def algebraic_QkIdeal_RefQkIdeal [hQkIdeal : Cert.QkIdeal.Facts] [hRefQkIdeal : Cert.RefQkIdeal.Facts] : Prop :=
  ∀ (m : (ℓ : Loc Cert.QkIdeal.nD Cert.QkIdeal.τ Cert.QkIdeal.sig) → Buf (Elt Ideal) ℓ) (g : Dev Cert.QkIdeal.nD → PrngReg)
    (m' : (ℓ : Loc Cert.RefQkIdeal.nD Cert.RefQkIdeal.τ Cert.RefQkIdeal.sig) → Buf (Elt Ideal) ℓ) (g' : Dev Cert.RefQkIdeal.nD → PrngReg), Pre_QkIdeal m →
    (∀ c : Dev Cert.QkIdeal.nD,
      m' ((c.tc : Thread Cert.RefQkIdeal.nD Cert.RefQkIdeal.τ).loc Cert.RefQkIdeal.main_arg0) = m ((c.tc : Thread Cert.QkIdeal.nD Cert.QkIdeal.τ).loc Cert.QkIdeal.main_arg0)
      ∧ m' ((c.tc : Thread Cert.RefQkIdeal.nD Cert.RefQkIdeal.τ).loc Cert.RefQkIdeal.main_arg1) = m ((c.tc : Thread Cert.QkIdeal.nD Cert.QkIdeal.τ).loc Cert.QkIdeal.main_arg1)) →
    ∃ (v0 : (c : Dev Cert.QkIdeal.nD) → Buf (Elt Ideal) ((c.tc : Thread Cert.QkIdeal.nD Cert.QkIdeal.τ).loc Cert.QkIdeal.main_v3)),
      θ_run (Cert.QkIdeal.defs (F := Ideal)) (onTc (τ := Cert.QkIdeal.τ) (Cert.QkIdeal.main (F := Ideal))) ⟨m, fun _ => 0, g⟩ (fun r => ∀ c : Dev Cert.QkIdeal.nD,
          r.2.mem ((c.tc : Thread Cert.QkIdeal.nD Cert.QkIdeal.τ).loc Cert.QkIdeal.main_v3) = v0 c
          ∧ r.2.mem ((c.tc : Thread Cert.QkIdeal.nD Cert.QkIdeal.τ).loc Cert.QkIdeal.main_arg0) = m ((c.tc : Thread Cert.QkIdeal.nD Cert.QkIdeal.τ).loc Cert.QkIdeal.main_arg0)
          ∧ r.2.mem ((c.tc : Thread Cert.QkIdeal.nD Cert.QkIdeal.τ).loc Cert.QkIdeal.main_arg1) = m ((c.tc : Thread Cert.QkIdeal.nD Cert.QkIdeal.τ).loc Cert.QkIdeal.main_arg1))
      ∧ θ_run (Cert.RefQkIdeal.defs (F := Ideal)) (onTc (τ := Cert.RefQkIdeal.τ) (Cert.RefQkIdeal.main (F := Ideal))) ⟨m', fun _ => 0, g'⟩ (fun r => ∀ c : Dev Cert.RefQkIdeal.nD,
          r.2.mem ((c.tc : Thread Cert.RefQkIdeal.nD Cert.RefQkIdeal.τ).loc Cert.RefQkIdeal.main_v4) = v0 c
          ∧ r.2.mem ((c.tc : Thread Cert.RefQkIdeal.nD Cert.RefQkIdeal.τ).loc Cert.RefQkIdeal.main_arg0) = m' ((c.tc : Thread Cert.RefQkIdeal.nD Cert.RefQkIdeal.τ).loc Cert.RefQkIdeal.main_arg0)
          ∧ r.2.mem ((c.tc : Thread Cert.RefQkIdeal.nD Cert.RefQkIdeal.τ).loc Cert.RefQkIdeal.main_arg1) = m' ((c.tc : Thread Cert.RefQkIdeal.nD Cert.RefQkIdeal.τ).loc Cert.RefQkIdeal.main_arg1))

def preserves_Vt_VtIdeal : Prop :=
  True

def algebraic_VtIdeal_RefVtIdeal [hVtIdeal : Cert.VtIdeal.Facts] [hRefVtIdeal : Cert.RefVtIdeal.Facts] : Prop :=
  ∀ (m : (ℓ : Loc Cert.VtIdeal.nD Cert.VtIdeal.τ Cert.VtIdeal.sig) → Buf (Elt Ideal) ℓ) (g : Dev Cert.VtIdeal.nD → PrngReg)
    (m' : (ℓ : Loc Cert.RefVtIdeal.nD Cert.RefVtIdeal.τ Cert.RefVtIdeal.sig) → Buf (Elt Ideal) ℓ) (g' : Dev Cert.RefVtIdeal.nD → PrngReg), Pre_VtIdeal m →
    (∀ c : Dev Cert.VtIdeal.nD,
      m' ((c.tc : Thread Cert.RefVtIdeal.nD Cert.RefVtIdeal.τ).loc Cert.RefVtIdeal.main_arg0) = m ((c.tc : Thread Cert.VtIdeal.nD Cert.VtIdeal.τ).loc Cert.VtIdeal.main_arg0)
      ∧ m' ((c.tc : Thread Cert.RefVtIdeal.nD Cert.RefVtIdeal.τ).loc Cert.RefVtIdeal.main_arg1) = m ((c.tc : Thread Cert.VtIdeal.nD Cert.VtIdeal.τ).loc Cert.VtIdeal.main_arg1)) →
    ∃ (v0 : (c : Dev Cert.VtIdeal.nD) → Buf (Elt Ideal) ((c.tc : Thread Cert.VtIdeal.nD Cert.VtIdeal.τ).loc Cert.VtIdeal.main_v3_0)) (v1 : (c : Dev Cert.VtIdeal.nD) → Buf (Elt Ideal) ((c.tc : Thread Cert.VtIdeal.nD Cert.VtIdeal.τ).loc Cert.VtIdeal.main_v3_1)),
      θ_run (Cert.VtIdeal.defs (F := Ideal)) (onTc (τ := Cert.VtIdeal.τ) (Cert.VtIdeal.main (F := Ideal))) ⟨m, fun _ => 0, g⟩ (fun r => ∀ c : Dev Cert.VtIdeal.nD,
          r.2.mem ((c.tc : Thread Cert.VtIdeal.nD Cert.VtIdeal.τ).loc Cert.VtIdeal.main_v3_0) = v0 c
          ∧ r.2.mem ((c.tc : Thread Cert.VtIdeal.nD Cert.VtIdeal.τ).loc Cert.VtIdeal.main_v3_1) = v1 c
          ∧ r.2.mem ((c.tc : Thread Cert.VtIdeal.nD Cert.VtIdeal.τ).loc Cert.VtIdeal.main_arg0) = m ((c.tc : Thread Cert.VtIdeal.nD Cert.VtIdeal.τ).loc Cert.VtIdeal.main_arg0)
          ∧ r.2.mem ((c.tc : Thread Cert.VtIdeal.nD Cert.VtIdeal.τ).loc Cert.VtIdeal.main_arg1) = m ((c.tc : Thread Cert.VtIdeal.nD Cert.VtIdeal.τ).loc Cert.VtIdeal.main_arg1))
      ∧ θ_run (Cert.RefVtIdeal.defs (F := Ideal)) (onTc (τ := Cert.RefVtIdeal.τ) (Cert.RefVtIdeal.main (F := Ideal))) ⟨m', fun _ => 0, g'⟩ (fun r => ∀ c : Dev Cert.RefVtIdeal.nD,
          r.2.mem ((c.tc : Thread Cert.RefVtIdeal.nD Cert.RefVtIdeal.τ).loc Cert.RefVtIdeal.main_v3) = v0 c
          ∧ r.2.mem ((c.tc : Thread Cert.RefVtIdeal.nD Cert.RefVtIdeal.τ).loc Cert.RefVtIdeal.main_v6) = v1 c
          ∧ r.2.mem ((c.tc : Thread Cert.RefVtIdeal.nD Cert.RefVtIdeal.τ).loc Cert.RefVtIdeal.main_arg0) = m' ((c.tc : Thread Cert.RefVtIdeal.nD Cert.RefVtIdeal.τ).loc Cert.RefVtIdeal.main_arg0)
          ∧ r.2.mem ((c.tc : Thread Cert.RefVtIdeal.nD Cert.RefVtIdeal.τ).loc Cert.RefVtIdeal.main_arg1) = m' ((c.tc : Thread Cert.RefVtIdeal.nD Cert.RefVtIdeal.τ).loc Cert.RefVtIdeal.main_arg1))

def preserves_Rkv_RkvIdeal : Prop :=
  True

def algebraic_RkvIdeal_RefRkvIdeal [hRkvIdeal : Cert.RkvIdeal.Facts] [hRefRkvIdeal : Cert.RefRkvIdeal.Facts] : Prop :=
  ∀ (m : (ℓ : Loc Cert.RkvIdeal.nD Cert.RkvIdeal.τ Cert.RkvIdeal.sig) → Buf (Elt Ideal) ℓ) (g : Dev Cert.RkvIdeal.nD → PrngReg)
    (m' : (ℓ : Loc Cert.RefRkvIdeal.nD Cert.RefRkvIdeal.τ Cert.RefRkvIdeal.sig) → Buf (Elt Ideal) ℓ) (g' : Dev Cert.RefRkvIdeal.nD → PrngReg), Pre_RkvIdeal m →
    (∀ c : Dev Cert.RkvIdeal.nD,
      m' ((c.tc : Thread Cert.RefRkvIdeal.nD Cert.RefRkvIdeal.τ).loc Cert.RefRkvIdeal.main_arg0) = m ((c.tc : Thread Cert.RkvIdeal.nD Cert.RkvIdeal.τ).loc Cert.RkvIdeal.main_arg0)
      ∧ m' ((c.tc : Thread Cert.RefRkvIdeal.nD Cert.RefRkvIdeal.τ).loc Cert.RefRkvIdeal.main_arg1) = m ((c.tc : Thread Cert.RkvIdeal.nD Cert.RkvIdeal.τ).loc Cert.RkvIdeal.main_arg1)) →
    ∃ (v0 : (c : Dev Cert.RkvIdeal.nD) → Buf (Elt Ideal) ((c.tc : Thread Cert.RkvIdeal.nD Cert.RkvIdeal.τ).loc Cert.RkvIdeal.main_v2)),
      θ_run (Cert.RkvIdeal.defs (F := Ideal)) (onTc (τ := Cert.RkvIdeal.τ) (Cert.RkvIdeal.main (F := Ideal))) ⟨m, fun _ => 0, g⟩ (fun r => ∀ c : Dev Cert.RkvIdeal.nD,
          r.2.mem ((c.tc : Thread Cert.RkvIdeal.nD Cert.RkvIdeal.τ).loc Cert.RkvIdeal.main_v2) = v0 c
          ∧ r.2.mem ((c.tc : Thread Cert.RkvIdeal.nD Cert.RkvIdeal.τ).loc Cert.RkvIdeal.main_arg0) = m ((c.tc : Thread Cert.RkvIdeal.nD Cert.RkvIdeal.τ).loc Cert.RkvIdeal.main_arg0)
          ∧ r.2.mem ((c.tc : Thread Cert.RkvIdeal.nD Cert.RkvIdeal.τ).loc Cert.RkvIdeal.main_arg1) = m ((c.tc : Thread Cert.RkvIdeal.nD Cert.RkvIdeal.τ).loc Cert.RkvIdeal.main_arg1))
      ∧ θ_run (Cert.RefRkvIdeal.defs (F := Ideal)) (onTc (τ := Cert.RefRkvIdeal.τ) (Cert.RefRkvIdeal.main (F := Ideal))) ⟨m', fun _ => 0, g'⟩ (fun r => ∀ c : Dev Cert.RefRkvIdeal.nD,
          r.2.mem ((c.tc : Thread Cert.RefRkvIdeal.nD Cert.RefRkvIdeal.τ).loc Cert.RefRkvIdeal.main_v2) = v0 c
          ∧ r.2.mem ((c.tc : Thread Cert.RefRkvIdeal.nD Cert.RefRkvIdeal.τ).loc Cert.RefRkvIdeal.main_arg0) = m' ((c.tc : Thread Cert.RefRkvIdeal.nD Cert.RefRkvIdeal.τ).loc Cert.RefRkvIdeal.main_arg0)
          ∧ r.2.mem ((c.tc : Thread Cert.RefRkvIdeal.nD Cert.RefRkvIdeal.τ).loc Cert.RefRkvIdeal.main_arg1) = m' ((c.tc : Thread Cert.RefRkvIdeal.nD Cert.RefRkvIdeal.τ).loc Cert.RefRkvIdeal.main_arg1))

def preserves_Gg_GgIdeal : Prop :=
  True

def algebraic_GgIdeal_RefGgIdeal [hGgIdeal : Cert.GgIdeal.Facts] [hRefGgIdeal : Cert.RefGgIdeal.Facts] : Prop :=
  ∀ (m : (ℓ : Loc Cert.GgIdeal.nD Cert.GgIdeal.τ Cert.GgIdeal.sig) → Buf (Elt Ideal) ℓ) (g : Dev Cert.GgIdeal.nD → PrngReg)
    (m' : (ℓ : Loc Cert.RefGgIdeal.nD Cert.RefGgIdeal.τ Cert.RefGgIdeal.sig) → Buf (Elt Ideal) ℓ) (g' : Dev Cert.RefGgIdeal.nD → PrngReg), Pre_GgIdeal m →
    (∀ c : Dev Cert.GgIdeal.nD,
      m' ((c.tc : Thread Cert.RefGgIdeal.nD Cert.RefGgIdeal.τ).loc Cert.RefGgIdeal.main_arg0) = m ((c.tc : Thread Cert.GgIdeal.nD Cert.GgIdeal.τ).loc Cert.GgIdeal.main_arg0)
      ∧ m' ((c.tc : Thread Cert.RefGgIdeal.nD Cert.RefGgIdeal.τ).loc Cert.RefGgIdeal.main_arg1) = m ((c.tc : Thread Cert.GgIdeal.nD Cert.GgIdeal.τ).loc Cert.GgIdeal.main_arg1)) →
    ∃ (v0 : (c : Dev Cert.GgIdeal.nD) → Buf (Elt Ideal) ((c.tc : Thread Cert.GgIdeal.nD Cert.GgIdeal.τ).loc Cert.GgIdeal.main_v2)),
      θ_run (Cert.GgIdeal.defs (F := Ideal)) (onTc (τ := Cert.GgIdeal.τ) (Cert.GgIdeal.main (F := Ideal))) ⟨m, fun _ => 0, g⟩ (fun r => ∀ c : Dev Cert.GgIdeal.nD,
          r.2.mem ((c.tc : Thread Cert.GgIdeal.nD Cert.GgIdeal.τ).loc Cert.GgIdeal.main_v2) = v0 c
          ∧ r.2.mem ((c.tc : Thread Cert.GgIdeal.nD Cert.GgIdeal.τ).loc Cert.GgIdeal.main_arg0) = m ((c.tc : Thread Cert.GgIdeal.nD Cert.GgIdeal.τ).loc Cert.GgIdeal.main_arg0)
          ∧ r.2.mem ((c.tc : Thread Cert.GgIdeal.nD Cert.GgIdeal.τ).loc Cert.GgIdeal.main_arg1) = m ((c.tc : Thread Cert.GgIdeal.nD Cert.GgIdeal.τ).loc Cert.GgIdeal.main_arg1))
      ∧ θ_run (Cert.RefGgIdeal.defs (F := Ideal)) (onTc (τ := Cert.RefGgIdeal.τ) (Cert.RefGgIdeal.main (F := Ideal))) ⟨m', fun _ => 0, g'⟩ (fun r => ∀ c : Dev Cert.RefGgIdeal.nD,
          r.2.mem ((c.tc : Thread Cert.RefGgIdeal.nD Cert.RefGgIdeal.τ).loc Cert.RefGgIdeal.main_v3) = v0 c
          ∧ r.2.mem ((c.tc : Thread Cert.RefGgIdeal.nD Cert.RefGgIdeal.τ).loc Cert.RefGgIdeal.main_arg0) = m' ((c.tc : Thread Cert.RefGgIdeal.nD Cert.RefGgIdeal.τ).loc Cert.RefGgIdeal.main_arg0)
          ∧ r.2.mem ((c.tc : Thread Cert.RefGgIdeal.nD Cert.RefGgIdeal.τ).loc Cert.RefGgIdeal.main_arg1) = m' ((c.tc : Thread Cert.RefGgIdeal.nD Cert.RefGgIdeal.τ).loc Cert.RefGgIdeal.main_arg1))

def preserves_Out_OutIdeal : Prop :=
  True

def algebraic_OutIdeal_RefOutIdeal [hOutIdeal : Cert.OutIdeal.Facts] [hRefOutIdeal : Cert.RefOutIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.RefOutIdeal.nD Cert.RefOutIdeal.τ Cert.RefOutIdeal.sig) → Buf (Elt Ideal) ℓ) (g' : Dev Cert.RefOutIdeal.nD → PrngReg), Pre_OutIdeal m →
    (∀ c : Dev Cert.OutIdeal.nD,
      m' ((c.tc : Thread Cert.RefOutIdeal.nD Cert.RefOutIdeal.τ).loc Cert.RefOutIdeal.main_arg0) = m ((c.tc : Thread Cert.OutIdeal.nD Cert.OutIdeal.τ).loc Cert.OutIdeal.main_arg0)
      ∧ m' ((c.tc : Thread Cert.RefOutIdeal.nD Cert.RefOutIdeal.τ).loc Cert.RefOutIdeal.main_arg1) = m ((c.tc : Thread Cert.OutIdeal.nD Cert.OutIdeal.τ).loc Cert.OutIdeal.main_arg1)
      ∧ m' ((c.tc : Thread Cert.RefOutIdeal.nD Cert.RefOutIdeal.τ).loc Cert.RefOutIdeal.main_arg2) = m ((c.tc : Thread Cert.OutIdeal.nD Cert.OutIdeal.τ).loc Cert.OutIdeal.main_arg2)
      ∧ m' ((c.tc : Thread Cert.RefOutIdeal.nD Cert.RefOutIdeal.τ).loc Cert.RefOutIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.RefOutIdeal.defs (F := Ideal)) (onTc (τ := Cert.RefOutIdeal.τ) (Cert.RefOutIdeal.main (F := Ideal))) ⟨m', fun _ => 0, g'⟩ (fun r => ∀ c : Dev Cert.RefOutIdeal.nD,
          r.2.mem ((c.tc : Thread Cert.RefOutIdeal.nD Cert.RefOutIdeal.τ).loc Cert.RefOutIdeal.main_v5) = v0 c
          ∧ r.2.mem ((c.tc : Thread Cert.RefOutIdeal.nD Cert.RefOutIdeal.τ).loc Cert.RefOutIdeal.main_arg0) = m' ((c.tc : Thread Cert.RefOutIdeal.nD Cert.RefOutIdeal.τ).loc Cert.RefOutIdeal.main_arg0)
          ∧ r.2.mem ((c.tc : Thread Cert.RefOutIdeal.nD Cert.RefOutIdeal.τ).loc Cert.RefOutIdeal.main_arg1) = m' ((c.tc : Thread Cert.RefOutIdeal.nD Cert.RefOutIdeal.τ).loc Cert.RefOutIdeal.main_arg1)
          ∧ r.2.mem ((c.tc : Thread Cert.RefOutIdeal.nD Cert.RefOutIdeal.τ).loc Cert.RefOutIdeal.main_arg2) = m' ((c.tc : Thread Cert.RefOutIdeal.nD Cert.RefOutIdeal.τ).loc Cert.RefOutIdeal.main_arg2)
          ∧ r.2.mem ((c.tc : Thread Cert.RefOutIdeal.nD Cert.RefOutIdeal.τ).loc Cert.RefOutIdeal.main_arg3) = m' ((c.tc : Thread Cert.RefOutIdeal.nD Cert.RefOutIdeal.τ).loc Cert.RefOutIdeal.main_arg3))

def preserves_Nm_NmIdeal : Prop :=
  True

def algebraic_NmIdeal_RefNmIdeal [hNmIdeal : Cert.NmIdeal.Facts] [hRefNmIdeal : Cert.RefNmIdeal.Facts] : Prop :=
  ∀ (m : (ℓ : Loc Cert.NmIdeal.nD Cert.NmIdeal.τ Cert.NmIdeal.sig) → Buf (Elt Ideal) ℓ) (g : Dev Cert.NmIdeal.nD → PrngReg)
    (m' : (ℓ : Loc Cert.RefNmIdeal.nD Cert.RefNmIdeal.τ Cert.RefNmIdeal.sig) → Buf (Elt Ideal) ℓ) (g' : Dev Cert.RefNmIdeal.nD → PrngReg), Pre_NmIdeal m →
    (∀ c : Dev Cert.NmIdeal.nD,
      m' ((c.tc : Thread Cert.RefNmIdeal.nD Cert.RefNmIdeal.τ).loc Cert.RefNmIdeal.main_arg0) = m ((c.tc : Thread Cert.NmIdeal.nD Cert.NmIdeal.τ).loc Cert.NmIdeal.main_arg0)
      ∧ m' ((c.tc : Thread Cert.RefNmIdeal.nD Cert.RefNmIdeal.τ).loc Cert.RefNmIdeal.main_arg1) = m ((c.tc : Thread Cert.NmIdeal.nD Cert.NmIdeal.τ).loc Cert.NmIdeal.main_arg1)
      ∧ m' ((c.tc : Thread Cert.RefNmIdeal.nD Cert.RefNmIdeal.τ).loc Cert.RefNmIdeal.main_arg2) = m ((c.tc : Thread Cert.NmIdeal.nD Cert.NmIdeal.τ).loc Cert.NmIdeal.main_arg2)
      ∧ m' ((c.tc : Thread Cert.RefNmIdeal.nD Cert.RefNmIdeal.τ).loc Cert.RefNmIdeal.main_arg3) = m ((c.tc : Thread Cert.NmIdeal.nD Cert.NmIdeal.τ).loc Cert.NmIdeal.main_arg3)) →
    ∃ (v0 : (c : Dev Cert.NmIdeal.nD) → Buf (Elt Ideal) ((c.tc : Thread Cert.NmIdeal.nD Cert.NmIdeal.τ).loc Cert.NmIdeal.main_v3)),
      θ_run (Cert.NmIdeal.defs (F := Ideal)) (onTc (τ := Cert.NmIdeal.τ) (Cert.NmIdeal.main (F := Ideal))) ⟨m, fun _ => 0, g⟩ (fun r => ∀ c : Dev Cert.NmIdeal.nD,
          r.2.mem ((c.tc : Thread Cert.NmIdeal.nD Cert.NmIdeal.τ).loc Cert.NmIdeal.main_v3) = v0 c
          ∧ r.2.mem ((c.tc : Thread Cert.NmIdeal.nD Cert.NmIdeal.τ).loc Cert.NmIdeal.main_arg0) = m ((c.tc : Thread Cert.NmIdeal.nD Cert.NmIdeal.τ).loc Cert.NmIdeal.main_arg0)
          ∧ r.2.mem ((c.tc : Thread Cert.NmIdeal.nD Cert.NmIdeal.τ).loc Cert.NmIdeal.main_arg1) = m ((c.tc : Thread Cert.NmIdeal.nD Cert.NmIdeal.τ).loc Cert.NmIdeal.main_arg1)
          ∧ r.2.mem ((c.tc : Thread Cert.NmIdeal.nD Cert.NmIdeal.τ).loc Cert.NmIdeal.main_arg2) = m ((c.tc : Thread Cert.NmIdeal.nD Cert.NmIdeal.τ).loc Cert.NmIdeal.main_arg2)
          ∧ r.2.mem ((c.tc : Thread Cert.NmIdeal.nD Cert.NmIdeal.τ).loc Cert.NmIdeal.main_arg3) = m ((c.tc : Thread Cert.NmIdeal.nD Cert.NmIdeal.τ).loc Cert.NmIdeal.main_arg3))
      ∧ θ_run (Cert.RefNmIdeal.defs (F := Ideal)) (onTc (τ := Cert.RefNmIdeal.τ) (Cert.RefNmIdeal.main (F := Ideal))) ⟨m', fun _ => 0, g'⟩ (fun r => ∀ c : Dev Cert.RefNmIdeal.nD,
          r.2.mem ((c.tc : Thread Cert.RefNmIdeal.nD Cert.RefNmIdeal.τ).loc Cert.RefNmIdeal.main_v21) = v0 c
          ∧ r.2.mem ((c.tc : Thread Cert.RefNmIdeal.nD Cert.RefNmIdeal.τ).loc Cert.RefNmIdeal.main_arg0) = m' ((c.tc : Thread Cert.RefNmIdeal.nD Cert.RefNmIdeal.τ).loc Cert.RefNmIdeal.main_arg0)
          ∧ r.2.mem ((c.tc : Thread Cert.RefNmIdeal.nD Cert.RefNmIdeal.τ).loc Cert.RefNmIdeal.main_arg1) = m' ((c.tc : Thread Cert.RefNmIdeal.nD Cert.RefNmIdeal.τ).loc Cert.RefNmIdeal.main_arg1)
          ∧ r.2.mem ((c.tc : Thread Cert.RefNmIdeal.nD Cert.RefNmIdeal.τ).loc Cert.RefNmIdeal.main_arg2) = m' ((c.tc : Thread Cert.RefNmIdeal.nD Cert.RefNmIdeal.τ).loc Cert.RefNmIdeal.main_arg2)
          ∧ r.2.mem ((c.tc : Thread Cert.RefNmIdeal.nD Cert.RefNmIdeal.τ).loc Cert.RefNmIdeal.main_arg3) = m' ((c.tc : Thread Cert.RefNmIdeal.nD Cert.RefNmIdeal.τ).loc Cert.RefNmIdeal.main_arg3))

def preserves_Mx_MxIdeal : Prop :=
  True

def algebraic_MxIdeal_RefMxIdeal [hMxIdeal : Cert.MxIdeal.Facts] [hRefMxIdeal : Cert.RefMxIdeal.Facts] : Prop :=
  ∀ (m : (ℓ : Loc Cert.MxIdeal.nD Cert.MxIdeal.τ Cert.MxIdeal.sig) → Buf (Elt Ideal) ℓ) (g : Dev Cert.MxIdeal.nD → PrngReg)
    (m' : (ℓ : Loc Cert.RefMxIdeal.nD Cert.RefMxIdeal.τ Cert.RefMxIdeal.sig) → Buf (Elt Ideal) ℓ) (g' : Dev Cert.RefMxIdeal.nD → PrngReg), Pre_MxIdeal m →
    (∀ c : Dev Cert.MxIdeal.nD,
      m' ((c.tc : Thread Cert.RefMxIdeal.nD Cert.RefMxIdeal.τ).loc Cert.RefMxIdeal.main_arg0) = m ((c.tc : Thread Cert.MxIdeal.nD Cert.MxIdeal.τ).loc Cert.MxIdeal.main_arg0)
      ∧ m' ((c.tc : Thread Cert.RefMxIdeal.nD Cert.RefMxIdeal.τ).loc Cert.RefMxIdeal.main_arg1) = m ((c.tc : Thread Cert.MxIdeal.nD Cert.MxIdeal.τ).loc Cert.MxIdeal.main_arg1)
      ∧ m' ((c.tc : Thread Cert.RefMxIdeal.nD Cert.RefMxIdeal.τ).loc Cert.RefMxIdeal.main_arg2) = m ((c.tc : Thread Cert.MxIdeal.nD Cert.MxIdeal.τ).loc Cert.MxIdeal.main_arg2)
      ∧ m' ((c.tc : Thread Cert.RefMxIdeal.nD Cert.RefMxIdeal.τ).loc Cert.RefMxIdeal.main_arg3) = m ((c.tc : Thread Cert.MxIdeal.nD Cert.MxIdeal.τ).loc Cert.MxIdeal.main_arg3)
      ∧ m' ((c.tc : Thread Cert.RefMxIdeal.nD Cert.RefMxIdeal.τ).loc Cert.RefMxIdeal.main_arg4) = m ((c.tc : Thread Cert.MxIdeal.nD Cert.MxIdeal.τ).loc Cert.MxIdeal.main_arg4)) →
    ∃ (v0 : (c : Dev Cert.MxIdeal.nD) → Buf (Elt Ideal) ((c.tc : Thread Cert.MxIdeal.nD Cert.MxIdeal.τ).loc Cert.MxIdeal.main_v3_0)) (v1 : (c : Dev Cert.MxIdeal.nD) → Buf (Elt Ideal) ((c.tc : Thread Cert.MxIdeal.nD Cert.MxIdeal.τ).loc Cert.MxIdeal.main_v3_1)) (v2 : (c : Dev Cert.MxIdeal.nD) → Buf (Elt Ideal) ((c.tc : Thread Cert.MxIdeal.nD Cert.MxIdeal.τ).loc Cert.MxIdeal.main_v3_2)) (v3 : (c : Dev Cert.MxIdeal.nD) → Buf (Elt Ideal) ((c.tc : Thread Cert.MxIdeal.nD Cert.MxIdeal.τ).loc Cert.MxIdeal.main_v3_3)) (v4 : (c : Dev Cert.MxIdeal.nD) → Buf (Elt Ideal) ((c.tc : Thread Cert.MxIdeal.nD Cert.MxIdeal.τ).loc Cert.MxIdeal.main_v3_4)) (v5 : (c : Dev Cert.MxIdeal.nD) → Buf (Elt Ideal) ((c.tc : Thread Cert.MxIdeal.nD Cert.MxIdeal.τ).loc Cert.MxIdeal.main_v3_5)),
      θ_run (Cert.MxIdeal.defs (F := Ideal)) (onTc (τ := Cert.MxIdeal.τ) (Cert.MxIdeal.main (F := Ideal))) ⟨m, fun _ => 0, g⟩ (fun r => ∀ c : Dev Cert.MxIdeal.nD,
          r.2.mem ((c.tc : Thread Cert.MxIdeal.nD Cert.MxIdeal.τ).loc Cert.MxIdeal.main_v3_0) = v0 c
          ∧ r.2.mem ((c.tc : Thread Cert.MxIdeal.nD Cert.MxIdeal.τ).loc Cert.MxIdeal.main_v3_1) = v1 c
          ∧ r.2.mem ((c.tc : Thread Cert.MxIdeal.nD Cert.MxIdeal.τ).loc Cert.MxIdeal.main_v3_2) = v2 c
          ∧ r.2.mem ((c.tc : Thread Cert.MxIdeal.nD Cert.MxIdeal.τ).loc Cert.MxIdeal.main_v3_3) = v3 c
          ∧ r.2.mem ((c.tc : Thread Cert.MxIdeal.nD Cert.MxIdeal.τ).loc Cert.MxIdeal.main_v3_4) = v4 c
          ∧ r.2.mem ((c.tc : Thread Cert.MxIdeal.nD Cert.MxIdeal.τ).loc Cert.MxIdeal.main_v3_5) = v5 c
          ∧ r.2.mem ((c.tc : Thread Cert.MxIdeal.nD Cert.MxIdeal.τ).loc Cert.MxIdeal.main_arg0) = m ((c.tc : Thread Cert.MxIdeal.nD Cert.MxIdeal.τ).loc Cert.MxIdeal.main_arg0)
          ∧ r.2.mem ((c.tc : Thread Cert.MxIdeal.nD Cert.MxIdeal.τ).loc Cert.MxIdeal.main_arg1) = m ((c.tc : Thread Cert.MxIdeal.nD Cert.MxIdeal.τ).loc Cert.MxIdeal.main_arg1)
          ∧ r.2.mem ((c.tc : Thread Cert.MxIdeal.nD Cert.MxIdeal.τ).loc Cert.MxIdeal.main_arg2) = m ((c.tc : Thread Cert.MxIdeal.nD Cert.MxIdeal.τ).loc Cert.MxIdeal.main_arg2)
          ∧ r.2.mem ((c.tc : Thread Cert.MxIdeal.nD Cert.MxIdeal.τ).loc Cert.MxIdeal.main_arg3) = m ((c.tc : Thread Cert.MxIdeal.nD Cert.MxIdeal.τ).loc Cert.MxIdeal.main_arg3)
          ∧ r.2.mem ((c.tc : Thread Cert.MxIdeal.nD Cert.MxIdeal.τ).loc Cert.MxIdeal.main_arg4) = m ((c.tc : Thread Cert.MxIdeal.nD Cert.MxIdeal.τ).loc Cert.MxIdeal.main_arg4))
      ∧ θ_run (Cert.RefMxIdeal.defs (F := Ideal)) (onTc (τ := Cert.RefMxIdeal.τ) (Cert.RefMxIdeal.main (F := Ideal))) ⟨m', fun _ => 0, g'⟩ (fun r => ∀ c : Dev Cert.RefMxIdeal.nD,
          r.2.mem ((c.tc : Thread Cert.RefMxIdeal.nD Cert.RefMxIdeal.τ).loc Cert.RefMxIdeal.main_v48) = v0 c
          ∧ r.2.mem ((c.tc : Thread Cert.RefMxIdeal.nD Cert.RefMxIdeal.τ).loc Cert.RefMxIdeal.main_v49) = v1 c
          ∧ r.2.mem ((c.tc : Thread Cert.RefMxIdeal.nD Cert.RefMxIdeal.τ).loc Cert.RefMxIdeal.main_v50) = v2 c
          ∧ r.2.mem ((c.tc : Thread Cert.RefMxIdeal.nD Cert.RefMxIdeal.τ).loc Cert.RefMxIdeal.main_v51) = v3 c
          ∧ r.2.mem ((c.tc : Thread Cert.RefMxIdeal.nD Cert.RefMxIdeal.τ).loc Cert.RefMxIdeal.main_v52) = v4 c
          ∧ r.2.mem ((c.tc : Thread Cert.RefMxIdeal.nD Cert.RefMxIdeal.τ).loc Cert.RefMxIdeal.main_v53) = v5 c
          ∧ r.2.mem ((c.tc : Thread Cert.RefMxIdeal.nD Cert.RefMxIdeal.τ).loc Cert.RefMxIdeal.main_arg0) = m' ((c.tc : Thread Cert.RefMxIdeal.nD Cert.RefMxIdeal.τ).loc Cert.RefMxIdeal.main_arg0)
          ∧ r.2.mem ((c.tc : Thread Cert.RefMxIdeal.nD Cert.RefMxIdeal.τ).loc Cert.RefMxIdeal.main_arg1) = m' ((c.tc : Thread Cert.RefMxIdeal.nD Cert.RefMxIdeal.τ).loc Cert.RefMxIdeal.main_arg1)
          ∧ r.2.mem ((c.tc : Thread Cert.RefMxIdeal.nD Cert.RefMxIdeal.τ).loc Cert.RefMxIdeal.main_arg2) = m' ((c.tc : Thread Cert.RefMxIdeal.nD Cert.RefMxIdeal.τ).loc Cert.RefMxIdeal.main_arg2)
          ∧ r.2.mem ((c.tc : Thread Cert.RefMxIdeal.nD Cert.RefMxIdeal.τ).loc Cert.RefMxIdeal.main_arg3) = m' ((c.tc : Thread Cert.RefMxIdeal.nD Cert.RefMxIdeal.τ).loc Cert.RefMxIdeal.main_arg3)
          ∧ r.2.mem ((c.tc : Thread Cert.RefMxIdeal.nD Cert.RefMxIdeal.τ).loc Cert.RefMxIdeal.main_arg4) = m' ((c.tc : Thread Cert.RefMxIdeal.nD Cert.RefMxIdeal.τ).loc Cert.RefMxIdeal.main_arg4))

def preserves_Lo_LoIdeal : Prop :=
  True

def algebraic_LoIdeal_RefLoIdeal [hLoIdeal : Cert.LoIdeal.Facts] [hRefLoIdeal : Cert.RefLoIdeal.Facts] : Prop :=
  ∀ (m : (ℓ : Loc Cert.LoIdeal.nD Cert.LoIdeal.τ Cert.LoIdeal.sig) → Buf (Elt Ideal) ℓ) (g : Dev Cert.LoIdeal.nD → PrngReg)
    (m' : (ℓ : Loc Cert.RefLoIdeal.nD Cert.RefLoIdeal.τ Cert.RefLoIdeal.sig) → Buf (Elt Ideal) ℓ) (g' : Dev Cert.RefLoIdeal.nD → PrngReg), Pre_LoIdeal m →
    (∀ c : Dev Cert.LoIdeal.nD,
      m' ((c.tc : Thread Cert.RefLoIdeal.nD Cert.RefLoIdeal.τ).loc Cert.RefLoIdeal.main_arg0) = m ((c.tc : Thread Cert.LoIdeal.nD Cert.LoIdeal.τ).loc Cert.LoIdeal.main_arg0)
      ∧ m' ((c.tc : Thread Cert.RefLoIdeal.nD Cert.RefLoIdeal.τ).loc Cert.RefLoIdeal.main_arg1) = m ((c.tc : Thread Cert.LoIdeal.nD Cert.LoIdeal.τ).loc Cert.LoIdeal.main_arg1)) →
    ∃ (v0 : (c : Dev Cert.LoIdeal.nD) → Buf (Elt Ideal) ((c.tc : Thread Cert.LoIdeal.nD Cert.LoIdeal.τ).loc Cert.LoIdeal.main_v3)),
      θ_run (Cert.LoIdeal.defs (F := Ideal)) (onTc (τ := Cert.LoIdeal.τ) (Cert.LoIdeal.main (F := Ideal))) ⟨m, fun _ => 0, g⟩ (fun r => ∀ c : Dev Cert.LoIdeal.nD,
          r.2.mem ((c.tc : Thread Cert.LoIdeal.nD Cert.LoIdeal.τ).loc Cert.LoIdeal.main_v3) = v0 c
          ∧ r.2.mem ((c.tc : Thread Cert.LoIdeal.nD Cert.LoIdeal.τ).loc Cert.LoIdeal.main_arg0) = m ((c.tc : Thread Cert.LoIdeal.nD Cert.LoIdeal.τ).loc Cert.LoIdeal.main_arg0)
          ∧ r.2.mem ((c.tc : Thread Cert.LoIdeal.nD Cert.LoIdeal.τ).loc Cert.LoIdeal.main_arg1) = m ((c.tc : Thread Cert.LoIdeal.nD Cert.LoIdeal.τ).loc Cert.LoIdeal.main_arg1))
      ∧ θ_run (Cert.RefLoIdeal.defs (F := Ideal)) (onTc (τ := Cert.RefLoIdeal.τ) (Cert.RefLoIdeal.main (F := Ideal))) ⟨m', fun _ => 0, g'⟩ (fun r => ∀ c : Dev Cert.RefLoIdeal.nD,
          r.2.mem ((c.tc : Thread Cert.RefLoIdeal.nD Cert.RefLoIdeal.τ).loc Cert.RefLoIdeal.main_v1) = v0 c
          ∧ r.2.mem ((c.tc : Thread Cert.RefLoIdeal.nD Cert.RefLoIdeal.τ).loc Cert.RefLoIdeal.main_arg0) = m' ((c.tc : Thread Cert.RefLoIdeal.nD Cert.RefLoIdeal.τ).loc Cert.RefLoIdeal.main_arg0)
          ∧ r.2.mem ((c.tc : Thread Cert.RefLoIdeal.nD Cert.RefLoIdeal.τ).loc Cert.RefLoIdeal.main_arg1) = m' ((c.tc : Thread Cert.RefLoIdeal.nD Cert.RefLoIdeal.τ).loc Cert.RefLoIdeal.main_arg1))

def preserves_Lp_LpIdeal : Prop :=
  True

def algebraic_LpIdeal_RefLpIdeal [hLpIdeal : Cert.LpIdeal.Facts] [hRefLpIdeal : Cert.RefLpIdeal.Facts] : Prop :=
  ∀ (m : (ℓ : Loc Cert.LpIdeal.nD Cert.LpIdeal.τ Cert.LpIdeal.sig) → Buf (Elt Ideal) ℓ) (g : Dev Cert.LpIdeal.nD → PrngReg)
    (m' : (ℓ : Loc Cert.RefLpIdeal.nD Cert.RefLpIdeal.τ Cert.RefLpIdeal.sig) → Buf (Elt Ideal) ℓ) (g' : Dev Cert.RefLpIdeal.nD → PrngReg), Pre_LpIdeal m →
    (∀ c : Dev Cert.LpIdeal.nD,
      m' ((c.tc : Thread Cert.RefLpIdeal.nD Cert.RefLpIdeal.τ).loc Cert.RefLpIdeal.main_arg0) = m ((c.tc : Thread Cert.LpIdeal.nD Cert.LpIdeal.τ).loc Cert.LpIdeal.main_arg0)
      ∧ m' ((c.tc : Thread Cert.RefLpIdeal.nD Cert.RefLpIdeal.τ).loc Cert.RefLpIdeal.main_arg1) = m ((c.tc : Thread Cert.LpIdeal.nD Cert.LpIdeal.τ).loc Cert.LpIdeal.main_arg1)) →
    ∃ (v0 : (c : Dev Cert.LpIdeal.nD) → Buf (Elt Ideal) ((c.tc : Thread Cert.LpIdeal.nD Cert.LpIdeal.τ).loc Cert.LpIdeal.main_v3)),
      θ_run (Cert.LpIdeal.defs (F := Ideal)) (onTc (τ := Cert.LpIdeal.τ) (Cert.LpIdeal.main (F := Ideal))) ⟨m, fun _ => 0, g⟩ (fun r => ∀ c : Dev Cert.LpIdeal.nD,
          r.2.mem ((c.tc : Thread Cert.LpIdeal.nD Cert.LpIdeal.τ).loc Cert.LpIdeal.main_v3) = v0 c
          ∧ r.2.mem ((c.tc : Thread Cert.LpIdeal.nD Cert.LpIdeal.τ).loc Cert.LpIdeal.main_arg0) = m ((c.tc : Thread Cert.LpIdeal.nD Cert.LpIdeal.τ).loc Cert.LpIdeal.main_arg0)
          ∧ r.2.mem ((c.tc : Thread Cert.LpIdeal.nD Cert.LpIdeal.τ).loc Cert.LpIdeal.main_arg1) = m ((c.tc : Thread Cert.LpIdeal.nD Cert.LpIdeal.τ).loc Cert.LpIdeal.main_arg1))
      ∧ θ_run (Cert.RefLpIdeal.defs (F := Ideal)) (onTc (τ := Cert.RefLpIdeal.τ) (Cert.RefLpIdeal.main (F := Ideal))) ⟨m', fun _ => 0, g'⟩ (fun r => ∀ c : Dev Cert.RefLpIdeal.nD,
          r.2.mem ((c.tc : Thread Cert.RefLpIdeal.nD Cert.RefLpIdeal.τ).loc Cert.RefLpIdeal.main_v1) = v0 c
          ∧ r.2.mem ((c.tc : Thread Cert.RefLpIdeal.nD Cert.RefLpIdeal.τ).loc Cert.RefLpIdeal.main_arg0) = m' ((c.tc : Thread Cert.RefLpIdeal.nD Cert.RefLpIdeal.τ).loc Cert.RefLpIdeal.main_arg0)
          ∧ r.2.mem ((c.tc : Thread Cert.RefLpIdeal.nD Cert.RefLpIdeal.τ).loc Cert.RefLpIdeal.main_arg1) = m' ((c.tc : Thread Cert.RefLpIdeal.nD Cert.RefLpIdeal.τ).loc Cert.RefLpIdeal.main_arg1))

def preserves_Li_LiIdeal : Prop :=
  True

def algebraic_LiIdeal_RefLiIdeal_pre_finite_li [hLiIdeal : Cert.LiIdeal.Facts] [hRefLiIdeal : Cert.RefLiIdeal.Facts] [hPre_finite_li : Cert.Pre_finite_li.Facts] : Prop :=
  ∀ (m : (ℓ : Loc Cert.LiIdeal.nD Cert.LiIdeal.τ Cert.LiIdeal.sig) → Buf (Elt Ideal) ℓ) (g : Dev Cert.LiIdeal.nD → PrngReg)
    (m' : (ℓ : Loc Cert.RefLiIdeal.nD Cert.RefLiIdeal.τ Cert.RefLiIdeal.sig) → Buf (Elt Ideal) ℓ) (g' : Dev Cert.RefLiIdeal.nD → PrngReg), Pre_LiIdeal_finite_li m →
    (∀ c : Dev Cert.LiIdeal.nD,
      m' ((c.tc : Thread Cert.RefLiIdeal.nD Cert.RefLiIdeal.τ).loc Cert.RefLiIdeal.main_arg0) = m ((c.tc : Thread Cert.LiIdeal.nD Cert.LiIdeal.τ).loc Cert.LiIdeal.main_arg0)
      ∧ m' ((c.tc : Thread Cert.RefLiIdeal.nD Cert.RefLiIdeal.τ).loc Cert.RefLiIdeal.main_arg1) = m ((c.tc : Thread Cert.LiIdeal.nD Cert.LiIdeal.τ).loc Cert.LiIdeal.main_arg1)
      ∧ m' ((c.tc : Thread Cert.RefLiIdeal.nD Cert.RefLiIdeal.τ).loc Cert.RefLiIdeal.main_arg2) = m ((c.tc : Thread Cert.LiIdeal.nD Cert.LiIdeal.τ).loc Cert.LiIdeal.main_arg2)
      ∧ m' ((c.tc : Thread Cert.RefLiIdeal.nD Cert.RefLiIdeal.τ).loc Cert.RefLiIdeal.main_arg3) = m ((c.tc : Thread Cert.LiIdeal.nD Cert.LiIdeal.τ).loc Cert.LiIdeal.main_arg3)
      ∧ m' ((c.tc : Thread Cert.RefLiIdeal.nD Cert.RefLiIdeal.τ).loc Cert.RefLiIdeal.main_arg4) = m ((c.tc : Thread Cert.LiIdeal.nD Cert.LiIdeal.τ).loc Cert.LiIdeal.main_arg4)
      ∧ m' ((c.tc : Thread Cert.RefLiIdeal.nD Cert.RefLiIdeal.τ).loc Cert.RefLiIdeal.main_arg5) = m ((c.tc : Thread Cert.LiIdeal.nD Cert.LiIdeal.τ).loc Cert.LiIdeal.main_arg5)
      ∧ m' ((c.tc : Thread Cert.RefLiIdeal.nD Cert.RefLiIdeal.τ).loc Cert.RefLiIdeal.main_arg6) = m ((c.tc : Thread Cert.LiIdeal.nD Cert.LiIdeal.τ).loc Cert.LiIdeal.main_arg6)
      ∧ m' ((c.tc : Thread Cert.RefLiIdeal.nD Cert.RefLiIdeal.τ).loc Cert.RefLiIdeal.main_arg7) = m ((c.tc : Thread Cert.LiIdeal.nD Cert.LiIdeal.τ).loc Cert.LiIdeal.main_arg7)) →
    ∃ (v0 : (c : Dev Cert.LiIdeal.nD) → Buf (Elt Ideal) ((c.tc : Thread Cert.LiIdeal.nD Cert.LiIdeal.τ).loc Cert.LiIdeal.main_v13)),
      θ_run (Cert.LiIdeal.defs (F := Ideal)) (onTc (τ := Cert.LiIdeal.τ) (Cert.LiIdeal.main (F := Ideal))) ⟨m, fun _ => 0, g⟩ (fun r => ∀ c : Dev Cert.LiIdeal.nD,
          r.2.mem ((c.tc : Thread Cert.LiIdeal.nD Cert.LiIdeal.τ).loc Cert.LiIdeal.main_v13) = v0 c
          ∧ r.2.mem ((c.tc : Thread Cert.LiIdeal.nD Cert.LiIdeal.τ).loc Cert.LiIdeal.main_arg0) = m ((c.tc : Thread Cert.LiIdeal.nD Cert.LiIdeal.τ).loc Cert.LiIdeal.main_arg0)
          ∧ r.2.mem ((c.tc : Thread Cert.LiIdeal.nD Cert.LiIdeal.τ).loc Cert.LiIdeal.main_arg1) = m ((c.tc : Thread Cert.LiIdeal.nD Cert.LiIdeal.τ).loc Cert.LiIdeal.main_arg1)
          ∧ r.2.mem ((c.tc : Thread Cert.LiIdeal.nD Cert.LiIdeal.τ).loc Cert.LiIdeal.main_arg2) = m ((c.tc : Thread Cert.LiIdeal.nD Cert.LiIdeal.τ).loc Cert.LiIdeal.main_arg2)
          ∧ r.2.mem ((c.tc : Thread Cert.LiIdeal.nD Cert.LiIdeal.τ).loc Cert.LiIdeal.main_arg3) = m ((c.tc : Thread Cert.LiIdeal.nD Cert.LiIdeal.τ).loc Cert.LiIdeal.main_arg3)
          ∧ r.2.mem ((c.tc : Thread Cert.LiIdeal.nD Cert.LiIdeal.τ).loc Cert.LiIdeal.main_arg4) = m ((c.tc : Thread Cert.LiIdeal.nD Cert.LiIdeal.τ).loc Cert.LiIdeal.main_arg4)
          ∧ r.2.mem ((c.tc : Thread Cert.LiIdeal.nD Cert.LiIdeal.τ).loc Cert.LiIdeal.main_arg5) = m ((c.tc : Thread Cert.LiIdeal.nD Cert.LiIdeal.τ).loc Cert.LiIdeal.main_arg5)
          ∧ r.2.mem ((c.tc : Thread Cert.LiIdeal.nD Cert.LiIdeal.τ).loc Cert.LiIdeal.main_arg6) = m ((c.tc : Thread Cert.LiIdeal.nD Cert.LiIdeal.τ).loc Cert.LiIdeal.main_arg6)
          ∧ r.2.mem ((c.tc : Thread Cert.LiIdeal.nD Cert.LiIdeal.τ).loc Cert.LiIdeal.main_arg7) = m ((c.tc : Thread Cert.LiIdeal.nD Cert.LiIdeal.τ).loc Cert.LiIdeal.main_arg7))
      ∧ θ_run (Cert.RefLiIdeal.defs (F := Ideal)) (onTc (τ := Cert.RefLiIdeal.τ) (Cert.RefLiIdeal.main (F := Ideal))) ⟨m', fun _ => 0, g'⟩ (fun r => ∀ c : Dev Cert.RefLiIdeal.nD,
          r.2.mem ((c.tc : Thread Cert.RefLiIdeal.nD Cert.RefLiIdeal.τ).loc Cert.RefLiIdeal.main_v19) = v0 c
          ∧ r.2.mem ((c.tc : Thread Cert.RefLiIdeal.nD Cert.RefLiIdeal.τ).loc Cert.RefLiIdeal.main_arg0) = m' ((c.tc : Thread Cert.RefLiIdeal.nD Cert.RefLiIdeal.τ).loc Cert.RefLiIdeal.main_arg0)
          ∧ r.2.mem ((c.tc : Thread Cert.RefLiIdeal.nD Cert.RefLiIdeal.τ).loc Cert.RefLiIdeal.main_arg1) = m' ((c.tc : Thread Cert.RefLiIdeal.nD Cert.RefLiIdeal.τ).loc Cert.RefLiIdeal.main_arg1)
          ∧ r.2.mem ((c.tc : Thread Cert.RefLiIdeal.nD Cert.RefLiIdeal.τ).loc Cert.RefLiIdeal.main_arg2) = m' ((c.tc : Thread Cert.RefLiIdeal.nD Cert.RefLiIdeal.τ).loc Cert.RefLiIdeal.main_arg2)
          ∧ r.2.mem ((c.tc : Thread Cert.RefLiIdeal.nD Cert.RefLiIdeal.τ).loc Cert.RefLiIdeal.main_arg3) = m' ((c.tc : Thread Cert.RefLiIdeal.nD Cert.RefLiIdeal.τ).loc Cert.RefLiIdeal.main_arg3)
          ∧ r.2.mem ((c.tc : Thread Cert.RefLiIdeal.nD Cert.RefLiIdeal.τ).loc Cert.RefLiIdeal.main_arg4) = m' ((c.tc : Thread Cert.RefLiIdeal.nD Cert.RefLiIdeal.τ).loc Cert.RefLiIdeal.main_arg4)
          ∧ r.2.mem ((c.tc : Thread Cert.RefLiIdeal.nD Cert.RefLiIdeal.τ).loc Cert.RefLiIdeal.main_arg5) = m' ((c.tc : Thread Cert.RefLiIdeal.nD Cert.RefLiIdeal.τ).loc Cert.RefLiIdeal.main_arg5)
          ∧ r.2.mem ((c.tc : Thread Cert.RefLiIdeal.nD Cert.RefLiIdeal.τ).loc Cert.RefLiIdeal.main_arg6) = m' ((c.tc : Thread Cert.RefLiIdeal.nD Cert.RefLiIdeal.τ).loc Cert.RefLiIdeal.main_arg6)
          ∧ r.2.mem ((c.tc : Thread Cert.RefLiIdeal.nD Cert.RefLiIdeal.τ).loc Cert.RefLiIdeal.main_arg7) = m' ((c.tc : Thread Cert.RefLiIdeal.nD Cert.RefLiIdeal.τ).loc Cert.RefLiIdeal.main_arg7))

def Claim : Prop :=
  ∃ (hKernel : Cert.Kernel.Facts) (hKernelIdeal : Cert.KernelIdeal.Facts) (hReferenceIdeal : Cert.ReferenceIdeal.Facts) (hQk : Cert.Qk.Facts) (hQkIdeal : Cert.QkIdeal.Facts) (hRefQkIdeal : Cert.RefQkIdeal.Facts) (hVt : Cert.Vt.Facts) (hVtIdeal : Cert.VtIdeal.Facts) (hRefVtIdeal : Cert.RefVtIdeal.Facts) (hRkv : Cert.Rkv.Facts) (hRkvIdeal : Cert.RkvIdeal.Facts) (hRefRkvIdeal : Cert.RefRkvIdeal.Facts) (hGg : Cert.Gg.Facts) (hGgIdeal : Cert.GgIdeal.Facts) (hRefGgIdeal : Cert.RefGgIdeal.Facts) (hOut : Cert.Out.Facts) (hOutIdeal : Cert.OutIdeal.Facts) (hRefOutIdeal : Cert.RefOutIdeal.Facts) (hNm : Cert.Nm.Facts) (hNmIdeal : Cert.NmIdeal.Facts) (hRefNmIdeal : Cert.RefNmIdeal.Facts) (hMx : Cert.Mx.Facts) (hMxIdeal : Cert.MxIdeal.Facts) (hRefMxIdeal : Cert.RefMxIdeal.Facts) (hLo : Cert.Lo.Facts) (hLoIdeal : Cert.LoIdeal.Facts) (hRefLoIdeal : Cert.RefLoIdeal.Facts) (hLp : Cert.Lp.Facts) (hLpIdeal : Cert.LpIdeal.Facts) (hRefLpIdeal : Cert.RefLpIdeal.Facts) (hLi : Cert.Li.Facts) (hLiIdeal : Cert.LiIdeal.Facts) (hRefLiIdeal : Cert.RefLiIdeal.Facts) (hPre_finite : Cert.Pre_finite.Facts) (hPre_finite_li : Cert.Pre_finite_li.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Qk (hQk := hQk)
    ∧ quiescent_QkIdeal (hQkIdeal := hQkIdeal)
    ∧ quiescent_RefQkIdeal (hRefQkIdeal := hRefQkIdeal)
    ∧ quiescent_Vt (hVt := hVt)
    ∧ quiescent_VtIdeal (hVtIdeal := hVtIdeal)
    ∧ quiescent_RefVtIdeal (hRefVtIdeal := hRefVtIdeal)
    ∧ quiescent_Rkv (hRkv := hRkv)
    ∧ quiescent_RkvIdeal (hRkvIdeal := hRkvIdeal)
    ∧ quiescent_RefRkvIdeal (hRefRkvIdeal := hRefRkvIdeal)
    ∧ quiescent_Gg (hGg := hGg)
    ∧ quiescent_GgIdeal (hGgIdeal := hGgIdeal)
    ∧ quiescent_RefGgIdeal (hRefGgIdeal := hRefGgIdeal)
    ∧ quiescent_Out (hOut := hOut)
    ∧ quiescent_OutIdeal (hOutIdeal := hOutIdeal)
    ∧ quiescent_RefOutIdeal (hRefOutIdeal := hRefOutIdeal)
    ∧ quiescent_Nm (hNm := hNm)
    ∧ quiescent_NmIdeal (hNmIdeal := hNmIdeal)
    ∧ quiescent_RefNmIdeal (hRefNmIdeal := hRefNmIdeal)
    ∧ quiescent_Mx (hMx := hMx)
    ∧ quiescent_MxIdeal (hMxIdeal := hMxIdeal)
    ∧ quiescent_RefMxIdeal (hRefMxIdeal := hRefMxIdeal)
    ∧ quiescent_Lo (hLo := hLo)
    ∧ quiescent_LoIdeal (hLoIdeal := hLoIdeal)
    ∧ quiescent_RefLoIdeal (hRefLoIdeal := hRefLoIdeal)
    ∧ quiescent_Lp (hLp := hLp)
    ∧ quiescent_LpIdeal (hLpIdeal := hLpIdeal)
    ∧ quiescent_RefLpIdeal (hRefLpIdeal := hRefLpIdeal)
    ∧ quiescent_Li (hLi := hLi)
    ∧ quiescent_LiIdeal (hLiIdeal := hLiIdeal)
    ∧ quiescent_LiIdeal_pre_finite_li (hLiIdeal := hLiIdeal) (hPre_finite_li := hPre_finite_li)
    ∧ quiescent_RefLiIdeal (hRefLiIdeal := hRefLiIdeal)
    ∧ quiescent_RefLiIdeal_pre_finite_li (hRefLiIdeal := hRefLiIdeal) (hPre_finite_li := hPre_finite_li)
    ∧ preserves_Kernel_KernelIdeal
    ∧ algebraic_KernelIdeal_ReferenceIdeal_pre_finite (hKernelIdeal := hKernelIdeal) (hReferenceIdeal := hReferenceIdeal) (hPre_finite := hPre_finite)
    ∧ preserves_Qk_QkIdeal
    ∧ algebraic_QkIdeal_RefQkIdeal (hQkIdeal := hQkIdeal) (hRefQkIdeal := hRefQkIdeal)
    ∧ preserves_Vt_VtIdeal
    ∧ algebraic_VtIdeal_RefVtIdeal (hVtIdeal := hVtIdeal) (hRefVtIdeal := hRefVtIdeal)
    ∧ preserves_Rkv_RkvIdeal
    ∧ algebraic_RkvIdeal_RefRkvIdeal (hRkvIdeal := hRkvIdeal) (hRefRkvIdeal := hRefRkvIdeal)
    ∧ preserves_Gg_GgIdeal
    ∧ algebraic_GgIdeal_RefGgIdeal (hGgIdeal := hGgIdeal) (hRefGgIdeal := hRefGgIdeal)
    ∧ preserves_Out_OutIdeal
    ∧ algebraic_OutIdeal_RefOutIdeal (hOutIdeal := hOutIdeal) (hRefOutIdeal := hRefOutIdeal)
    ∧ preserves_Nm_NmIdeal
    ∧ algebraic_NmIdeal_RefNmIdeal (hNmIdeal := hNmIdeal) (hRefNmIdeal := hRefNmIdeal)
    ∧ preserves_Mx_MxIdeal
    ∧ algebraic_MxIdeal_RefMxIdeal (hMxIdeal := hMxIdeal) (hRefMxIdeal := hRefMxIdeal)
    ∧ preserves_Lo_LoIdeal
    ∧ algebraic_LoIdeal_RefLoIdeal (hLoIdeal := hLoIdeal) (hRefLoIdeal := hRefLoIdeal)
    ∧ preserves_Lp_LpIdeal
    ∧ algebraic_LpIdeal_RefLpIdeal (hLpIdeal := hLpIdeal) (hRefLpIdeal := hRefLpIdeal)
    ∧ preserves_Li_LiIdeal
    ∧ algebraic_LiIdeal_RefLiIdeal_pre_finite_li (hLiIdeal := hLiIdeal) (hRefLiIdeal := hRefLiIdeal) (hPre_finite_li := hPre_finite_li)
-- ==== Pre_finite.lean ====
abbrev S2x16384x4096 : Shape := ⟨3, ![2, 16384, 4096]⟩
abbrev S2x2048x16384 : Shape := ⟨3, ![2, 2048, 16384]⟩
abbrev S2x32x1x16384 : Shape := ⟨4, ![2, 32, 1, 16384]⟩
abbrev S2x16384x2048 : Shape := ⟨3, ![2, 16384, 2048]⟩
abbrev S64 : Shape := ⟨1, ![64]⟩
abbrev S_ : Shape := ⟨0, ![]⟩

class Facts : Prop where
  bcast_S_S2x32x1x16384 : S_.BroadcastsInDim S2x32x1x16384 (![] : Fin 0 → Fin S2x32x1x16384.rank)
  bcast_S_S64 : S_.BroadcastsInDim S64 (![] : Fin 0 → Fin S64.rank)

variable [Facts]

def fn {F : FTy → Type} [FloatOps F] (main_arg0 : FVec F S2x16384x4096 .bf16) (main_arg1 : FVec F S2x2048x16384 .bf16) (main_arg2 : FVec F S2x32x1x16384 .f32) (main_arg3 : FVec F S2x16384x2048 .bf16) (main_arg4 : FVec F S64 .f32) (main_arg5 : FVec F S64 .f32) : IVec S2x32x1x16384 1 × IVec S64 1 × IVec S64 1 :=
  let main_v0 : FVec F S2x32x1x16384 .f32 := Host.absf main_arg2
  let main_cst : FVec F S_ .f32 := constant S_ .f32 0x7F800000#32
  let main_v1 : FVec F S2x32x1x16384 .f32 := broadcastInDim S2x32x1x16384 ![] bcast_S_S2x32x1x16384 main_cst
  let main_v2 : IVec S2x32x1x16384 1 := cmpf .olt main_v0 main_v1
  let main_v3 : FVec F S64 .f32 := Host.absf main_arg4
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_v6 : FVec F S64 .f32 := Host.absf main_arg5
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  (main_v2, main_v5, main_v8)
-- ==== Pre_finite_li.lean ====
abbrev S32768x2048 : Shape := ⟨2, ![32768, 2048]⟩
abbrev S2048 : Shape := ⟨1, ![2048]⟩
abbrev S2048x96 : Shape := ⟨2, ![2048, 96]⟩
abbrev S2048x64 : Shape := ⟨2, ![2048, 64]⟩
abbrev S_ : Shape := ⟨0, ![]⟩

class Facts : Prop where
  bitsLt_bf16_f32 : FTy.bits .bf16 < FTy.bits .f32
  bcast_S_S32768x2048 : S_.BroadcastsInDim S32768x2048 (![] : Fin 0 → Fin S32768x2048.rank)
  bcast_S_S2048x96 : S_.BroadcastsInDim S2048x96 (![] : Fin 0 → Fin S2048x96.rank)
  bcast_S_S2048x64 : S_.BroadcastsInDim S2048x64 (![] : Fin 0 → Fin S2048x64.rank)

variable [Facts]

def fn {F : FTy → Type} [FloatOps F] (main_arg0 : FVec F S32768x2048 .bf16) (main_arg1 : FVec F S32768x2048 .bf16) (main_arg2 : FVec F S2048 .f32) (main_arg3 : FVec F S2048 .f32) (main_arg4 : FVec F S2048 .f32) (main_arg5 : FVec F S2048x96 .f32) (main_arg6 : FVec F S2048x96 .f32) (main_arg7 : FVec F S2048x64 .f32) : IVec S32768x2048 1 × IVec S2048x96 1 × IVec S2048x96 1 × IVec S2048x64 1 :=
  let main_v0 : FVec F S32768x2048 .f32 := (extf .f32 · bitsLt_bf16_f32) main_arg0
  let main_v1 : FVec F S32768x2048 .f32 := Host.absf main_v0
  let main_cst : FVec F S_ .f32 := constant S_ .f32 0x7F800000#32
  let main_v2 : FVec F S32768x2048 .f32 := broadcastInDim S32768x2048 ![] bcast_S_S32768x2048 main_cst
  let main_v3 : IVec S32768x2048 1 := cmpf .olt main_v1 main_v2
  let main_v4 : FVec F S2048x96 .f32 := Host.absf main_arg5
  let main_cst_0 : FVec F S_ .f32 := constant S_ .f32 0x7F800000#32
  let main_v5 : FVec F S2048x96 .f32 := broadcastInDim S2048x96 ![] bcast_S_S2048x96 main_cst_0
  let main_v6 : IVec S2048x96 1 := cmpf .olt main_v4 main_v5
  let main_v7 : FVec F S2048x96 .f32 := Host.absf main_arg6
  let main_cst_1 : FVec F S_ .f32 := constant S_ .f32 0x7F800000#32
  let main_v8 : FVec F S2048x96 .f32 := broadcastInDim S2048x96 ![] bcast_S_S2048x96 main_cst_1
  let main_v9 : IVec S2048x96 1 := cmpf .olt main_v7 main_v8
  let main_v10 : FVec F S2048x64 .f32 := Host.absf main_arg7
  let main_cst_2 : FVec F S_ .f32 := constant S_ .f32 0x7F800000#32
  let main_v11 : FVec F S2048x64 .f32 := broadcastInDim S2048x64 ![] bcast_S_S2048x64 main_cst_2
  let main_v12 : IVec S2048x64 1 := cmpf .olt main_v10 main_v11
  (main_v3, main_v6, main_v9, main_v12)
-- ==== Kernel.lean ====
abbrev S2x16384x4096 : Shape := ⟨3, ![2, 16384, 4096]⟩
abbrev S2x2048x16384 : Shape := ⟨3, ![2, 2048, 16384]⟩
abbrev S2x32x1x16384 : Shape := ⟨4, ![2, 32, 1, 16384]⟩
abbrev S2x16384x2048 : Shape := ⟨3, ![2, 16384, 2048]⟩
abbrev S64 : Shape := ⟨1, ![64]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S1x1024x128 : Shape := ⟨3, ![1, 1024, 128]⟩
abbrev S1x16384x128 : Shape := ⟨3, ![1, 16384, 128]⟩
abbrev S1x128x16384 : Shape := ⟨3, ![1, 128, 16384]⟩
abbrev S1x2x1x16384 : Shape := ⟨4, ![1, 2, 1, 16384]⟩
abbrev S16384x128 : Shape := ⟨2, ![16384, 128]⟩
abbrev S2x128x16384 : Shape := ⟨3, ![2, 128, 16384]⟩
abbrev S2x1x1024 : Shape := ⟨3, ![2, 1, 1024]⟩
abbrev S2x80x1024 : Shape := ⟨3, ![2, 80, 1024]⟩
abbrev S2x2x512x1024 : Shape := ⟨4, ![2, 2, 512, 1024]⟩
abbrev S512x128 : Shape := ⟨2, ![512, 128]⟩
abbrev S128x512 : Shape := ⟨2, ![128, 512]⟩
abbrev S1x512x128 : Shape := ⟨3, ![1, 512, 128]⟩
abbrev S512 : Shape := ⟨1, ![512]⟩
abbrev S512x1 : Shape := ⟨2, ![512, 1]⟩
abbrev S1x128x512 : Shape := ⟨3, ![1, 128, 512]⟩
abbrev S1024x128 : Shape := ⟨2, ![1024, 128]⟩
abbrev S1024 : Shape := ⟨1, ![1024]⟩
abbrev S1024x1 : Shape := ⟨2, ![1024, 1]⟩
abbrev S1x1x1x128 : Shape := ⟨4, ![1, 1, 1, 128]⟩
abbrev S1x1 : Shape := ⟨2, ![1, 1]⟩
abbrev S512x1024 : Shape := ⟨2, ![512, 1024]⟩
abbrev S1x1x1x512 : Shape := ⟨4, ![1, 1, 1, 512]⟩
abbrev S1x512 : Shape := ⟨2, ![1, 512]⟩
abbrev S8x512 : Shape := ⟨2, ![8, 512]⟩
abbrev S512x8 : Shape := ⟨2, ![512, 8]⟩
abbrev S1x1x512x1024 : Shape := ⟨4, ![1, 1, 512, 1024]⟩
abbrev S1x1x1024 : Shape := ⟨3, ![1, 1, 1024]⟩
abbrev S1x1024 : Shape := ⟨2, ![1, 1024]⟩
abbrev S1x80x1024 : Shape := ⟨3, ![1, 80, 1024]⟩
abbrev S80x1024 : Shape := ⟨2, ![80, 1024]⟩
abbrev S1x80x512 : Shape := ⟨3, ![1, 80, 512]⟩
abbrev S80x512 : Shape := ⟨2, ![80, 512]⟩
abbrev S64x1024 : Shape := ⟨2, ![64, 1024]⟩
abbrev S128x1024 : Shape := ⟨2, ![128, 1024]⟩

abbrev nBuf : Space → Nat
  | .hbm => 15
  | .vmem => 16
  | .smem => 0
  | _ => 0

abbrev bufTy : (tb : Table) → Fin (tcTables nBuf tb) → BufTy
  | .hbm, ⟨0, _⟩ => ⟨S2x16384x4096, .bf16⟩
  | .hbm, ⟨1, _⟩ => ⟨S2x2048x16384, .bf16⟩
  | .hbm, ⟨2, _⟩ => ⟨S2x32x1x16384, .f32⟩
  | .hbm, ⟨3, _⟩ => ⟨S2x16384x2048, .bf16⟩
  | .hbm, ⟨4, _⟩ => ⟨S64, .f32⟩
  | .hbm, ⟨5, _⟩ => ⟨S64, .f32⟩
  | .hbm, ⟨6, _⟩ => ⟨S1x64, .f32⟩
  | .hbm, ⟨7, _⟩ => ⟨S2x64, .f32⟩
  | .hbm, ⟨8, _⟩ => ⟨S128, .f32⟩
  | .hbm, ⟨9, _⟩ => ⟨S1x128, .f32⟩
  | .hbm, ⟨10, _⟩ => ⟨S1x64, .f32⟩
  | .hbm, ⟨11, _⟩ => ⟨S2x64, .f32⟩
  | .hbm, ⟨12, _⟩ => ⟨S128, .f32⟩
  | .hbm, ⟨13, _⟩ => ⟨S1x128, .f32⟩
  | .hbm, ⟨14, _⟩ => ⟨S2x16384x2048, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x16384x128, .bf16⟩
  | .local _ .vmem, ⟨3, _⟩ => ⟨S1x128x16384, .bf16⟩
  | .local _ .vmem, ⟨4, _⟩ => ⟨S1x2x1x16384, .f32⟩
  | .local _ .vmem, ⟨5, _⟩ => ⟨S1x1024x128, .bf16⟩
  | .local _ .vmem, ⟨6, _⟩ => ⟨S1x1024x128, .bf16⟩
  | .local _ .vmem, ⟨7, _⟩ => ⟨S1x128, .f32⟩
  | .local _ .vmem, ⟨8, _⟩ => ⟨S1x128, .f32⟩
  | .local _ .vmem, ⟨9, _⟩ => ⟨S1x1024x128, .bf16⟩
  | .local _ .vmem, ⟨10, _⟩ => ⟨S1x1024x128, .bf16⟩
  | .local _ .vmem, ⟨11, _⟩ => ⟨S16384x128, .bf16⟩
  | .local _ .vmem, ⟨12, _⟩ => ⟨S2x128x16384, .bf16⟩
  | .local _ .vmem, ⟨13, _⟩ => ⟨S2x1x1024, .f32⟩
  | .local _ .vmem, ⟨14, _⟩ => ⟨S2x80x1024, .f32⟩
  | .local _ .vmem, ⟨15, _⟩ => ⟨S2x2x512x1024, .f32⟩
  | _, _ => ⟨S2x16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨3, ![2, 16, 16], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_169 : BitVec 32 := 0#32
  let c32_i32 : BitVec 32 := 32#32
  let v309 : BitVec 32 := Scalar.addi c0_i32_169 c32_i32
  let c1_i32_170 : BitVec 32 := 1#32
  ⟨c0_i32_169, v309, c1_i32_170⟩
def k0_mult1 (k0_t1 : Fin k0_t1_loop.trips) : BitVec 32 :=
  let c0_i32_169 : BitVec 32 := 0#32
  let c1_i32_170 : BitVec 32 := 1#32
  let arg16 : BitVec 32 := Scf.iv c0_i32_169 c1_i32_170 k0_t1
  let c512_i32_172 : BitVec 32 := 512#32
  let v310 : BitVec 32 := Scalar.muli arg16 c512_i32_172
  v310
def k0_off1 (k0_t1 : Fin k0_t1_loop.trips) : Fin 3 → Nat :=
  let c0_173 : Index := 0#32
  let c0_i32_169 : BitVec 32 := 0#32
  let c1_i32_170 : BitVec 32 := 1#32
  let arg16 : BitVec 32 := Scf.iv c0_i32_169 c1_i32_170 k0_t1
  let c512_i32_172 : BitVec 32 := 512#32
  let v310 : BitVec 32 := Scalar.muli arg16 c512_i32_172
  let v311 : BitVec 32 := v310
  let v312 : Index := Scalar.indexCast v311
  let c0_174 : Index := 0#32
  ![0, v312.toNat, 0]
def k0_off2 (k0_t1 : Fin k0_t1_loop.trips) : Fin 2 → Nat :=
  let c0_i32_169 : BitVec 32 := 0#32
  let c1_i32_170 : BitVec 32 := 1#32
  let arg16 : BitVec 32 := Scf.iv c0_i32_169 c1_i32_170 k0_t1
  let c512_i32_172 : BitVec 32 := 512#32
  let v310 : BitVec 32 := Scalar.muli arg16 c512_i32_172
  let v311 : BitVec 32 := v310
  let v341 : Index := Scalar.indexCast v311
  let c0_183 : Index := 0#32
  ![v341.toNat, 0]
def k0_off3 (k0_t1 : Fin k0_t1_loop.trips) : Fin 3 → Nat :=
  let c0_184 : Index := 0#32
  let c0_185 : Index := 0#32
  let c0_i32_169 : BitVec 32 := 0#32
  let c1_i32_170 : BitVec 32 := 1#32
  let arg16 : BitVec 32 := Scf.iv c0_i32_169 c1_i32_170 k0_t1
  let c512_i32_172 : BitVec 32 := 512#32
  let v310 : BitVec 32 := Scalar.muli arg16 c512_i32_172
  let v311 : BitVec 32 := v310
  let v345 : Index := Scalar.indexCast v311
  ![0, 0, v345.toNat]
def k0_off4 (k0_t1 : Fin k0_t1_loop.trips) : Fin 3 → Nat :=
  let c0_189 : Index := 0#32
  let c0_190 : Index := 0#32
  let c0_i32_169 : BitVec 32 := 0#32
  let c1_i32_170 : BitVec 32 := 1#32
  let arg16 : BitVec 32 := Scf.iv c0_i32_169 c1_i32_170 k0_t1
  let c512_i32_172 : BitVec 32 := 512#32
  let v310 : BitVec 32 := Scalar.muli arg16 c512_i32_172
  let v311 : BitVec 32 := v310
  let v356 : Index := Scalar.indexCast v311
  ![0, 0, v356.toNat]
def k0_off5 (k0_t1 : Fin k0_t1_loop.trips) : Fin 3 → Nat :=
  let c1_193 : Index := 1#32
  let c0_194 : Index := 0#32
  let c0_i32_169 : BitVec 32 := 0#32
  let c1_i32_170 : BitVec 32 := 1#32
  let arg16 : BitVec 32 := Scf.iv c0_i32_169 c1_i32_170 k0_t1
  let c512_i32_172 : BitVec 32 := 512#32
  let v310 : BitVec 32 := Scalar.muli arg16 c512_i32_172
  let v311 : BitVec 32 := v310
  let v367 : Index := Scalar.indexCast v311
  ![1, 0, v367.toNat]
def k0_mult2 (i : grid0.Coords) : BitVec 32 :=
  let arg2 : BitVec 32 := BitVec.ofNat 32 (i 2).val
  let c1024_i32 : BitVec 32 := 1024#32
  let v41 : BitVec 32 := Scalar.muli arg2 c1024_i32
  v41
def k0_off6 (i : grid0.Coords) : Fin 4 → Nat :=
  let c0_13 : Index := 0#32
  let c0_14 : Index := 0#32
  let c0_15 : Index := 0#32
  let arg2 : BitVec 32 := BitVec.ofNat 32 (i 2).val
  let c1024_i32 : BitVec 32 := 1024#32
  let v41 : BitVec 32 := Scalar.muli arg2 c1024_i32
  let v42 : BitVec 32 := v41
  let v43 : Index := Scalar.indexCast v42
  ![0, 0, 0, v43.toNat]
def k0_off7 (i : grid0.Coords) : Fin 4 → Nat :=
  let c0_16 : Index := 0#32
  let c1 : Index := 1#32
  let c0_17 : Index := 0#32
  let arg2 : BitVec 32 := BitVec.ofNat 32 (i 2).val
  let c1024_i32 : BitVec 32 := 1024#32
  let v41 : BitVec 32 := Scalar.muli arg2 c1024_i32
  let v42 : BitVec 32 := v41
  let v47 : Index := Scalar.indexCast v42
  ![0, 1, 0, v47.toNat]
def k0_mult3 : BitVec 32 :=
  let c0_i32_26 : BitVec 32 := 0#32
  c0_i32_26
@[reducible] def k0_t2_loop (i : grid0.Coords) : Scf.Loop 32 :=
  let c0_i32_47 : BitVec 32 := 0#32
  let arg2 : BitVec 32 := BitVec.ofNat 32 (i 2).val
  let c1_i32 : BitVec 32 := 1#32
  let v99 : BitVec 32 := Scalar.muli arg2 c1_i32
  let v100 : BitVec 32 := Scalar.subi v99 c0_i32_47
  let c1_i32_48 : BitVec 32 := 1#32
  let v102 : BitVec 32 := Scalar.divsi v100 c1_i32_48
  let v103 : BitVec 32 := Scalar.muli v102 c1_i32_48
  let v104 : BitVec 32 := Scalar.addi c0_i32_47 v103
  let c1_i32_49 : BitVec 32 := 1#32
  ⟨c0_i32_47, v104, c1_i32_49⟩
def k0_mult4 (i : grid0.Coords) (k0_t2 : Fin (k0_t2_loop i).trips) : BitVec 32 :=
  let c0_i32_47 : BitVec 32 := 0#32
  let c1_i32_49 : BitVec 32 := 1#32
  let arg16 : BitVec 32 := Scf.iv c0_i32_47 c1_i32_49 k0_t2
  let c1024_i32_167 : BitVec 32 := 1024#32
  let v303 : BitVec 32 := Scalar.muli arg16 c1024_i32_167
  let c512_i32_168 : BitVec 32 := 512#32
  let v304 : BitVec 32 := Scalar.addi v303 c512_i32_168
  v304
def k0_off8 (i : grid0.Coords) (k0_t2 : Fin (k0_t2_loop i).trips) (c512_i32_168 : BitVec 32) : Fin 2 → Nat :=
  let c0_i32_47 : BitVec 32 := 0#32
  let c1_i32_49 : BitVec 32 := 1#32
  let arg16 : BitVec 32 := Scf.iv c0_i32_47 c1_i32_49 k0_t2
  let c1024_i32_167 : BitVec 32 := 1024#32
  let v303 : BitVec 32 := Scalar.muli arg16 c1024_i32_167
  let v304 : BitVec 32 := Scalar.addi v303 c512_i32_168
  let v305 : BitVec 32 := v304
  let v306 : Index := Scalar.indexCast v305
  let c0_169 : Index := 0#32
  ![v306.toNat, 0]
def k0_off9 (i : grid0.Coords) (k0_t2 : Fin (k0_t2_loop i).trips) (c512_i32_168 : BitVec 32) : Fin 4 → Nat :=
  let c0_170 : Index := 0#32
  let c0_171 : Index := 0#32
  let c0_172 : Index := 0#32
  let c0_i32_47 : BitVec 32 := 0#32
  let c1_i32_49 : BitVec 32 := 1#32
  let arg16 : BitVec 32 := Scf.iv c0_i32_47 c1_i32_49 k0_t2
  let c1024_i32_167 : BitVec 32 := 1024#32
  let v303 : BitVec 32 := Scalar.muli arg16 c1024_i32_167
  let v304 : BitVec 32 := Scalar.addi v303 c512_i32_168
  let v305 : BitVec 32 := v304
  let v308 : Index := Scalar.indexCast v305
  ![0, 0, 0, v308.toNat]
def k0_off10 (i : grid0.Coords) (k0_t2 : Fin (k0_t2_loop i).trips) (c512_i32_168 : BitVec 32) : Fin 4 → Nat :=
  let c0_179 : Index := 0#32
  let c1_180 : Index := 1#32
  let c0_181 : Index := 0#32
  let c0_i32_47 : BitVec 32 := 0#32
  let c1_i32_49 : BitVec 32 := 1#32
  let arg16 : BitVec 32 := Scf.iv c0_i32_47 c1_i32_49 k0_t2
  let c1024_i32_167 : BitVec 32 := 1024#32
  let v303 : BitVec 32 := Scalar.muli arg16 c1024_i32_167
  let v304 : BitVec 32 := Scalar.addi v303 c512_i32_168
  let v305 : BitVec 32 := v304
  let v325 : Index := Scalar.indexCast v305
  ![0, 1, 0, v325.toNat]
def k0_mult5 (i : grid0.Coords) (k0_t2 : Fin (k0_t2_loop i).trips) : BitVec 32 :=
  let c0_i32_47 : BitVec 32 := 0#32
  let c1_i32_49 : BitVec 32 := 1#32
  let arg16 : BitVec 32 := Scf.iv c0_i32_47 c1_i32_49 k0_t2
  let c1024_i32_167 : BitVec 32 := 1024#32
  let v303 : BitVec 32 := Scalar.muli arg16 c1024_i32_167
  v303
def k0_off11 (i : grid0.Coords) (k0_t2 : Fin (k0_t2_loop i).trips) : Fin 3 → Nat :=
  let c0_199 : Index := 0#32
  let c0_200 : Index := 0#32
  let c0_i32_47 : BitVec 32 := 0#32
  let c1_i32_49 : BitVec 32 := 1#32
  let arg16 : BitVec 32 := Scf.iv c0_i32_47 c1_i32_49 k0_t2
  let c1024_i32_167 : BitVec 32 := 1024#32
  let v303 : BitVec 32 := Scalar.muli arg16 c1024_i32_167
  let v342 : BitVec 32 := v303
  let v360 : Index := Scalar.indexCast v342
  ![0, 0, v360.toNat]
def k0_off12 (i : grid0.Coords) (k0_t2 : Fin (k0_t2_loop i).trips) : Fin 3 → Nat :=
  let c1_219 : Index := 1#32
  let c48_220 : Index := 48#32
  let c0_i32_47 : BitVec 32 := 0#32
  let c1_i32_49 : BitVec 32 := 1#32
  let arg16 : BitVec 32 := Scf.iv c0_i32_47 c1_i32_49 k0_t2
  let c1024_i32_167 : BitVec 32 := 1024#32
  let v303 : BitVec 32 := Scalar.muli arg16 c1024_i32_167
  let v342 : BitVec 32 := v303
  let v388 : Index := Scalar.indexCast v342
  ![1, 48, v388.toNat]
def k0_mult6 (i : grid0.Coords) (k0_t2 : Fin (k0_t2_loop i).trips) : BitVec 32 :=
  let c0_i32_47 : BitVec 32 := 0#32
  let c1_i32_49 : BitVec 32 := 1#32
  let arg16 : BitVec 32 := Scf.iv c0_i32_47 c1_i32_49 k0_t2
  let c1024_i32_167 : BitVec 32 := 1024#32
  let v303 : BitVec 32 := Scalar.muli arg16 c1024_i32_167
  let c1024_i32_228 : BitVec 32 := 1024#32
  let v399 : BitVec 32 := Scalar.addi v303 c1024_i32_228
  v399
def k0_mult7 (i : grid0.Coords) (k0_t2 : Fin (k0_t2_loop i).trips) : BitVec 32 :=
  let c0_i32_47 : BitVec 32 := 0#32
  let c1_i32_49 : BitVec 32 := 1#32
  let arg16 : BitVec 32 := Scf.iv c0_i32_47 c1_i32_49 k0_t2
  let c1024_i32_167 : BitVec 32 := 1024#32
  let v303 : BitVec 32 := Scalar.muli arg16 c1024_i32_167
  let c512_i32_248 : BitVec 32 := 512#32
  let v437 : BitVec 32 := Scalar.addi v303 c512_i32_248
  v437
def k0_off13 (i : grid0.Coords) (k0_t2 : Fin (k0_t2_loop i).trips) : Fin 3 → Nat :=
  let c0_260 : Index := 0#32
  let c0_261 : Index := 0#32
  let c0_i32_47 : BitVec 32 := 0#32
  let c1_i32_49 : BitVec 32 := 1#32
  let arg16 : BitVec 32 := Scf.iv c0_i32_47 c1_i32_49 k0_t2
  let c1024_i32_167 : BitVec 32 := 1024#32
  let v303 : BitVec 32 := Scalar.muli arg16 c1024_i32_167
  let c512_i32_248 : BitVec 32 := 512#32
  let v437 : BitVec 32 := Scalar.addi v303 c512_i32_248
  let v438 : BitVec 32 := v437
  let v456 : Index := Scalar.indexCast v438
  ![0, 0, v456.toNat]
def k0_off14 (i : grid0.Coords) (k0_t2 : Fin (k0_t2_loop i).trips) : Fin 3 → Nat :=
  let c1_280 : Index := 1#32
  let c48_281 : Index := 48#32
  let c0_i32_47 : BitVec 32 := 0#32
  let c1_i32_49 : BitVec 32 := 1#32
  let arg16 : BitVec 32 := Scf.iv c0_i32_47 c1_i32_49 k0_t2
  let c1024_i32_167 : BitVec 32 := 1024#32
  let v303 : BitVec 32 := Scalar.muli arg16 c1024_i32_167
  let c512_i32_248 : BitVec 32 := 512#32
  let v437 : BitVec 32 := Scalar.addi v303 c512_i32_248
  let v438 : BitVec 32 := v437
  let v484 : Index := Scalar.indexCast v438
  ![1, 48, v484.toNat]
@[reducible] def k0_t3_loop (i : grid0.Coords) : Scf.Loop 32 :=
  let c0_i32_47 : BitVec 32 := 0#32
  let arg2 : BitVec 32 := BitVec.ofNat 32 (i 2).val
  let c1_i32 : BitVec 32 := 1#32
  let v99 : BitVec 32 := Scalar.muli arg2 c1_i32
  let v100 : BitVec 32 := Scalar.subi v99 c0_i32_47
  let c1_i32_48 : BitVec 32 := 1#32
  let v102 : BitVec 32 := Scalar.divsi v100 c1_i32_48
  let v103 : BitVec 32 := Scalar.muli v102 c1_i32_48
  let v104 : BitVec 32 := Scalar.addi c0_i32_47 v103
  let v101 : BitVec 32 := Scalar.addi c0_i32_47 v100
  let c1_i32_50 : BitVec 32 := 1#32
  ⟨v104, v101, c1_i32_50⟩
def k0_mult8 (i : grid0.Coords) (k0_t3 : Fin (k0_t3_loop i).trips) : BitVec 32 :=
  let c0_i32_47 : BitVec 32 := 0#32
  let arg2 : BitVec 32 := BitVec.ofNat 32 (i 2).val
  let c1_i32 : BitVec 32 := 1#32
  let v99 : BitVec 32 := Scalar.muli arg2 c1_i32
  let v100 : BitVec 32 := Scalar.subi v99 c0_i32_47
  let c1_i32_48 : BitVec 32 := 1#32
  let v102 : BitVec 32 := Scalar.divsi v100 c1_i32_48
  let v103 : BitVec 32 := Scalar.muli v102 c1_i32_48
  let v104 : BitVec 32 := Scalar.addi c0_i32_47 v103
  let c1_i32_50 : BitVec 32 := 1#32
  let arg16 : BitVec 32 := Scf.iv v104 c1_i32_50 k0_t3
  let c1024_i32_167 : BitVec 32 := 1024#32
  let v303 : BitVec 32 := Scalar.muli arg16 c1024_i32_167
  let c512_i32_168 : BitVec 32 := 512#32
  let v304 : BitVec 32 := Scalar.addi v303 c512_i32_168
  v304
def k0_off15 (i : grid0.Coords) (k0_t3 : Fin (k0_t3_loop i).trips) (c512_i32_168 : BitVec 32) : Fin 2 → Nat :=
  let c0_i32_47 : BitVec 32 := 0#32
  let arg2 : BitVec 32 := BitVec.ofNat 32 (i 2).val
  let c1_i32 : BitVec 32 := 1#32
  let v99 : BitVec 32 := Scalar.muli arg2 c1_i32
  let v100 : BitVec 32 := Scalar.subi v99 c0_i32_47
  let c1_i32_48 : BitVec 32 := 1#32
  let v102 : BitVec 32 := Scalar.divsi v100 c1_i32_48
  let v103 : BitVec 32 := Scalar.muli v102 c1_i32_48
  let v104 : BitVec 32 := Scalar.addi c0_i32_47 v103
  let c1_i32_50 : BitVec 32 := 1#32
  let arg16 : BitVec 32 := Scf.iv v104 c1_i32_50 k0_t3
  let c1024_i32_167 : BitVec 32 := 1024#32
  let v303 : BitVec 32 := Scalar.muli arg16 c1024_i32_167
  let v304 : BitVec 32 := Scalar.addi v303 c512_i32_168
  let v305 : BitVec 32 := v304
  let v306 : Index := Scalar.indexCast v305
  let c0_169 : Index := 0#32
  ![v306.toNat, 0]
def k0_off16 (i : grid0.Coords) (k0_t3 : Fin (k0_t3_loop i).trips) (c512_i32_168 : BitVec 32) : Fin 4 → Nat :=
  let c0_170 : Index := 0#32
  let c0_171 : Index := 0#32
  let c0_172 : Index := 0#32
  let c0_i32_47 : BitVec 32 := 0#32
  let arg2 : BitVec 32 := BitVec.ofNat 32 (i 2).val
  let c1_i32 : BitVec 32 := 1#32
  let v99 : BitVec 32 := Scalar.muli arg2 c1_i32
  let v100 : BitVec 32 := Scalar.subi v99 c0_i32_47
  let c1_i32_48 : BitVec 32 := 1#32
  let v102 : BitVec 32 := Scalar.divsi v100 c1_i32_48
  let v103 : BitVec 32 := Scalar.muli v102 c1_i32_48
  let v104 : BitVec 32 := Scalar.addi c0_i32_47 v103
  let c1_i32_50 : BitVec 32 := 1#32
  let arg16 : BitVec 32 := Scf.iv v104 c1_i32_50 k0_t3
  let c1024_i32_167 : BitVec 32 := 1024#32
  let v303 : BitVec 32 := Scalar.muli arg16 c1024_i32_167
  let v304 : BitVec 32 := Scalar.addi v303 c512_i32_168
  let v305 : BitVec 32 := v304
  let v308 : Index := Scalar.indexCast v305
  ![0, 0, 0, v308.toNat]
def k0_off17 (i : grid0.Coords) (k0_t3 : Fin (k0_t3_loop i).trips) (c512_i32_168 : BitVec 32) : Fin 4 → Nat :=
  let c0_179 : Index := 0#32
  let c1_180 : Index := 1#32
  let c0_181 : Index := 0#32
  let c0_i32_47 : BitVec 32 := 0#32
  let arg2 : BitVec 32 := BitVec.ofNat 32 (i 2).val
  let c1_i32 : BitVec 32 := 1#32
  let v99 : BitVec 32 := Scalar.muli arg2 c1_i32
  let v100 : BitVec 32 := Scalar.subi v99 c0_i32_47
  let c1_i32_48 : BitVec 32 := 1#32
  let v102 : BitVec 32 := Scalar.divsi v100 c1_i32_48
  let v103 : BitVec 32 := Scalar.muli v102 c1_i32_48
  let v104 : BitVec 32 := Scalar.addi c0_i32_47 v103
  let c1_i32_50 : BitVec 32 := 1#32
  let arg16 : BitVec 32 := Scf.iv v104 c1_i32_50 k0_t3
  let c1024_i32_167 : BitVec 32 := 1024#32
  let v303 : BitVec 32 := Scalar.muli arg16 c1024_i32_167
  let v304 : BitVec 32 := Scalar.addi v303 c512_i32_168
  let v305 : BitVec 32 := v304
  let v325 : Index := Scalar.indexCast v305
  ![0, 1, 0, v325.toNat]
def k0_mult9 (i : grid0.Coords) (k0_t3 : Fin (k0_t3_loop i).trips) : BitVec 32 :=
  let c0_i32_47 : BitVec 32 := 0#32
  let arg2 : BitVec 32 := BitVec.ofNat 32 (i 2).val
  let c1_i32 : BitVec 32 := 1#32
  let v99 : BitVec 32 := Scalar.muli arg2 c1_i32
  let v100 : BitVec 32 := Scalar.subi v99 c0_i32_47
  let c1_i32_48 : BitVec 32 := 1#32
  let v102 : BitVec 32 := Scalar.divsi v100 c1_i32_48
  let v103 : BitVec 32 := Scalar.muli v102 c1_i32_48
  let v104 : BitVec 32 := Scalar.addi c0_i32_47 v103
  let c1_i32_50 : BitVec 32 := 1#32
  let arg16 : BitVec 32 := Scf.iv v104 c1_i32_50 k0_t3
  let c1024_i32_167 : BitVec 32 := 1024#32
  let v303 : BitVec 32 := Scalar.muli arg16 c1024_i32_167
  v303
def k0_off18 (i : grid0.Coords) (k0_t3 : Fin (k0_t3_loop i).trips) : Fin 3 → Nat :=
  let c0_199 : Index := 0#32
  let c0_200 : Index := 0#32
  let c0_i32_47 : BitVec 32 := 0#32
  let arg2 : BitVec 32 := BitVec.ofNat 32 (i 2).val
  let c1_i32 : BitVec 32 := 1#32
  let v99 : BitVec 32 := Scalar.muli arg2 c1_i32
  let v100 : BitVec 32 := Scalar.subi v99 c0_i32_47
  let c1_i32_48 : BitVec 32 := 1#32
  let v102 : BitVec 32 := Scalar.divsi v100 c1_i32_48
  let v103 : BitVec 32 := Scalar.muli v102 c1_i32_48
  let v104 : BitVec 32 := Scalar.addi c0_i32_47 v103
  let c1_i32_50 : BitVec 32 := 1#32
  let arg16 : BitVec 32 := Scf.iv v104 c1_i32_50 k0_t3
  let c1024_i32_167 : BitVec 32 := 1024#32
  let v303 : BitVec 32 := Scalar.muli arg16 c1024_i32_167
  let v342 : BitVec 32 := v303
  let v360 : Index := Scalar.indexCast v342
  ![0, 0, v360.toNat]
def k0_off19 (i : grid0.Coords) (k0_t3 : Fin (k0_t3_loop i).trips) : Fin 3 → Nat :=
  let c1_219 : Index := 1#32
  let c48_220 : Index := 48#32
  let c0_i32_47 : BitVec 32 := 0#32
  let arg2 : BitVec 32 := BitVec.ofNat 32 (i 2).val
  let c1_i32 : BitVec 32 := 1#32
  let v99 : BitVec 32 := Scalar.muli arg2 c1_i32
  let v100 : BitVec 32 := Scalar.subi v99 c0_i32_47
  let c1_i32_48 : BitVec 32 := 1#32
  let v102 : BitVec 32 := Scalar.divsi v100 c1_i32_48
  let v103 : BitVec 32 := Scalar.muli v102 c1_i32_48
  let v104 : BitVec 32 := Scalar.addi c0_i32_47 v103
  let c1_i32_50 : BitVec 32 := 1#32
  let arg16 : BitVec 32 := Scf.iv v104 c1_i32_50 k0_t3
  let c1024_i32_167 : BitVec 32 := 1024#32
  let v303 : BitVec 32 := Scalar.muli arg16 c1024_i32_167
  let v342 : BitVec 32 := v303
  let v388 : Index := Scalar.indexCast v342
  ![1, 48, v388.toNat]
def k0_mult10 (i : grid0.Coords) (k0_t3 : Fin (k0_t3_loop i).trips) : BitVec 32 :=
  let c0_i32_47 : BitVec 32 := 0#32
  let arg2 : BitVec 32 := BitVec.ofNat 32 (i 2).val
  let c1_i32 : BitVec 32 := 1#32
  let v99 : BitVec 32 := Scalar.muli arg2 c1_i32
  let v100 : BitVec 32 := Scalar.subi v99 c0_i32_47
  let c1_i32_48 : BitVec 32 := 1#32
  let v102 : BitVec 32 := Scalar.divsi v100 c1_i32_48
  let v103 : BitVec 32 := Scalar.muli v102 c1_i32_48
  let v104 : BitVec 32 := Scalar.addi c0_i32_47 v103
  let c1_i32_50 : BitVec 32 := 1#32
  let arg16 : BitVec 32 := Scf.iv v104 c1_i32_50 k0_t3
  let c1024_i32_167 : BitVec 32 := 1024#32
  let v303 : BitVec 32 := Scalar.muli arg16 c1024_i32_167
  let c1024_i32_228 : BitVec 32 := 1024#32
  let v399 : BitVec 32 := Scalar.addi v303 c1024_i32_228
  v399
def k0_mult11 (i : grid0.Coords) (k0_t3 : Fin (k0_t3_loop i).trips) : BitVec 32 :=
  let c0_i32_47 : BitVec 32 := 0#32
  let arg2 : BitVec 32 := BitVec.ofNat 32 (i 2).val
  let c1_i32 : BitVec 32 := 1#32
  let v99 : BitVec 32 := Scalar.muli arg2 c1_i32
  let v100 : BitVec 32 := Scalar.subi v99 c0_i32_47
  let c1_i32_48 : BitVec 32 := 1#32
  let v102 : BitVec 32 := Scalar.divsi v100 c1_i32_48
  let v103 : BitVec 32 := Scalar.muli v102 c1_i32_48
  let v104 : BitVec 32 := Scalar.addi c0_i32_47 v103
  let c1_i32_50 : BitVec 32 := 1#32
  let arg16 : BitVec 32 := Scf.iv v104 c1_i32_50 k0_t3
  let c1024_i32_167 : BitVec 32 := 1024#32
  let v303 : BitVec 32 := Scalar.muli arg16 c1024_i32_167
  let c512_i32_248 : BitVec 32 := 512#32
  let v437 : BitVec 32 := Scalar.addi v303 c512_i32_248
  v437
def k0_off20 (i : grid0.Coords) (k0_t3 : Fin (k0_t3_loop i).trips) : Fin 3 → Nat :=
  let c0_260 : Index := 0#32
  let c0_261 : Index := 0#32
  let c0_i32_47 : BitVec 32 := 0#32
  let arg2 : BitVec 32 := BitVec.ofNat 32 (i 2).val
  let c1_i32 : BitVec 32 := 1#32
  let v99 : BitVec 32 := Scalar.muli arg2 c1_i32
  let v100 : BitVec 32 := Scalar.subi v99 c0_i32_47
  let c1_i32_48 : BitVec 32 := 1#32
  let v102 : BitVec 32 := Scalar.divsi v100 c1_i32_48
  let v103 : BitVec 32 := Scalar.muli v102 c1_i32_48
  let v104 : BitVec 32 := Scalar.addi c0_i32_47 v103
  let c1_i32_50 : BitVec 32 := 1#32
  let arg16 : BitVec 32 := Scf.iv v104 c1_i32_50 k0_t3
  let c1024_i32_167 : BitVec 32 := 1024#32
  let v303 : BitVec 32 := Scalar.muli arg16 c1024_i32_167
  let c512_i32_248 : BitVec 32 := 512#32
  let v437 : BitVec 32 := Scalar.addi v303 c512_i32_248
  let v438 : BitVec 32 := v437
  let v456 : Index := Scalar.indexCast v438
  ![0, 0, v456.toNat]
def k0_off21 (i : grid0.Coords) (k0_t3 : Fin (k0_t3_loop i).trips) : Fin 3 → Nat :=
  let c1_280 : Index := 1#32
  let c48_281 : Index := 48#32
  let c0_i32_47 : BitVec 32 := 0#32
  let arg2 : BitVec 32 := BitVec.ofNat 32 (i 2).val
  let c1_i32 : BitVec 32 := 1#32
  let v99 : BitVec 32 := Scalar.muli arg2 c1_i32
  let v100 : BitVec 32 := Scalar.subi v99 c0_i32_47
  let c1_i32_48 : BitVec 32 := 1#32
  let v102 : BitVec 32 := Scalar.divsi v100 c1_i32_48
  let v103 : BitVec 32 := Scalar.muli v102 c1_i32_48
  let v104 : BitVec 32 := Scalar.addi c0_i32_47 v103
  let c1_i32_50 : BitVec 32 := 1#32
  let arg16 : BitVec 32 := Scf.iv v104 c1_i32_50 k0_t3
  let c1024_i32_167 : BitVec 32 := 1024#32
  let v303 : BitVec 32 := Scalar.muli arg16 c1024_i32_167
  let c512_i32_248 : BitVec 32 := 512#32
  let v437 : BitVec 32 := Scalar.addi v303 c512_i32_248
  let v438 : BitVec 32 := v437
  let v484 : Index := Scalar.indexCast v438
  ![1, 48, v484.toNat]
def k0_mult12 (i : grid0.Coords) : BitVec 32 :=
  let arg2 : BitVec 32 := BitVec.ofNat 32 (i 2).val
  let c1024_i32 : BitVec 32 := 1024#32
  let v41 : BitVec 32 := Scalar.muli arg2 c1024_i32
  let v42 : BitVec 32 := v41
  let c512_i32 : BitVec 32 := 512#32
  let v105 : BitVec 32 := Scalar.addi v42 c512_i32
  v105
def k0_off22 (i : grid0.Coords) : Fin 2 → Nat :=
  let arg2 : BitVec 32 := BitVec.ofNat 32 (i 2).val
  let c1024_i32 : BitVec 32 := 1024#32
  let v41 : BitVec 32 := Scalar.muli arg2 c1024_i32
  let v42 : BitVec 32 := v41
  let c512_i32 : BitVec 32 := 512#32
  let v105 : BitVec 32 := Scalar.addi v42 c512_i32
  let v106 : BitVec 32 := v105
  let v107 : Index := Scalar.indexCast v106
  let c0_51 : Index := 0#32
  ![v107.toNat, 0]
def k0_off23 (i : grid0.Coords) : Fin 4 → Nat :=
  let c0_52 : Index := 0#32
  let c0_53 : Index := 0#32
  let c0_54 : Index := 0#32
  let arg2 : BitVec 32 := BitVec.ofNat 32 (i 2).val
  let c1024_i32 : BitVec 32 := 1024#32
  let v41 : BitVec 32 := Scalar.muli arg2 c1024_i32
  let v42 : BitVec 32 := v41
  let c512_i32 : BitVec 32 := 512#32
  let v105 : BitVec 32 := Scalar.addi v42 c512_i32
  let v106 : BitVec 32 := v105
  let v109 : Index := Scalar.indexCast v106
  ![0, 0, 0, v109.toNat]
def k0_off24 (i : grid0.Coords) : Fin 4 → Nat :=
  let c0_61 : Index := 0#32
  let c1_62 : Index := 1#32
  let c0_63 : Index := 0#32
  let arg2 : BitVec 32 := BitVec.ofNat 32 (i 2).val
  let c1024_i32 : BitVec 32 := 1024#32
  let v41 : BitVec 32 := Scalar.muli arg2 c1024_i32
  let v42 : BitVec 32 := v41
  let c512_i32 : BitVec 32 := 512#32
  let v105 : BitVec 32 := Scalar.addi v42 c512_i32
  let v106 : BitVec 32 := v105
  let v126 : Index := Scalar.indexCast v106
  ![0, 1, 0, v126.toNat]
def k0_mult13 (i : grid0.Coords) : BitVec 32 :=
  let arg2 : BitVec 32 := BitVec.ofNat 32 (i 2).val
  let c1024_i32 : BitVec 32 := 1024#32
  let v41 : BitVec 32 := Scalar.muli arg2 c1024_i32
  let v42 : BitVec 32 := v41
  let c0_i32_70 : BitVec 32 := 0#32
  let v143 : BitVec 32 := Scalar.addi v42 c0_i32_70
  v143
def k0_off25 (i : grid0.Coords) (c0_i32_70 : BitVec 32) : Fin 3 → Nat :=
  let c0_83 : Index := 0#32
  let c0_84 : Index := 0#32
  let arg2 : BitVec 32 := BitVec.ofNat 32 (i 2).val
  let c1024_i32 : BitVec 32 := 1024#32
  let v41 : BitVec 32 := Scalar.muli arg2 c1024_i32
  let v42 : BitVec 32 := v41
  let v143 : BitVec 32 := Scalar.addi v42 c0_i32_70
  let v144 : BitVec 32 := v143
  let v167 : Index := Scalar.indexCast v144
  ![0, 0, v167.toNat]
def k0_off26 (i : grid0.Coords) (c0_i32_70 : BitVec 32) : Fin 3 → Nat :=
  let c1_104 : Index := 1#32
  let c48 : Index := 48#32
  let arg2 : BitVec 32 := BitVec.ofNat 32 (i 2).val
  let c1024_i32 : BitVec 32 := 1024#32
  let v41 : BitVec 32 := Scalar.muli arg2 c1024_i32
  let v42 : BitVec 32 := v41
  let v143 : BitVec 32 := Scalar.addi v42 c0_i32_70
  let v144 : BitVec 32 := v143
  let v200 : Index := Scalar.indexCast v144
  ![1, 48, v200.toNat]
def k0_mult14 (i : grid0.Coords) : BitVec 32 :=
  let arg2 : BitVec 32 := BitVec.ofNat 32 (i 2).val
  let c1024_i32 : BitVec 32 := 1024#32
  let v41 : BitVec 32 := Scalar.muli arg2 c1024_i32
  let v42 : BitVec 32 := v41
  let c512_i32_112 : BitVec 32 := 512#32
  let v211 : BitVec 32 := Scalar.addi v42 c512_i32_112
  v211
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x128x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1x2x1x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | "scale" => some (((1 / 8) * (Real.log 2)⁻¹ : ℝ) : EReal)
  | _ => none
-- ==== ReferenceIdeal.lean ====
abbrev S2x16384x4096 : Shape := ⟨3, ![2, 16384, 4096]⟩
abbrev S2x2048x16384 : Shape := ⟨3, ![2, 2048, 16384]⟩
abbrev S2x32x1x16384 : Shape := ⟨4, ![2, 32, 1, 16384]⟩
abbrev S2x16384x2048 : Shape := ⟨3, ![2, 16384, 2048]⟩
abbrev S64 : Shape := ⟨1, ![64]⟩
abbrev S2x16384x32x64 : Shape := ⟨4, ![2, 16384, 32, 64]⟩
abbrev S2x32x64x16384 : Shape := ⟨4, ![2, 32, 64, 16384]⟩
abbrev S2x32x16384x64 : Shape := ⟨4, ![2, 32, 16384, 64]⟩
abbrev S2x32x16384 : Shape := ⟨3, ![2, 32, 16384]⟩
abbrev S_ : Shape := ⟨0, ![]⟩
abbrev S2x16384x32 : Shape := ⟨3, ![2, 16384, 32]⟩
abbrev S2x16384x32x1 : Shape := ⟨4, ![2, 16384, 32, 1]⟩
abbrev S1x1x1x64 : Shape := ⟨4, ![1, 1, 1, 64]⟩
abbrev S2x32x16384x16384 : Shape := ⟨4, ![2, 32, 16384, 16384]⟩
abbrev S2x32x16384x1 : Shape := ⟨4, ![2, 32, 16384, 1]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩

abbrev nBuf : Space → Nat
  | .hbm => 99
  | .vmem => 0
  | .smem => 0
  | _ => 0

abbrev bufTy : (tb : Table) → Fin (tcTables nBuf tb) → BufTy
  | .hbm, ⟨0, _⟩ => ⟨S2x16384x4096, .bf16⟩
  | .hbm, ⟨1, _⟩ => ⟨S2x2048x16384, .bf16⟩
  | .hbm, ⟨2, _⟩ => ⟨S2x32x1x16384, .f32⟩
  | .hbm, ⟨3, _⟩ => ⟨S2x16384x2048, .bf16⟩
  | .hbm, ⟨4, _⟩ => ⟨S64, .f32⟩
  | .hbm, ⟨5, _⟩ => ⟨S64, .f32⟩
  | .hbm, ⟨6, _⟩ => ⟨S2x16384x4096, .f32⟩
  | .hbm, ⟨7, _⟩ => ⟨S2x16384x2048, .f32⟩
  | .hbm, ⟨8, _⟩ => ⟨S2x16384x32x64, .f32⟩
  | .hbm, ⟨9, _⟩ => ⟨S2x16384x2048, .f32⟩
  | .hbm, ⟨10, _⟩ => ⟨S2x16384x32x64, .f32⟩
  | .hbm, ⟨11, _⟩ => ⟨S2x2048x16384, .f32⟩
  | .hbm, ⟨12, _⟩ => ⟨S2x32x64x16384, .f32⟩
  | .hbm, ⟨13, _⟩ => ⟨S2x32x16384x64, .f32⟩
  | .hbm, ⟨14, _⟩ => ⟨S2x16384x2048, .f32⟩
  | .hbm, ⟨15, _⟩ => ⟨S2x32x16384, .f32⟩
  | .hbm, ⟨16, _⟩ => ⟨S2x16384x32x64, .f32⟩
  | .hbm, ⟨17, _⟩ => ⟨S_, .f32⟩
  | .hbm, ⟨18, _⟩ => ⟨S2x16384x32, .f32⟩
  | .hbm, ⟨19, _⟩ => ⟨S2x16384x32x1, .f32⟩
  | .hbm, ⟨20, _⟩ => ⟨S_, .f32⟩
  | .hbm, ⟨21, _⟩ => ⟨S2x16384x32x1, .f32⟩
  | .hbm, ⟨22, _⟩ => ⟨S2x16384x32x1, .f32⟩
  | .hbm, ⟨23, _⟩ => ⟨S_, .f32⟩
  | .hbm, ⟨24, _⟩ => ⟨S2x16384x32x1, .f32⟩
  | .hbm, ⟨25, _⟩ => ⟨S2x16384x32x1, .f32⟩
  | .hbm, ⟨26, _⟩ => ⟨S2x16384x32x1, .f32⟩
  | .hbm, ⟨27, _⟩ => ⟨S2x16384x32x64, .f32⟩
  | .hbm, ⟨28, _⟩ => ⟨S2x16384x32x64, .f32⟩
  | .hbm, ⟨29, _⟩ => ⟨S1x1x1x64, .f32⟩
  | .hbm, ⟨30, _⟩ => ⟨S2x16384x32x64, .f32⟩
  | .hbm, ⟨31, _⟩ => ⟨S2x16384x32x64, .f32⟩
  | .hbm, ⟨32, _⟩ => ⟨S2x16384x32x64, .f32⟩
  | .hbm, ⟨33, _⟩ => ⟨S_, .f32⟩
  | .hbm, ⟨34, _⟩ => ⟨S2x16384x32, .f32⟩
  | .hbm, ⟨35, _⟩ => ⟨S2x16384x32x1, .f32⟩
  | .hbm, ⟨36, _⟩ => ⟨S_, .f32⟩
  | .hbm, ⟨37, _⟩ => ⟨S2x16384x32x1, .f32⟩
  | .hbm, ⟨38, _⟩ => ⟨S2x16384x32x1, .f32⟩
  | .hbm, ⟨39, _⟩ => ⟨S_, .f32⟩
  | .hbm, ⟨40, _⟩ => ⟨S2x16384x32x1, .f32⟩
  | .hbm, ⟨41, _⟩ => ⟨S2x16384x32x1, .f32⟩
  | .hbm, ⟨42, _⟩ => ⟨S2x16384x32x1, .f32⟩
  | .hbm, ⟨43, _⟩ => ⟨S2x16384x32x64, .f32⟩
  | .hbm, ⟨44, _⟩ => ⟨S2x16384x32x64, .f32⟩
  | .hbm, ⟨45, _⟩ => ⟨S1x1x1x64, .f32⟩
  | .hbm, ⟨46, _⟩ => ⟨S2x16384x32x64, .f32⟩
  | .hbm, ⟨47, _⟩ => ⟨S2x16384x32x64, .f32⟩
  | .hbm, ⟨48, _⟩ => ⟨S2x32x16384x64, .f32⟩
  | .hbm, ⟨49, _⟩ => ⟨S2x32x16384x64, .f32⟩
  | .hbm, ⟨50, _⟩ => ⟨S2x32x16384x16384, .f32⟩
  | .hbm, ⟨51, _⟩ => ⟨S_, .f32⟩
  | .hbm, ⟨52, _⟩ => ⟨S2x32x16384x16384, .f32⟩
  | .hbm, ⟨53, _⟩ => ⟨S2x32x16384x16384, .f32⟩
  | .hbm, ⟨54, _⟩ => ⟨S2x32x16384x1, .f32⟩
  | .hbm, ⟨55, _⟩ => ⟨S2x32x16384x16384, .f32⟩
  | .hbm, ⟨56, _⟩ => ⟨S2x32x16384x16384, .f32⟩
  | .hbm, ⟨57, _⟩ => ⟨S2x32x1x16384, .f32⟩
  | .hbm, ⟨58, _⟩ => ⟨S2x32x16384x16384, .f32⟩
  | .hbm, ⟨59, _⟩ => ⟨S2x32x16384x16384, .f32⟩
  | .hbm, ⟨60, _⟩ => ⟨S16384, .i32⟩
  | .hbm, ⟨61, _⟩ => ⟨S1x16384, .i32⟩
  | .hbm, ⟨62, _⟩ => ⟨S16384x1, .i32⟩
  | .hbm, ⟨63, _⟩ => ⟨S16384x16384, .i32⟩
  | .hbm, ⟨64, _⟩ => ⟨S16384x16384, .i32⟩
  | .hbm, ⟨65, _⟩ => ⟨S16384x16384, .i1⟩
  | .hbm, ⟨66, _⟩ => ⟨S_, .f32⟩
  | .hbm, ⟨67, _⟩ => ⟨S_, .f32⟩
  | .hbm, ⟨68, _⟩ => ⟨S2x32x16384x16384, .i1⟩
  | .hbm, ⟨69, _⟩ => ⟨S2x32x16384x16384, .f32⟩
  | .hbm, ⟨70, _⟩ => ⟨S2x32x16384x16384, .f32⟩
  | .hbm, ⟨71, _⟩ => ⟨S_, .f32⟩
  | .hbm, ⟨72, _⟩ => ⟨S2x32x16384, .f32⟩
  | .hbm, ⟨73, _⟩ => ⟨S_, .f32⟩
  | .hbm, ⟨74, _⟩ => ⟨S2x32x16384, .f32⟩
  | .hbm, ⟨75, _⟩ => ⟨S2x32x16384, .f32⟩
  | .hbm, ⟨76, _⟩ => ⟨S2x32x16384x1, .f32⟩
  | .hbm, ⟨77, _⟩ => ⟨S2x32x16384x16384, .f32⟩
  | .hbm, ⟨78, _⟩ => ⟨S2x32x16384x16384, .f32⟩
  | .hbm, ⟨79, _⟩ => ⟨S2x32x16384x16384, .f32⟩
  | .hbm, ⟨80, _⟩ => ⟨S_, .f32⟩
  | .hbm, ⟨81, _⟩ => ⟨S2x32x16384, .f32⟩
  | .hbm, ⟨82, _⟩ => ⟨S2x32x16384x1, .f32⟩
  | .hbm, ⟨83, _⟩ => ⟨S2x32x16384x16384, .f32⟩
  | .hbm, ⟨84, _⟩ => ⟨S2x32x16384x16384, .f32⟩
  | .hbm, ⟨85, _⟩ => ⟨S2x32x16384x64, .f32⟩
  | .hbm, ⟨86, _⟩ => ⟨S2x16384x32x64, .f32⟩
  | .hbm, ⟨87, _⟩ => ⟨S2x16384x2048, .f32⟩
  | .hbm, ⟨88, _⟩ => ⟨S2x16384x2048, .f32⟩
  | .hbm, ⟨89, _⟩ => ⟨S2x16384x2048, .f32⟩
  | .hbm, ⟨90, _⟩ => ⟨S_, .f32⟩
  | .hbm, ⟨91, _⟩ => ⟨S2x16384x2048, .f32⟩
  | .hbm, ⟨92, _⟩ => ⟨S2x16384x2048, .f32⟩
  | .hbm, ⟨93, _⟩ => ⟨S_, .f32⟩
  | .hbm, ⟨94, _⟩ => ⟨S2x16384x2048, .f32⟩
  | .hbm, ⟨95, _⟩ => ⟨S2x16384x2048, .f32⟩
  | .hbm, ⟨96, _⟩ => ⟨S2x16384x2048, .f32⟩
  | .hbm, ⟨97, _⟩ => ⟨S2x16384x2048, .f32⟩
  | .hbm, ⟨98, _⟩ => ⟨S2x16384x2048, .bf16⟩
  | _, _ => ⟨S2x16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_6 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_v53 : Ref sig .tc := ⟨.hbm, 70, rfl⟩
abbrev main_cst_7 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_9 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_call1_v0 : Ref sig .tc := ⟨.hbm, 88, rfl⟩
abbrev main_call1_v1 : Ref sig .tc := ⟨.hbm, 89, rfl⟩
abbrev main_call1_cst : Ref sig .tc := ⟨.hbm, 90, rfl⟩
abbrev main_call1_v2 : Ref sig .tc := ⟨.hbm, 91, rfl⟩
abbrev main_call1_v3 : Ref sig .tc := ⟨.hbm, 92, rfl⟩
abbrev main_call1_cst_0 : Ref sig .tc := ⟨.hbm, 93, rfl⟩
abbrev main_call1_v4 : Ref sig .tc := ⟨.hbm, 94, rfl⟩
abbrev main_call1_v5 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩

abbrev nD : Nat := 1
abbrev τ : Topo := Topo.v7x

variable {F : FTy → Type} [FloatOps F]
-- ==== Qk.lean ====
abbrev S2x16384x2048 : Shape := ⟨3, ![2, 16384, 2048]⟩
abbrev S2048x8224 : Shape := ⟨2, ![2048, 8224]⟩
abbrev S32768x2048 : Shape := ⟨2, ![32768, 2048]⟩
abbrev S2048x4096 : Shape := ⟨2, ![2048, 4096]⟩
abbrev S32768x4096 : Shape := ⟨2, ![32768, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x16384x2048, .bf16⟩
  | .hbm, ⟨1, _⟩ => ⟨S2048x8224, .f32⟩
  | .hbm, ⟨2, _⟩ => ⟨S2048x8224, .bf16⟩
  | .hbm, ⟨3, _⟩ => ⟨S32768x2048, .bf16⟩
  | .hbm, ⟨4, _⟩ => ⟨S2048x4096, .bf16⟩
  | .hbm, ⟨5, _⟩ => ⟨S32768x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2x16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefQkIdeal.lean ====
abbrev S2x16384x2048 : Shape := ⟨3, ![2, 16384, 2048]⟩
abbrev S2048x8224 : Shape := ⟨2, ![2048, 8224]⟩
abbrev S32768x2048 : Shape := ⟨2, ![32768, 2048]⟩
abbrev S32768x8224 : Shape := ⟨2, ![32768, 8224]⟩
abbrev S32768x4096 : Shape := ⟨2, ![32768, 4096]⟩

abbrev nBuf : Space → Nat
  | .hbm => 7
  | .vmem => 0
  | .smem => 0
  | _ => 0

abbrev bufTy : (tb : Table) → Fin (tcTables nBuf tb) → BufTy
  | .hbm, ⟨0, _⟩ => ⟨S2x16384x2048, .bf16⟩
  | .hbm, ⟨1, _⟩ => ⟨S2048x8224, .f32⟩
  | .hbm, ⟨2, _⟩ => ⟨S2x16384x2048, .f32⟩
  | .hbm, ⟨3, _⟩ => ⟨S32768x2048, .f32⟩
  | .hbm, ⟨4, _⟩ => ⟨S32768x8224, .f32⟩
  | .hbm, ⟨5, _⟩ => ⟨S32768x4096, .f32⟩
  | .hbm, ⟨6, _⟩ => ⟨S32768x4096, .bf16⟩
  | _, _ => ⟨S2x16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Vt.lean ====
abbrev S2x16384x2048 : Shape := ⟨3, ![2, 16384, 2048]⟩
abbrev S2048x8224 : Shape := ⟨2, ![2048, 8224]⟩
abbrev S32768x2048 : Shape := ⟨2, ![32768, 2048]⟩
abbrev S2048x2048 : Shape := ⟨2, ![2048, 2048]⟩
abbrev S2x2048x16384 : Shape := ⟨3, ![2, 2048, 16384]⟩
abbrev S1024x2048 : Shape := ⟨2, ![1024, 2048]⟩
abbrev S2048x1024 : Shape := ⟨2, ![2048, 1024]⟩
abbrev S1024x1024 : Shape := ⟨2, ![1024, 1024]⟩
abbrev S1x1024x1024 : Shape := ⟨3, ![1, 1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S2x16384x2048, .bf16⟩
  | .hbm, ⟨1, _⟩ => ⟨S2048x8224, .f32⟩
  | .hbm, ⟨2, _⟩ => ⟨S2048x8224, .bf16⟩
  | .hbm, ⟨3, _⟩ => ⟨S32768x2048, .bf16⟩
  | .hbm, ⟨4, _⟩ => ⟨S2048x2048, .bf16⟩
  | .hbm, ⟨5, _⟩ => ⟨S32768x2048, .f32⟩
  | .hbm, ⟨6, _⟩ => ⟨S2x2048x16384, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024x1024, .bf16⟩
  | .local _ .vmem, ⟨7, _⟩ => ⟨S1x1024x1024, .bf16⟩
  | _, _ => ⟨S2x16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefVtIdeal.lean ====
abbrev S2x16384x2048 : Shape := ⟨3, ![2, 16384, 2048]⟩
abbrev S2048x8224 : Shape := ⟨2, ![2048, 8224]⟩
abbrev S32768x2048 : Shape := ⟨2, ![32768, 2048]⟩
abbrev S32768x8224 : Shape := ⟨2, ![32768, 8224]⟩
abbrev S2x2048x16384 : Shape := ⟨3, ![2, 2048, 16384]⟩

abbrev nBuf : Space → Nat
  | .hbm => 9
  | .vmem => 0
  | .smem => 0
  | _ => 0

abbrev bufTy : (tb : Table) → Fin (tcTables nBuf tb) → BufTy
  | .hbm, ⟨0, _⟩ => ⟨S2x16384x2048, .bf16⟩
  | .hbm, ⟨1, _⟩ => ⟨S2048x8224, .f32⟩
  | .hbm, ⟨2, _⟩ => ⟨S2x16384x2048, .f32⟩
  | .hbm, ⟨3, _⟩ => ⟨S32768x2048, .f32⟩
  | .hbm, ⟨4, _⟩ => ⟨S32768x8224, .f32⟩
  | .hbm, ⟨5, _⟩ => ⟨S32768x2048, .f32⟩
  | .hbm, ⟨6, _⟩ => ⟨S2x16384x2048, .f32⟩
  | .hbm, ⟨7, _⟩ => ⟨S2x2048x16384, .f32⟩
  | .hbm, ⟨8, _⟩ => ⟨S2x2048x16384, .bf16⟩
  | _, _ => ⟨S2x16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Rkv.lean ====
abbrev S2x16384x2048 : Shape := ⟨3, ![2, 16384, 2048]⟩
abbrev S2048x2048 : Shape := ⟨2, ![2048, 2048]⟩
abbrev S32768x2048 : Shape := ⟨2, ![32768, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2x16384x2048, .bf16⟩
  | .hbm, ⟨1, _⟩ => ⟨S2048x2048, .f32⟩
  | .hbm, ⟨2, _⟩ => ⟨S32768x2048, .bf16⟩
  | .hbm, ⟨3, _⟩ => ⟨S2048x2048, .bf16⟩
  | .hbm, ⟨4, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2x16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefRkvIdeal.lean ====
abbrev S2x16384x2048 : Shape := ⟨3, ![2, 16384, 2048]⟩
abbrev S2048x2048 : Shape := ⟨2, ![2048, 2048]⟩
abbrev S32768x2048 : Shape := ⟨2, ![32768, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2x16384x2048, .bf16⟩
  | .hbm, ⟨1, _⟩ => ⟨S2048x2048, .f32⟩
  | .hbm, ⟨2, _⟩ => ⟨S2x16384x2048, .f32⟩
  | .hbm, ⟨3, _⟩ => ⟨S32768x2048, .f32⟩
  | .hbm, ⟨4, _⟩ => ⟨S32768x2048, .f32⟩
  | _, _ => ⟨S2x16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Gg.lean ====
abbrev S2x16384x2048 : Shape := ⟨3, ![2, 16384, 2048]⟩
abbrev S2048x2048 : Shape := ⟨2, ![2048, 2048]⟩
abbrev S32768x2048 : Shape := ⟨2, ![32768, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2x16384x2048, .bf16⟩
  | .hbm, ⟨1, _⟩ => ⟨S2048x2048, .f32⟩
  | .hbm, ⟨2, _⟩ => ⟨S32768x2048, .bf16⟩
  | .hbm, ⟨3, _⟩ => ⟨S2048x2048, .bf16⟩
  | .hbm, ⟨4, _⟩ => ⟨S32768x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2x16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefGgIdeal.lean ====
abbrev S2x16384x2048 : Shape := ⟨3, ![2, 16384, 2048]⟩
abbrev S2048x2048 : Shape := ⟨2, ![2048, 2048]⟩
abbrev S32768x2048 : Shape := ⟨2, ![32768, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2x16384x2048, .bf16⟩
  | .hbm, ⟨1, _⟩ => ⟨S2048x2048, .f32⟩
  | .hbm, ⟨2, _⟩ => ⟨S2x16384x2048, .f32⟩
  | .hbm, ⟨3, _⟩ => ⟨S32768x2048, .f32⟩
  | .hbm, ⟨4, _⟩ => ⟨S32768x2048, .f32⟩
  | .hbm, ⟨5, _⟩ => ⟨S32768x2048, .bf16⟩
  | _, _ => ⟨S2x16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Out.lean ====
abbrev S2x16384x2048 : Shape := ⟨3, ![2, 16384, 2048]⟩
abbrev S2048x2048 : Shape := ⟨2, ![2048, 2048]⟩
abbrev S2x2048 : Shape := ⟨2, ![2, 2048]⟩
abbrev S2x1x2048 : Shape := ⟨3, ![2, 1, 2048]⟩
abbrev S1x1024x2048 : Shape := ⟨3, ![1, 1024, 2048]⟩
abbrev S2048x1024 : Shape := ⟨2, ![2048, 1024]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S1x1024 : Shape := ⟨2, ![1, 1024]⟩

abbrev nBuf : Space → Nat
  | .hbm => 7
  | .vmem => 10
  | .smem => 0
  | _ => 0

abbrev bufTy : (tb : Table) → Fin (tcTables nBuf tb) → BufTy
  | .hbm, ⟨0, _⟩ => ⟨S2x16384x2048, .bf16⟩
  | .hbm, ⟨1, _⟩ => ⟨S2048x2048, .f32⟩
  | .hbm, ⟨2, _⟩ => ⟨S2x16384x2048, .f32⟩
  | .hbm, ⟨3, _⟩ => ⟨S2x2048, .f32⟩
  | .hbm, ⟨4, _⟩ => ⟨S2048x2048, .bf16⟩
  | .hbm, ⟨5, _⟩ => ⟨S2x1x2048, .f32⟩
  | .hbm, ⟨6, _⟩ => ⟨S2x16384x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x1024, .f32⟩
  | .local _ .vmem, ⟨9, _⟩ => ⟨S1x1024x1024, .f32⟩
  | _, _ => ⟨S2x16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 16, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== RefOutIdeal.lean ====
abbrev S2x16384x2048 : Shape := ⟨3, ![2, 16384, 2048]⟩
abbrev S2048x2048 : Shape := ⟨2, ![2048, 2048]⟩
abbrev S2x2048 : Shape := ⟨2, ![2, 2048]⟩
abbrev S2x1x2048 : Shape := ⟨3, ![2, 1, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2x16384x2048, .bf16⟩
  | .hbm, ⟨1, _⟩ => ⟨S2048x2048, .f32⟩
  | .hbm, ⟨2, _⟩ => ⟨S2x16384x2048, .f32⟩
  | .hbm, ⟨3, _⟩ => ⟨S2x2048, .f32⟩
  | .hbm, ⟨4, _⟩ => ⟨S2x1x2048, .f32⟩
  | .hbm, ⟨5, _⟩ => ⟨S2x16384x2048, .f32⟩
  | .hbm, ⟨6, _⟩ => ⟨S2x16384x2048, .f32⟩
  | .hbm, ⟨7, _⟩ => ⟨S2x16384x2048, .f32⟩
  | .hbm, ⟨8, _⟩ => ⟨S2x16384x2048, .f32⟩
  | .hbm, ⟨9, _⟩ => ⟨S2x16384x2048, .f32⟩
  | _, _ => ⟨S2x16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Nm.lean ====
abbrev S2x16384x2048 : Shape := ⟨3, ![2, 16384, 2048]⟩
abbrev S2048 : Shape := ⟨1, ![2048]⟩
abbrev S2x2048 : Shape := ⟨2, ![2, 2048]⟩
abbrev S1x2048 : Shape := ⟨2, ![1, 2048]⟩
abbrev S2x1x2048 : Shape := ⟨3, ![2, 1, 2048]⟩
abbrev S1x512x2048 : Shape := ⟨3, ![1, 512, 2048]⟩
abbrev S1x1x2048 : Shape := ⟨3, ![1, 1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S1x2048, .f32⟩
  | .hbm, ⟨5, _⟩ => ⟨S2x1x2048, .f32⟩
  | .hbm, ⟨6, _⟩ => ⟨S2x1x2048, .f32⟩
  | .hbm, ⟨7, _⟩ => ⟨S2x16384x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x512x2048, .bf16⟩
  | .local _ .vmem, ⟨8, _⟩ => ⟨S1x512x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RefNmIdeal.lean ====
abbrev S2x16384x2048 : Shape := ⟨3, ![2, 16384, 2048]⟩
abbrev S2048 : Shape := ⟨1, ![2048]⟩
abbrev S2x2048 : Shape := ⟨2, ![2, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x1x2048 : Shape := ⟨3, ![2, 1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S2x16384x2048, .f32⟩
  | .hbm, ⟨5, _⟩ => ⟨S_, .f32⟩
  | .hbm, ⟨6, _⟩ => ⟨S2x16384, .f32⟩
  | .hbm, ⟨7, _⟩ => ⟨S2x16384x1, .f32⟩
  | .hbm, ⟨8, _⟩ => ⟨S_, .f32⟩
  | .hbm, ⟨9, _⟩ => ⟨S2x16384x1, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S2x16384x1, .f32⟩
  | .hbm, ⟨15, _⟩ => ⟨S2x16384x2048, .f32⟩
  | .hbm, ⟨16, _⟩ => ⟨S2x16384x2048, .f32⟩
  | .hbm, ⟨17, _⟩ => ⟨S1x1x2048, .f32⟩
  | .hbm, ⟨18, _⟩ => ⟨S2x16384x2048, .f32⟩
  | .hbm, ⟨19, _⟩ => ⟨S2x16384x2048, .f32⟩
  | .hbm, ⟨20, _⟩ => ⟨S2x1x2048, .f32⟩
  | .hbm, ⟨21, _⟩ => ⟨S_, .f32⟩
  | .hbm, ⟨22, _⟩ => ⟨S2x1x2048, .f32⟩
  | .hbm, ⟨23, _⟩ => ⟨S2x1x2048, .f32⟩
  | .hbm, ⟨24, _⟩ => ⟨S2x16384x2048, .f32⟩
  | .hbm, ⟨25, _⟩ => ⟨S2x16384x2048, .f32⟩
  | .hbm, ⟨26, _⟩ => ⟨S2x1x2048, .f32⟩
  | .hbm, ⟨27, _⟩ => ⟨S2x16384x2048, .f32⟩
  | .hbm, ⟨28, _⟩ => ⟨S2x16384x2048, .f32⟩
  | .hbm, ⟨29, _⟩ => ⟨S2x16384x2048, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Mx.lean ====
abbrev S2x16384x2048 : Shape := ⟨3, ![2, 16384, 2048]⟩
abbrev S2048 : Shape := ⟨1, ![2048]⟩
abbrev S2x2048 : Shape := ⟨2, ![2, 2048]⟩
abbrev S4x2048 : Shape := ⟨2, ![4, 2048]⟩
abbrev S1x2048 : Shape := ⟨2, ![1, 2048]⟩
abbrev S2x1x2048 : Shape := ⟨3, ![2, 1, 2048]⟩
abbrev S1x512x2048 : Shape := ⟨3, ![1, 512, 2048]⟩
abbrev S1x8x2048 : Shape := ⟨3, ![1, 8, 2048]⟩
abbrev S1x1x2048 : Shape := ⟨3, ![1, 1, 2048]⟩
abbrev S512x2048 : Shape := ⟨2, ![512, 2048]⟩
abbrev S512 : Shape := ⟨1, ![512]⟩
abbrev S512x1 : Shape := ⟨2, ![512, 1]⟩
abbrev S8x2048 : Shape := ⟨2, ![8, 2048]⟩
abbrev S8 : Shape := ⟨1, ![8]⟩
abbrev S8x1 : Shape := ⟨2, ![8, 1]⟩

abbrev nBuf : Space → Nat
  | .hbm => 14
  | .vmem => 22
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S4x2048, .f32⟩
  | .hbm, ⟨5, _⟩ => ⟨S1x2048, .f32⟩
  | .hbm, ⟨6, _⟩ => ⟨S2x1x2048, .f32⟩
  | .hbm, ⟨7, _⟩ => ⟨S2x1x2048, .f32⟩
  | .hbm, ⟨8, _⟩ => ⟨S2x16384x2048, .bf16⟩
  | .hbm, ⟨9, _⟩ => ⟨S2x16384x2048, .bf16⟩
  | .hbm, ⟨10, _⟩ => ⟨S2x16384x2048, .bf16⟩
  | .hbm, ⟨11, _⟩ => ⟨S2x16384x2048, .bf16⟩
  | .hbm, ⟨12, _⟩ => ⟨S2x16384x2048, .bf16⟩
  | .hbm, ⟨13, _⟩ => ⟨S2x16384x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S4x2048, .f32⟩
  | .local _ .vmem, ⟨10, _⟩ => ⟨S1x512x2048, .bf16⟩
  | .local _ .vmem, ⟨11, _⟩ => ⟨S1x512x2048, .bf16⟩
  | .local _ .vmem, ⟨12, _⟩ => ⟨S1x512x2048, .bf16⟩
  | .local _ .vmem, ⟨13, _⟩ => ⟨S1x512x2048, .bf16⟩
  | .local _ .vmem, ⟨14, _⟩ => ⟨S1x512x2048, .bf16⟩
  | .local _ .vmem, ⟨15, _⟩ => ⟨S1x512x2048, .bf16⟩
  | .local _ .vmem, ⟨16, _⟩ => ⟨S1x512x2048, .bf16⟩
  | .local _ .vmem, ⟨17, _⟩ => ⟨S1x512x2048, .bf16⟩
  | .local _ .vmem, ⟨18, _⟩ => ⟨S1x512x2048, .bf16⟩
  | .local _ .vmem, ⟨19, _⟩ => ⟨S1x512x2048, .bf16⟩
  | .local _ .vmem, ⟨20, _⟩ => ⟨S1x512x2048, .bf16⟩
  | .local _ .vmem, ⟨21, _⟩ => ⟨S1x512x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== RefMxIdeal.lean ====
abbrev S2x16384x2048 : Shape := ⟨3, ![2, 16384, 2048]⟩
abbrev S2048 : Shape := ⟨1, ![2048]⟩
abbrev S2x2048 : Shape := ⟨2, ![2, 2048]⟩
abbrev S4x2048 : Shape := ⟨2, ![4, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x1x2048 : Shape := ⟨3, ![2, 1, 2048]⟩
abbrev S2x16383x2048 : Shape := ⟨3, ![2, 16383, 2048]⟩
abbrev S1x2048 : Shape := ⟨2, ![1, 2048]⟩

abbrev nBuf : Space → Nat
  | .hbm => 65
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S4x2048, .f32⟩
  | .hbm, ⟨5, _⟩ => ⟨S2x16384x2048, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x2048, .f32⟩
  | .hbm, ⟨17, _⟩ => ⟨S2x16384x2048, .f32⟩
  | .hbm, ⟨18, _⟩ => ⟨S1x1x2048, .f32⟩
  | .hbm, ⟨19, _⟩ => ⟨S2x16384x2048, .f32⟩
  | .hbm, ⟨20, _⟩ => ⟨S2x16384x2048, .f32⟩
  | .hbm, ⟨21, _⟩ => ⟨S2x1x2048, .f32⟩
  | .hbm, ⟨22, _⟩ => ⟨S_, .f32⟩
  | .hbm, ⟨23, _⟩ => ⟨S2x1x2048, .f32⟩
  | .hbm, ⟨24, _⟩ => ⟨S2x1x2048, .f32⟩
  | .hbm, ⟨25, _⟩ => ⟨S2x16384x2048, .f32⟩
  | .hbm, ⟨26, _⟩ => ⟨S2x16384x2048, .f32⟩
  | .hbm, ⟨27, _⟩ => ⟨S2x1x2048, .f32⟩
  | .hbm, ⟨28, _⟩ => ⟨S2x16384x2048, .f32⟩
  | .hbm, ⟨29, _⟩ => ⟨S2x16384x2048, .f32⟩
  | .hbm, ⟨30, _⟩ => ⟨S2x16383x2048, .f32⟩
  | .hbm, ⟨31, _⟩ => ⟨S_, .i32⟩
  | .hbm, ⟨32, _⟩ => ⟨S_, .f32⟩
  | .hbm, ⟨33, _⟩ => ⟨S2x16384x2048, .f32⟩
  | .hbm, ⟨34, _⟩ => ⟨S2x16384x2048, .f32⟩
  | .hbm, ⟨35, _⟩ => ⟨S1x2048, .f32⟩
  | .hbm, ⟨36, _⟩ => ⟨S2048, .f32⟩
  | .hbm, ⟨37, _⟩ => ⟨S1x1x2048, .f32⟩
  | .hbm, ⟨38, _⟩ => ⟨S2x16384x2048, .f32⟩
  | .hbm, ⟨39, _⟩ => ⟨S2x16384x2048, .f32⟩
  | .hbm, ⟨40, _⟩ => ⟨S2x16384x2048, .f32⟩
  | .hbm, ⟨41, _⟩ => ⟨S1x2048, .f32⟩
  | .hbm, ⟨42, _⟩ => ⟨S2048, .f32⟩
  | .hbm, ⟨43, _⟩ => ⟨S1x1x2048, .f32⟩
  | .hbm, ⟨44, _⟩ => ⟨S2x16384x2048, .f32⟩
  | .hbm, ⟨45, _⟩ => ⟨S2x16384x2048, .f32⟩
  | .hbm, ⟨46, _⟩ => ⟨S2x16384x2048, .f32⟩
  | .hbm, ⟨47, _⟩ => ⟨S1x2048, .f32⟩
  | .hbm, ⟨48, _⟩ => ⟨S2048, .f32⟩
  | .hbm, ⟨49, _⟩ => ⟨S1x1x2048, .f32⟩
  | .hbm, ⟨50, _⟩ => ⟨S2x16384x2048, .f32⟩
  | .hbm, ⟨51, _⟩ => ⟨S2x16384x2048, .f32⟩
  | .hbm, ⟨52, _⟩ => ⟨S2x16384x2048, .f32⟩
  | .hbm, ⟨53, _⟩ => ⟨S1x2048, .f32⟩
  | .hbm, ⟨54, _⟩ => ⟨S2048, .f32⟩
  | .hbm, ⟨55, _⟩ => ⟨S1x1x2048, .f32⟩
  | .hbm, ⟨56, _⟩ => ⟨S2x16384x2048, .f32⟩
  | .hbm, ⟨57, _⟩ => ⟨S2x16384x2048, .f32⟩
  | .hbm, ⟨58, _⟩ => ⟨S2x16384x2048, .f32⟩
  | .hbm, ⟨59, _⟩ => ⟨S2x16384x2048, .bf16⟩
  | .hbm, ⟨60, _⟩ => ⟨S2x16384x2048, .bf16⟩
  | .hbm, ⟨61, _⟩ => ⟨S2x16384x2048, .bf16⟩
  | .hbm, ⟨62, _⟩ => ⟨S2x16384x2048, .bf16⟩
  | .hbm, ⟨63, _⟩ => ⟨S2x16384x2048, .bf16⟩
  | .hbm, ⟨64, _⟩ => ⟨S2x16384x2048, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_call0_v0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩

abbrev nD : Nat := 1
abbrev τ : Topo := Topo.v7x

variable {F : FTy → Type} [FloatOps F]
-- ==== Lo.lean ====
abbrev S32768x96 : Shape := ⟨2, ![32768, 96]⟩
abbrev S96x2048 : Shape := ⟨2, ![96, 2048]⟩
abbrev S_ : Shape := ⟨0, ![]⟩
abbrev S32768x128 : Shape := ⟨2, ![32768, 128]⟩
abbrev S128x2048 : Shape := ⟨2, ![128, 2048]⟩
abbrev S32768x2048 : Shape := ⟨2, ![32768, 2048]⟩
abbrev S1024x128 : Shape := ⟨2, ![1024, 128]⟩
abbrev S128x1024 : Shape := ⟨2, ![128, 1024]⟩
abbrev S1024x1024 : Shape := ⟨2, ![1024, 1024]⟩

abbrev nBuf : Space → Nat
  | .hbm => 10
  | .vmem => 6
  | .smem => 0
  | _ => 0

abbrev bufTy : (tb : Table) → Fin (tcTables nBuf tb) → BufTy
  | .hbm, ⟨0, _⟩ => ⟨S32768x96, .bf16⟩
  | .hbm, ⟨1, _⟩ => ⟨S96x2048, .f32⟩
  | .hbm, ⟨2, _⟩ => ⟨S_, .i32⟩
  | .hbm, ⟨3, _⟩ => ⟨S_, .bf16⟩
  | .hbm, ⟨4, _⟩ => ⟨S32768x128, .bf16⟩
  | .hbm, ⟨5, _⟩ => ⟨S_, .i32⟩
  | .hbm, ⟨6, _⟩ => ⟨S_, .f32⟩
  | .hbm, ⟨7, _⟩ => ⟨S128x2048, .f32⟩
  | .hbm, ⟨8, _⟩ => ⟨S128x2048, .bf16⟩
  | .hbm, ⟨9, _⟩ => ⟨S32768x2048, .f32⟩
  | .local _ .vmem, ⟨0, _⟩ => ⟨S1024x128, .bf16⟩
  | .local _ .vmem, ⟨1, _⟩ => ⟨S1024x128, .bf16⟩
  | .local _ .vmem, ⟨2, _⟩ => ⟨S128x1024, .bf16⟩
  | .local _ .vmem, ⟨3, _⟩ => ⟨S128x1024, .bf16⟩
  | .local _ .vmem, ⟨4, _⟩ => ⟨S1024x1024, .f32⟩
  | .local _ .vmem, ⟨5, _⟩ => ⟨S1024x1024, .f32⟩
  | _, _ => ⟨S32768x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LoIdeal.lean ====
abbrev S32768x96 : Shape := ⟨2, ![32768, 96]⟩
abbrev S96x2048 : Shape := ⟨2, ![96, 2048]⟩
abbrev S_ : Shape := ⟨0, ![]⟩
abbrev S32768x128 : Shape := ⟨2, ![32768, 128]⟩
abbrev S128x2048 : Shape := ⟨2, ![128, 2048]⟩
abbrev S32768x2048 : Shape := ⟨2, ![32768, 2048]⟩
abbrev S1024x128 : Shape := ⟨2, ![1024, 128]⟩
abbrev S128x1024 : Shape := ⟨2, ![128, 1024]⟩
abbrev S1024x1024 : Shape := ⟨2, ![1024, 1024]⟩

abbrev nBuf : Space → Nat
  | .hbm => 10
  | .vmem => 6
  | .smem => 0
  | _ => 0

abbrev bufTy : (tb : Table) → Fin (tcTables nBuf tb) → BufTy
  | .hbm, ⟨0, _⟩ => ⟨S32768x96, .bf16⟩
  | .hbm, ⟨1, _⟩ => ⟨S96x2048, .f32⟩
  | .hbm, ⟨2, _⟩ => ⟨S_, .i32⟩
  | .hbm, ⟨3, _⟩ => ⟨S_, .bf16⟩
  | .hbm, ⟨4, _⟩ => ⟨S32768x128, .bf16⟩
  | .hbm, ⟨5, _⟩ => ⟨S_, .i32⟩
  | .hbm, ⟨6, _⟩ => ⟨S_, .f32⟩
  | .hbm, ⟨7, _⟩ => ⟨S128x2048, .f32⟩
  | .hbm, ⟨8, _⟩ => ⟨S128x2048, .bf16⟩
  | .hbm, ⟨9, _⟩ => ⟨S32768x2048, .f32⟩
  | .local _ .vmem, ⟨0, _⟩ => ⟨S1024x128, .bf16⟩
  | .local _ .vmem, ⟨1, _⟩ => ⟨S1024x128, .bf16⟩
  | .local _ .vmem, ⟨2, _⟩ => ⟨S128x1024, .bf16⟩
  | .local _ .vmem, ⟨3, _⟩ => ⟨S128x1024, .bf16⟩
  | .local _ .vmem, ⟨4, _⟩ => ⟨S1024x1024, .f32⟩
  | .local _ .vmem, ⟨5, _⟩ => ⟨S1024x1024, .f32⟩
  | _, _ => ⟨S32768x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefLoIdeal.lean ====
abbrev S32768x96 : Shape := ⟨2, ![32768, 96]⟩
abbrev S96x2048 : Shape := ⟨2, ![96, 2048]⟩
abbrev S32768x2048 : Shape := ⟨2, ![32768, 2048]⟩

abbrev nBuf : Space → Nat
  | .hbm => 4
  | .vmem => 0
  | .smem => 0
  | _ => 0

abbrev bufTy : (tb : Table) → Fin (tcTables nBuf tb) → BufTy
  | .hbm, ⟨0, _⟩ => ⟨S32768x96, .bf16⟩
  | .hbm, ⟨1, _⟩ => ⟨S96x2048, .f32⟩
  | .hbm, ⟨2, _⟩ => ⟨S32768x96, .f32⟩
  | .hbm, ⟨3, _⟩ => ⟨S32768x2048, .f32⟩
  | _, _ => ⟨S32768x96, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Lp.lean ====
abbrev S32768x64 : Shape := ⟨2, ![32768, 64]⟩
abbrev S64x2048 : Shape := ⟨2, ![64, 2048]⟩
abbrev S_ : Shape := ⟨0, ![]⟩
abbrev S32768x128 : Shape := ⟨2, ![32768, 128]⟩
abbrev S128x2048 : Shape := ⟨2, ![128, 2048]⟩
abbrev S32768x2048 : Shape := ⟨2, ![32768, 2048]⟩
abbrev S1024x128 : Shape := ⟨2, ![1024, 128]⟩
abbrev S128x1024 : Shape := ⟨2, ![128, 1024]⟩
abbrev S1024x1024 : Shape := ⟨2, ![1024, 1024]⟩

abbrev nBuf : Space → Nat
  | .hbm => 10
  | .vmem => 6
  | .smem => 0
  | _ => 0

abbrev bufTy : (tb : Table) → Fin (tcTables nBuf tb) → BufTy
  | .hbm, ⟨0, _⟩ => ⟨S32768x64, .bf16⟩
  | .hbm, ⟨1, _⟩ => ⟨S64x2048, .f32⟩
  | .hbm, ⟨2, _⟩ => ⟨S_, .i32⟩
  | .hbm, ⟨3, _⟩ => ⟨S_, .bf16⟩
  | .hbm, ⟨4, _⟩ => ⟨S32768x128, .bf16⟩
  | .hbm, ⟨5, _⟩ => ⟨S_, .i32⟩
  | .hbm, ⟨6, _⟩ => ⟨S_, .f32⟩
  | .hbm, ⟨7, _⟩ => ⟨S128x2048, .f32⟩
  | .hbm, ⟨8, _⟩ => ⟨S128x2048, .bf16⟩
  | .hbm, ⟨9, _⟩ => ⟨S32768x2048, .f32⟩
  | .local _ .vmem, ⟨0, _⟩ => ⟨S1024x128, .bf16⟩
  | .local _ .vmem, ⟨1, _⟩ => ⟨S1024x128, .bf16⟩
  | .local _ .vmem, ⟨2, _⟩ => ⟨S128x1024, .bf16⟩
  | .local _ .vmem, ⟨3, _⟩ => ⟨S128x1024, .bf16⟩
  | .local _ .vmem, ⟨4, _⟩ => ⟨S1024x1024, .f32⟩
  | .local _ .vmem, ⟨5, _⟩ => ⟨S1024x1024, .f32⟩
  | _, _ => ⟨S32768x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefLpIdeal.lean ====
abbrev S32768x64 : Shape := ⟨2, ![32768, 64]⟩
abbrev S64x2048 : Shape := ⟨2, ![64, 2048]⟩
abbrev S32768x2048 : Shape := ⟨2, ![32768, 2048]⟩

abbrev nBuf : Space → Nat
  | .hbm => 4
  | .vmem => 0
  | .smem => 0
  | _ => 0

abbrev bufTy : (tb : Table) → Fin (tcTables nBuf tb) → BufTy
  | .hbm, ⟨0, _⟩ => ⟨S32768x64, .bf16⟩
  | .hbm, ⟨1, _⟩ => ⟨S64x2048, .f32⟩
  | .hbm, ⟨2, _⟩ => ⟨S32768x64, .f32⟩
  | .hbm, ⟨3, _⟩ => ⟨S32768x2048, .f32⟩
  | _, _ => ⟨S32768x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Li.lean ====
abbrev S32768x2048 : Shape := ⟨2, ![32768, 2048]⟩
abbrev S2048 : Shape := ⟨1, ![2048]⟩
abbrev S2048x96 : Shape := ⟨2, ![2048, 96]⟩
abbrev S2048x64 : Shape := ⟨2, ![2048, 64]⟩
abbrev S2048x256 : Shape := ⟨2, ![2048, 256]⟩
abbrev S2048x1 : Shape := ⟨2, ![2048, 1]⟩
abbrev S32768x256 : Shape := ⟨2, ![32768, 256]⟩
abbrev S1024x2048 : Shape := ⟨2, ![1024, 2048]⟩
abbrev S1024x256 : Shape := ⟨2, ![1024, 256]⟩

abbrev nBuf : Space → Nat
  | .hbm => 22
  | .vmem => 8
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048x96, .f32⟩
  | .hbm, ⟨6, _⟩ => ⟨S2048x96, .f32⟩
  | .hbm, ⟨7, _⟩ => ⟨S2048x64, .f32⟩
  | .hbm, ⟨8, _⟩ => ⟨S2048x256, .f32⟩
  | .hbm, ⟨9, _⟩ => ⟨S2048x1, .f32⟩
  | .hbm, ⟨10, _⟩ => ⟨S2048x96, .f32⟩
  | .hbm, ⟨11, _⟩ => ⟨S2048x96, .f32⟩
  | .hbm, ⟨12, _⟩ => ⟨S2048x1, .f32⟩
  | .hbm, ⟨13, _⟩ => ⟨S2048x96, .f32⟩
  | .hbm, ⟨14, _⟩ => ⟨S2048x96, .f32⟩
  | .hbm, ⟨15, _⟩ => ⟨S2048x1, .f32⟩
  | .hbm, ⟨16, _⟩ => ⟨S2048x64, .f32⟩
  | .hbm, ⟨17, _⟩ => ⟨S2048x64, .f32⟩
  | .hbm, ⟨18, _⟩ => ⟨S2048x256, .f32⟩
  | .hbm, ⟨19, _⟩ => ⟨S2048x256, .bf16⟩
  | .hbm, ⟨20, _⟩ => ⟨S2048x256, .bf16⟩
  | .hbm, ⟨21, _⟩ => ⟨S32768x256, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x256, .bf16⟩
  | .local _ .vmem, ⟨5, _⟩ => ⟨S2048x256, .bf16⟩
  | .local _ .vmem, ⟨6, _⟩ => ⟨S1024x256, .bf16⟩
  | .local _ .vmem, ⟨7, _⟩ => ⟨S1024x256, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefLiIdeal.lean ====
abbrev S32768x2048 : Shape := ⟨2, ![32768, 2048]⟩
abbrev S2048 : Shape := ⟨1, ![2048]⟩
abbrev S2048x96 : Shape := ⟨2, ![2048, 96]⟩
abbrev S2048x64 : Shape := ⟨2, ![2048, 64]⟩
abbrev S1x2048 : Shape := ⟨2, ![1, 2048]⟩
abbrev S32768x96 : Shape := ⟨2, ![32768, 96]⟩
abbrev S32768x64 : Shape := ⟨2, ![32768, 64]⟩
abbrev S32768x256 : Shape := ⟨2, ![32768, 256]⟩

abbrev nBuf : Space → Nat
  | .hbm => 28
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048x96, .f32⟩
  | .hbm, ⟨6, _⟩ => ⟨S2048x96, .f32⟩
  | .hbm, ⟨7, _⟩ => ⟨S2048x64, .f32⟩
  | .hbm, ⟨8, _⟩ => ⟨S32768x2048, .f32⟩
  | .hbm, ⟨9, _⟩ => ⟨S32768x2048, .f32⟩
  | .hbm, ⟨10, _⟩ => ⟨S1x2048, .f32⟩
  | .hbm, ⟨11, _⟩ => ⟨S32768x2048, .f32⟩
  | .hbm, ⟨12, _⟩ => ⟨S32768x2048, .f32⟩
  | .hbm, ⟨13, _⟩ => ⟨S32768x2048, .f32⟩
  | .hbm, ⟨14, _⟩ => ⟨S1x2048, .f32⟩
  | .hbm, ⟨15, _⟩ => ⟨S32768x2048, .f32⟩
  | .hbm, ⟨16, _⟩ => ⟨S32768x2048, .f32⟩
  | .hbm, ⟨17, _⟩ => ⟨S32768x2048, .f32⟩
  | .hbm, ⟨18, _⟩ => ⟨S1x2048, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S32768x96, .f32⟩
  | .hbm, ⟨23, _⟩ => ⟨S32768x96, .f32⟩
  | .hbm, ⟨24, _⟩ => ⟨S32768x96, .f32⟩
  | .hbm, ⟨25, _⟩ => ⟨S32768x64, .f32⟩
  | .hbm, ⟨26, _⟩ => ⟨S32768x256, .f32⟩
  | .hbm, ⟨27, _⟩ => ⟨S32768x256, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Loops

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The buffers one grid point's body works on, each whole at its contents. -/
abbrev Held (c : Dev nD) (arg3 : Memref sig .tc .vmem S1x1024x128 .bf16) (harg3 : arg3.IsWhole) (arg4 : Memref sig .tc .vmem S1x16384x128 .bf16) (harg4 : arg4.IsWhole) (arg5 : Memref sig .tc .vmem S1x128x16384 .bf16) (harg5 : arg5.IsWhole) (arg6 : Memref sig .tc .vmem S1x2x1x16384 .f32) (harg6 : arg6.IsWhole) (arg7 : Memref sig .tc .vmem S1x1024x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S16384x128 .bf16) (harg11 : arg11.IsWhole) (arg12 : Memref sig .tc .vmem S2x128x16384 .bf16) (harg12 : arg12.IsWhole) (arg13 : Memref sig .tc .vmem S2x1x1024 .f32) (harg13 : arg13.IsWhole) (arg14 : Memref sig .tc .vmem S2x80x1024 .f32) (harg14 : arg14.IsWhole) (arg15 : Memref sig .tc .vmem S2x2x512x1024 .f32) (harg15 : arg15.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) : sProp 𝕄 :=
  iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15))

/-- One grid point whose query tile is the first of its pair of heads: the body runs, and the buffers it writes end at the
    contents the run finds. -/
@[irreducible] def runFirst (𝒱 : Variants) (c : Dev nD) (i : grid0.Coords) (hc : k0_cond1 i = 1#1) (arg3 : Memref sig .tc .vmem S1x1024x128 .bf16) (harg3 : arg3.IsWhole) (arg4 : Memref sig .tc .vmem S1x16384x128 .bf16) (harg4 : arg4.IsWhole) (arg5 : Memref sig .tc .vmem S1x128x16384 .bf16) (harg5 : arg5.IsWhole) (arg6 : Memref sig .tc .vmem S1x2x1x16384 .f32) (harg6 : arg6.IsWhole) (arg7 : Memref sig .tc .vmem S1x1024x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S16384x128 .bf16) (harg11 : arg11.IsWhole) (arg12 : Memref sig .tc .vmem S2x128x16384 .bf16) (harg12 : arg12.IsWhole) (arg13 : Memref sig .tc .vmem S2x1x1024 .f32) (harg13 : arg13.IsWhole) (arg14 : Memref sig .tc .vmem S2x80x1024 .f32) (harg14 : arg14.IsWhole) (arg15 : Memref sig .tc .vmem S2x2x512x1024 .f32) (harg15 : arg15.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) :
    Σ' (Y10 : BufTy.Contents (Elt F) arg10.view.ty) (Y11 : BufTy.Contents (Elt F) arg11.view.ty) (Y12 : BufTy.Contents (Elt F) arg12.view.ty) (Y13 : BufTy.Contents (Elt F) arg13.view.ty) (Y14 : BufTy.Contents (Elt F) arg14.view.ty), { Y15 : BufTy.Contents (Elt F) arg15.view.ty // ∀ (E : Set ℕ),
      Held (F := F) c arg3 harg3 arg4 harg4 arg5 harg5 arg6 harg6 arg7 harg7 arg8 harg8 arg9 harg9 arg10 harg10 arg11 harg11 arg12 harg12 arg13 harg13 arg14 harg14 arg15 harg15 X3 X4 X5 X6 X7 X8 X9 X10 X11 X12 X13 X14 X15
      ⊢ wp frame (wpE (defs₀ (F := F)) 𝒱 (c : Thread nD τ) none) E (cc0_fox_attention (F := F) i arg3 harg3 arg4 harg4 arg5 harg5 arg6 harg6 arg7 harg7 arg8 harg8 arg9 harg9 arg10 harg10 arg11 harg11 arg12 harg12 arg13 harg13 arg14 harg14 arg15 harg15)
          (fun _ => Held (F := F) c arg3 harg3 arg4 harg4 arg5 harg5 arg6 harg6 arg7 harg7 arg8 harg8 arg9 harg9 arg10 harg10 arg11 harg11 arg12 harg12 arg13 harg13 arg14 harg14 arg15 harg15 X3 X4 X5 X6 X7 X8 X9 Y10 Y11 Y12 Y13 Y14 Y15) } := by
  refine ⟨?_, ?_, ?_, ?_, ?_, ?_, fun E => ?run⟩
  case run =>
    unfold cc0_fox_attention
    iintro ⟨H3, H4, H5, H6, H7, H8, H9, H10, H11, H12, H13, H14, H15⟩
    sl_exec
    sl_step
    sl_close

/-- One grid point whose query tile is a later one of its pair of heads: the body runs, and the buffers it writes end at the
    contents the run finds. -/
@[irreducible] def runLater (𝒱 : Variants) (c : Dev nD) (i : grid0.Coords) (hc : ¬ k0_cond1 i = 1#1) (arg3 : Memref sig .tc .vmem S1x1024x128 .bf16) (harg3 : arg3.IsWhole) (arg4 : Memref sig .tc .vmem S1x16384x128 .bf16) (harg4 : arg4.IsWhole) (arg5 : Memref sig .tc .vmem S1x128x16384 .bf16) (harg5 : arg5.IsWhole) (arg6 : Memref sig .tc .vmem S1x2x1x16384 .f32) (harg6 : arg6.IsWhole) (arg7 : Memref sig .tc .vmem S1x1024x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S16384x128 .bf16) (harg11 : arg11.IsWhole) (arg12 : Memref sig .tc .vmem S2x128x16384 .bf16) (harg12 : arg12.IsWhole) (arg13 : Memref sig .tc .vmem S2x1x1024 .f32) (harg13 : arg13.IsWhole) (arg14 : Memref sig .tc .vmem S2x80x1024 .f32) (harg14 : arg14.IsWhole) (arg15 : Memref sig .tc .vmem S2x2x512x1024 .f32) (harg15 : arg15.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) :
    Σ' (Y10 : BufTy.Contents (Elt F) arg10.view.ty) (Y13 : BufTy.Contents (Elt F) arg13.view.ty) (Y14 : BufTy.Contents (Elt F) arg14.view.ty), { Y15 : BufTy.Contents (Elt F) arg15.view.ty // ∀ (E : Set ℕ),
      Held (F := F) c arg3 harg3 arg4 harg4 arg5 harg5 arg6 harg6 arg7 harg7 arg8 harg8 arg9 harg9 arg10 harg10 arg11 harg11 arg12 harg12 arg13 harg13 arg14 harg14 arg15 harg15 X3 X4 X5 X6 X7 X8 X9 X10 X11 X12 X13 X14 X15
      ⊢ wp frame (wpE (defs₀ (F := F)) 𝒱 (c : Thread nD τ) none) E (cc0_fox_attention (F := F) i arg3 harg3 arg4 harg4 arg5 harg5 arg6 harg6 arg7 harg7 arg8 harg8 arg9 harg9 arg10 harg10 arg11 harg11 arg12 harg12 arg13 harg13 arg14 harg14 arg15 harg15)
          (fun _ => Held (F := F) c arg3 harg3 arg4 harg4 arg5 harg5 arg6 harg6 arg7 harg7 arg8 harg8 arg9 harg9 arg10 harg10 arg11 harg11 arg12 harg12 arg13 harg13 arg14 harg14 arg15 harg15 X3 X4 X5 X6 X7 X8 X9 Y10 X11 X12 Y13 Y14 Y15) } := by
  refine ⟨?_, ?_, ?_, ?_, fun E => ?run⟩
  case run =>
    unfold cc0_fox_attention
    iintro ⟨H3, H4, H5, H6, H7, H8, H9, H10, H11, H12, H13, H14, H15⟩
    sl_exec
    sl_step
    sl_close

end Cert.KernelIdeal.Body

end
-- ==== Proof.FrameRun.lean ====
module

public import proofs.«01_k».proof.Proof.Gen.KernelIdeal.Frame
public import proofs.«01_k».proof.Proof.Body
public import Idealize.ShloMosaic.Lib.Pipeline.TableIdle

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- One grid point, whichever: the body runs, the inputs' buffers keep their contents, the others end at some. -/
theorem run_any (𝒱 : Variants) (c : Dev nD) (i : grid0.Coords) (arg3 : Memref sig .tc .vmem S1x1024x128 .bf16) (harg3 : arg3.IsWhole) (arg4 : Memref sig .tc .vmem S1x16384x128 .bf16) (harg4 : arg4.IsWhole) (arg5 : Memref sig .tc .vmem S1x128x16384 .bf16) (harg5 : arg5.IsWhole) (arg6 : Memref sig .tc .vmem S1x2x1x16384 .f32) (harg6 : arg6.IsWhole) (arg7 : Memref sig .tc .vmem S1x1024x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S16384x128 .bf16) (harg11 : arg11.IsWhole) (arg12 : Memref sig .tc .vmem S2x128x16384 .bf16) (harg12 : arg12.IsWhole) (arg13 : Memref sig .tc .vmem S2x1x1024 .f32) (harg13 : arg13.IsWhole) (arg14 : Memref sig .tc .vmem S2x80x1024 .f32) (harg14 : arg14.IsWhole) (arg15 : Memref sig .tc .vmem S2x2x512x1024 .f32) (harg15 : arg15.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (E : Set ℕ) :
    Held (F := F) c arg3 harg3 arg4 harg4 arg5 harg5 arg6 harg6 arg7 harg7 arg8 harg8 arg9 harg9 arg10 harg10 arg11 harg11 arg12 harg12 arg13 harg13 arg14 harg14 arg15 harg15 X3 X4 X5 X6 X7 X8 X9 X10 X11 X12 X13 X14 X15
      ⊢ wp frame (wpE (defs₀ (F := F)) 𝒱 (c : Thread nD τ) none) E (cc0_fox_attention (F := F) i arg3 harg3 arg4 harg4 arg5 harg5 arg6 harg6 arg7 harg7 arg8 harg8 arg9 harg9 arg10 harg10 arg11 harg11 arg12 harg12 arg13 harg13 arg14 harg14 arg15 harg15)
          (fun _ => iprop(∃ Y10, ∃ Y11, ∃ Y12, ∃ Y13, ∃ Y14, ∃ Y15, Held (F := F) c arg3 harg3 arg4 harg4 arg5 harg5 arg6 harg6 arg7 harg7 arg8 harg8 arg9 harg9 arg10 harg10 arg11 harg11 arg12 harg12 arg13 harg13 arg14 harg14 arg15 harg15 X3 X4 X5 X6 X7 X8 X9 Y10 Y11 Y12 Y13 Y14 Y15)) := by
  by_cases hc : k0_cond1 i = 1#1
  · exact (runFirst (F := F) 𝒱 c i hc arg3 harg3 arg4 harg4 arg5 harg5 arg6 harg6 arg7 harg7 arg8 harg8 arg9 harg9 arg10 harg10 arg11 harg11 arg12 harg12 arg13 harg13 arg14 harg14 arg15 harg15 X3 X4 X5 X6 X7 X8 X9 X10 X11 X12 X13 X14 X15).2.2.2.2.2.2 E |>.trans
      (wp_mono _ _ _ fun _ => by
        iintro H; iexists _; iexists _; iexists _; iexists _; iexists _; iexists _; iexact H)
  · exact (runLater (F := F) 𝒱 c i hc arg3 harg3 arg4 harg4 arg5 harg5 arg6 harg6 arg7 harg7 arg8 harg8 arg9 harg9 arg10 harg10 arg11 harg11 arg12 harg12 arg13 harg13 arg14 harg14 arg15 harg15 X3 X4 X5 X6 X7 X8 X9 X10 X11 X12 X13 X14 X15).2.2.2.2 E |>.trans
      (wp_mono _ _ _ fun _ => by
        iintro H; iexists _; iexists _; iexists _; iexists _; iexists _; iexists _; iexact H)

/-- A whole buffer held through its own view is the buffer held whole. -/
theorem whole_pts (c : Dev nD) (b : Ref sig .tc) (f : Buf (Elt F) ((c : Thread nD τ).loc b)) :
    ((View.loc (c : Thread nD τ) (Memref.whole b).view ↦[(Memref.whole b).view.set]{fullShare} f) : sProp 𝕄)
      = (((c : Thread nD τ).loc b) ↦{fullShare} f) := by
  rw [show (Memref.whole b).view.set = Finset.univ from View.set_whole b]

/-- The scratch buffers, each at some contents. -/
abbrev Scr (c : Dev nD) (arg11 : Memref sig .tc .vmem S16384x128 .bf16) (arg12 : Memref sig .tc .vmem S2x128x16384 .bf16) (arg13 : Memref sig .tc .vmem S2x1x1024 .f32) (arg14 : Memref sig .tc .vmem S2x80x1024 .f32) (arg15 : Memref sig .tc .vmem S2x2x512x1024 .f32) : sProp 𝕄 :=
  iprop((∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)))

/-- One grid point on the staging buffers as the pipeline hands them over: the inputs' blocks stay, the output's
    buffer and the scratch end at some contents, and whatever else is held passes through. -/
theorem sound_any (𝒱 : Variants) (c : Dev nD) (i : grid0.Coords) (arg3 : Memref sig .tc .vmem S1x1024x128 .bf16) (harg3 : arg3.IsWhole) (arg4 : Memref sig .tc .vmem S1x16384x128 .bf16) (harg4 : arg4.IsWhole) (arg5 : Memref sig .tc .vmem S1x128x16384 .bf16) (harg5 : arg5.IsWhole) (arg6 : Memref sig .tc .vmem S1x2x1x16384 .f32) (harg6 : arg6.IsWhole) (arg7 : Memref sig .tc .vmem S1x1024x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S16384x128 .bf16) (harg11 : arg11.IsWhole) (arg12 : Memref sig .tc .vmem S2x128x16384 .bf16) (harg12 : arg12.IsWhole) (arg13 : Memref sig .tc .vmem S2x1x1024 .f32) (harg13 : arg13.IsWhole) (arg14 : Memref sig .tc .vmem S2x80x1024 .f32) (harg14 : arg14.IsWhole) (arg15 : Memref sig .tc .vmem S2x2x512x1024 .f32) (harg15 : arg15.IsWhole) {D3 : Type} (x3 : S1x1024x128.Idx → Elt F .bf16) {D4 : Type} (x4 : S1x16384x128.Idx → Elt F .bf16) {D5 : Type} (x5 : S1x128x16384.Idx → Elt F .bf16) {D6 : Type} (x6 : S1x2x1x16384.Idx → Elt F .f32) {D7 : Type} (x7 : S1x1024x128.Idx → Elt F .bf16) {D8 : Type} (x8 : S1x128.Idx → Elt F .f32) {D9 : Type} (x9 : S1x128.Idx → Elt F .f32) (Rp Ro : sProp 𝕄) :
    iprop((Scr (F := F) c arg11 arg12 arg13 arg14 arg15 ∗ Rp) ∗ Ro ∗ (∃ _d : D3, owns c arg3 fullShare x3) ∗ (∃ _d : D4, owns c arg4 fullShare x4) ∗ (∃ _d : D5, owns c arg5 fullShare x5) ∗ (∃ _d : D6, owns c arg6 fullShare x6) ∗ (∃ _d : D7, owns c arg7 fullShare x7) ∗ (∃ _d : D8, owns c arg8 fullShare x8) ∗ (∃ _d : D9, owns c arg9 fullShare x9) ∗ (∃ X, owns c arg10 fullShare X))
      ⊢ wp frame (wpE (defs₀ (F := F)) 𝒱 (c : Thread nD τ) none) Set.univ (cc0_fox_attention (F := F) i arg3 harg3 arg4 harg4 arg5 harg5 arg6 harg6 arg7 harg7 arg8 harg8 arg9 harg9 arg10 harg10 arg11 harg11 arg12 harg12 arg13 harg13 arg14 harg14 arg15 harg15)
          (fun _ => iprop((Scr (F := F) c arg11 arg12 arg13 arg14 arg15 ∗ Rp) ∗ Ro ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9 ∗ (∃ X, owns c arg10 fullShare X))) := by
  simp only [owns_eq_rep]
  iintro ⟨⟨⟨⟨%X11, H11⟩, ⟨%X12, H12⟩, ⟨%X13, H13⟩, ⟨%X14, H14⟩, ⟨%X15, H15⟩⟩, Hp⟩, Ho, ⟨%d0, H3⟩, ⟨%d1, H4⟩, ⟨%d2, H5⟩, ⟨%d3, H6⟩, ⟨%d4, H7⟩, ⟨%d5, H8⟩, ⟨%d6, H9⟩, ⟨%X10, H10⟩⟩
  iapply (wp_wand_r Idealize.ShloMosaic.frame (wpE (defs₀ (F := F)) 𝒱 (c : Thread nD τ) none) Set.univ)
  isplitl [H3 H4 H5 H6 H7 H8 H9 H10 H11 H12 H13 H14 H15]
  · iapply (run_any (F := F) 𝒱 c i arg3 harg3 arg4 harg4 arg5 harg5 arg6 harg6 arg7 harg7 arg8 harg8 arg9 harg9 arg10 harg10 arg11 harg11 arg12 harg12 arg13 harg13 arg14 harg14 arg15 harg15 (arg3.view.rep x3) (arg4.view.rep x4) (arg5.view.rep x5) (arg6.view.rep x6) (arg7.view.rep x7) (arg8.view.rep x8) (arg9.view.rep x9) (arg10.view.rep X10) X11 X12 X13 X14 X15 Set.univ)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iintro %_ ⟨%Y10, %Y11, %Y12, %Y13, %Y14, %Y15, H3, H4, H5, H6, H7, H8, H9, H10, H11, H12, H13, H14, H15⟩
    isplitl [H11 H12 H13 H14 H15 Hp]
    · isplitr [Hp]
      · isplitl [H11]; · iexists _; iexact H11
        isplitl [H12]; · iexists _; iexact H12
        isplitl [H13]; · iexists _; iexact H13
        isplitl [H14]; · iexists _; iexact H14
        iexists _; iexact H15
      · iexact Hp
    isplitl [Ho]; · iexact Ho
    isplitl [H3]; · iexact H3
    isplitl [H4]; · iexact H4
    isplitl [H5]; · iexact H5
    isplitl [H6]; · iexact H6
    isplitl [H7]; · iexact H7
    isplitl [H8]; · iexact H8
    isplitl [H9]; · iexact H9
    iexists (arg10.view.read (Elt F) Y10)
    iapply (rep_of_owns (Val := Elt F) (c : Thread nD τ) arg10 fullShare)
    unfold owns
    iexists Y10
    isplitr
    · ipureintro; rfl
    · iexact H10

/-- The scoped buffers that are no staging buffers are the scratch. -/
theorem ΦA_eq (c : Dev nD) : (Pipeline.ΦA spec0 c : sProp 𝕄)
    = iprop(Scr (F := F) c (Memref.whole cc0_scratch0) (Memref.whole cc0_scratch1) (Memref.whole cc0_scratch2) (Memref.whole cc0_scratch3) (Memref.whole cc0_scratch4) ∗ ∃ r, prngReg c r) := by
  unfold Pipeline.ΦA Scr
  rw [scopedRest0_eq]
  simp only [Memref.whole, View.set_whole]

variable (m : (ℓ : Loc nD τ sig) → Buf (Elt F) ℓ) (ρ : Dev nD → PrngReg)

/-- The pipeline's proof data: the arrays as the region finds them, the inputs' buffers left at their blocks, the
    output's at `A7`, the invariant `Φ`, and each input's share of its array. -/
def dats (A7 : (c : Dev nD) → (t : Fin cfg0.N) → (cfg0.win 7).block.Idx → Elt F (cfg0.win 7).elt)
    (Φ : (c : Dev nD) → Fin (cfg0.N + 1) → sProp 𝕄) (_ : Fin 1) (c : Dev nD) :
    Dat τ (Elt F) Unit ℕ (UR sig nD τ) ℕ cfg0 c where
  A w := V m c (Pipeline.arrRef spec0 w)
  after w t := match w with
    | 0 => iblk m c 0 t | 1 => iblk m c 1 t | 2 => iblk m c 2 t | 3 => iblk m c 3 t | 4 => iblk m c 4 t
    | 5 => iblk m c 5 t | 6 => iblk m c 6 t | 7 => A7 c t
    | ⟨_ + 8, h⟩ => absurd h (Nat.not_lt.2 (Nat.le_add_left _ _))
  Φ := Φ c
  q w := Pipeline.shareOf spec0 w
  owed _ := 0

/-- The body at a grid point, on that point's staging buffers and the scratch. -/
abbrev bodyAt (t : Fin cfg0.N) : Prog (TpuEff nD τ sig (Elt F) Λ₀ .tc) PUnit :=
  cc0_fox_attention (F := F) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

/-- The body table's row at a point's slots is the body as `bodyAt` spells it. -/
theorem row (t : Fin cfg0.N) : defs₀ (F := F) .tc cfg0.body (cfg0.bodyArgs t (cfg0.slots t)) = bodyAt t := by
  unfold defs₀; rw [Defs.onTc_tc]

/-- The output window, forgotten by the frame run. -/
def fgt : Fin 8 → Bool := fun w => w.val == 7

/-- Some contents of the output's block. -/
def noA7 (c : Dev nD) (t : Fin cfg0.N) : (cfg0.win 7).block.Idx → Elt F (cfg0.win 7).elt := fun _ => Classical.arbitrary _

/-- The frame's proof data: the output forgotten, the scratch at anything. -/
abbrev datsF : (p : Fin 1) → (c : Dev nD) → Dat τ (Elt F) Unit ℕ (UR sig nD τ) ℕ cfg0 c :=
  dats m noA7 (fun c _ => Pipeline.ΦA spec0 c)

/-- The body obligation of the frame run, at every point. -/
theorem obligationF (𝒱 : Variants) (c : Dev nD) : BodyObligation (datsF m 0 c) (defs₀ (F := F)) 𝒱 () Set.univ fgt := fun t => by
  rw [bigSep_W0, bigSep_W0, row]
  show iprop(Pipeline.ΦA spec0 c ∗ (datsF m 0 c).owesAt () t.castSucc
    ∗ (∃ d, owns c (win0_0.stage (cfg0.slots t 0)) fullShare ((datsF m 0 c).before 0 t d))
    ∗ (∃ d, owns c (win0_1.stage (cfg0.slots t 1)) fullShare ((datsF m 0 c).before 1 t d))
    ∗ (∃ d, owns c (win0_2.stage (cfg0.slots t 2)) fullShare ((datsF m 0 c).before 2 t d))
    ∗ (∃ d, owns c (win0_3.stage (cfg0.slots t 3)) fullShare ((datsF m 0 c).before 3 t d))
    ∗ (∃ d, owns c (win0_4.stage (cfg0.slots t 4)) fullShare ((datsF m 0 c).before 4 t d))
    ∗ (∃ d, owns c (win0_5.stage (cfg0.slots t 5)) fullShare ((datsF m 0 c).before 5 t d))
    ∗ (∃ d, owns c (win0_6.stage (cfg0.slots t 6)) fullShare ((datsF m 0 c).before 6 t d))
    ∗ (∃ X, owns c (win0_7.stage (cfg0.slots t 7)) fullShare X))
    ⊢ wp frame (wpE (defs₀ (F := F)) 𝒱 c none) Set.univ (bodyAt t) (fun _ => iprop(Pipeline.ΦA spec0 c ∗ (datsF m 0 c).owesAt () t.castSucc
    ∗ owns c (win0_0.stage (cfg0.slots t 0)) fullShare (iblk m c 0 t)
    ∗ owns c (win0_1.stage (cfg0.slots t 1)) fullShare (iblk m c 1 t)
    ∗ owns c (win0_2.stage (cfg0.slots t 2)) fullShare (iblk m c 2 t)
    ∗ owns c (win0_3.stage (cfg0.slots t 3)) fullShare (iblk m c 3 t)
    ∗ owns c (win0_4.stage (cfg0.slots t 4)) fullShare (iblk m c 4 t)
    ∗ owns c (win0_5.stage (cfg0.slots t 5)) fullShare (iblk m c 5 t)
    ∗ owns c (win0_6.stage (cfg0.slots t 6)) fullShare (iblk m c 6 t)
    ∗ (∃ X, owns c (win0_7.stage (cfg0.slots t 7)) fullShare X)))
  simp only [before0_0_of m (datsF m 0 c) rfl (fun _ => rfl), before0_1_of m (datsF m 0 c) rfl (fun _ => rfl),
    before0_2_of m (datsF m 0 c) rfl (fun _ => rfl), before0_3_of m (datsF m 0 c) rfl (fun _ => rfl),
    before0_4_of m (datsF m 0 c) rfl (fun _ => rfl), before0_5_of m (datsF m 0 c) rfl (fun _ => rfl),
    before0_6_of m (datsF m 0 c) rfl (fun _ => rfl)]
  rw [ΦA_eq]
  exact sound_any (F := F) 𝒱 c (grid0.coords t) _ _ _ _ _ _ _ _ _ _ _ _ _ _ _ _ _ _ _ _ _ _ _ _ _ _ _ _ _ _ _ _ _ _ _

/-- The program runs, its arguments end as they were, and every semaphore counter ends at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_frame_forget_shared cfgs (datsF m) 0 launch₀0 defs₀ Variants.none fgt m ρ main
    (fun c => (obligationF m Variants.none c).loose) (fun _ _ _ => rfl) (fun _ _ => rfl) (V m) (hmain m Variants.none) (fun _ _ => rfl)
    (fun _ _ => rfl) _ (fun r h => ⟨fun c =>
      ⟨(Pipeline.RDat.FramePost.arr_in h.1 c 1 rfl).trans (V_main_arg0 m c),
       (Pipeline.RDat.FramePost.arr_in h.1 c 2 rfl).trans (V_main_arg1 m c),
       (Pipeline.RDat.FramePost.arr_in h.1 c 3 rfl).trans (V_main_arg2 m c),
       (Pipeline.RDat.FramePost.arr_in h.1 c 4 rfl).trans (V_main_arg3 m c),
       ((h.1 c).2 main_arg4 (Pipeline.mem_restRefs_of main_arg4 (by decide) (by decide))).trans (V_main_arg4 m c),
       ((h.1 c).2 main_arg5 (Pipeline.mem_restRefs_of main_arg5 (by decide) (by decide))).trans (V_main_arg5 m c)⟩, h.2⟩)

end Cert.KernelIdeal.Body

end
-- ==== Proof.Dense.lean ====
module

public import Idealize.ShloMosaic.Lib.Pipeline.ValueKit
public import Idealize.ShloMosaic.Lib.Claim

@[expose] public section

noncomputable section

namespace Cert.Dense

open Idealize.ShloMosaic

/-- The product of two matrices, entry by entry. -/
def mm {n k p : ℕ} (A : (⟨2, ![n, k]⟩ : Shape).Idx → EReal) (B : (⟨2, ![k, p]⟩ : Shape).Idx → EReal) : (⟨2, ![n, p]⟩ : Shape).Idx → EReal :=
  fun i => ∑ l : Fin k, A (ix2 (i 0) l) * B (ix2 l (i 1))

/-- An entry of a product depends on a row of the first factor and a column of the second. -/
theorem mm_congr {n k p n' p' : ℕ} {A : (⟨2, ![n, k]⟩ : Shape).Idx → EReal} {B : (⟨2, ![k, p]⟩ : Shape).Idx → EReal}
    {A' : (⟨2, ![n', k]⟩ : Shape).Idx → EReal} {B' : (⟨2, ![k, p']⟩ : Shape).Idx → EReal} (i : (⟨2, ![n, p]⟩ : Shape).Idx) (i' : (⟨2, ![n', p']⟩ : Shape).Idx)
    (hA : ∀ l : Fin k, A (ix2 (i 0) l) = A' (ix2 (i' 0) l)) (hB : ∀ l : Fin k, B (ix2 l (i 1)) = B' (ix2 l (i' 1))) :
    mm A B i = mm A' B' i' :=
  Finset.sum_congr rfl fun l _ => by rw [hA l, hB l]

/-- Columns of zeros after the first factor and rows of zeros after the second leave the product unchanged. -/
theorem mm_pad {n k q p : ℕ} {A : (⟨2, ![n, k]⟩ : Shape).Idx → EReal} {B : (⟨2, ![k, p]⟩ : Shape).Idx → EReal}
    {A' : (⟨2, ![n, k + q]⟩ : Shape).Idx → EReal} {B' : (⟨2, ![k + q, p]⟩ : Shape).Idx → EReal} (i : (⟨2, ![n, p]⟩ : Shape).Idx)
    (hA : ∀ l : Fin (k + q), A' (ix2 (i 0) l) = if h : l.val < k then A (ix2 (i 0) (⟨l.val, h⟩ : Fin k)) else 0)
    (hB : ∀ l : Fin (k + q), B' (ix2 l (i 1)) = if h : l.val < k then B (ix2 (⟨l.val, h⟩ : Fin k) (i 1)) else 0) :
    mm A' B' i = mm A B i := by
  unfold mm
  rw [Fin.sum_univ_add, Finset.sum_eq_zero (s := Finset.univ (α := Fin q)) fun l _ => ?_, add_zero]
  · exact Finset.sum_congr rfl fun l _ => by rw [hA, hB, dif_pos (by simp), dif_pos (by simp)]; rfl
  · rw [hA, dif_neg (by simp), zero_mul]

/-- The word zero, read as a number, is zero. -/
theorem sitofp_zero (φ : FTy) : FloatOps.sitofp (F := Ideal) φ (0#32) = (0 : EReal) := by
  simp [FloatOps.sitofp]

/-- A real number times a sum whose first term is real is the sum of the products. -/
theorem real_add_mul (h w : ℝ) (z : EReal) : ((h : EReal) + z) * (w : EReal) = (h : EReal) * w + z * w := by
  induction z using EReal.rec with
  | coe z => norm_cast; ring
  | top => rcases lt_trichotomy w 0 with hw | rfl | hw
           · rw [EReal.coe_add_top, EReal.top_mul_coe_of_neg hw, EReal.add_bot]
           · simp
           · rw [EReal.coe_add_top, EReal.top_mul_coe_of_pos hw, ← EReal.coe_mul, EReal.coe_add_top]
  | bot => rcases lt_trichotomy w 0 with hw | rfl | hw
           · rw [EReal.add_bot, EReal.bot_mul_coe_of_neg hw, ← EReal.coe_mul, EReal.coe_add_top]
           · simp
           · rw [EReal.add_bot, EReal.bot_mul_coe_of_pos hw, EReal.add_bot]

/-- The product of a mixed row with a column: the row's part, plus the difference's part against the column times the mix. -/
theorem mix_mul {k : ℕ} (h x μ w : Fin k → EReal) (hh : ∀ l, ∃ r : ℝ, h l = r) (hw : ∀ l, ∃ r : ℝ, w l = r) :
    (∑ l, h l * w l) + (∑ l, x l * (μ l * w l)) = ∑ l, (h l + x l * μ l) * w l := by
  rw [← Finset.sum_add_distrib]
  refine Finset.sum_congr rfl fun l _ => ?_
  obtain ⟨a, ha⟩ := hh l
  obtain ⟨b, hb⟩ := hw l
  rw [ha, hb, real_add_mul, mul_assoc]

end Cert.Dense

end
-- ==== Proof.ValueQk.lean ====
module

public import proofs.«01_k».proof.Defs
public import proofs.«01_k».proof.Proof.Gen.QkIdeal.Value
public import proofs.«01_k».proof.Proof.Gen.RefQkIdeal.Run
public import proofs.«01_k».proof.Proof.Dense

@[expose] public section

set_option maxRecDepth 16384

noncomputable section

namespace Cert.QkIdeal.Value

open Cert.Dense Cert.QkIdeal Cert.QkIdeal.Gen Idealize.ShloMosaic Idealize.ShloMosaic.TcCoe Idealize.SL.Sem
open Idealize.ShloMosaic.Pipeline (Dat)

variable (m : (ℓ : Loc nD τ sig) → Buf (Elt Ideal) ℓ)

/-- The blocks of the three windows at a grid point. -/
theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The payload is the product of its blocks. -/
theorem pay (A : Vec Ideal S1024x2048 .bf16) (B : Vec Ideal S2048x1024 .bf16) (y : S1024x1024.Idx) : k0_pay1 (F := Ideal) A B y = mm A B y := by
  pointwise [k0_pay1]
  rfl

/-- What a point stores is the product at the place its block has in the result. -/
theorem point (c : Dev nD) (t : Fin cfg0.N) (y) : k0_pay1 (F := Ideal) (iblk m c 0 t) (iblk m c 1 t) y
    = mm (n := 32768) (k := 2048) (p := 4096) (V m c main_v1) (V m c main_v2) (((cfg0.win 2).blk t).view.emb y) := by
  refine (pay _ _ y).trans (mm_congr _ _ (fun l => ?_) fun l => ?_)
  · blk_ext [iblk, idx t]
  · blk_ext [iblk, idx t]

/-- The result after the run is the product of the flattened states and the queries' and keys' columns of the weights. -/
theorem result (c : Dev nD) : (dats m 0 c).arrAt 2 (cfgs 0).N = mm (n := 32768) (k := 2048) (p := 4096) (V m c main_v1) (V m c main_v2) := by
  refine (dats m 0 c).arrAt_eq_of_covers 2 _ (by decide +kernel) fun t _ y => ?_
  blk_simp
  rw [after0_2]; frame_out
  exact point m c t y

/-- The reference's projection, cut to the same columns, is that product. -/
theorem tie (X : FVec Ideal Cert.RefQkIdeal.S32768x2048 .f32) (W : FVec Ideal Cert.RefQkIdeal.S2048x8224 .f32) (i : S32768x4096.Idx) :
    truncf .bf16 (extractStridedSlice Cert.RefQkIdeal.S32768x4096 ![0, 0] (Host.dotGeneral Cert.RefQkIdeal.dot_S32768x2048_S2048x8224_S32768x8224_1_0_0_1_n_n none X W)
        Cert.RefQkIdeal.Gen.slices_S32768x8224_S32768x4096_0_0) Cert.RefQkIdeal.Gen.bitsLt_bf16_f32 i
      = mm (n := 32768) (k := 2048) (p := 4096) X (extractStridedSlice S2048x4096 ![0, 0] W slices_S2048x8224_S2048x4096_0_0) i := by
  pointwise [mm]

/-- The kernel and the reference end with the same projection. -/
theorem claim : Cert.algebraic_QkIdeal_RefQkIdeal := by
  pair_intro
  · run_from Cert.QkIdeal.Value.run_blocks m g
  · run_from Cert.RefQkIdeal.Value.run m' g'
    rw [result]
    have h1 : V m c main_v1 = shapeCast _ (m ((c : Thread nD τ).loc main_arg0)) shapeCasts_S2x16384x2048_S32768x2048 := by entry_read; rfl
    have h2 : V m c main_v2 = (extractStridedSlice S2048x4096 ![0, 0] (truncf (F := Ideal) (φ := .f32) .bf16 (m ((c : Thread nD τ).loc main_arg1)) bitsLt_bf16_f32) slices_S2048x8224_S2048x4096_0_0 : FVec Ideal S2048x4096 .bf16) := by entry_read; rfl
    rw [h1, h2]
    funext i
    exact tie _ _ i

end Cert.QkIdeal.Value

end
-- ==== Proof.ValueVt.lean ====
module

public import proofs.«01_k».proof.Defs
public import proofs.«01_k».proof.Proof.Gen.VtIdeal.Value
public import proofs.«01_k».proof.Proof.Gen.RefVtIdeal.Run
public import proofs.«01_k».proof.Proof.Dense

@[expose] public section

set_option maxRecDepth 16384

noncomputable section

namespace Cert.VtIdeal.Value

open Cert.Dense Cert.VtIdeal Cert.VtIdeal.Gen Idealize.ShloMosaic Idealize.ShloMosaic.TcCoe Idealize.SL.Sem
open Idealize.ShloMosaic.Pipeline (Dat)

variable (m : (ℓ : Loc nD τ sig) → Buf (Elt Ideal) ℓ)

/-- The blocks of the three windows at a grid point. -/
theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The payload is the product of its blocks. -/
theorem pay (A : Vec Ideal S1024x2048 .bf16) (B : Vec Ideal S2048x1024 .bf16) (y : S1024x1024.Idx) : k0_pay1 (F := Ideal) A B y = mm A B y := by
  pointwise [k0_pay1]
  rfl

/-- The second payload is the transposed product of the blocks. -/
theorem payT (A : Vec Ideal S1024x2048 .bf16) (B : Vec Ideal S2048x1024 .bf16) (y : S1x1024x1024.Idx) : k0_pay2 (F := Ideal) A B y = mm A B (ix2 (y 2) (y 1)) := by
  pointwise [k0_pay2, k0_pay1]
  rfl

/-- The block of the transposed result at a grid point. -/
theorem idxT : ∀ t : Fin cfg0.N, win0_3.index t = ![(grid0.coords t 0).val / 16, (grid0.coords t 1).val, (grid0.coords t 0).val % 16] :=
  (by decide +kernel : ∀ t : Fin grid0.N, _)

/-- What a point stores is the product at the place its block has in the result. -/
theorem point (c : Dev nD) (t : Fin cfg0.N) (y) : k0_pay1 (F := Ideal) (iblk m c 0 t) (iblk m c 1 t) y
    = mm (n := 32768) (k := 2048) (p := 2048) (V m c main_v1) (V m c main_v2) (((cfg0.win 2).blk t).view.emb y) := by
  refine (pay _ _ y).trans (mm_congr _ _ (fun l => ?_) fun l => ?_)
  · blk_ext [iblk, idx t]
  · blk_ext [iblk, idx t]

/-- The result after the run is the product of the flattened states and the weights. -/
theorem result (c : Dev nD) : (dats m 0 c).arrAt 2 (cfgs 0).N = mm (n := 32768) (k := 2048) (p := 2048) (V m c main_v1) (V m c main_v2) := by
  refine (dats m 0 c).arrAt_eq_of_covers 2 _ (by decide +kernel) fun t _ y => ?_
  blk_simp
  rw [after0_2]; frame_out
  exact point m c t y

/-- A product laid batch by batch with its rows along the last axis. -/
def mmT (A : FVec Ideal S32768x2048 .f32) (B : FVec Ideal S2048x2048 .f32) : S2x2048x16384.Idx → EReal :=
  fun i => mm (n := 32768) (k := 2048) (p := 2048) A B (ix2 (⟨(i 0).val * 16384 + (i 2).val, by have h0 : (i 0).val < 2 := (i 0).isLt; have h2 : (i 2).val < 16384 := (i 2).isLt; omega⟩ : Fin 32768) (i 1))

/-- What a point stores in the transposed result. -/
theorem pointT (c : Dev nD) (t : Fin cfg0.N) (y) : k0_pay2 (F := Ideal) (iblk m c 0 t) (iblk m c 1 t) y
    = mmT (V m c main_v1) (V m c main_v2) (((cfg0.win 3).blk t).view.emb y) := by
  refine (payT _ _ y).trans (mm_congr _ _ (fun l => ?_) fun l => ?_)
  · blk_ext [iblk, idx t, idxT t]
  · blk_ext [iblk, idx t, idxT t]

/-- The transposed result after the run. -/
theorem resultT (c : Dev nD) : (dats m 0 c).arrAt 3 (cfgs 0).N = mmT (V m c main_v1) (V m c main_v2) := by
  refine (dats m 0 c).arrAt_eq_of_covers 3 _ (by decide +kernel) fun t _ y => ?_
  blk_simp
  rw [after0_3]; frame_out
  exact pointT m c t y

/-- The reference's projection, cut to the values' columns, is that product. -/
theorem tie (X : FVec Ideal Cert.RefVtIdeal.S32768x2048 .f32) (W : FVec Ideal Cert.RefVtIdeal.S2048x8224 .f32) (i : S32768x2048.Idx) :
    extractStridedSlice Cert.RefVtIdeal.S32768x2048 ![0, 4096] (Host.dotGeneral Cert.RefVtIdeal.dot_S32768x2048_S2048x8224_S32768x8224_1_0_0_1_n_n none X W)
        Cert.RefVtIdeal.Gen.slices_S32768x8224_S32768x2048_0_4096 i
      = mm (n := 32768) (k := 2048) (p := 2048) X (extractStridedSlice S2048x2048 ![0, 4096] W slices_S2048x8224_S2048x2048_0_4096) i := by
  pointwise [mm]

/-- A reference array with the rows of each batch along the last axis. -/
theorem tieT (P : FVec Ideal Cert.RefVtIdeal.S32768x2048 .f32) (i : S2x2048x16384.Idx) :
    truncf .bf16 (transpose Cert.RefVtIdeal.S2x2048x16384 [0, 2, 1] (shapeCast Cert.RefVtIdeal.S2x16384x2048 P Cert.RefVtIdeal.Gen.shapeCasts_S32768x2048_S2x16384x2048) Cert.RefVtIdeal.Gen.transposes_S2x16384x2048_S2x2048x16384_0_2_1) Cert.RefVtIdeal.Gen.bitsLt_bf16_f32 i
      = P (ix2 (⟨(i 0).val * 16384 + (i 2).val, by have h0 : (i 0).val < 2 := (i 0).isLt; have h2 : (i 2).val < 16384 := (i 2).isLt; omega⟩ : Fin 32768) (i 1)) := by
  pointwise []

/-- The first factor at the launch: the states, batch under batch. -/
theorem fst (c : Dev nD) : V m c main_v1 = shapeCast _ (m ((c : Thread nD τ).loc main_arg0)) shapeCasts_S2x16384x2048_S32768x2048 := by entry_read; rfl

/-- The second factor at the launch: the values' columns of the weights. -/
theorem snd (c : Dev nD) : V m c main_v2 = (extractStridedSlice S2048x2048 ![0, 4096] (truncf (F := Ideal) (φ := .f32) .bf16 (m ((c : Thread nD τ).loc main_arg1)) bitsLt_bf16_f32) slices_S2048x8224_S2048x2048_0_4096 : FVec Ideal S2048x2048 .bf16) := by
  entry_read; rfl

/-- The kernel and the reference end with the same values, as they are and transposed. -/
theorem claim : Cert.algebraic_VtIdeal_RefVtIdeal := by
  pair_intro
  · run_from Cert.VtIdeal.Value.run_blocks m g
  · run_from Cert.RefVtIdeal.Value.run m' g'
    · rw [result, fst, snd]
      funext i
      exact tie _ _ i
    · rw [resultT, fst, snd]
      funext i
      exact (tieT _ i).trans (tie _ _ _)

end Cert.VtIdeal.Value

end
-- ==== Proof.ValueRkv.lean ====
module

public import proofs.«01_k».proof.Defs
public import proofs.«01_k».proof.Proof.Gen.RkvIdeal.Value
public import proofs.«01_k».proof.Proof.Gen.RefRkvIdeal.Run
public import proofs.«01_k».proof.Proof.Dense

@[expose] public section

set_option maxRecDepth 16384

noncomputable section

namespace Cert.RkvIdeal.Value

open Cert.Dense Cert.RkvIdeal Cert.RkvIdeal.Gen Idealize.ShloMosaic Idealize.ShloMosaic.TcCoe Idealize.SL.Sem
open Idealize.ShloMosaic.Pipeline (Dat)

variable (m : (ℓ : Loc nD τ sig) → Buf (Elt Ideal) ℓ)

/-- The blocks of the three windows at a grid point. -/
theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The payload is the product of its blocks. -/
theorem pay (A : Vec Ideal S1024x2048 .bf16) (B : Vec Ideal S2048x1024 .bf16) (y : S1024x1024.Idx) : k0_pay1 (F := Ideal) A B y = mm A B y := by
  pointwise [k0_pay1]
  rfl

/-- What a point stores is the product at the place its block has in the result. -/
theorem point (c : Dev nD) (t : Fin cfg0.N) (y) : k0_pay1 (F := Ideal) (iblk m c 0 t) (iblk m c 1 t) y
    = mm (n := 32768) (k := 2048) (p := 2048) (V m c main_v0) (V m c main_v1) (((cfg0.win 2).blk t).view.emb y) := by
  refine (pay _ _ y).trans (mm_congr _ _ (fun l => ?_) fun l => ?_)
  · blk_ext [iblk, idx t]
  · blk_ext [iblk, idx t]

/-- The result after the run is the product of the flattened states and the weights. -/
theorem result (c : Dev nD) : (dats m 0 c).arrAt 2 (cfgs 0).N = mm (n := 32768) (k := 2048) (p := 2048) (V m c main_v0) (V m c main_v1) := by
  refine (dats m 0 c).arrAt_eq_of_covers 2 _ (by decide +kernel) fun t _ y => ?_
  blk_simp
  rw [after0_2]; frame_out
  exact point m c t y

/-- The reference's product, entry by entry. -/
theorem tie (X : FVec Ideal Cert.RefRkvIdeal.S32768x2048 .f32) (W : FVec Ideal Cert.RefRkvIdeal.S2048x2048 .f32) (i : S32768x2048.Idx) :
    Host.dotGeneral Cert.RefRkvIdeal.dot_S32768x2048_S2048x2048_S32768x2048_1_0_0_1_n_n none X W i = mm (n := 32768) (k := 2048) (p := 2048) X W i := by
  pointwise [mm]

/-- The kernel and the reference end with the same product. -/
theorem claim : Cert.algebraic_RkvIdeal_RefRkvIdeal := by
  pair_intro
  · run_from Cert.RkvIdeal.Value.run_blocks m g
  · run_from Cert.RefRkvIdeal.Value.run m' g'
    rw [result]
    have h1 : V m c main_v0 = shapeCast _ (m ((c : Thread nD τ).loc main_arg0)) shapeCasts_S2x16384x2048_S32768x2048 := by entry_read; rfl
    have h2 : V m c main_v1 = (truncf (F := Ideal) (φ := .f32) .bf16 (m ((c : Thread nD τ).loc main_arg1)) bitsLt_bf16_f32 : FVec Ideal S2048x2048 .bf16) := by entry_read; rfl
    rw [h1, h2]
    funext i
    exact tie _ _ i

end Cert.RkvIdeal.Value

end
-- ==== Proof.ValueGg.lean ====
module

public import proofs.«01_k».proof.Defs
public import proofs.«01_k».proof.Proof.Gen.GgIdeal.Value
public import proofs.«01_k».proof.Proof.Gen.RefGgIdeal.Run
public import proofs.«01_k».proof.Proof.Dense

@[expose] public section

set_option maxRecDepth 16384

noncomputable section

namespace Cert.GgIdeal.Value

open Cert.Dense Cert.GgIdeal Cert.GgIdeal.Gen Idealize.ShloMosaic Idealize.ShloMosaic.TcCoe Idealize.SL.Sem
open Idealize.ShloMosaic.Pipeline (Dat)

variable (m : (ℓ : Loc nD τ sig) → Buf (Elt Ideal) ℓ)

/-- The blocks of the three windows at a grid point. -/
theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The payload is the product of its blocks. -/
theorem pay (A : Vec Ideal S1024x2048 .bf16) (B : Vec Ideal S2048x1024 .bf16) (y : S1024x1024.Idx) : k0_pay1 (F := Ideal) A B y = mm A B y := by
  pointwise [k0_pay1]
  rfl

/-- What a point stores is the product at the place its block has in the result. -/
theorem point (c : Dev nD) (t : Fin cfg0.N) (y) : k0_pay1 (F := Ideal) (iblk m c 0 t) (iblk m c 1 t) y
    = mm (n := 32768) (k := 2048) (p := 2048) (V m c main_v0) (V m c main_v1) (((cfg0.win 2).blk t).view.emb y) := by
  refine (pay _ _ y).trans (mm_congr _ _ (fun l => ?_) fun l => ?_)
  · blk_ext [iblk, idx t]
  · blk_ext [iblk, idx t]

/-- The result after the run is the product of the flattened states and the weights. -/
theorem result (c : Dev nD) : (dats m 0 c).arrAt 2 (cfgs 0).N = mm (n := 32768) (k := 2048) (p := 2048) (V m c main_v0) (V m c main_v1) := by
  refine (dats m 0 c).arrAt_eq_of_covers 2 _ (by decide +kernel) fun t _ y => ?_
  blk_simp
  rw [after0_2]; frame_out
  exact point m c t y

/-- The reference's product, entry by entry. -/
theorem tie (X : FVec Ideal Cert.RefGgIdeal.S32768x2048 .f32) (W : FVec Ideal Cert.RefGgIdeal.S2048x2048 .f32) (i : S32768x2048.Idx) :
    Host.dotGeneral Cert.RefGgIdeal.dot_S32768x2048_S2048x2048_S32768x2048_1_0_0_1_n_n none X W i = mm (n := 32768) (k := 2048) (p := 2048) X W i := by
  pointwise [mm]

/-- The kernel and the reference end with the same product. -/
theorem claim : Cert.algebraic_GgIdeal_RefGgIdeal := by
  pair_intro
  · run_from Cert.GgIdeal.Value.run_blocks m g
  · run_from Cert.RefGgIdeal.Value.run m' g'
    rw [result]
    have h1 : V m c main_v0 = shapeCast _ (m ((c : Thread nD τ).loc main_arg0)) shapeCasts_S2x16384x2048_S32768x2048 := by entry_read; rfl
    have h2 : V m c main_v1 = (truncf (F := Ideal) (φ := .f32) .bf16 (m ((c : Thread nD τ).loc main_arg1)) bitsLt_bf16_f32 : FVec Ideal S2048x2048 .bf16) := by entry_read; rfl
    rw [h1, h2]
    funext i
    exact tie _ _ i

end Cert.GgIdeal.Value

end
-- ==== Proof.ValueOut.lean ====
module

public import proofs.«01_k».proof.Defs
public import proofs.«01_k».proof.Proof.Gen.OutIdeal.Value
public import proofs.«01_k».proof.Proof.Gen.RefOutIdeal.Run
public import proofs.«01_k».proof.Proof.Dense

@[expose] public section

set_option maxRecDepth 16384

noncomputable section

namespace Cert.OutIdeal.Value

open Cert.Dense Cert.OutIdeal Cert.OutIdeal.Gen Idealize.ShloMosaic Idealize.ShloMosaic.TcCoe Idealize.SL.Sem
open Idealize.ShloMosaic.Pipeline (Dat)

variable (m : (ℓ : Loc nD τ sig) → Buf (Elt Ideal) ℓ)

/-- The residual plus the gate times a product, entry by entry. -/
def gated (A : FVec Ideal S2x16384x2048 .bf16) (B : FVec Ideal S2048x2048 .bf16) (x : FVec Ideal S2x16384x2048 .f32) (g : FVec Ideal S2x1x2048 .f32) :
    FVec Ideal S2x16384x2048 .f32 :=
  fun i => x (ix3 (i 0) (i 1) (i 2)) + g (ix3 (i 0) (0 : Fin 1) (i 2)) * ∑ l : Fin 2048, A (ix3 (i 0) (i 1) l) * B (ix2 l (i 2))

/-- The blocks of the five windows at a grid point. -/
theorem idx : ∀ t : Fin cfg0.N, win0_0.index t = ![(grid0.coords t 0).val, (grid0.coords t 1).val, 0] ∧ win0_1.index t = ![0, (grid0.coords t 2).val]
    ∧ win0_2.index t = ![(grid0.coords t 0).val, (grid0.coords t 1).val, (grid0.coords t 2).val]
    ∧ win0_3.index t = ![(grid0.coords t 0).val, 0, (grid0.coords t 2).val]
    ∧ win0_4.index t = ![(grid0.coords t 0).val, (grid0.coords t 1).val, (grid0.coords t 2).val] :=
  (by decide +kernel : ∀ t : Fin grid0.N, _)

/-- What a point stores is the gated product at the place its block has in the result. -/
theorem point (c : Dev nD) (t : Fin cfg0.N) (y) : k0_pay1 (F := Ideal) (iblk m c 0 t) (iblk m c 1 t) (iblk m c 2 t) (iblk m c 3 t) y
    = gated (m ((c : Thread nD τ).loc main_arg0)) (V m c main_v0) (m ((c : Thread nD τ).loc main_arg2)) (V m c main_v1) (((cfg0.win 4).blk t).view.emb y) := by
  pointwise [k0_pay1, gated]
  blk_point [iblk, idx t, V_main_arg0, V_main_arg2]

/-- The result after the run is the gated product of the arguments. -/
theorem result (c : Dev nD) : (dats m 0 c).arrAt 4 (cfgs 0).N
    = gated (m ((c : Thread nD τ).loc main_arg0)) (V m c main_v0) (m ((c : Thread nD τ).loc main_arg2)) (V m c main_v1) := by
  refine (dats m 0 c).arrAt_eq_of_covers 4 _ (by decide +kernel) fun t _ y => ?_
  blk_simp
  rw [after0_4]; frame_out
  exact point m c t y

/-- The reference's gated product, entry by entry. -/
theorem tie (A : FVec Ideal Cert.RefOutIdeal.S2x16384x2048 .f32) (B : FVec Ideal Cert.RefOutIdeal.S2048x2048 .f32) (x : FVec Ideal Cert.RefOutIdeal.S2x16384x2048 .f32)
    (g : FVec Ideal Cert.RefOutIdeal.S2x2048 .f32) (i : S2x16384x2048.Idx) :
    addf x (mulf (broadcastInDim Cert.RefOutIdeal.S2x16384x2048 ![0, 1, 2] Cert.RefOutIdeal.Gen.bcast_S2x1x2048_S2x16384x2048_0_1_2 (broadcastInDim Cert.RefOutIdeal.S2x1x2048 ![0, 2] Cert.RefOutIdeal.Gen.bcast_S2x2048_S2x1x2048_0_2 g))
        (Host.dotGeneral Cert.RefOutIdeal.dot_S2x16384x2048_S2048x2048_S2x16384x2048_2_0_01_1_n_n none A B)) i
      = gated A B x (shapeCast S2x1x2048 g shapeCasts_S2x2048_S2x1x2048) i := by
  pointwise [gated]

/-- The kernel and the reference end with the same layer output. -/
theorem claim : Cert.algebraic_OutIdeal_RefOutIdeal := by
  pair_intro
  · run_from Cert.OutIdeal.Value.run_blocks m g
  · run_from Cert.RefOutIdeal.Value.run m' g'
    rw [result]
    have h1 : V m c main_v0 = (truncf (F := Ideal) (φ := .f32) .bf16 (m ((c : Thread nD τ).loc main_arg1)) bitsLt_bf16_f32 : FVec Ideal S2048x2048 .bf16) := by entry_read; rfl
    have h2 : V m c main_v1 = shapeCast _ (m ((c : Thread nD τ).loc main_arg3)) shapeCasts_S2x2048_S2x1x2048 := by entry_read; rfl
    rw [h1, h2]
    funext i
    exact tie _ _ _ _ i

end Cert.OutIdeal.Value

end
-- ==== Proof.ValueNm.lean ====
module

public import proofs.«01_k».proof.Defs
public import proofs.«01_k».proof.Proof.Gen.NmIdeal.Value
public import proofs.«01_k».proof.Proof.Gen.RefNmIdeal.Run
public import proofs.«01_k».proof.Proof.Dense

@[expose] public section

set_option maxRecDepth 16384

noncomputable section

namespace Cert.NmIdeal.Value

open Cert.Dense Cert.NmIdeal Cert.NmIdeal.Gen Idealize.ShloMosaic Idealize.ShloMosaic.TcCoe Idealize.SL.Sem
open Idealize.ShloMosaic.Pipeline (Dat)

variable (m : (ℓ : Loc nD τ sig) → Buf (Elt Ideal) ℓ)

/-- The state divided by its root mean square, times the weight, one plus the scale, and plus the shift, entry by entry. -/
def modulated (x : FVec Ideal S2x16384x2048 .f32) (w : FVec Ideal S1x2048 .f32) (s b : FVec Ideal S2x1x2048 .f32) : FVec Ideal S2x16384x2048 .bf16 :=
  fun i => x (ix3 (i 0) (i 1) (i 2)) * Ideal.rsqrt (Ideal.div (∑ l : Fin 2048, x (ix3 (i 0) (i 1) l) * x (ix3 (i 0) (i 1) l)) (Ideal.ofBits .f32 0x45000000#32) + Ideal.ofBits .f32 0x358637BD#32)
    * w (ix2 (0 : Fin 1) (i 2)) * (1 + s (ix3 (i 0) (0 : Fin 1) (i 2))) + b (ix3 (i 0) (0 : Fin 1) (i 2))

/-- The blocks of the five windows at a grid point. -/
theorem idx : ∀ t : Fin cfg0.N, win0_0.index t = ![(grid0.coords t 0).val, (grid0.coords t 1).val, 0] ∧ win0_1.index t = ![0, 0]
    ∧ win0_2.index t = ![(grid0.coords t 0).val, 0, 0] ∧ win0_3.index t = ![(grid0.coords t 0).val, 0, 0]
    ∧ win0_4.index t = ![(grid0.coords t 0).val, (grid0.coords t 1).val, 0] :=
  (by decide +kernel : ∀ t : Fin grid0.N, _)

/-- What a point stores is the modulated norm at the place its block has in the result. -/
theorem point (c : Dev nD) (t : Fin cfg0.N) (y) : k0_pay1 (F := Ideal) (iblk m c 0 t) (iblk m c 1 t) (iblk m c 2 t) (iblk m c 3 t) y
    = modulated (m ((c : Thread nD τ).loc main_arg0)) (V m c main_v0) (V m c main_v1) (V m c main_v2) (((cfg0.win 4).blk t).view.emb y) := by
  pointwise [k0_pay1, modulated]
  blk_point [iblk, idx t, V_main_arg0]

/-- The result after the run is the modulated norm of the arguments. -/
theorem result (c : Dev nD) : (dats m 0 c).arrAt 4 (cfgs 0).N
    = modulated (m ((c : Thread nD τ).loc main_arg0)) (V m c main_v0) (V m c main_v1) (V m c main_v2) := by
  refine (dats m 0 c).arrAt_eq_of_covers 4 _ (by decide +kernel) fun t _ y => ?_
  blk_simp
  rw [after0_4]; frame_out
  exact point m c t y

/-- The kernel and the reference end with the same modulated norm. -/
theorem claim : Cert.algebraic_NmIdeal_RefNmIdeal := by
  pair_intro
  · run_from Cert.NmIdeal.Value.run_blocks m g
  · run_from Cert.RefNmIdeal.Value.run m' g'
    rw [result]
    have h1 : V m c main_v0 = shapeCast _ (m ((c : Thread nD τ).loc main_arg1)) shapeCasts_S2048_S1x2048 := by entry_read; rfl
    have h2 : V m c main_v1 = shapeCast _ (m ((c : Thread nD τ).loc main_arg2)) shapeCasts_S2x2048_S2x1x2048 := by entry_read; rfl
    have h3 : V m c main_v2 = shapeCast _ (m ((c : Thread nD τ).loc main_arg3)) shapeCasts_S2x2048_S2x1x2048 := by entry_read; rfl
    rw [h1, h2, h3]
    funext i
    pointwise [modulated]

end Cert.NmIdeal.Value

end
-- ==== Proof.ValueMx.lean ====
module

public import proofs.«01_k».proof.Defs
public import proofs.«01_k».proof.Proof.Gen.MxIdeal.Value
public import proofs.«01_k».proof.Proof.Gen.RefMxIdeal.Run
public import proofs.«01_k».proof.Proof.Dense

@[expose] public section

set_option maxRecDepth 16384

noncomputable section

namespace Cert.MxIdeal.Value

open Cert.Dense Cert.MxIdeal Cert.MxIdeal.Gen Idealize.ShloMosaic Idealize.ShloMosaic.TcCoe Idealize.SL.Sem
open Idealize.ShloMosaic.Pipeline (Dat)

variable (m : (ℓ : Loc nD τ sig) → Buf (Elt Ideal) ℓ)

/-- The state divided by its root mean square, times the weight, one plus the scale, and plus the shift, entry by entry. -/
def modulated (x : FVec Ideal S2x16384x2048 .f32) (w : FVec Ideal S1x2048 .f32) (s b : FVec Ideal S2x1x2048 .f32) (i : S2x16384x2048.Idx) : EReal :=
  x (ix3 (i 0) (i 1) (i 2)) * Ideal.rsqrt (Ideal.div (∑ l : Fin 2048, x (ix3 (i 0) (i 1) l) * x (ix3 (i 0) (i 1) l)) (Ideal.ofBits .f32 0x45000000#32) + Ideal.ofBits .f32 0x358637BD#32)
    * w (ix2 (0 : Fin 1) (i 2)) * (1 + s (ix3 (i 0) (0 : Fin 1) (i 2))) + b (ix3 (i 0) (0 : Fin 1) (i 2))

/-- The modulated norm of the row above, zero above the first row. -/
def above (x : FVec Ideal S2x16384x2048 .f32) (w : FVec Ideal S1x2048 .f32) (s b : FVec Ideal S2x1x2048 .f32) (i : S2x16384x2048.Idx) : EReal :=
  if (i 1).val = 0 then 0 else modulated x w s b (ix3 (i 0) (⟨(i 1).val - 1, by have h : (i 1).val < 16384 := (i 1).isLt; omega⟩ : Fin 16384) (i 2))

/-- The blocks of the windows at a grid point. -/
theorem idx : ∀ t : Fin cfg0.N, win0_0.index t = ![(grid0.coords t 0).val, (grid0.coords t 1).val, 0]
    ∧ win0_1.index t = ![(grid0.coords t 0).val, (grid0.coords t 1).val * 64 - 1, 0] ∧ win0_2.index t = ![0, 0]
    ∧ win0_3.index t = ![(grid0.coords t 0).val, 0, 0] ∧ win0_4.index t = ![(grid0.coords t 0).val, 0, 0] ∧ win0_5.index t = ![0, 0]
    ∧ win0_6.index t = ![(grid0.coords t 0).val, (grid0.coords t 1).val, 0] ∧ win0_7.index t = ![(grid0.coords t 0).val, (grid0.coords t 1).val, 0]
    ∧ win0_8.index t = ![(grid0.coords t 0).val, (grid0.coords t 1).val, 0] ∧ win0_9.index t = ![(grid0.coords t 0).val, (grid0.coords t 1).val, 0]
    ∧ win0_10.index t = ![(grid0.coords t 0).val, (grid0.coords t 1).val, 0] ∧ win0_11.index t = ![(grid0.coords t 0).val, (grid0.coords t 1).val, 0] :=
  (by decide +kernel : ∀ t : Fin grid0.N, _)

/-- The place of an entry of a point's block. -/
def at_ (t : Fin cfg0.N) (p : Fin 512) (d : Fin 2048) : S2x16384x2048.Idx :=
  ix3 (⟨(grid0.coords t 0).val, (grid0.coords t 0).isLt⟩ : Fin 2) (⟨(grid0.coords t 1).val * 512 + p.val, by have h : (grid0.coords t 1).val < 32 := (grid0.coords t 1).isLt; omega⟩ : Fin 16384) d

/-- The modulated norm of a point's rows. -/
theorem own (c : Dev nD) (t : Fin cfg0.N) (p : Fin 512) (d : Fin 2048) : k0_pay6 (F := Ideal) (iblk m c 0 t) (iblk m c 2 t) (iblk m c 3 t) (iblk m c 4 t) (ix2 p d)
    = modulated (m ((c : Thread nD τ).loc main_arg0)) (V m c main_v0) (V m c main_v1) (V m c main_v2) (at_ t p d) := by
  pointwise [k0_pay6, modulated, at_]
  blk_point [iblk, idx t, V_main_arg0]

/-- The modulated norm of the last of the eight rows before a point's rows. -/
theorem prev (c : Dev nD) (t : Fin cfg0.N) (d : Fin 2048) (hr : (grid0.coords t 1).val ≠ 0) :
    k0_pay7 (F := Ideal) (iblk m c 1 t) (ix2 (7 : Fin 8) d) * k0_pay8 (F := Ideal) (iblk m c 1 t) (ix2 (7 : Fin 8) d) * iblk m c 2 t (ix2 (0 : Fin 1) d)
      * (1 + iblk m c 3 t (ix3 (0 : Fin 1) (0 : Fin 1) d)) + iblk m c 4 t (ix3 (0 : Fin 1) (0 : Fin 1) d)
    = modulated (m ((c : Thread nD τ).loc main_arg0)) (V m c main_v0) (V m c main_v1) (V m c main_v2)
      (ix3 (⟨(grid0.coords t 0).val, (grid0.coords t 0).isLt⟩ : Fin 2) (⟨(grid0.coords t 1).val * 512 - 1, by have h : (grid0.coords t 1).val < 32 := (grid0.coords t 1).isLt; omega⟩ : Fin 16384) d) := by
  pointwise [k0_pay7, k0_pay8, modulated]
  blk_point [iblk, idx t, V_main_arg0]

/-- A row of a block is its first row when its word is zero. -/
theorem row_zero : ∀ p : Fin 512, IntOp.cmpi .eq (BitVec.ofNat 32 p.val) 0#32 = if p.val = 0 then 1#1 else 0#1 := by decide +kernel

/-- A point is in the first row of blocks when its word is zero. -/
theorem point_zero : ∀ p : Fin 32, Scalar.cmpi .eq (BitVec.ofNat 32 p.val) 0#32 = if p.val = 0 then 1#1 else 0#1 := by decide +kernel

/-- A choice by the word one is the first. -/
theorem select_one (a b : EReal) : Scalar.select (1#1) a b = a := if_pos rfl

/-- A choice by the word zero is the second. -/
theorem select_zero (a b : EReal) : Scalar.select (0#1) a b = b := if_neg (by decide)

/-- The difference a point takes: the modulated norm of the row above minus that of the row. -/
theorem diff (c : Dev nD) (t : Fin cfg0.N) (p : Fin 512) (d : Fin 2048) :
    k0_pay9 (F := Ideal) (BitVec.ofNat 32 (grid0.coords t 1).val) (k0_pay6 (iblk m c 0 t) (iblk m c 2 t) (iblk m c 3 t) (iblk m c 4 t)) (k0_pay7 (iblk m c 1 t)) (k0_pay8 (iblk m c 1 t))
      (iblk m c 2 t) (iblk m c 3 t) (iblk m c 4 t) (ix2 p d)
    = above (m ((c : Thread nD τ).loc main_arg0)) (V m c main_v0) (V m c main_v1) (V m c main_v2) (at_ t p d)
      - modulated (m ((c : Thread nD τ).loc main_arg0)) (V m c main_v0) (V m c main_v1) (V m c main_v2) (at_ t p d) := by
  have h1 := row_zero p
  have h2 : Scalar.cmpi .eq (BitVec.ofNat 32 (grid0.coords t 1).val) 0#32 = if (grid0.coords t 1).val = 0 then 1#1 else 0#1 := point_zero (grid0.coords t 1)
  pointwise [k0_pay9]
  rw [own, own, h1, h2]
  unfold above
  by_cases hp : p.val = 0
  · by_cases hr : (grid0.coords t 1).val = 0
    · have h0 : ((at_ t p d) 1).val = 0 := by show (grid0.coords t 1).val * 512 + p.val = 0; omega
      simp only [hp, hr, h0, ↓reduceIte, select_one]
    · have h0 : ((at_ t p d) 1).val ≠ 0 := by show (grid0.coords t 1).val * 512 + p.val ≠ 0; omega
      rw [prev m c t d hr, if_pos hp, if_neg hr, if_neg h0, select_one, select_zero]
      congr 2
      refine congrArg (fun k => ix3 _ k _) (Fin.ext ?_)
      show (grid0.coords t 1).val * 512 - 1 = (grid0.coords t 1).val * 512 + p.val - 1
      omega
  · have h0 : ((at_ t p d) 1).val ≠ 0 := by show (grid0.coords t 1).val * 512 + p.val ≠ 0; omega
    rw [if_neg hp, if_neg h0, select_zero]
    congr 2
    refine congrArg (fun k => ix3 _ k _) (Fin.ext ?_)
    show (grid0.coords t 1).val * 512 + (p.val + 512 - 1) % 512 = (grid0.coords t 1).val * 512 + p.val - 1
    omega

/-- The difference of the modulated norm of the row above and that of the row. -/
def shift (x : FVec Ideal S2x16384x2048 .f32) (w : FVec Ideal S1x2048 .f32) (s b : FVec Ideal S2x1x2048 .f32) : FVec Ideal S2x16384x2048 .bf16 :=
  fun i => above x w s b i - modulated x w s b i

/-- The modulated norm plus its difference with the row above times a row of the mixing weights. -/
def mixed (x : FVec Ideal S2x16384x2048 .f32) (w : FVec Ideal S1x2048 .f32) (s b : FVec Ideal S2x1x2048 .f32) (mu : FVec Ideal S4x2048 .f32) (j : Fin 4) : FVec Ideal S2x16384x2048 .bf16 :=
  fun i => modulated x w s b i + (above x w s b i - modulated x w s b i) * mu (ix2 j (i 2))

/-- The six stored windows lie alike: an entry of a point's block is at its place. -/
theorem place (t : Fin cfg0.N) (y : S1x512x2048.Idx) :
    ((cfg0.win 6).blk t).view.emb y = at_ t (y 1) (y 2) ∧ ((cfg0.win 7).blk t).view.emb y = at_ t (y 1) (y 2)
    ∧ ((cfg0.win 8).blk t).view.emb y = at_ t (y 1) (y 2) ∧ ((cfg0.win 9).blk t).view.emb y = at_ t (y 1) (y 2)
    ∧ ((cfg0.win 10).blk t).view.emb y = at_ t (y 1) (y 2) ∧ ((cfg0.win 11).blk t).view.emb y = at_ t (y 1) (y 2) := by
  refine ⟨?_, ?_, ?_, ?_, ?_, ?_⟩
  all_goals blk_ext [idx t, at_]

/-- A row of the mixing weights' block is the row of the weights. -/
theorem weight (c : Dev nD) (t : Fin cfg0.N) (j : Fin 4) (d : Fin 2048) : iblk m c 5 t (ix2 j d) = m ((c : Thread nD τ).loc main_arg4) (ix2 j d) := by
  blk_point [iblk, idx t, V_main_arg4]

/-- What a point stores for the four mixes, the modulated norm and the difference. -/
theorem stored (c : Dev nD) (t : Fin cfg0.N) (a : Fin 1) (p : Fin 512) (d : Fin 2048) :
    (k0_pay10 (F := Ideal) (BitVec.ofNat 32 (grid0.coords t 1).val) (k0_pay6 (iblk m c 0 t) (iblk m c 2 t) (iblk m c 3 t) (iblk m c 4 t)) (k0_pay7 (iblk m c 1 t)) (k0_pay8 (iblk m c 1 t)) (iblk m c 2 t) (iblk m c 3 t) (iblk m c 4 t) (View.ld (iblk m c 5 t) r0_4) (ix3 a p d)
      = mixed (m ((c : Thread nD τ).loc main_arg0)) (V m c main_v0) (V m c main_v1) (V m c main_v2) (m ((c : Thread nD τ).loc main_arg4)) 0 (at_ t p d))
    ∧ (k0_pay1 (F := Ideal) (k0_pay11 (BitVec.ofNat 32 (grid0.coords t 1).val) (k0_pay6 (iblk m c 0 t) (iblk m c 2 t) (iblk m c 3 t) (iblk m c 4 t)) (k0_pay7 (iblk m c 1 t)) (k0_pay8 (iblk m c 1 t)) (iblk m c 2 t) (iblk m c 3 t) (iblk m c 4 t) (View.ld (iblk m c 5 t) r0_5)) (ix3 a p d)
      = mixed (m ((c : Thread nD τ).loc main_arg0)) (V m c main_v0) (V m c main_v1) (V m c main_v2) (m ((c : Thread nD τ).loc main_arg4)) 1 (at_ t p d))
    ∧ (k0_pay2 (F := Ideal) (k0_pay6 (iblk m c 0 t) (iblk m c 2 t) (iblk m c 3 t) (iblk m c 4 t)) (k0_pay9 (BitVec.ofNat 32 (grid0.coords t 1).val) (k0_pay6 (iblk m c 0 t) (iblk m c 2 t) (iblk m c 3 t) (iblk m c 4 t)) (k0_pay7 (iblk m c 1 t)) (k0_pay8 (iblk m c 1 t)) (iblk m c 2 t) (iblk m c 3 t) (iblk m c 4 t)) (View.ld (iblk m c 5 t) r0_6) (ix3 a p d)
      = mixed (m ((c : Thread nD τ).loc main_arg0)) (V m c main_v0) (V m c main_v1) (V m c main_v2) (m ((c : Thread nD τ).loc main_arg4)) 2 (at_ t p d))
    ∧ (k0_pay3 (F := Ideal) (k0_pay6 (iblk m c 0 t) (iblk m c 2 t) (iblk m c 3 t) (iblk m c 4 t)) (k0_pay9 (BitVec.ofNat 32 (grid0.coords t 1).val) (k0_pay6 (iblk m c 0 t) (iblk m c 2 t) (iblk m c 3 t) (iblk m c 4 t)) (k0_pay7 (iblk m c 1 t)) (k0_pay8 (iblk m c 1 t)) (iblk m c 2 t) (iblk m c 3 t) (iblk m c 4 t)) (View.ld (iblk m c 5 t) r0_7) (ix3 a p d)
      = mixed (m ((c : Thread nD τ).loc main_arg0)) (V m c main_v0) (V m c main_v1) (V m c main_v2) (m ((c : Thread nD τ).loc main_arg4)) 3 (at_ t p d))
    ∧ (k0_pay4 (F := Ideal) (k0_pay6 (iblk m c 0 t) (iblk m c 2 t) (iblk m c 3 t) (iblk m c 4 t)) (ix3 a p d) = modulated (m ((c : Thread nD τ).loc main_arg0)) (V m c main_v0) (V m c main_v1) (V m c main_v2) (at_ t p d))
    ∧ (k0_pay5 (F := Ideal) (k0_pay9 (BitVec.ofNat 32 (grid0.coords t 1).val) (k0_pay6 (iblk m c 0 t) (iblk m c 2 t) (iblk m c 3 t) (iblk m c 4 t)) (k0_pay7 (iblk m c 1 t)) (k0_pay8 (iblk m c 1 t)) (iblk m c 2 t) (iblk m c 3 t) (iblk m c 4 t)) (ix3 a p d) = shift (m ((c : Thread nD τ).loc main_arg0)) (V m c main_v0) (V m c main_v1) (V m c main_v2) (at_ t p d)) := by
  refine ⟨?_, ?_, ?_, ?_, ?_, ?_⟩
  all_goals
    pointwise [k0_pay10, k0_pay1, k0_pay11, k0_pay2, k0_pay3, k0_pay4, k0_pay5, mixed, shift]
    simp only [own, diff, weight]
  all_goals rfl

/-- An index of a block from its three coordinates. -/
theorem eta (y : S1x512x2048.Idx) : ix3 (y 0) (y 1) (y 2) = y := by
  funext k
  match k with
  | 0 => rfl
  | 1 => rfl
  | 2 => rfl

/-- Two arrays of a window's shape that agree at every entry given by three coordinates agree at an entry. -/
theorem spread (t : Fin cfg0.N) (y : S1x512x2048.Idx) (f : FVec Ideal S1x512x2048 .bf16) (g : FVec Ideal S2x16384x2048 .bf16) (i : S2x16384x2048.Idx)
    (hi : i = at_ t (y 1) (y 2)) (h : ∀ a p d, f (ix3 a p d) = g (at_ t p d)) : f y = g i := by
  subst hi
  exact (congrArg f (eta y)).symm.trans (h (y 0) (y 1) (y 2))

/-- The first mix after the run. -/
theorem result6 (c : Dev nD) : (dats m 0 c).arrAt 6 (cfgs 0).N
    = mixed (m ((c : Thread nD τ).loc main_arg0)) (V m c main_v0) (V m c main_v1) (V m c main_v2) (m ((c : Thread nD τ).loc main_arg4)) 0 := by
  refine (dats m 0 c).arrAt_eq_of_covers 6 _ (by decide +kernel) fun t _ y => ?_
  blk_simp
  rw [after0_6]; unfold_out out0_6; frame_out
  exact spread t y _ _ _ (place t y).1 fun a p d => (stored m c t a p d).1

/-- The second mix after the run. -/
theorem result7 (c : Dev nD) : (dats m 0 c).arrAt 7 (cfgs 0).N
    = mixed (m ((c : Thread nD τ).loc main_arg0)) (V m c main_v0) (V m c main_v1) (V m c main_v2) (m ((c : Thread nD τ).loc main_arg4)) 1 := by
  refine (dats m 0 c).arrAt_eq_of_covers 7 _ (by decide +kernel) fun t _ y => ?_
  blk_simp
  rw [after0_7]; unfold_out out0_7; frame_out
  exact spread t y _ _ _ (place t y).2.1 fun a p d => (stored m c t a p d).2.1

/-- The third mix after the run. -/
theorem result8 (c : Dev nD) : (dats m 0 c).arrAt 8 (cfgs 0).N
    = mixed (m ((c : Thread nD τ).loc main_arg0)) (V m c main_v0) (V m c main_v1) (V m c main_v2) (m ((c : Thread nD τ).loc main_arg4)) 2 := by
  refine (dats m 0 c).arrAt_eq_of_covers 8 _ (by decide +kernel) fun t _ y => ?_
  blk_simp
  rw [after0_8]; unfold_out out0_8; frame_out
  exact spread t y _ _ _ (place t y).2.2.1 fun a p d => (stored m c t a p d).2.2.1

/-- The fourth mix after the run. -/
theorem result9 (c : Dev nD) : (dats m 0 c).arrAt 9 (cfgs 0).N
    = mixed (m ((c : Thread nD τ).loc main_arg0)) (V m c main_v0) (V m c main_v1) (V m c main_v2) (m ((c : Thread nD τ).loc main_arg4)) 3 := by
  refine (dats m 0 c).arrAt_eq_of_covers 9 _ (by decide +kernel) fun t _ y => ?_
  blk_simp
  rw [after0_9]; unfold_out out0_9; frame_out
  exact spread t y _ _ _ (place t y).2.2.2.1 fun a p d => (stored m c t a p d).2.2.2.1

/-- The modulated norm after the run. -/
theorem result10 (c : Dev nD) : (dats m 0 c).arrAt 10 (cfgs 0).N
    = modulated (m ((c : Thread nD τ).loc main_arg0)) (V m c main_v0) (V m c main_v1) (V m c main_v2) := by
  refine (dats m 0 c).arrAt_eq_of_covers 10 _ (by decide +kernel) fun t _ y => ?_
  blk_simp
  rw [after0_10]; unfold_out out0_10; frame_out
  exact spread t y _ _ _ (place t y).2.2.2.2.1 fun a p d => (stored m c t a p d).2.2.2.2.1

/-- The difference after the run. -/
theorem result11 (c : Dev nD) : (dats m 0 c).arrAt 11 (cfgs 0).N
    = shift (m ((c : Thread nD τ).loc main_arg0)) (V m c main_v0) (V m c main_v1) (V m c main_v2) := by
  refine (dats m 0 c).arrAt_eq_of_covers 11 _ (by decide +kernel) fun t _ y => ?_
  blk_simp
  rw [after0_11]; unfold_out out0_11; frame_out
  exact spread t y _ _ _ (place t y).2.2.2.2.2 fun a p d => (stored m c t a p d).2.2.2.2.2

/-- Rows moved down by one with a row of zeros above, entry by entry. -/
theorem lagged (A : FVec Ideal S2x16384x2048 .f32) (hs hp h0) (i : S2x16384x2048.Idx) :
    pad S2x16384x2048 ![0, 1, 0] ![0, 0, 0] ![0, 0, 0] (extractStridedSlice (⟨3, ![2, 16383, 2048]⟩ : Shape) ![0, 0, 0] A hs) (sitofp .f32 (constantI (⟨0, ![]⟩ : Shape) 32 0#32)) hp h0 i
    = if (i 1).val = 0 then (0 : EReal) else A (ix3 (i 0) (⟨(i 1).val - 1, by have h : (i 1).val < 16384 := (i 1).isLt; omega⟩ : Fin 16384) (i 2)) := by
  have hi : (i 1).val < 16384 := (i 1).isLt
  pointwise []
  by_cases h : (i 1).val = 0
  · rw [dif_neg (by omega), if_pos h, sitofp_zero]
  · rw [dif_pos (by omega), if_neg h]

/-- The reference's difference of the modulated norm with the row above. -/
theorem differs (A : FVec Ideal S2x16384x2048 .f32) (hs hp h0 hb) (x : FVec Ideal S2x16384x2048 .f32) (w : FVec Ideal S1x2048 .f32) (s b : FVec Ideal S2x1x2048 .f32)
    (hA : ∀ i, A i = modulated x w s b i) : truncf .bf16 (subf (pad S2x16384x2048 ![0, 1, 0] ![0, 0, 0] ![0, 0, 0] (extractStridedSlice (⟨3, ![2, 16383, 2048]⟩ : Shape) ![0, 0, 0] A hs) (sitofp .f32 (constantI (⟨0, ![]⟩ : Shape) 32 0#32)) hp h0) A) hb = shift x w s b := by
  funext i
  show (pad S2x16384x2048 ![0, 1, 0] ![0, 0, 0] ![0, 0, 0] (extractStridedSlice (⟨3, ![2, 16383, 2048]⟩ : Shape) ![0, 0, 0] A hs) (sitofp .f32 (constantI (⟨0, ![]⟩ : Shape) 32 0#32)) hp h0) i - A i = _
  rw [lagged, hA, hA]
  rfl

/-- One of the reference's four mixes. -/
theorem mixes (A R : FVec Ideal S2x16384x2048 .f32) (hs hp h0 hb) (x : FVec Ideal S2x16384x2048 .f32) (w : FVec Ideal S1x2048 .f32) (s b : FVec Ideal S2x1x2048 .f32)
    (mu : FVec Ideal S4x2048 .f32) (j : Fin 4) (hA : ∀ i, A i = modulated x w s b i) (hR : ∀ i, R i = mu (ix2 j (i 2))) :
    truncf .bf16 (addf A (mulf (subf (pad S2x16384x2048 ![0, 1, 0] ![0, 0, 0] ![0, 0, 0] (extractStridedSlice (⟨3, ![2, 16383, 2048]⟩ : Shape) ![0, 0, 0] A hs) (sitofp .f32 (constantI (⟨0, ![]⟩ : Shape) 32 0#32)) hp h0) A) R)) hb = mixed x w s b mu j := by
  funext i
  show A i + ((pad S2x16384x2048 ![0, 1, 0] ![0, 0, 0] ![0, 0, 0] (extractStridedSlice (⟨3, ![2, 16383, 2048]⟩ : Shape) ![0, 0, 0] A hs) (sitofp .f32 (constantI (⟨0, ![]⟩ : Shape) 32 0#32)) hp h0) i - A i) * R i = _
  rw [lagged, hA, hA, hR]
  rfl

set_option maxHeartbeats 2000000 in
/-- The kernel and the reference end with the same six results. -/
theorem claim : Cert.algebraic_MxIdeal_RefMxIdeal := by
  pair_intro
  · run_from Cert.MxIdeal.Value.run_blocks m g
  · run_from Cert.RefMxIdeal.Value.run m' g'
    all_goals
      obtain ⟨e0, e1, e2, e3, e4⟩ := hagree c
      have h1 : V m c main_v0 = shapeCast _ (m ((c : Thread nD τ).loc main_arg1)) shapeCasts_S2048_S1x2048 := by entry_read; rfl
      have h2 : V m c main_v1 = shapeCast _ (m ((c : Thread nD τ).loc main_arg2)) shapeCasts_S2x2048_S2x1x2048 := by entry_read; rfl
      have h3 : V m c main_v2 = shapeCast _ (m ((c : Thread nD τ).loc main_arg3)) shapeCasts_S2x2048_S2x1x2048 := by entry_read; rfl
      simp only [result6, result7, result8, result9, result10, result11, h1, h2, h3]
    · unfold Cert.RefMxIdeal.Value.res_main_v48
      rw [e0, e1, e2, e3, e4]
      refine mixes _ _ _ _ _ _ _ _ _ _ _ 0 (fun i => ?_) fun i => ?_
      · pointwise [modulated]
      · pointwise []
    · unfold Cert.RefMxIdeal.Value.res_main_v49
      rw [e0, e1, e2, e3, e4]
      refine mixes _ _ _ _ _ _ _ _ _ _ _ 1 (fun i => ?_) fun i => ?_
      · pointwise [modulated]
      · pointwise []
    · unfold Cert.RefMxIdeal.Value.res_main_v50
      rw [e0, e1, e2, e3, e4]
      refine mixes _ _ _ _ _ _ _ _ _ _ _ 2 (fun i => ?_) fun i => ?_
      · pointwise [modulated]
      · pointwise []
    · unfold Cert.RefMxIdeal.Value.res_main_v51
      rw [e0, e1, e2, e3, e4]
      refine mixes _ _ _ _ _ _ _ _ _ _ _ 3 (fun i => ?_) fun i => ?_
      · pointwise [modulated]
      · pointwise []
    · funext i
      pointwise [modulated]
    · refine differs _ _ _ _ _ _ _ _ _ fun i => ?_
      pointwise [modulated]

end Cert.MxIdeal.Value

end
-- ==== Proof.ValueLo.lean ====
module

public import proofs.«01_k».proof.Defs
public import proofs.«01_k».proof.Proof.Gen.LoIdeal.Value
public import proofs.«01_k».proof.Proof.Gen.RefLoIdeal.Run
public import proofs.«01_k».proof.Proof.Dense

@[expose] public section

set_option maxRecDepth 16384

noncomputable section

namespace Cert.LoIdeal.Value

open Cert.Dense Cert.LoIdeal Cert.LoIdeal.Gen Idealize.ShloMosaic Idealize.ShloMosaic.TcCoe Idealize.SL.Sem
open Idealize.ShloMosaic.Pipeline (Dat)

variable (m : (ℓ : Loc nD τ sig) → Buf (Elt Ideal) ℓ)

/-- The blocks of the three windows at a grid point. -/
theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The payload is the product of its blocks. -/
theorem pay (A : Vec Ideal S1024x128 .bf16) (B : Vec Ideal S128x1024 .bf16) (y : S1024x1024.Idx) : k0_pay1 (F := Ideal) A B y = mm A B y := by
  pointwise [k0_pay1]
  rfl

/-- What a point stores is the product at the place its block has in the result. -/
theorem point (c : Dev nD) (t : Fin cfg0.N) (y) : k0_pay1 (F := Ideal) (iblk m c 0 t) (iblk m c 1 t) y
    = mm (n := 32768) (k := 128) (p := 2048) (V m c main_v0) (V m c main_v2) (((cfg0.win 2).blk t).view.emb y) := by
  refine (pay _ _ y).trans (mm_congr _ _ (fun l => ?_) fun l => ?_)
  · blk_ext [iblk, idx t]
  · blk_ext [iblk, idx t]

/-- The result after the run is the product of the padded factors. -/
theorem result (c : Dev nD) : (dats m 0 c).arrAt 2 (cfgs 0).N = mm (n := 32768) (k := 128) (p := 2048) (V m c main_v0) (V m c main_v2) := by
  refine (dats m 0 c).arrAt_eq_of_covers 2 _ (by decide +kernel) fun t _ y => ?_
  blk_simp
  rw [after0_2]; frame_out
  exact point m c t y

/-- The first factor at the launch: the argument with columns of zeros after it. -/
theorem fstV (c : Dev nD) : V m c main_v0 = (pad S32768x128 ![0, 0] ![0, 32] ![0, 0] (m ((c : Thread nD τ).loc main_arg0) : FVec Ideal S32768x96 .bf16) (sitofp (F := Ideal) .bf16 (constantI S_ 32 0#32)) pads_S32768x96_S32768x128_000_0320 h_S_ : FVec Ideal S32768x128 .bf16) := by
  entry_read; rfl

/-- The second factor at the launch: the weights with rows of zeros after them. -/
theorem sndV (c : Dev nD) : V m c main_v2 = (truncf (F := Ideal) (φ := .f32) .bf16 (pad S128x2048 ![0, 0] ![32, 0] ![0, 0] (m ((c : Thread nD τ).loc main_arg1) : FVec Ideal S96x2048 .f32) (sitofp (F := Ideal) .f32 (constantI S_ 32 0#32)) pads_S96x2048_S128x2048_0320_000 h_S_) bitsLt_bf16_f32 : FVec Ideal S128x2048 .bf16) := by
  entry_read; rfl

/-- The first padded factor, entry by entry. -/
theorem fst (A : FVec Ideal S32768x96 .bf16) (i : Fin 32768) (l : Fin 128) :
    pad S32768x128 ![0, 0] ![0, 32] ![0, 0] A (sitofp (F := Ideal) .bf16 (constantI S_ 32 0#32)) pads_S32768x96_S32768x128_000_0320 h_S_ (ix2 i l)
      = if h : l.val < 96 then A (ix2 i (⟨l.val, h⟩ : Fin 96)) else (0 : EReal) := by
  pointwise []
  rw [sitofp_zero]

/-- The second padded factor, entry by entry. -/
theorem snd (B : FVec Ideal S96x2048 .f32) (l : Fin 128) (j : Fin 2048) :
    truncf (F := Ideal) (φ := .f32) .bf16 (pad S128x2048 ![0, 0] ![32, 0] ![0, 0] B (sitofp (F := Ideal) .f32 (constantI S_ 32 0#32)) pads_S96x2048_S128x2048_0320_000 h_S_) bitsLt_bf16_f32 (ix2 l j)
      = if h : l.val < 96 then B (ix2 (⟨l.val, h⟩ : Fin 96) j) else (0 : EReal) := by
  pointwise []
  rw [sitofp_zero]

/-- The kernel and the reference end with the same product. -/
theorem claim : Cert.algebraic_LoIdeal_RefLoIdeal := by
  pair_intro
  · run_from Cert.LoIdeal.Value.run_blocks m g
  · run_from Cert.RefLoIdeal.Value.run m' g'
    rw [result, fstV, sndV]
    funext i
    refine Eq.trans ?_ (mm_pad (k := 96) (q := 32) i (fun l => fst _ (i 0) l) (fun l => snd _ l (i 1))).symm
    pointwise [mm]

end Cert.LoIdeal.Value

end
-- ==== Proof.ValueLp.lean ====
module

public import proofs.«01_k».proof.Defs
public import proofs.«01_k».proof.Proof.Gen.LpIdeal.Value
public import proofs.«01_k».proof.Proof.Gen.RefLpIdeal.Run
public import proofs.«01_k».proof.Proof.Dense

@[expose] public section

set_option maxRecDepth 16384

noncomputable section

namespace Cert.LpIdeal.Value

open Cert.Dense Cert.LpIdeal Cert.LpIdeal.Gen Idealize.ShloMosaic Idealize.ShloMosaic.TcCoe Idealize.SL.Sem
open Idealize.ShloMosaic.Pipeline (Dat)

variable (m : (ℓ : Loc nD τ sig) → Buf (Elt Ideal) ℓ)

/-- The blocks of the three windows at a grid point. -/
theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The payload is the product of its blocks. -/
theorem pay (A : Vec Ideal S1024x128 .bf16) (B : Vec Ideal S128x1024 .bf16) (y : S1024x1024.Idx) : k0_pay1 (F := Ideal) A B y = mm A B y := by
  pointwise [k0_pay1]
  rfl

/-- What a point stores is the product at the place its block has in the result. -/
theorem point (c : Dev nD) (t : Fin cfg0.N) (y) : k0_pay1 (F := Ideal) (iblk m c 0 t) (iblk m c 1 t) y
    = mm (n := 32768) (k := 128) (p := 2048) (V m c main_v0) (V m c main_v2) (((cfg0.win 2).blk t).view.emb y) := by
  refine (pay _ _ y).trans (mm_congr _ _ (fun l => ?_) fun l => ?_)
  · blk_ext [iblk, idx t]
  · blk_ext [iblk, idx t]

/-- The result after the run is the product of the padded factors. -/
theorem result (c : Dev nD) : (dats m 0 c).arrAt 2 (cfgs 0).N = mm (n := 32768) (k := 128) (p := 2048) (V m c main_v0) (V m c main_v2) := by
  refine (dats m 0 c).arrAt_eq_of_covers 2 _ (by decide +kernel) fun t _ y => ?_
  blk_simp
  rw [after0_2]; frame_out
  exact point m c t y

/-- The first factor at the launch: the argument with columns of zeros after it. -/
theorem fstV (c : Dev nD) : V m c main_v0 = (pad S32768x128 ![0, 0] ![0, 64] ![0, 0] (m ((c : Thread nD τ).loc main_arg0) : FVec Ideal S32768x64 .bf16) (sitofp (F := Ideal) .bf16 (constantI S_ 32 0#32)) pads_S32768x64_S32768x128_000_0640 h_S_ : FVec Ideal S32768x128 .bf16) := by
  entry_read; rfl

/-- The second factor at the launch: the weights with rows of zeros after them. -/
theorem sndV (c : Dev nD) : V m c main_v2 = (truncf (F := Ideal) (φ := .f32) .bf16 (pad S128x2048 ![0, 0] ![64, 0] ![0, 0] (m ((c : Thread nD τ).loc main_arg1) : FVec Ideal S64x2048 .f32) (sitofp (F := Ideal) .f32 (constantI S_ 32 0#32)) pads_S64x2048_S128x2048_0640_000 h_S_) bitsLt_bf16_f32 : FVec Ideal S128x2048 .bf16) := by
  entry_read; rfl

/-- The first padded factor, entry by entry. -/
theorem fst (A : FVec Ideal S32768x64 .bf16) (i : Fin 32768) (l : Fin 128) :
    pad S32768x128 ![0, 0] ![0, 64] ![0, 0] A (sitofp (F := Ideal) .bf16 (constantI S_ 32 0#32)) pads_S32768x64_S32768x128_000_0640 h_S_ (ix2 i l)
      = if h : l.val < 64 then A (ix2 i (⟨l.val, h⟩ : Fin 64)) else (0 : EReal) := by
  pointwise []
  rw [sitofp_zero]

/-- The second padded factor, entry by entry. -/
theorem snd (B : FVec Ideal S64x2048 .f32) (l : Fin 128) (j : Fin 2048) :
    truncf (F := Ideal) (φ := .f32) .bf16 (pad S128x2048 ![0, 0] ![64, 0] ![0, 0] B (sitofp (F := Ideal) .f32 (constantI S_ 32 0#32)) pads_S64x2048_S128x2048_0640_000 h_S_) bitsLt_bf16_f32 (ix2 l j)
      = if h : l.val < 64 then B (ix2 (⟨l.val, h⟩ : Fin 64) j) else (0 : EReal) := by
  pointwise []
  rw [sitofp_zero]

/-- The kernel and the reference end with the same product. -/
theorem claim : Cert.algebraic_LpIdeal_RefLpIdeal := by
  pair_intro
  · run_from Cert.LpIdeal.Value.run_blocks m g
  · run_from Cert.RefLpIdeal.Value.run m' g'
    rw [result, fstV, sndV]
    funext i
    refine Eq.trans ?_ (mm_pad (k := 64) (q := 64) i (fun l => fst _ (i 0) l) (fun l => snd _ l (i 1))).symm
    pointwise [mm]

end Cert.LpIdeal.Value

end
-- ==== Proof.Reads.lean ====
module

public import proofs.«01_k».proof.Proof.Gen.KernelIdeal.Frame
public import proofs.«01_k».proof.Proof.Gen.KernelIdeal.Loops
public import Idealize.ShloMosaic.Lib.Pointwise
public import Idealize.ShloMosaic.Lib.WritesUnit

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

section Reads

/-- A load of a box reads each element at the box's offsets plus its position. -/
theorem readAt_at {s : Shape} {e : EltTy} (v : View sig .tc .vmem s e) (f : v.ty.Contents (Elt Ideal)) {off off' size : Fin s.rank → ℕ}
    (inb : ∀ a, off a + size a ≤ s.size a) (x : (Rect.unit off size inb).shape.Idx) (y : s.Idx) (heq : off = off')
    (hx : ∀ a, (y a).val = off' a + (x a).val) :
    v.readAt (Elt Ideal) (Rect.unit off size inb).toLoadRect f x = v.read (Elt Ideal) f y := by
  subst heq
  show v.read (Elt Ideal) f ((Rect.unit off size inb).emb x) = _
  congr 1
  funext a
  apply Fin.ext
  show off a + 1 * (x a).val = (y a).val
  rw [hx a, Nat.one_mul]

/-- The running maxima after a store of one head's row. -/
theorem w13 (v : View sig .tc .vmem S2x1x1024 .f32) (f : v.ty.Contents (Elt Ideal)) (p : ℕ) (inb : ∀ a, (![p, 0, 0] : Fin 3 → ℕ) a + S1x1x1024.size a ≤ S2x1x1024.size a)
    (w : Vec Ideal S1x1x1024 .f32) (L : List (View.Piece (Elt Ideal) S2x1x1024 .f32)) (h : Fin 2) (b : Fin 1) (r : Fin 1024) :
    v.read (Elt Ideal) (v.writes (Elt Ideal) f ((⟨Rect.unit (s := S2x1x1024) ![p, 0, 0] S1x1x1024.size inb, w⟩ : View.Piece (Elt Ideal) S2x1x1024 .f32) :: L)) (ix3 h b r)
      = if h.val = p then w (ix3 0 0 r) else v.read (Elt Ideal) (v.writes (Elt Ideal) f L) (ix3 h b r) := by
  by_cases hp : h.val = p
  · rw [if_pos hp]
    exact View.read_writes_cons_unit_of_mem v f inb w L (ix3 h b r) (ix3 0 0 r) rfl (by
      intro a; fin_cases a
      · show h.val = p + 0; omega
      · show b.val = 0 + 0; omega
      · show r.val = 0 + r.val; omega)
  · rw [if_neg hp]
    exact View.read_writes_cons_unit_of_not_mem v f inb w L (ix3 h b r) rfl (0 : Fin 3) (by
      show h.val < p ∨ p + 1 ≤ h.val; omega)

/-- The weighted sums after a store of one head's block. -/
theorem w14 (v : View sig .tc .vmem S2x80x1024 .f32) (f : v.ty.Contents (Elt Ideal)) (p : ℕ) (inb : ∀ a, (![p, 0, 0] : Fin 3 → ℕ) a + S1x80x1024.size a ≤ S2x80x1024.size a)
    (w : Vec Ideal S1x80x1024 .f32) (L : List (View.Piece (Elt Ideal) S2x80x1024 .f32)) (h : Fin 2) (d : Fin 80) (r : Fin 1024) :
    v.read (Elt Ideal) (v.writes (Elt Ideal) f ((⟨Rect.unit (s := S2x80x1024) ![p, 0, 0] S1x80x1024.size inb, w⟩ : View.Piece (Elt Ideal) S2x80x1024 .f32) :: L)) (ix3 h d r)
      = if h.val = p then w (ix3 0 d r) else v.read (Elt Ideal) (v.writes (Elt Ideal) f L) (ix3 h d r) := by
  by_cases hp : h.val = p
  · rw [if_pos hp]
    exact View.read_writes_cons_unit_of_mem v f inb w L (ix3 h d r) (ix3 0 d r) rfl (by
      intro a; fin_cases a
      · show h.val = p + 0; omega
      · show d.val = 0 + d.val; omega
      · show r.val = 0 + r.val; omega)
  · rw [if_neg hp]
    exact View.read_writes_cons_unit_of_not_mem v f inb w L (ix3 h d r) rfl (0 : Fin 3) (by
      show h.val < p ∨ p + 1 ≤ h.val; omega)

/-- The scores after a store of one slot's block of one head. -/
theorem w15 (v : View sig .tc .vmem S2x2x512x1024 .f32) (f : v.ty.Contents (Elt Ideal)) (p q : ℕ) (inb : ∀ a, (![p, q, 0, 0] : Fin 4 → ℕ) a + S1x1x512x1024.size a ≤ S2x2x512x1024.size a)
    (w : Vec Ideal S1x1x512x1024 .f32) (L : List (View.Piece (Elt Ideal) S2x2x512x1024 .f32)) (g h : Fin 2) (j : Fin 512) (r : Fin 1024) :
    v.read (Elt Ideal) (v.writes (Elt Ideal) f ((⟨Rect.unit (s := S2x2x512x1024) ![p, q, 0, 0] S1x1x512x1024.size inb, w⟩ : View.Piece (Elt Ideal) S2x2x512x1024 .f32) :: L)) (ix4 g h j r)
      = if g.val = p ∧ h.val = q then w (ix4 0 0 j r) else v.read (Elt Ideal) (v.writes (Elt Ideal) f L) (ix4 g h j r) := by
  by_cases hp : g.val = p ∧ h.val = q
  · rw [if_pos hp]
    exact View.read_writes_cons_unit_of_mem v f inb w L (ix4 g h j r) (ix4 0 0 j r) rfl (by
      intro a; fin_cases a
      · show g.val = p + 0; omega
      · show h.val = q + 0; omega
      · show j.val = 0 + j.val; omega
      · show r.val = 0 + r.val; omega)
  · rw [if_neg hp]
    by_cases h0 : g.val = p
    · exact View.read_writes_cons_unit_of_not_mem v f inb w L (ix4 g h j r) rfl (1 : Fin 4) (by
        show h.val < q ∨ q + 1 ≤ h.val; omega)
    · exact View.read_writes_cons_unit_of_not_mem v f inb w L (ix4 g h j r) rfl (0 : Fin 4) (by
        show g.val < p ∨ p + 1 ≤ g.val; omega)

/-- A load of head 0's running maxima. -/
theorem r13_0 (v : View sig .tc .vmem S2x1x1024 .f32) (f : v.ty.Contents (Elt Ideal)) (inb : ∀ a, (![0, 0, 0] : Fin _ → ℕ) a + S1x1x1024.size a ≤ S2x1x1024.size a) :
    v.readAt (Elt Ideal) (Rect.unit (s := S2x1x1024) ![0, 0, 0] S1x1x1024.size inb).toLoadRect f = fun x : S1x1x1024.Idx => v.read (Elt Ideal) f (ix3 0 0 (x 2 : Fin 1024)) :=
  funext fun x => readAt_at v f inb x (ix3 0 0 (x 2 : Fin 1024)) rfl (by
    intro a; fin_cases a
    · have hx : (x 0 : Fin 1).val < 1 := (x 0).isLt; show 0 = 0 + (x 0 : Fin 1).val; omega
    · have hx : (x 1 : Fin 1).val < 1 := (x 1).isLt; show 0 = 0 + (x 1 : Fin 1).val; omega
    · show (x 2 : Fin 1024).val = 0 + (x 2 : Fin 1024).val; omega)

/-- A load of head 0's weighted sums. -/
theorem r14_0 (v : View sig .tc .vmem S2x80x1024 .f32) (f : v.ty.Contents (Elt Ideal)) (inb : ∀ a, (![0, 0, 0] : Fin _ → ℕ) a + S1x80x1024.size a ≤ S2x80x1024.size a) :
    v.readAt (Elt Ideal) (Rect.unit (s := S2x80x1024) ![0, 0, 0] S1x80x1024.size inb).toLoadRect f = fun x : S1x80x1024.Idx => v.read (Elt Ideal) f (ix3 0 (x 1 : Fin 80) (x 2 : Fin 1024)) :=
  funext fun x => readAt_at v f inb x (ix3 0 (x 1 : Fin 80) (x 2 : Fin 1024)) rfl (by
    intro a; fin_cases a
    · have hx : (x 0 : Fin 1).val < 1 := (x 0).isLt; show 0 = 0 + (x 0 : Fin 1).val; omega
    · show (x 1 : Fin 80).val = 0 + (x 1 : Fin 80).val; omega
    · show (x 2 : Fin 1024).val = 0 + (x 2 : Fin 1024).val; omega)

/-- A load of slot 0's scores of head 0. -/
theorem r15_00 (v : View sig .tc .vmem S2x2x512x1024 .f32) (f : v.ty.Contents (Elt Ideal)) (inb : ∀ a, (![0, 0, 0, 0] : Fin _ → ℕ) a + S1x1x512x1024.size a ≤ S2x2x512x1024.size a) :
    v.readAt (Elt Ideal) (Rect.unit (s := S2x2x512x1024) ![0, 0, 0, 0] S1x1x512x1024.size inb).toLoadRect f = fun x : S1x1x512x1024.Idx => v.read (Elt Ideal) f (ix4 0 0 (x 2 : Fin 512) (x 3 : Fin 1024)) :=
  funext fun x => readAt_at v f inb x (ix4 0 0 (x 2 : Fin 512) (x 3 : Fin 1024)) rfl (by
    intro a; fin_cases a
    · have hx : (x 0 : Fin 1).val < 1 := (x 0).isLt; show 0 = 0 + (x 0 : Fin 1).val; omega
    · have hx : (x 1 : Fin 1).val < 1 := (x 1).isLt; show 0 = 0 + (x 1 : Fin 1).val; omega
    · show (x 2 : Fin 512).val = 0 + (x 2 : Fin 512).val; omega
    · show (x 3 : Fin 1024).val = 0 + (x 3 : Fin 1024).val; omega)

/-- A load of slot 1's scores of head 0. -/
theorem r15_10 (v : View sig .tc .vmem S2x2x512x1024 .f32) (f : v.ty.Contents (Elt Ideal)) (inb : ∀ a, (![1, 0, 0, 0] : Fin _ → ℕ) a + S1x1x512x1024.size a ≤ S2x2x512x1024.size a) :
    v.readAt (Elt Ideal) (Rect.unit (s := S2x2x512x1024) ![1, 0, 0, 0] S1x1x512x1024.size inb).toLoadRect f = fun x : S1x1x512x1024.Idx => v.read (Elt Ideal) f (ix4 1 0 (x 2 : Fin 512) (x 3 : Fin 1024)) :=
  funext fun x => readAt_at v f inb x (ix4 1 0 (x 2 : Fin 512) (x 3 : Fin 1024)) rfl (by
    intro a; fin_cases a
    · have hx : (x 0 : Fin 1).val < 1 := (x 0).isLt; show 1 = 1 + (x 0 : Fin 1).val; omega
    · have hx : (x 1 : Fin 1).val < 1 := (x 1).isLt; show 0 = 0 + (x 1 : Fin 1).val; omega
    · show (x 2 : Fin 512).val = 0 + (x 2 : Fin 512).val; omega
    · show (x 3 : Fin 1024).val = 0 + (x 3 : Fin 1024).val; omega)

/-- A load of head 1's running maxima. -/
theorem r13_1 (v : View sig .tc .vmem S2x1x1024 .f32) (f : v.ty.Contents (Elt Ideal)) (inb : ∀ a, (![1, 0, 0] : Fin _ → ℕ) a + S1x1x1024.size a ≤ S2x1x1024.size a) :
    v.readAt (Elt Ideal) (Rect.unit (s := S2x1x1024) ![1, 0, 0] S1x1x1024.size inb).toLoadRect f = fun x : S1x1x1024.Idx => v.read (Elt Ideal) f (ix3 1 0 (x 2 : Fin 1024)) :=
  funext fun x => readAt_at v f inb x (ix3 1 0 (x 2 : Fin 1024)) rfl (by
    intro a; fin_cases a
    · have hx : (x 0 : Fin 1).val < 1 := (x 0).isLt; show 1 = 1 + (x 0 : Fin 1).val; omega
    · have hx : (x 1 : Fin 1).val < 1 := (x 1).isLt; show 0 = 0 + (x 1 : Fin 1).val; omega
    · show (x 2 : Fin 1024).val = 0 + (x 2 : Fin 1024).val; omega)

/-- A load of head 1's weighted sums. -/
theorem r14_1 (v : View sig .tc .vmem S2x80x1024 .f32) (f : v.ty.Contents (Elt Ideal)) (inb : ∀ a, (![1, 0, 0] : Fin _ → ℕ) a + S1x80x1024.size a ≤ S2x80x1024.size a) :
    v.readAt (Elt Ideal) (Rect.unit (s := S2x80x1024) ![1, 0, 0] S1x80x1024.size inb).toLoadRect f = fun x : S1x80x1024.Idx => v.read (Elt Ideal) f (ix3 1 (x 1 : Fin 80) (x 2 : Fin 1024)) :=
  funext fun x => readAt_at v f inb x (ix3 1 (x 1 : Fin 80) (x 2 : Fin 1024)) rfl (by
    intro a; fin_cases a
    · have hx : (x 0 : Fin 1).val < 1 := (x 0).isLt; show 1 = 1 + (x 0 : Fin 1).val; omega
    · show (x 1 : Fin 80).val = 0 + (x 1 : Fin 80).val; omega
    · show (x 2 : Fin 1024).val = 0 + (x 2 : Fin 1024).val; omega)

/-- A load of slot 0's scores of head 1. -/
theorem r15_01 (v : View sig .tc .vmem S2x2x512x1024 .f32) (f : v.ty.Contents (Elt Ideal)) (inb : ∀ a, (![0, 1, 0, 0] : Fin _ → ℕ) a + S1x1x512x1024.size a ≤ S2x2x512x1024.size a) :
    v.readAt (Elt Ideal) (Rect.unit (s := S2x2x512x1024) ![0, 1, 0, 0] S1x1x512x1024.size inb).toLoadRect f = fun x : S1x1x512x1024.Idx => v.read (Elt Ideal) f (ix4 0 1 (x 2 : Fin 512) (x 3 : Fin 1024)) :=
  funext fun x => readAt_at v f inb x (ix4 0 1 (x 2 : Fin 512) (x 3 : Fin 1024)) rfl (by
    intro a; fin_cases a
    · have hx : (x 0 : Fin 1).val < 1 := (x 0).isLt; show 0 = 0 + (x 0 : Fin 1).val; omega
    · have hx : (x 1 : Fin 1).val < 1 := (x 1).isLt; show 1 = 1 + (x 1 : Fin 1).val; omega
    · show (x 2 : Fin 512).val = 0 + (x 2 : Fin 512).val; omega
    · show (x 3 : Fin 1024).val = 0 + (x 3 : Fin 1024).val; omega)

/-- A load of slot 1's scores of head 1. -/
theorem r15_11 (v : View sig .tc .vmem S2x2x512x1024 .f32) (f : v.ty.Contents (Elt Ideal)) (inb : ∀ a, (![1, 1, 0, 0] : Fin _ → ℕ) a + S1x1x512x1024.size a ≤ S2x2x512x1024.size a) :
    v.readAt (Elt Ideal) (Rect.unit (s := S2x2x512x1024) ![1, 1, 0, 0] S1x1x512x1024.size inb).toLoadRect f = fun x : S1x1x512x1024.Idx => v.read (Elt Ideal) f (ix4 1 1 (x 2 : Fin 512) (x 3 : Fin 1024)) :=
  funext fun x => readAt_at v f inb x (ix4 1 1 (x 2 : Fin 512) (x 3 : Fin 1024)) rfl (by
    intro a; fin_cases a
    · have hx : (x 0 : Fin 1).val < 1 := (x 0).isLt; show 1 = 1 + (x 0 : Fin 1).val; omega
    · have hx : (x 1 : Fin 1).val < 1 := (x 1).isLt; show 1 = 1 + (x 1 : Fin 1).val; omega
    · show (x 2 : Fin 512).val = 0 + (x 2 : Fin 512).val; omega
    · show (x 3 : Fin 1024).val = 0 + (x 3 : Fin 1024).val; omega)

/-- The normalised keys by key number. -/
def kn (v : View sig .tc .vmem S16384x128 .bf16) (f : v.ty.Contents (Elt Ideal)) (j : ℕ) (l : Fin 128) : EReal :=
  v.read (Elt Ideal) f (ix2 (Fin.ofNat 16384 j) l)

/-- The values, a head's lane by key number. -/
def va (v : View sig .tc .vmem S2x128x16384 .bf16) (f : v.ty.Contents (Elt Ideal)) (h : Fin 2) (d : Fin 128) (j : ℕ) : EReal :=
  v.read (Elt Ideal) f (ix3 h d (Fin.ofNat 16384 j))

/-- The cumulative decays of a head by key number. -/
def cm (v : View sig .tc .vmem S1x2x1x16384 .f32) (f : v.ty.Contents (Elt Ideal)) (h : Fin 2) (j : ℕ) : EReal :=
  v.read (Elt Ideal) f (ix4 0 h 0 (Fin.ofNat 16384 j))

/-- A load of 512 rows of normalised keys. -/
theorem r11 (v : View sig .tc .vmem S16384x128 .bf16) (f : v.ty.Contents (Elt Ideal)) {off : Fin 2 → ℕ} {o : ℕ} (heq : off = ![o, 0])
    (inb : ∀ a, off a + S512x128.size a ≤ S16384x128.size a) :
    v.readAt (Elt Ideal) (Rect.unit (s := S16384x128) off S512x128.size inb).toLoadRect f
      = fun x : S512x128.Idx => kn v f (o + (x 0 : Fin 512).val) (x 1 : Fin 128) := by
  have hb : o + 512 ≤ 16384 := by have := inb 0; rw [heq] at this; exact this
  exact funext fun x => readAt_at v f inb x (ix2 (Fin.ofNat 16384 (o + (x 0 : Fin 512).val)) (x 1 : Fin 128)) heq (by
    have h0 : (x 0 : Fin 512).val < 512 := (x 0 : Fin 512).isLt
    intro a; fin_cases a
    · show (o + (x 0 : Fin 512).val) % 16384 = o + (x 0 : Fin 512).val; omega
    · show (x 1 : Fin 128).val = 0 + (x 1 : Fin 128).val; omega)

/-- A load of 512 keys' columns of the values of head 0. -/
theorem r12_0 (v : View sig .tc .vmem S2x128x16384 .bf16) (f : v.ty.Contents (Elt Ideal)) {off : Fin 3 → ℕ} {o : ℕ} (heq : off = ![0, 0, o])
    (inb : ∀ a, off a + S1x80x512.size a ≤ S2x128x16384.size a) :
    v.readAt (Elt Ideal) (Rect.unit (s := S2x128x16384) off S1x80x512.size inb).toLoadRect f
      = fun x : S1x80x512.Idx => va v f 0 (Fin.ofNat 128 ((x 1 : Fin 80).val + 0)) (o + (x 2 : Fin 512).val) := by
  have hb : o + 512 ≤ 16384 := by have := inb 2; rw [heq] at this; exact this
  exact funext fun x => readAt_at v f inb x (ix3 0 (Fin.ofNat 128 ((x 1 : Fin 80).val + 0)) (Fin.ofNat 16384 (o + (x 2 : Fin 512).val))) heq (by
    have h1 : (x 1 : Fin 80).val < 80 := (x 1 : Fin 80).isLt
    have h2 : (x 2 : Fin 512).val < 512 := (x 2 : Fin 512).isLt
    intro a; fin_cases a
    · have hx : (x 0 : Fin 1).val < 1 := (x 0).isLt; show 0 = 0 + (x 0 : Fin 1).val; omega
    · show ((x 1 : Fin 80).val + 0) % 128 = 0 + (x 1 : Fin 80).val; omega
    · show (o + (x 2 : Fin 512).val) % 16384 = o + (x 2 : Fin 512).val; omega)

/-- A load of 512 keys' cumulative decays of head 0. -/
theorem r6_0 (v : View sig .tc .vmem S1x2x1x16384 .f32) (f : v.ty.Contents (Elt Ideal)) {off : Fin 4 → ℕ} {o : ℕ} (heq : off = ![0, 0, 0, o])
    (inb : ∀ a, off a + S1x1x1x512.size a ≤ S1x2x1x16384.size a) :
    v.readAt (Elt Ideal) (Rect.unit (s := S1x2x1x16384) off S1x1x1x512.size inb).toLoadRect f
      = fun x : S1x1x1x512.Idx => cm v f 0 (o + (x 3 : Fin 512).val) := by
  have hb : o + 512 ≤ 16384 := by have := inb 3; rw [heq] at this; exact this
  exact funext fun x => readAt_at v f inb x (ix4 0 0 0 (Fin.ofNat 16384 (o + (x 3 : Fin 512).val))) heq (by
    have h3 : (x 3 : Fin 512).val < 512 := (x 3 : Fin 512).isLt
    intro a; fin_cases a
    · have hx : (x 0 : Fin 1).val < 1 := (x 0).isLt; show 0 = 0 + (x 0 : Fin 1).val; omega
    · have hx : (x 1 : Fin 1).val < 1 := (x 1).isLt; show 0 = 0 + (x 1 : Fin 1).val; omega
    · have hx : (x 2 : Fin 1).val < 1 := (x 2).isLt; show 0 = 0 + (x 2 : Fin 1).val; omega
    · show (o + (x 3 : Fin 512).val) % 16384 = o + (x 3 : Fin 512).val; omega)

/-- A load of 128 keys' cumulative decays of head 0. -/
theorem r6q_0 (v : View sig .tc .vmem S1x2x1x16384 .f32) (f : v.ty.Contents (Elt Ideal)) {off : Fin 4 → ℕ} {o : ℕ} (heq : off = ![0, 0, 0, o])
    (inb : ∀ a, off a + S1x1x1x128.size a ≤ S1x2x1x16384.size a) :
    v.readAt (Elt Ideal) (Rect.unit (s := S1x2x1x16384) off S1x1x1x128.size inb).toLoadRect f
      = fun x : S1x1x1x128.Idx => cm v f 0 (o + (x 3 : Fin 128).val) := by
  have hb : o + 128 ≤ 16384 := by have := inb 3; rw [heq] at this; exact this
  exact funext fun x => readAt_at v f inb x (ix4 0 0 0 (Fin.ofNat 16384 (o + (x 3 : Fin 128).val))) heq (by
    have h3 : (x 3 : Fin 128).val < 128 := (x 3 : Fin 128).isLt
    intro a; fin_cases a
    · have hx : (x 0 : Fin 1).val < 1 := (x 0).isLt; show 0 = 0 + (x 0 : Fin 1).val; omega
    · have hx : (x 1 : Fin 1).val < 1 := (x 1).isLt; show 0 = 0 + (x 1 : Fin 1).val; omega
    · have hx : (x 2 : Fin 1).val < 1 := (x 2).isLt; show 0 = 0 + (x 2 : Fin 1).val; omega
    · show (o + (x 3 : Fin 128).val) % 16384 = o + (x 3 : Fin 128).val; omega)

/-- A load of 512 keys' columns of the values of head 1. -/
theorem r12_1 (v : View sig .tc .vmem S2x128x16384 .bf16) (f : v.ty.Contents (Elt Ideal)) {off : Fin 3 → ℕ} {o : ℕ} (heq : off = ![1, 48, o])
    (inb : ∀ a, off a + S1x80x512.size a ≤ S2x128x16384.size a) :
    v.readAt (Elt Ideal) (Rect.unit (s := S2x128x16384) off S1x80x512.size inb).toLoadRect f
      = fun x : S1x80x512.Idx => va v f 1 (Fin.ofNat 128 ((x 1 : Fin 80).val + 48)) (o + (x 2 : Fin 512).val) := by
  have hb : o + 512 ≤ 16384 := by have := inb 2; rw [heq] at this; exact this
  exact funext fun x => readAt_at v f inb x (ix3 1 (Fin.ofNat 128 ((x 1 : Fin 80).val + 48)) (Fin.ofNat 16384 (o + (x 2 : Fin 512).val))) heq (by
    have h1 : (x 1 : Fin 80).val < 80 := (x 1 : Fin 80).isLt
    have h2 : (x 2 : Fin 512).val < 512 := (x 2 : Fin 512).isLt
    intro a; fin_cases a
    · have hx : (x 0 : Fin 1).val < 1 := (x 0).isLt; show 1 = 1 + (x 0 : Fin 1).val; omega
    · show ((x 1 : Fin 80).val + 48) % 128 = 48 + (x 1 : Fin 80).val; omega
    · show (o + (x 2 : Fin 512).val) % 16384 = o + (x 2 : Fin 512).val; omega)

/-- A load of 512 keys' cumulative decays of head 1. -/
theorem r6_1 (v : View sig .tc .vmem S1x2x1x16384 .f32) (f : v.ty.Contents (Elt Ideal)) {off : Fin 4 → ℕ} {o : ℕ} (heq : off = ![0, 1, 0, o])
    (inb : ∀ a, off a + S1x1x1x512.size a ≤ S1x2x1x16384.size a) :
    v.readAt (Elt Ideal) (Rect.unit (s := S1x2x1x16384) off S1x1x1x512.size inb).toLoadRect f
      = fun x : S1x1x1x512.Idx => cm v f 1 (o + (x 3 : Fin 512).val) := by
  have hb : o + 512 ≤ 16384 := by have := inb 3; rw [heq] at this; exact this
  exact funext fun x => readAt_at v f inb x (ix4 0 1 0 (Fin.ofNat 16384 (o + (x 3 : Fin 512).val))) heq (by
    have h3 : (x 3 : Fin 512).val < 512 := (x 3 : Fin 512).isLt
    intro a; fin_cases a
    · have hx : (x 0 : Fin 1).val < 1 := (x 0).isLt; show 0 = 0 + (x 0 : Fin 1).val; omega
    · have hx : (x 1 : Fin 1).val < 1 := (x 1).isLt; show 1 = 1 + (x 1 : Fin 1).val; omega
    · have hx : (x 2 : Fin 1).val < 1 := (x 2).isLt; show 0 = 0 + (x 2 : Fin 1).val; omega
    · show (o + (x 3 : Fin 512).val) % 16384 = o + (x 3 : Fin 512).val; omega)

/-- A load of 128 keys' cumulative decays of head 1. -/
theorem r6q_1 (v : View sig .tc .vmem S1x2x1x16384 .f32) (f : v.ty.Contents (Elt Ideal)) {off : Fin 4 → ℕ} {o : ℕ} (heq : off = ![0, 1, 0, o])
    (inb : ∀ a, off a + S1x1x1x128.size a ≤ S1x2x1x16384.size a) :
    v.readAt (Elt Ideal) (Rect.unit (s := S1x2x1x16384) off S1x1x1x128.size inb).toLoadRect f
      = fun x : S1x1x1x128.Idx => cm v f 1 (o + (x 3 : Fin 128).val) := by
  have hb : o + 128 ≤ 16384 := by have := inb 3; rw [heq] at this; exact this
  exact funext fun x => readAt_at v f inb x (ix4 0 1 0 (Fin.ofNat 16384 (o + (x 3 : Fin 128).val))) heq (by
    have h3 : (x 3 : Fin 128).val < 128 := (x 3 : Fin 128).isLt
    intro a; fin_cases a
    · have hx : (x 0 : Fin 1).val < 1 := (x 0).isLt; show 0 = 0 + (x 0 : Fin 1).val; omega
    · have hx : (x 1 : Fin 1).val < 1 := (x 1).isLt; show 1 = 1 + (x 1 : Fin 1).val; omega
    · have hx : (x 2 : Fin 1).val < 1 := (x 2).isLt; show 0 = 0 + (x 2 : Fin 1).val; omega
    · show (o + (x 3 : Fin 128).val) % 16384 = o + (x 3 : Fin 128).val; omega)

end Reads

end Cert.KernelIdeal.Body

end
-- ==== Proof.Softmax.lean ====
/- The mathematics of an online softmax over the extended reals: no program, no memory. -/
module

public import Idealize.ShloMosaic.Lib.Pointwise

@[expose] public section

noncomputable section

namespace Cert.Attn

open Idealize.ShloMosaic

/-- The largest of the first `n` scores. -/
def top (s : ℕ → EReal) (n : ℕ) : EReal := (Finset.range n).sup s

/-- The values of the first `n` keys, each weighed by two to the power of its score less the largest score. -/
def acc (s v : ℕ → EReal) (n : ℕ) : EReal :=
  ∑ j ∈ Finset.range n, v j * Ideal.exp2 (s j - top s n)

/-- A nonnegative real distributes over a finite sum of extended reals. -/
theorem mul_sum {ι : Type} (S : Finset ι) (f : ι → EReal) {c : EReal} (h0 : 0 ≤ c) (ht : c ≠ ⊤) :
    c * ∑ j ∈ S, f j = ∑ j ∈ S, c * f j := by
  classical
  induction S using Finset.induction_on with
  | empty => simp
  | insert a S ha ih =>
    rw [Finset.sum_insert ha, Finset.sum_insert ha, EReal.left_distrib_of_nonneg_of_ne_top h0 ht, ih]

theorem top_zero (s : ℕ → EReal) : top s 0 = ⊥ := by simp [top]

theorem acc_zero (s v : ℕ → EReal) : acc s v 0 = 0 := by simp [acc]

/-- A block of keys more: the largest score is the larger of the old one and the block's. -/
theorem top_add (s : ℕ → EReal) (n B : ℕ) :
    top s (n + B) = max (top s n) ((Finset.univ : Finset (Fin B)).fold max ⊥ fun k => s (n + k.val)) := by
  have hf : ((Finset.univ : Finset (Fin B)).fold max ⊥ fun k => s (n + k.val))
      = (Finset.univ : Finset (Fin B)).sup fun k => s (n + k.val) := rfl
  rw [hf]
  apply le_antisymm
  · refine Finset.sup_le fun j hj => ?_
    rw [Finset.mem_range] at hj
    rcases lt_or_ge j n with h | h
    · exact le_max_of_le_left (Finset.le_sup (Finset.mem_range.mpr h))
    · obtain ⟨k, rfl⟩ := Nat.exists_eq_add_of_le h
      exact le_max_of_le_right
        (Finset.le_sup (f := fun k : Fin B => s (n + k.val)) (Finset.mem_univ ⟨k, by omega⟩))
  · refine max_le (Finset.sup_le fun j hj => ?_) (Finset.sup_le fun k _ => ?_)
    · exact Finset.le_sup (Finset.mem_range.mpr (by have := Finset.mem_range.mp hj; omega))
    · exact Finset.le_sup (Finset.mem_range.mpr (by have := k.isLt; omega))

theorem top_ne_top {s : ℕ → EReal} (hs : ∀ j, s j ≠ ⊤) (n : ℕ) : top s n ≠ ⊤ :=
  ((Finset.sup_lt_iff bot_lt_top).mpr fun j _ => lt_top_iff_ne_top.mpr (hs j)).ne

theorem le_top (s : ℕ → EReal) {j n : ℕ} (h : j < n) : s j ≤ top s n :=
  Finset.le_sup (Finset.mem_range.mpr h)

theorem top_mono (s : ℕ → EReal) {n n' : ℕ} (h : n ≤ n') : top s n ≤ top s n' :=
  Finset.sup_mono (Finset.range_mono h)

theorem bot_sub (x : EReal) : (⊥ : EReal) - x = ⊥ := by rw [sub_eq_add_neg, EReal.bot_add]

theorem exp2_nonneg (x : EReal) : 0 ≤ Ideal.exp2 x := by
  induction x with
  | bot => simp
  | top => simp
  | coe r => rw [Ideal.exp2_coe]; exact_mod_cast (Real.rpow_pos_of_pos two_pos r).le

theorem exp2_add (a b : ℝ) : Ideal.exp2 (a : EReal) * Ideal.exp2 (b : EReal) = Ideal.exp2 ((a + b : ℝ) : EReal) := by
  rw [Ideal.exp2_coe, Ideal.exp2_coe, Ideal.exp2_coe, ← EReal.coe_mul]
  exact congrArg _ (Real.rpow_add two_pos a b).symm

/-- A block of keys more: the old sum is rescaled to the new largest score, and the block's terms are added. -/
theorem acc_add {s : ℕ → EReal} (hs : ∀ j, s j ≠ ⊤) (v : ℕ → EReal) (n B : ℕ) :
    acc s v (n + B) = Ideal.exp2 (top s n - top s (n + B)) * acc s v n
      + ∑ k : Fin B, v (n + k.val) * Ideal.exp2 (s (n + k.val) - top s (n + B)) := by
  unfold acc
  rw [Finset.sum_range_add, Finset.sum_range fun k => v (n + k) * Ideal.exp2 (s (n + k) - top s (n + B))]
  congr 1
  rcases eq_or_ne (top s n) ⊥ with hb | hb
  · have h0 : ∀ j ∈ Finset.range n, s j = ⊥ := fun j hj =>
      le_bot_iff.mp (hb ▸ le_top s (Finset.mem_range.mp hj))
    rw [Finset.sum_eq_zero fun j hj => by rw [h0 j hj, bot_sub, Ideal.exp2_bot, mul_zero],
      Finset.sum_eq_zero fun j hj => by rw [h0 j hj, bot_sub, Ideal.exp2_bot, mul_zero], mul_zero]
  · obtain ⟨a, ha⟩ : ∃ a : ℝ, top s n = a := ⟨_, (EReal.coe_toReal (top_ne_top hs n) hb).symm⟩
    have hb' : top s (n + B) ≠ ⊥ := fun h => hb (le_bot_iff.mp (h ▸ top_mono s (Nat.le_add_right n B)))
    obtain ⟨b, hb⟩ : ∃ b : ℝ, top s (n + B) = b := ⟨_, (EReal.coe_toReal (top_ne_top hs _) hb').symm⟩
    rw [ha, hb, ← EReal.coe_sub, mul_sum _ _ (exp2_nonneg _) (by rw [Ideal.exp2_coe]; exact EReal.coe_ne_top _)]
    refine Finset.sum_congr rfl fun j _ => ?_
    rw [mul_left_comm]
    congr 1
    generalize hx : s j = x
    induction x with
    | bot => rw [bot_sub, bot_sub, Ideal.exp2_bot, mul_zero]
    | top => exact absurd hx (hs j)
    | coe x =>
      rw [← EReal.coe_sub, ← EReal.coe_sub, exp2_add]
      congr 2
      ring

/-- Scores with the keys after `i` masked. -/
def masked (i : ℕ) (x : ℕ → ℝ) (j : ℕ) : EReal := if j ≤ i then (x j : EReal) else ⊥

theorem masked_ne_top (i : ℕ) (x : ℕ → ℝ) (j : ℕ) : masked i x j ≠ ⊤ := by
  unfold masked
  split
  · exact EReal.coe_ne_top _
  · exact bot_ne_top

theorem top_masked {i n : ℕ} (h : i < n) {x : ℕ → ℝ} {j₀ : ℕ} (h₀ : j₀ ≤ i) (hm : ∀ j ≤ i, x j ≤ x j₀) :
    top (masked i x) n = (x j₀ : EReal) := by
  apply le_antisymm
  · refine Finset.sup_le fun j _ => ?_
    unfold masked
    split
    · exact EReal.coe_le_coe_iff.mpr (hm j ‹_›)
    · exact bot_le
  · have := le_top (masked i x) (show j₀ < n by omega)
    rwa [masked, if_pos h₀] at this

theorem coe_sum {ι : Type} (S : Finset ι) (f : ι → ℝ) : ∑ j ∈ S, (f j : EReal) = ((∑ j ∈ S, f j : ℝ) : EReal) := by
  classical
  induction S using Finset.induction_on with
  | empty => simp
  | insert a S ha ih => rw [Finset.sum_insert ha, Finset.sum_insert ha, ih, EReal.coe_add]

/-- THE TIE. A sum in base two over the first `n` keys, divided by the same sum of ones, is the softmax in base e over
all `N` keys: the scores in base two are those in base e, shifted by one number and rescaled, and every key from `n`
on is masked. -/
theorem tie {i n N : ℕ} (hi : i < n) (hn : n ≤ N) (x : ℕ → ℝ) (a : ℝ) (v : ℕ → EReal) :
    Ideal.div (acc (masked i fun j => (x j + a) * (Real.log 2)⁻¹) v n)
        (acc (masked i fun j => (x j + a) * (Real.log 2)⁻¹) (fun _ => 1) n)
      = ∑ j ∈ Finset.range N, Ideal.div (Ideal.exp (masked i x j - top (masked i x) N))
          (∑ k ∈ Finset.range N, Ideal.exp (masked i x k - top (masked i x) N)) * v j := by
  obtain ⟨j₀, h₀, hm⟩ := Finset.exists_max_image (Finset.range (i + 1)) x ⟨0, by simp⟩
  have h₀ : j₀ ≤ i := by have := Finset.mem_range.mp h₀; omega
  have hm : ∀ j ≤ i, x j ≤ x j₀ := fun j hj => hm j (Finset.mem_range.mpr (by omega))
  have hl : 0 < Real.log 2 := Real.log_pos one_lt_two
  have hT : top (masked i x) N = (x j₀ : EReal) := top_masked (by omega) h₀ hm
  have hS : top (masked i fun j => (x j + a) * (Real.log 2)⁻¹) n = (((x j₀ + a) * (Real.log 2)⁻¹ : ℝ) : EReal) :=
    top_masked (x := fun j => (x j + a) * (Real.log 2)⁻¹) hi h₀ fun j hj =>
      mul_le_mul_of_nonneg_right (by linarith [hm j hj]) (inv_pos.mpr hl).le
  set e : ℕ → ℝ := fun j => if j ≤ i then Real.exp (x j - x j₀) else 0 with he
  have e2 : ∀ j, Ideal.exp2 (masked i (fun j => (x j + a) * (Real.log 2)⁻¹) j
      - (((x j₀ + a) * (Real.log 2)⁻¹ : ℝ) : EReal)) = (e j : EReal) := by
    intro j
    unfold masked
    rw [he]
    dsimp only
    split
    · rw [← EReal.coe_sub, Ideal.exp2_coe]
      refine congrArg _ ((Real.rpow_def_of_pos two_pos _).trans ?_)
      congr 1
      field_simp
      ring
    · rw [bot_sub, Ideal.exp2_bot]; rfl
  have e1 : ∀ j, Ideal.exp (masked i x j - (x j₀ : EReal)) = (e j : EReal) := by
    intro j
    unfold masked
    rw [he]
    dsimp only
    split
    · rw [← EReal.coe_sub, Ideal.exp_coe]
    · rw [bot_sub, Ideal.exp_bot]; rfl
  have hz : ∀ j ∈ Finset.range N, j ∉ Finset.range n → e j = 0 := by
    intro j _ hj
    rw [Finset.mem_range] at hj
    exact if_neg (by omega)
  have hsub : Finset.range n ⊆ Finset.range N := Finset.range_mono hn
  set l : ℝ := ∑ j ∈ Finset.range N, e j with hldef
  have hl0 : 0 < l := by
    refine Finset.sum_pos' (fun j _ => ?_) ⟨j₀, Finset.mem_range.mpr (by omega), ?_⟩
    · rw [he]; dsimp only; split
      · exact (Real.exp_pos _).le
      · exact le_rfl
    · rw [he]; dsimp only; rw [if_pos h₀]; exact Real.exp_pos _
  unfold acc
  rw [hS, hT]
  simp only [e1, e2, one_mul]
  rw [coe_sum, coe_sum, Finset.sum_subset hsub hz, ← hldef, Ideal.div_coe hl0.ne']
  simp only [Ideal.div_coe hl0.ne']
  rw [mul_comm, mul_sum _ _ (by exact_mod_cast (one_div_pos.mpr hl0).le) (EReal.coe_ne_top _)]
  rw [Finset.sum_subset hsub fun j hj hj' => by rw [hz j hj hj', EReal.coe_zero, mul_zero, mul_zero]]
  refine Finset.sum_congr rfl fun j _ => ?_
  rw [mul_comm (v j), ← mul_assoc, mul_comm (((1 / l : ℝ) : EReal))]

/-! ## The norm of a head's vector -/

/-- The sum of the squares of a vector that has an infinite entry is infinite. -/
theorem sumsq_top {n : ℕ} (x : Fin n → EReal) (k : Fin n) (hk : x k = ⊤ ∨ x k = ⊥) : ∑ j, x j * x j = ⊤ := by
  have h0 : ∀ j, 0 ≤ x j * x j := fun j => by
    generalize x j = y
    induction y with
    | bot => simp
    | top => simp
    | coe y => exact_mod_cast mul_self_nonneg y
  have h1 : x k * x k = ⊤ := by rcases hk with h | h <;> rw [h] <;> simp
  exact top_le_iff.mp (h1 ▸ Finset.single_le_sum (f := fun j => x j * x j) (fun j _ => h0 j) (Finset.mem_univ k))

/-- One entry of a vector over the root of the mean of its squares plus `ε`. -/
def rms {n : ℕ} (ε : EReal) (x : Fin n → EReal) (d : Fin n) : EReal :=
  x d * Ideal.rsqrt ((∑ j, x j * x j) * ((1 / 64 : ℝ) : EReal) + ε)

/-- It is a real number, whatever the vector: an infinite entry makes the mean infinite and the quotient zero. -/
theorem rms_real {n : ℕ} {ε : ℝ} (hε : 0 < ε) (x : Fin n → EReal) (d : Fin n) : ∃ r : ℝ, rms (ε : EReal) x d = r := by
  by_cases h : ∃ k, x k = ⊤ ∨ x k = ⊥
  · obtain ⟨k, hk⟩ := h
    refine ⟨0, ?_⟩
    rw [rms, sumsq_top x k hk, EReal.top_mul_coe_of_pos (by norm_num), EReal.top_add_coe, Ideal.rsqrt_top, mul_zero,
      EReal.coe_zero]
  · have hx : ∀ k, x k = ((x k).toReal : EReal) := fun k =>
      (EReal.coe_toReal (fun e => h ⟨k, .inl e⟩) (fun e => h ⟨k, .inr e⟩)).symm
    generalize hy : (fun k => (x k).toReal) = y at *
    have hx : ∀ k, x k = (y k : EReal) := fun k => by rw [← hy]; exact hx k
    have hp : 0 < (∑ j, y j * y j) * (1 / 64) + ε := by
      have : 0 ≤ ∑ j, y j * y j := Finset.sum_nonneg fun j _ => mul_self_nonneg _
      positivity
    refine ⟨y d * (Real.sqrt ((∑ j, y j * y j) * (1 / 64) + ε))⁻¹, ?_⟩
    unfold rms
    simp only [hx]
    simp only [← EReal.coe_mul]
    rw [coe_sum, ← EReal.coe_mul, ← EReal.coe_add, Ideal.rsqrt_coe, if_neg hp.le.not_gt, if_neg hp.ne', ← EReal.coe_mul]

end Cert.Attn

end
-- ==== Proof.Consume.lean ====
module

public import proofs.«01_k».proof.Proof.Gen.KernelIdeal.Frame
public import proofs.«01_k».proof.Proof.Reads
public import proofs.«01_k».proof.Proof.Softmax

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

/-- The word of minus infinity is minus infinity. -/
theorem neg_inf : Ideal.ofBits .f32 0xFF800000#32 = ⊥ := by
  simp [Ideal.ofBits, Ideal.ieee]

/-- The factor between base two and base e, as an extended real. -/
abbrev lg : EReal := (((Real.log 2)⁻¹ : ℝ) : EReal)

theorem named_log2e : (Named.named κ "log2e" 0x3FB8AA3B#32 : Ideal .f32) = lg := rfl
theorem named_mask : (Named.named κ "mask" 0xF149F2CA#32 : Ideal .f32) = (⊥ : EReal) := rfl

/-- A query's score against key `n`, before any mask. -/
def raw (K : ℕ → Fin 128 → EReal) (C : ℕ → EReal) (qh : FVec Ideal S1024x128 .bf16) (cr : FVec Ideal S1x1 .f32) (r : Fin 1024) (n : ℕ) : EReal :=
  ∑ x : Fin 128, K n x * qh (ix2 r x) + (cr (ix2 0 0) - C n) * lg

/-- The running maximum after 512 more scores. -/
def cmax (m : Fin 1024 → EReal) (S : Fin 512 → Fin 1024 → EReal) (r : Fin 1024) : EReal :=
  max (m r) (Finset.univ.fold max ⊥ fun j => S j r)

/-- The weighted sum after 512 more scores, rescaled to the new maximum. -/
def cacc (m m' : Fin 1024 → EReal) (A : Fin 80 → Fin 1024 → EReal) (V : Fin 80 → Fin 512 → EReal) (S : Fin 512 → Fin 1024 → EReal) (d : Fin 80) (r : Fin 1024) : EReal :=
  Ideal.exp2 (m r - m' r) * A d r + ∑ j : Fin 512, V d j * Ideal.exp2 (S j r - m' r)

section Scores

variable (K : ℕ → Fin 128 → EReal) (C : ℕ → EReal) (qh : FVec Ideal S1024x128 .bf16) (cr : FVec Ideal S1x1 .f32) (o : ℕ)

theorem pay5_at (j : Fin 512) (r : Fin 1024) :
    k0_pay5 (F := Ideal) qh cr (fun x : S512x128.Idx => K (o + (x 0 : Fin 512).val) (x 1 : Fin 128)) (fun x : S1x1x1x512.Idx => C (o + (x 3 : Fin 512).val)) (ix4 0 0 j r)
      = raw K C qh cr r (o + j.val) := by
  pointwise [k0_pay5, raw, named_log2e]

theorem pay6_at (j : Fin 512) (r : Fin 1024) :
    k0_pay6 (F := Ideal) qh cr (fun x : S512x128.Idx => K (o + (x 0 : Fin 512).val) (x 1 : Fin 128)) (fun x : S1x1x1x512.Idx => C (o + (x 3 : Fin 512).val)) (ix2 j r)
      = raw K C qh cr r (o + j.val) := by
  pointwise [k0_pay6, raw, named_log2e]

theorem pay20_at (j : Fin 512) (r : Fin 1024) :
    k0_pay20 (F := Ideal) qh (fun x : S512x128.Idx => K (o + (x 0 : Fin 512).val) (x 1 : Fin 128)) (k0_pay18 cr (fun x : S1x1x1x512.Idx => C (o + (x 3 : Fin 512).val))) k0_pay19 (ix4 0 0 j r)
      = raw K C qh cr r (o + j.val) := by
  pointwise [k0_pay20, k0_pay18, k0_pay19, raw, named_log2e]

theorem pay21_at (j : Fin 512) (r : Fin 1024) :
    k0_pay21 (F := Ideal) qh cr (fun x : S512x128.Idx => K (o + (x 0 : Fin 512).val) (x 1 : Fin 128)) (fun x : S1x1x1x512.Idx => C (o + (x 3 : Fin 512).val)) (ix4 0 0 j r)
      = raw K C qh cr r (o + j.val) := by
  pointwise [k0_pay21, raw, named_log2e]

end Scores

section Consume

variable (m : Fin 1024 → EReal) (S : Fin 512 → Fin 1024 → EReal) (A : Fin 80 → Fin 1024 → EReal) (V : Fin 80 → Fin 512 → EReal)

theorem pay17_at (v372 : FVec Ideal S512x1024 .f32) (h : ∀ j r, v372 (ix2 j r) = S j r) (r : Fin 1024) :
    k0_pay17 (F := Ideal) v372 (fun x : S1x1x1024.Idx => m (x 2 : Fin 1024)) (ix3 0 0 r) = cmax m S r := by
  pointwise [k0_pay17, k0_pay14, k0_pay15, cmax, neg_inf, h]

theorem pay16_at (v372 : FVec Ideal S512x1024 .f32) (h : ∀ j r, v372 (ix2 j r) = S j r) (d : Fin 80) (r : Fin 1024) :
    k0_pay16 (F := Ideal) v372 (fun x : S1x1x1024.Idx => m (x 2 : Fin 1024)) (fun x : S1x80x1024.Idx => A (x 1 : Fin 80) (x 2 : Fin 1024))
        (fun x : S1x80x512.Idx => V (x 1 : Fin 80) (x 2 : Fin 512)) (ix3 0 d r) = cacc m (cmax m S) A V S d r := by
  pointwise [k0_pay16, k0_pay14, k0_pay15, cmax, cacc, neg_inf, h]
  rfl

end Consume

end Cert.KernelIdeal.Body

end
-- ==== Proof.Trip.lean ====
module

public import proofs.«01_k».proof.Proof.Gen.KernelIdeal.Frame
public import proofs.«01_k».proof.Proof.Consume

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open trip_k0_t2

section Trip

variable {i : grid0.Coords} {arg6 : Memref sig .tc .vmem S1x2x1x16384 .f32} {arg11 : Memref sig .tc .vmem S16384x128 .bf16} {arg12 : Memref sig .tc .vmem S2x128x16384 .bf16} {arg13 : Memref sig .tc .vmem S2x1x1024 .f32} {arg14 : Memref sig .tc .vmem S2x80x1024 .f32} {arg15 : Memref sig .tc .vmem S2x2x512x1024 .f32}
  (v37 v40 : FVec Ideal S1024x128 .bf16) (v46 v50 : FVec Ideal S1x1 .f32)
  (X6 : BufTy.Contents (Elt Ideal) arg6.view.ty) (X11 : BufTy.Contents (Elt Ideal) arg11.view.ty) (X12 : BufTy.Contents (Elt Ideal) arg12.view.ty)
  (G13 : BufTy.Contents (Elt Ideal) arg13.view.ty) (G14 : BufTy.Contents (Elt Ideal) arg14.view.ty) (G15 : BufTy.Contents (Elt Ideal) arg15.view.ty)

/-- The running maxima held. -/
def hm (v : View sig .tc .vmem S2x1x1024 .f32) (f : v.ty.Contents (Elt Ideal)) (h : Fin 2) (r : Fin 1024) : EReal := v.read (Elt Ideal) f (ix3 h 0 r)

/-- The weighted sums held. -/
def ha (v : View sig .tc .vmem S2x80x1024 .f32) (f : v.ty.Contents (Elt Ideal)) (h : Fin 2) (d : Fin 80) (r : Fin 1024) : EReal := v.read (Elt Ideal) f (ix3 h d r)

/-- The scores held in a slot. -/
def hs (v : View sig .tc .vmem S2x2x512x1024 .f32) (f : v.ty.Contents (Elt Ideal)) (g h : Fin 2) (j : Fin 512) (r : Fin 1024) : EReal := v.read (Elt Ideal) f (ix4 g h j r)

/-- The lanes of the values a head weighs, 512 keys from key `o`. -/
def hv (v : View sig .tc .vmem S2x128x16384 .bf16) (f : v.ty.Contents (Elt Ideal)) (h : Fin 2) (o : ℕ) (d : Fin 80) (j : Fin 512) : EReal :=
  va v f h (Fin.ofNat 128 (d.val + 48 * h.val)) (o + j.val)

/-- The scores of 512 keys from key `o`. -/
def chunk (qh : FVec Ideal S1024x128 .bf16) (cr : FVec Ideal S1x1 .f32) (K : ℕ → Fin 128 → EReal) (C : ℕ → EReal) (o : ℕ) (j : Fin 512) (r : Fin 1024) : EReal :=
  raw K C qh cr r (o + j.val)

/-- There are two heads. -/
theorem two (h : Fin 2) : h = 0 ∨ h = 1 := by omega

variable (k : Fin (k0_t2_loop i).trips)

/-- The maxima after the trip's first 512 keys. -/
theorem h13_2 (f : BufTy.Contents (Elt Ideal) arg13.view.ty) (h : Fin 2) (r : Fin 1024) :
    hm arg13.view (arg13.view.writes (Elt Ideal) f (sl.HW_arg13_2 (F := Ideal) arg13 arg15 G13 G15)) h r
      = cmax (hm arg13.view G13 h) (hs arg15.view G15 0 h) r := by
  unfold sl.HW_arg13_2 hm
  obtain rfl | rfl := two h
  · rw [w13, if_neg (by decide), w13, if_pos (by decide)]
    unfold sl.v370 sl.v349 sl.v346 sl.v348 sl.v347 sl.v344 sl.v343
    rw [r13_0, r15_00]
    pointwise [cmax, hs, neg_inf]
  · rw [w13, if_pos (by decide)]
    unfold sl.v373 sl.v372 sl.v371
    rw [r13_1, r15_01]
    exact pay17_at (fun r => arg13.view.read (Elt Ideal) G13 (ix3 1 0 r)) (hs arg15.view G15 0 1) _ (fun j r => by pointwise [hs]) r

/-- The sums after the trip's first 512 keys. -/
theorem h14_2 (f : BufTy.Contents (Elt Ideal) arg14.view.ty) (h : Fin 2) (d : Fin 80) (r : Fin 1024) :
    ha arg14.view (arg14.view.writes (Elt Ideal) f (sl.HW_arg14_2 (F := Ideal) i arg12 arg13 arg14 arg15 X12 k G13 G14 G15)) h d r
      = cacc (hm arg13.view G13 h) (cmax (hm arg13.view G13 h) (hs arg15.view G15 0 h)) (ha arg14.view G14 h) (hv arg12.view X12 h (1024 * k.val)) (hs arg15.view G15 0 h) d r := by
  unfold sl.HW_arg14_2 ha
  obtain rfl | rfl := two h
  · rw [w14, if_neg (by decide), w14, if_pos (by decide)]
    unfold sl.v367 sl.v364 sl.v359 sl.v358 sl.v355 sl.v354 sl.v357 sl.v363 sl.v362 sl.v353 sl.v352 sl.v351 sl.v350 sl.cst_201 sl.v349 sl.v346 sl.v348 sl.v347 sl.v344 sl.v343
    rw [r13_0, r15_00, r14_0, r12_0 _ _ (k0_off11_eq i k)]
    pointwise [cmax, cacc, hs, hm, hv, neg_inf]
    rfl
  · rw [w14, if_pos (by decide)]
    unfold sl.v373 sl.v372 sl.v371 sl.v384
    rw [r13_1, r15_01, r14_1, r12_1 _ _ (k0_off12_eq i k)]
    exact pay16_at (fun r => arg13.view.read (Elt Ideal) G13 (ix3 1 0 r)) (hs arg15.view G15 0 1) (ha arg14.view G14 1) (hv arg12.view X12 1 (1024 * k.val)) _ (fun j r => by pointwise [hs]) d r

/-- The scores stored by a trip. -/
theorem h15_4 (f : BufTy.Contents (Elt Ideal) arg15.view.ty) (g h : Fin 2) (j : Fin 512) (r : Fin 1024) :
    hs arg15.view (arg15.view.writes (Elt Ideal) f (sl.HW_arg15_4 (F := Ideal) i arg6 arg11 v37 v40 v46 v50 X6 X11 k)) g h j r
      = chunk (if h = 0 then v37 else v40) (if h = 0 then v46 else v50) (kn arg11.view X11) (cm arg6.view X6 h) (if g = 0 then 1024 * k.val + 1024 else 1024 * k.val + 512) j r := by
  have e8a : k0_off8 i k 512#32 = ![1024 * k.val + 512, 0] := k0_off8_eq i k 0
  have e8b : k0_off8 i k 1024#32 = ![1024 * k.val + 1024, 0] := k0_off8_eq i k 1
  have e9a : k0_off9 i k 512#32 = ![0, 0, 0, 1024 * k.val + 512] := k0_off9_eq i k 0
  have e9b : k0_off9 i k 1024#32 = ![0, 0, 0, 1024 * k.val + 1024] := k0_off9_eq i k 1
  have e10a : k0_off10 i k 512#32 = ![0, 1, 0, 1024 * k.val + 512] := k0_off10_eq i k 0
  have e10b : k0_off10 i k 1024#32 = ![0, 1, 0, 1024 * k.val + 1024] := k0_off10_eq i k 1
  unfold sl.HW_arg15_4 hs
  obtain rfl | rfl := two g <;> obtain rfl | rfl := two h
  · rw [w15, if_neg (by decide), w15, if_pos ⟨rfl, rfl⟩]
    unfold sl.r_1 sl.r_2
    rw [r11 _ _ e8b, r6_0 _ _ e9b]
    exact pay20_at _ _ _ _ _ j r
  · rw [w15, if_pos ⟨rfl, rfl⟩]
    unfold sl.r_1
    rw [r11 _ _ e8b, r6_1 _ _ e10b]
    exact pay21_at _ _ _ _ _ j r
  · rw [w15, if_neg (by decide), w15, if_neg (by decide), w15, if_neg (by decide), w15, if_pos ⟨rfl, rfl⟩]
    rw [r11 _ _ e8a, r6_0 _ _ e9a]
    exact pay5_at _ _ _ _ _ j r
  · rw [w15, if_neg (by decide), w15, if_neg (by decide), w15, if_pos ⟨rfl, rfl⟩]
    unfold sl.v341 sl.r
    rw [r11 _ _ e8a, r6_1 _ _ e10a]
    pointwise []
    exact pay6_at _ _ _ _ _ j r

/-- The maxima after the trip's first 512 keys, as a function. -/
def m1 (h : Fin 2) (r : Fin 1024) : EReal := cmax (hm arg13.view G13 h) (hs arg15.view G15 0 h) r

/-- The sums after the trip's first 512 keys. -/
def a1 (h : Fin 2) (d : Fin 80) (r : Fin 1024) : EReal :=
  cacc (hm arg13.view G13 h) (m1 G13 G15 h) (ha arg14.view G14 h) (hv arg12.view X12 h (1024 * k.val)) (hs arg15.view G15 0 h) d r

/-- The scores of the trip's last 512 keys. -/
def s1 (h : Fin 2) (j : Fin 512) (r : Fin 1024) : EReal :=
  chunk (if h = 0 then v37 else v40) (if h = 0 then v46 else v50) (kn arg11.view X11) (cm arg6.view X6 h) (1024 * k.val + 512) j r

theorem v439_eq : sl.v439 (F := Ideal) i arg6 arg11 arg15 v37 v40 v46 v50 X6 X11 k
    = fun x : S1x1x512x1024.Idx => s1 (arg6 := arg6) v37 v40 v46 v50 X6 X11 k 0 (x 2 : Fin 512) (x 3 : Fin 1024) := by
  unfold sl.v439 View.readCov
  rw [r15_10]
  exact funext fun x => h15_4 v37 v40 v46 v50 X6 X11 k _ 1 0 (x 2 : Fin 512) (x 3 : Fin 1024)

theorem v467_eq : sl.v467 (F := Ideal) i arg6 arg11 arg15 v37 v40 v46 v50 X6 X11 k
    = fun x : S1x1x512x1024.Idx => s1 (arg6 := arg6) v37 v40 v46 v50 X6 X11 k 1 (x 2 : Fin 512) (x 3 : Fin 1024) := by
  unfold sl.v467 View.readCov
  rw [r15_11]
  exact funext fun x => h15_4 v37 v40 v46 v50 X6 X11 k _ 1 1 (x 2 : Fin 512) (x 3 : Fin 1024)

theorem v441_eq : sl.v441 (F := Ideal) arg13 arg15 G13 G15 = fun x : S1x1x1024.Idx => m1 G13 G15 0 (x 2 : Fin 1024) := by
  unfold sl.v441 View.readCov
  rw [r13_0]
  exact funext fun x => h13_2 G13 G15 _ 0 (x 2 : Fin 1024)

theorem v452_eq : sl.v452 (F := Ideal) i arg12 arg13 arg14 arg15 X12 k G13 G14 G15
    = fun x : S1x80x1024.Idx => a1 X12 G13 G14 G15 k 0 (x 1 : Fin 80) (x 2 : Fin 1024) := by
  unfold sl.v452 View.readCov
  rw [r14_0]
  exact funext fun x => h14_2 X12 G13 G14 G15 k _ 0 (x 1 : Fin 80) (x 2 : Fin 1024)

theorem v469_eq : sl.v469 (F := Ideal) i arg6 arg11 arg13 arg15 v37 v40 v46 v50 X6 X11 k G13 G15
    = fun x : S1x1x1024.Idx => m1 G13 G15 1 (x 2 : Fin 1024) := by
  unfold sl.v469 sl.HW_arg13_3 View.readCov
  rw [r13_1]
  exact funext fun x => (w13 _ _ 0 _ _ _ 1 0 (x 2 : Fin 1024)).trans ((if_neg (by decide)).trans (h13_2 G13 G15 _ 1 (x 2 : Fin 1024)))

theorem v480_eq : sl.v480 (F := Ideal) i arg6 arg11 arg12 arg13 arg14 arg15 v37 v40 v46 v50 X6 X11 X12 k G13 G14 G15
    = fun x : S1x80x1024.Idx => a1 X12 G13 G14 G15 k 1 (x 1 : Fin 80) (x 2 : Fin 1024) := by
  unfold sl.v480 sl.HW_arg14_3 View.readCov
  rw [r14_1]
  exact funext fun x => (w14 _ _ 0 _ _ _ 1 (x 1 : Fin 80) (x 2 : Fin 1024)).trans ((if_neg (by decide)).trans (h14_2 X12 G13 G14 G15 k _ 1 (x 1 : Fin 80) (x 2 : Fin 1024)))

end Trip

section Whole

variable {𝒱 : Variants} {c : Dev nD} {bd : Option 𝒱.V} {i : grid0.Coords} {arg3 : Memref sig .tc .vmem S1x1024x128 .bf16} {harg3 : arg3.IsWhole} {arg4 : Memref sig .tc .vmem S1x16384x128 .bf16} {harg4 : arg4.IsWhole} {arg5 : Memref sig .tc .vmem S1x128x16384 .bf16} {harg5 : arg5.IsWhole} {arg6 : Memref sig .tc .vmem S1x2x1x16384 .f32} {harg6 : arg6.IsWhole} {arg7 : Memref sig .tc .vmem S1x1024x128 .bf16} {harg7 : arg7.IsWhole} {arg8 : Memref sig .tc .vmem S1x128 .f32} {harg8 : arg8.IsWhole} {arg9 : Memref sig .tc .vmem S1x128 .f32} {harg9 : arg9.IsWhole} {arg10 : Memref sig .tc .vmem S1x1024x128 .bf16} {harg10 : arg10.IsWhole} {arg11 : Memref sig .tc .vmem S16384x128 .bf16} {harg11 : arg11.IsWhole} {arg12 : Memref sig .tc .vmem S2x128x16384 .bf16} {harg12 : arg12.IsWhole} {arg13 : Memref sig .tc .vmem S2x1x1024 .f32} {harg13 : arg13.IsWhole} {arg14 : Memref sig .tc .vmem S2x80x1024 .f32} {harg14 : arg14.IsWhole} {arg15 : Memref sig .tc .vmem S2x2x512x1024 .f32} {harg15 : arg15.IsWhole} {arg2 : BitVec 32} {v37 v40 : FVec Ideal S1024x128 .bf16} {v42 : BitVec 32} {v46 v50 : FVec Ideal S1x1 .f32} {v62 : BitVec 32} {v64 : Vec Ideal S512x128 .bf16} {v75 : FVec Ideal S512x1 .f32} (X6 : BufTy.Contents (Elt Ideal) arg6.view.ty) (X11 : BufTy.Contents (Elt Ideal) arg11.view.ty) (X12 : BufTy.Contents (Elt Ideal) arg12.view.ty)
  (G13 : BufTy.Contents (Elt Ideal) arg13.view.ty) (G14 : BufTy.Contents (Elt Ideal) arg14.view.ty) (G15 : BufTy.Contents (Elt Ideal) arg15.view.ty) (k : Fin (k0_t2_loop i).trips)

set_option maxHeartbeats 2000000 in
/-- One trip of the loop over pairs of chunks: the maxima after it. -/
theorem trip13 (f : BufTy.Contents (Elt Ideal) arg13.view.ty) (h : Fin 2) (r : Fin 1024) :
    hm arg13.view (arg13.view.writes (Elt Ideal) f (tripL_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v37 v40 v42 v46 v50 v62 v64 v75 X6 X11 X12 k G13 G14 G15).1) h r
      = cmax (m1 G13 G15 h) (s1 v37 v40 v46 v50 X6 X11 k h) r := by
  unfold tripL_k0_t2 trip_k0_t2 hm
  dsimp only
  obtain rfl | rfl := two h
  · rw [w13, if_neg (by decide)]
    unfold sl.HW_arg13_3
    rw [w13, if_pos (by decide)]
    unfold sl.v466 sl.v445 sl.r_4 sl.v444 sl.r_5
    rw [v441_eq, v439_eq]
    pointwise [k0_pay22, k0_pay23, k0_pay24, neg_inf]
    rfl
  · rw [w13, if_pos (by decide)]
    unfold sl.v473 sl.v470 sl.v472 sl.v471 sl.v468
    rw [v469_eq, v467_eq]
    pointwise [k0_pay79, neg_inf]
    rfl

set_option maxHeartbeats 2000000 in
/-- One trip of the loop over pairs of chunks: the sums after it. -/
theorem trip14 (f : BufTy.Contents (Elt Ideal) arg14.view.ty) (h : Fin 2) (d : Fin 80) (r : Fin 1024) :
    ha arg14.view (arg14.view.writes (Elt Ideal) f (tripL_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v37 v40 v42 v46 v50 v62 v64 v75 X6 X11 X12 k G13 G14 G15).2.1) h d r
      = cacc (m1 G13 G15 h) (cmax (m1 G13 G15 h) (s1 v37 v40 v46 v50 X6 X11 k h)) (a1 X12 G13 G14 G15 k h)
          (hv arg12.view X12 h (1024 * k.val + 512)) (s1 v37 v40 v46 v50 X6 X11 k h) d r := by
  unfold tripL_k0_t2 trip_k0_t2 ha
  dsimp only
  obtain rfl | rfl := two h
  · rw [w14, if_neg (by decide)]
    unfold sl.HW_arg14_3
    rw [w14, if_pos (by decide)]
    unfold sl.v463 sl.v460 sl.v455 sl.v454 sl.v451 sl.v450 sl.v453 sl.v459 sl.v458 sl.v449 sl.v448 sl.v447 sl.v446 sl.v445 sl.cst_201 sl.r_3 sl.r_4 sl.v444 sl.r_5
    rw [v441_eq, v439_eq, v452_eq, r12_0 _ _ (k0_off13_eq i k)]
    pointwise [k0_pay22, k0_pay23, k0_pay24, neg_inf]
    rfl
  · rw [w14, if_pos (by decide)]
    unfold sl.v477 sl.v479 sl.v478 sl.v476 sl.v475 sl.v474 sl.v473 sl.v470 sl.v472 sl.v471 sl.v468
    rw [v469_eq, v467_eq, v480_eq, r12_1 _ _ (k0_off14_eq i k)]
    pointwise [k0_pay78, neg_inf]
    rfl

/-- One trip of the loop over pairs of chunks: the scores in the first slot after it. -/
theorem trip15 (f : BufTy.Contents (Elt Ideal) arg15.view.ty) (h : Fin 2) (j : Fin 512) (r : Fin 1024) :
    hs arg15.view (arg15.view.writes (Elt Ideal) f (tripL_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v37 v40 v42 v46 v50 v62 v64 v75 X6 X11 X12 k G13 G14 G15).2.2) 0 h j r
      = chunk (if h = 0 then v37 else v40) (if h = 0 then v46 else v50) (kn arg11.view X11) (cm arg6.view X6 h) (1024 * k.val + 1024) j r := by
  unfold tripL_k0_t2 trip_k0_t2
  dsimp only
  exact h15_4 v37 v40 v46 v50 X6 X11 k _ 0 h j r

end Whole

end Cert.KernelIdeal.Body

end
-- ==== Proof.Loop.lean ====
module

public import proofs.«01_k».proof.Proof.Gen.KernelIdeal.Frame
public import proofs.«01_k».proof.Proof.Trip
public import proofs.«01_k».proof.Proof.Consume

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Cert.Attn (acc acc_add acc_zero)

/-- The maxima over 512 keys more. -/
theorem cmax_top (s : Fin 1024 → ℕ → EReal) (n : ℕ) (r : Fin 1024) :
    cmax (fun r => Attn.top (s r) n) (fun j r => s r (n + j.val)) r = Attn.top (s r) (n + 512) :=
  (Attn.top_add (s r) n 512).symm

/-- The sums over 512 keys more. -/
theorem cacc_acc {s : Fin 1024 → ℕ → EReal} (hs : ∀ r j, s r j ≠ ⊤) (v : Fin 80 → ℕ → EReal) (n : ℕ) (d : Fin 80) (r : Fin 1024) :
    cacc (fun r => Attn.top (s r) n) (fun r => Attn.top (s r) (n + 512)) (fun d r => acc (s r) (v d) n) (fun d j => v d (n + j.val)) (fun j r => s r (n + j.val)) d r
      = acc (s r) (v d) (n + 512) :=
  (acc_add (hs r) (v d) n 512).symm

/-- What is held after the first `n` keys: the maxima and the weighted sums of the keys before `n`, and the scores of
    the 512 keys from `n`. -/
structure Inv (v13 : View sig .tc .vmem S2x1x1024 .f32) (v14 : View sig .tc .vmem S2x80x1024 .f32) (v15 : View sig .tc .vmem S2x2x512x1024 .f32)
    (S : Fin 2 → Fin 1024 → ℕ → EReal) (W : Fin 2 → Fin 80 → ℕ → EReal) (n : ℕ)
    (G13 : v13.ty.Contents (Elt Ideal)) (G14 : v14.ty.Contents (Elt Ideal)) (G15 : v15.ty.Contents (Elt Ideal)) : Prop where
  hm : ∀ h r, hm v13 G13 h r = Attn.top (S h r) n
  ha : ∀ h d r, ha v14 G14 h d r = acc (S h r) (W h d) n
  hs : ∀ h j r, hs v15 G15 0 h j r = S h r (n + j.val)

/-- The scores a head's queries meet, before any mask. -/
def sc (v37 v40 : FVec Ideal S1024x128 .bf16) (v46 v50 : FVec Ideal S1x1 .f32) (K : ℕ → Fin 128 → EReal) (C : Fin 2 → ℕ → EReal) (h : Fin 2) (r : Fin 1024) (n : ℕ) : EReal :=
  raw K (C h) (if h = 0 then v37 else v40) (if h = 0 then v46 else v50) r n

/-- The values a head weighs. -/
def vl (V : Fin 2 → Fin 128 → ℕ → EReal) (h : Fin 2) (d : Fin 80) (n : ℕ) : EReal := V h (Fin.ofNat 128 (d.val + 48 * h.val)) n

section

variable {𝒱 : Variants} {c : Dev nD} {bd : Option 𝒱.V} {i : grid0.Coords} {arg3 : Memref sig .tc .vmem S1x1024x128 .bf16} {harg3 : arg3.IsWhole} {arg4 : Memref sig .tc .vmem S1x16384x128 .bf16} {harg4 : arg4.IsWhole} {arg5 : Memref sig .tc .vmem S1x128x16384 .bf16} {harg5 : arg5.IsWhole} {arg6 : Memref sig .tc .vmem S1x2x1x16384 .f32} {harg6 : arg6.IsWhole} {arg7 : Memref sig .tc .vmem S1x1024x128 .bf16} {harg7 : arg7.IsWhole} {arg8 : Memref sig .tc .vmem S1x128 .f32} {harg8 : arg8.IsWhole} {arg9 : Memref sig .tc .vmem S1x128 .f32} {harg9 : arg9.IsWhole} {arg10 : Memref sig .tc .vmem S1x1024x128 .bf16} {harg10 : arg10.IsWhole} {arg11 : Memref sig .tc .vmem S16384x128 .bf16} {harg11 : arg11.IsWhole} {arg12 : Memref sig .tc .vmem S2x128x16384 .bf16} {harg12 : arg12.IsWhole} {arg13 : Memref sig .tc .vmem S2x1x1024 .f32} {harg13 : arg13.IsWhole} {arg14 : Memref sig .tc .vmem S2x80x1024 .f32} {harg14 : arg14.IsWhole} {arg15 : Memref sig .tc .vmem S2x2x512x1024 .f32} {harg15 : arg15.IsWhole}  {arg2 : BitVec 32} {v37 v40 : FVec Ideal S1024x128 .bf16} {v42 : BitVec 32} {v46 v50 : FVec Ideal S1x1 .f32} {v62 : BitVec 32} {v64 : Vec Ideal S512x128 .bf16} {v75 : FVec Ideal S512x1 .f32} (X6 : BufTy.Contents (Elt Ideal) arg6.view.ty) (X11 : BufTy.Contents (Elt Ideal) arg11.view.ty) (X12 : BufTy.Contents (Elt Ideal) arg12.view.ty) (G13 : BufTy.Contents (Elt Ideal) arg13.view.ty) (G14 : BufTy.Contents (Elt Ideal) arg14.view.ty) (G15 : BufTy.Contents (Elt Ideal) arg15.view.ty) (k : Fin (k0_t2_loop i).trips)

set_option maxHeartbeats 1000000 in
/-- One trip takes the invariant 1024 keys on. -/
theorem trip_inv (hS : ∀ h r n, sc v37 v40 v46 v50 (kn arg11.view X11) (cm arg6.view X6) h r n ≠ ⊤)
    (hI : Inv arg13.view arg14.view arg15.view (sc v37 v40 v46 v50 (kn arg11.view X11) (cm arg6.view X6)) (vl (va arg12.view X12)) (1024 * k.val) G13 G14 G15) :
    Inv arg13.view arg14.view arg15.view (sc v37 v40 v46 v50 (kn arg11.view X11) (cm arg6.view X6)) (vl (va arg12.view X12)) (1024 * (k.val + 1))
      (arg13.view.writes (Elt Ideal) G13 (tripL_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v37 v40 v42 v46 v50 v62 v64 v75 X6 X11 X12 k G13 G14 G15).1)
      (arg14.view.writes (Elt Ideal) G14 (tripL_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v37 v40 v42 v46 v50 v62 v64 v75 X6 X11 X12 k G13 G14 G15).2.1)
      (arg15.view.writes (Elt Ideal) G15 (tripL_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v37 v40 v42 v46 v50 v62 v64 v75 X6 X11 X12 k G13 G14 G15).2.2) := by
  obtain ⟨h13, h14, h15⟩ := hI
  have e13 : ∀ h, hm arg13.view G13 h = fun r => Attn.top (sc v37 v40 v46 v50 (kn arg11.view X11) (cm arg6.view X6) h r) (1024 * k.val) := fun h => funext (h13 h)
  have e14 : ∀ h, ha arg14.view G14 h = fun d r => acc (sc v37 v40 v46 v50 (kn arg11.view X11) (cm arg6.view X6) h r) (vl (va arg12.view X12) h d) (1024 * k.val) :=
    fun h => funext fun d => funext (h14 h d)
  have e15 : ∀ h, hs arg15.view G15 0 h = fun j r => sc v37 v40 v46 v50 (kn arg11.view X11) (cm arg6.view X6) h r (1024 * k.val + j.val) :=
    fun h => funext fun j => funext (h15 h j)
  have em : ∀ h, m1 G13 G15 h = fun r => Attn.top (sc v37 v40 v46 v50 (kn arg11.view X11) (cm arg6.view X6) h r) (1024 * k.val + 512) := by
    intro h; funext r
    unfold m1
    rw [e13, e15]
    exact cmax_top (sc v37 v40 v46 v50 (kn arg11.view X11) (cm arg6.view X6) h) (1024 * k.val) r
  have ea : ∀ h, a1 X12 G13 G14 G15 k h = fun d r => acc (sc v37 v40 v46 v50 (kn arg11.view X11) (cm arg6.view X6) h r) (vl (va arg12.view X12) h d) (1024 * k.val + 512) := by
    intro h; funext d r
    unfold a1
    rw [em, e13, e14, e15]
    exact cacc_acc (hS h) (vl (va arg12.view X12) h) (1024 * k.val) d r
  have es : ∀ h, s1 v37 v40 v46 v50 X6 X11 k h = fun j r => sc v37 v40 v46 v50 (kn arg11.view X11) (cm arg6.view X6) h r (1024 * k.val + 512 + j.val) := fun h => rfl
  have ec : ∀ h, cmax (m1 G13 G15 h) (s1 v37 v40 v46 v50 X6 X11 k h) = fun r => Attn.top (sc v37 v40 v46 v50 (kn arg11.view X11) (cm arg6.view X6) h r) (1024 * k.val + 512 + 512) := by
    intro h; funext r
    rw [em, es]
    exact cmax_top (sc v37 v40 v46 v50 (kn arg11.view X11) (cm arg6.view X6) h) (1024 * k.val + 512) r
  refine ⟨fun h r => ?_, fun h d r => ?_, fun h j r => ?_⟩
  · rw [trip13, ec]
    rfl
  · rw [trip14, ec, em, ea, es]
    exact cacc_acc (hS h) (vl (va arg12.view X12) h) (1024 * k.val + 512) d r
  · rw [trip15]
    rfl

/-- After `n` trips the invariant holds at `1024 n` keys. -/
theorem loop_inv (hS : ∀ h r n, sc v37 v40 v46 v50 (kn arg11.view X11) (cm arg6.view X6) h r n ≠ ⊤)
    (hI : Inv arg13.view arg14.view arg15.view (sc v37 v40 v46 v50 (kn arg11.view X11) (cm arg6.view X6)) (vl (va arg12.view X12)) 0 G13 G14 G15)
    (n : ℕ) (hn : n ≤ (k0_t2_loop i).trips) :
    Inv arg13.view arg14.view arg15.view (sc v37 v40 v46 v50 (kn arg11.view X11) (cm arg6.view X6)) (vl (va arg12.view X12)) (1024 * n)
      (arg13.view.writes (Elt Ideal) G13 (pb_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v37 v40 v42 v46 v50 v62 v64 v75 X6 X11 X12 G13 G14 G15 n).1)
      (arg14.view.writes (Elt Ideal) G14 (pb_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v37 v40 v42 v46 v50 v62 v64 v75 X6 X11 X12 G13 G14 G15 n).2.1)
      (arg15.view.writes (Elt Ideal) G15 (pb_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v37 v40 v42 v46 v50 v62 v64 v75 X6 X11 X12 G13 G14 G15 n).2.2) := by
  induction n with
  | zero => exact hI
  | succ n ih =>
    have ih := ih (by omega)
    have e := pb_k0_t2_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v37 v40 v42 v46 v50 v62 v64 v75 X6 X11 X12 G13 G14 G15 ⟨n, hn⟩
    rw [show n + 1 = (⟨n, hn⟩ : Fin (k0_t2_loop i).trips).val + 1 from rfl, e, View.writes_append, View.writes_append, View.writes_append]
    exact trip_inv X6 X11 X12 _ _ _ ⟨n, hn⟩ hS ih

/-- After `n` trips the first slot holds the scores of the 512 keys from `1024 n`, whatever the slots held at first. -/
theorem loop15 (f : BufTy.Contents (Elt Ideal) arg15.view.ty) (hf : ∀ h j r, hs arg15.view f 0 h j r = sc v37 v40 v46 v50 (kn arg11.view X11) (cm arg6.view X6) h r (0 + j.val))
    (n : ℕ) (hn : n ≤ (k0_t2_loop i).trips) (h : Fin 2) (j : Fin 512) (r : Fin 1024) :
    hs arg15.view (arg15.view.writes (Elt Ideal) f (pb_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v37 v40 v42 v46 v50 v62 v64 v75 X6 X11 X12 G13 G14 G15 n).2.2) 0 h j r = sc v37 v40 v46 v50 (kn arg11.view X11) (cm arg6.view X6) h r (1024 * n + j.val) := by
  cases n with
  | zero => exact hf h j r
  | succ n =>
    have e := pb_k0_t2_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v37 v40 v42 v46 v50 v62 v64 v75 X6 X11 X12 G13 G14 G15 ⟨n, hn⟩
    rw [show n + 1 = (⟨n, hn⟩ : Fin (k0_t2_loop i).trips).val + 1 from rfl, e, View.writes_append]
    exact trip15 X6 X11 X12 _ _ _ ⟨n, hn⟩ _ h j r

end

/-- The loop makes as many trips as there are query tiles before this one. -/
theorem t2_trips (i : grid0.Coords) : (k0_t2_loop i).trips = (i 2).val := by
  have h : ∀ q : Fin 16, Scf.trips 0#32 (Scalar.addi 0#32 (Scalar.muli (Scalar.divsi (Scalar.subi (Scalar.muli (BitVec.ofNat 32 q.val) 1#32) 0#32) 1#32) 1#32)) 1#32 = q.val := by
    decide +kernel
  exact h (i 2)

end Cert.KernelIdeal.Body

end
-- ==== Proof.Masked.lean ====
module

public import proofs.«01_k».proof.Proof.Gen.KernelIdeal.Frame
public import proofs.«01_k».proof.Proof.Consume

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

section Scores

variable (K : ℕ → Fin 128 → EReal) (C : ℕ → EReal) (qh : FVec Ideal S1024x128 .bf16) (cr : FVec Ideal S1x1 .f32) (o : ℕ)

theorem pay76_at (v44 : Vec Ideal S1x1x1x128 .f32) (j : Fin 512) (r : Fin 1024) :
    k0_pay76 (F := Ideal) qh (fun x : S512x128.Idx => K (o + (x 0 : Fin 512).val) (x 1 : Fin 128)) (k0_pay75 v44 (fun x : S1x1x1x512.Idx => C (o + (x 3 : Fin 512).val))) (ix4 0 0 j r)
      = raw K C qh (k0_pay70 v44) r (o + j.val) := by
  pointwise [k0_pay76, k0_pay75, k0_pay70, raw, named_log2e]

theorem pay77_at (j : Fin 512) (r : Fin 1024) :
    k0_pay77 (F := Ideal) qh cr (fun x : S512x128.Idx => K (o + (x 0 : Fin 512).val) (x 1 : Fin 128)) (fun x : S1x1x1x512.Idx => C (o + (x 3 : Fin 512).val)) (ix4 0 0 j r) = raw K C qh cr r (o + j.val) := by
  pointwise [k0_pay77, raw, named_log2e]

theorem pay82_at (j : Fin 512) (r : Fin 1024) :
    k0_pay82 (F := Ideal) qh cr (fun x : S512x128.Idx => K (o + (x 0 : Fin 512).val) (x 1 : Fin 128)) (fun x : S1x1x1x512.Idx => C (o + (x 3 : Fin 512).val)) (ix4 0 0 j r) = raw K C qh cr r (o + j.val) := by
  pointwise [k0_pay82, raw, named_log2e]

theorem pay83_at (j : Fin 512) (r : Fin 1024) :
    k0_pay83 (F := Ideal) qh cr (fun x : S512x128.Idx => K (o + (x 0 : Fin 512).val) (x 1 : Fin 128)) (fun x : S1x1x1x512.Idx => C (o + (x 3 : Fin 512).val)) (ix4 0 0 j r) = raw K C qh cr r (o + j.val) := by
  pointwise [k0_pay83, raw, named_log2e]

end Scores

/-- The scores on the diagonal, masked as the program masks them: a query sees the keys up to itself. -/
def mk (a o : BitVec 32) (S : Fin 512 → Fin 1024 → EReal) (j : Fin 512) (r : Fin 1024) : EReal :=
  Scalar.select (IntOp.cmpi CmpIPredicate.sle (IntOp.subi (BitVec.ofNat 32 j.val) (BitVec.ofNat 32 r.val)) (Scalar.subi a o)) (S j r) ⊥

/-- The mask in plain numbers. -/
theorem mk_eq (a : BitVec 32) (e : ℕ) (he : e ≤ 512) (S : Fin 512 → Fin 1024 → EReal) (j : Fin 512) (r : Fin 1024) :
    mk a (Scalar.addi a (BitVec.ofNat 32 e)) S j r = if e + j.val ≤ r.val then S j r else ⊥ := by
  have h0 : Scalar.subi a (Scalar.addi a (BitVec.ofNat 32 e)) = -(BitVec.ofNat 32 e) := by
    change a - (a + BitVec.ofNat 32 e) = _
    bv_omega
  have hj := j.isLt
  have hr := r.isLt
  have h1 : (BitVec.ofNat 32 j.val - BitVec.ofNat 32 r.val).toInt = (j.val : ℤ) - r.val := by
    rw [BitVec.toInt_sub, BitVec.toInt_eq_toNat_bmod, BitVec.toInt_eq_toNat_bmod, BitVec.toNat_ofNat, BitVec.toNat_ofNat]
    simp only [Int.bmod_def]
    omega
  have h2 : (-(BitVec.ofNat 32 e)).toInt = -(e : ℤ) := by
    rw [BitVec.toInt_neg, BitVec.toInt_eq_toNat_bmod, BitVec.toNat_ofNat]
    simp only [Int.bmod_def]
    omega
  unfold mk
  rw [h0]
  change Scalar.select (BitVec.ofBool (BitVec.sle (BitVec.ofNat 32 j.val - BitVec.ofNat 32 r.val) (-(BitVec.ofNat 32 e)))) (S j r) ⊥ = _
  rw [BitVec.sle_eq_decide, h1, h2]
  by_cases h : e + j.val ≤ r.val
  · rw [if_pos h, decide_eq_true (by omega)]
    rfl
  · rw [if_neg h, decide_eq_false (by omega)]
    rfl

section Consume

variable (m : Fin 1024 → EReal) (S : Fin 512 → Fin 1024 → EReal) (A : Fin 80 → Fin 1024 → EReal) (V : Fin 80 → Fin 512 → EReal) (a o : BitVec 32)

theorem pay88_at (r : Fin 1024) : k0_pay88 (F := Ideal) a k0_pay72 o (fun x : S1x1x512x1024.Idx => S (x 2 : Fin 512) (x 3 : Fin 1024)) (fun x : S1x1x1024.Idx => m (x 2 : Fin 1024)) (ix3 0 0 r) = cmax m (mk a o S) r := by
  pointwise [k0_pay88, k0_pay86, k0_pay85, k0_pay84, k0_pay72, neg_inf, cmax, mk, named_mask]

theorem pay87_at (d : Fin 80) (r : Fin 1024) : k0_pay87 (F := Ideal) a k0_pay72 o (fun x : S1x1x512x1024.Idx => S (x 2 : Fin 512) (x 3 : Fin 1024)) (fun x : S1x1x1024.Idx => m (x 2 : Fin 1024)) (fun x : S1x80x1024.Idx => A (x 1 : Fin 80) (x 2 : Fin 1024)) (fun x : S1x80x512.Idx => V (x 1 : Fin 80) (x 2 : Fin 512)) (ix3 0 d r)
    = cacc m (cmax m (mk a o S)) A V (mk a o S) d r := by
  pointwise [k0_pay87, k0_pay86, k0_pay85, k0_pay84, k0_pay72, neg_inf, cmax, cacc, mk, named_mask]
  rfl

theorem pay95_at (r : Fin 1024) : k0_pay95 (F := Ideal) k0_pay72 (k0_pay89 (fun x : S1x1x512x1024.Idx => S (x 2 : Fin 512) (x 3 : Fin 1024))) (k0_pay90 a o) (fun x : S1x1x1024.Idx => m (x 2 : Fin 1024)) (ix3 0 0 r) = cmax m (mk a o S) r := by
  pointwise [k0_pay95, k0_pay93, k0_pay92, k0_pay91, k0_pay90, k0_pay89, k0_pay72, neg_inf, cmax, mk, named_mask]

theorem pay94_at (d : Fin 80) (r : Fin 1024) : k0_pay94 (F := Ideal) k0_pay72 (k0_pay89 (fun x : S1x1x512x1024.Idx => S (x 2 : Fin 512) (x 3 : Fin 1024))) (k0_pay90 a o) (fun x : S1x1x1024.Idx => m (x 2 : Fin 1024)) (fun x : S1x80x1024.Idx => A (x 1 : Fin 80) (x 2 : Fin 1024)) (fun x : S1x80x512.Idx => V (x 1 : Fin 80) (x 2 : Fin 512)) (ix3 0 d r)
    = cacc m (cmax m (mk a o S)) A V (mk a o S) d r := by
  pointwise [k0_pay94, k0_pay93, k0_pay92, k0_pay91, k0_pay90, k0_pay89, k0_pay72, neg_inf, cmax, cacc, mk, named_mask]
  rfl

theorem pay102_at (r : Fin 1024) : k0_pay102 (F := Ideal) (k0_pay96 (fun x : S1x1x512x1024.Idx => S (x 2 : Fin 512) (x 3 : Fin 1024))) (k0_pay97 a k0_pay72) (fun x : S1x1x1024.Idx => m (x 2 : Fin 1024)) (ix3 0 0 r)
    = cmax m (mk a (Scalar.addi a 512#32) S) r := by
  pointwise [k0_pay102, k0_pay100, k0_pay99, k0_pay98, k0_pay97, k0_pay96, k0_pay72, neg_inf, cmax, mk, named_mask]

theorem pay101_at (d : Fin 80) (r : Fin 1024) : k0_pay101 (F := Ideal) (k0_pay96 (fun x : S1x1x512x1024.Idx => S (x 2 : Fin 512) (x 3 : Fin 1024))) (k0_pay97 a k0_pay72) (fun x : S1x1x1024.Idx => m (x 2 : Fin 1024)) (fun x : S1x80x1024.Idx => A (x 1 : Fin 80) (x 2 : Fin 1024)) (fun x : S1x80x512.Idx => V (x 1 : Fin 80) (x 2 : Fin 512)) (ix3 0 d r)
    = cacc m (cmax m (mk a (Scalar.addi a 512#32) S)) A V (mk a (Scalar.addi a 512#32) S) d r := by
  pointwise [k0_pay101, k0_pay100, k0_pay99, k0_pay98, k0_pay97, k0_pay96, k0_pay72, neg_inf, cmax, cacc, mk, named_mask]
  rfl

theorem pay103_at (j : Fin 512) (r : Fin 1024) : k0_pay103 (F := Ideal) a k0_pay72 o (fun x : S1x1x512x1024.Idx => S (x 2 : Fin 512) (x 3 : Fin 1024)) (ix2 j r) = mk a o S j r := by
  pointwise [k0_pay103, k0_pay72, mk, named_mask]

end Consume

end Cert.KernelIdeal.Body

end
-- ==== Proof.Run.lean ====
module

public import proofs.«01_k».proof.Proof.Gen.KernelIdeal.Frame
public import proofs.«01_k».proof.Proof.Body

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- What the first part of the body hands on: the query tile's number and its normalised queries. -/
def firstRet (i : grid0.Coords) (arg3 : Memref sig .tc .vmem S1x1024x128 .bf16) (arg8 : Memref sig .tc .vmem S1x128 .f32) (X3 : BufTy.Contents (Elt F) arg3.view.ty) (X8 : BufTy.Contents (Elt F) arg8.view.ty) :
    Σ' (arg2 : BitVec 32) (v5 : IVec S1024x128 1) (v34 : FVec F S1024x128 .f32) (v37 : FVec F S1024x128 .bf16), FVec F S1024x128 .f32 :=
  ⟨BitVec.ofNat 32 (i 2).val, k0_pay65, k0_pay66 (arg3.view.readAt (Elt F) (Rect.unit (s := S1x1024x128) ![0, 0, 0] S1x1024x128.size inb_S1x1024x128_S1x1024x128_0_0_0).toLoadRect X3) (arg8.view.readAt (Elt F) (Rect.unit (s := S1x128) ![0, 0] S1x128.size inb_S1x128_S1x128_0_0).toLoadRect X8), k0_pay67 (arg3.view.readAt (Elt F) (Rect.unit (s := S1x1024x128) ![0, 0, 0] S1x1024x128.size inb_S1x1024x128_S1x1024x128_0_0_0).toLoadRect X3) (arg8.view.readAt (Elt F) (Rect.unit (s := S1x128) ![0, 0] S1x128.size inb_S1x128_S1x128_0_0).toLoadRect X8), k0_pay68⟩

/-- The first part of the body at a first query tile: the keys and values of the pair of heads are built. -/
@[irreducible] def runBuild (𝒱 : Variants) (c : Dev nD) (i : grid0.Coords) (hc : k0_cond1 i = 1#1) (arg3 : Memref sig .tc .vmem S1x1024x128 .bf16) (harg3 : arg3.IsWhole) (arg4 : Memref sig .tc .vmem S1x16384x128 .bf16) (harg4 : arg4.IsWhole) (arg5 : Memref sig .tc .vmem S1x128x16384 .bf16) (harg5 : arg5.IsWhole) (arg6 : Memref sig .tc .vmem S1x2x1x16384 .f32) (harg6 : arg6.IsWhole) (arg7 : Memref sig .tc .vmem S1x1024x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S16384x128 .bf16) (harg11 : arg11.IsWhole) (arg12 : Memref sig .tc .vmem S2x128x16384 .bf16) (harg12 : arg12.IsWhole) (arg13 : Memref sig .tc .vmem S2x1x1024 .f32) (harg13 : arg13.IsWhole) (arg14 : Memref sig .tc .vmem S2x80x1024 .f32) (harg14 : arg14.IsWhole) (arg15 : Memref sig .tc .vmem S2x2x512x1024 .f32) (harg15 : arg15.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) :
    Σ' (Z11 : BufTy.Contents (Elt F) arg11.view.ty), { Z12 : BufTy.Contents (Elt F) arg12.view.ty // ∀ (E : Set ℕ),
      Held (F := F) c arg3 harg3 arg4 harg4 arg5 harg5 arg6 harg6 arg7 harg7 arg8 harg8 arg9 harg9 arg10 harg10 arg11 harg11 arg12 harg12 arg13 harg13 arg14 harg14 arg15 harg15 X3 X4 X5 X6 X7 X8 X9 X10 X11 X12 X13 X14 X15
      ⊢ wp frame (wpE (defs₀ (F := F)) 𝒱 (c : Thread nD τ) none) E (k0_part12 (F := F) i arg3 harg3 arg4 harg4 arg5 harg5 arg6 harg6 arg7 harg7 arg8 harg8 arg9 harg9 arg10 harg10 arg11 harg11 arg12 harg12 arg13 harg13 arg14 harg14 arg15 harg15)
          (fun ret => iprop(⌜ret = firstRet i arg3 arg8 X3 X8⌝ ∗ Held (F := F) c arg3 harg3 arg4 harg4 arg5 harg5 arg6 harg6 arg7 harg7 arg8 harg8 arg9 harg9 arg10 harg10 arg11 harg11 arg12 harg12 arg13 harg13 arg14 harg14 arg15 harg15 X3 X4 X5 X6 X7 X8 X9 X10 Z11 Z12 X13 X14 X15)) } := by
  refine ⟨?_, ?_, fun E => ?run⟩
  case run =>
    unfold k0_part12
    iintro ⟨H3, H4, H5, H6, H7, H8, H9, H10, H11, H12, H13, H14, H15⟩
    sl_exec
    sl_step
    sl_close

/-- The first part of the body at a later query tile: nothing is written. -/
theorem runKeep (𝒱 : Variants) (c : Dev nD) (i : grid0.Coords) (hc : ¬ k0_cond1 i = 1#1) (arg3 : Memref sig .tc .vmem S1x1024x128 .bf16) (harg3 : arg3.IsWhole) (arg4 : Memref sig .tc .vmem S1x16384x128 .bf16) (harg4 : arg4.IsWhole) (arg5 : Memref sig .tc .vmem S1x128x16384 .bf16) (harg5 : arg5.IsWhole) (arg6 : Memref sig .tc .vmem S1x2x1x16384 .f32) (harg6 : arg6.IsWhole) (arg7 : Memref sig .tc .vmem S1x1024x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S16384x128 .bf16) (harg11 : arg11.IsWhole) (arg12 : Memref sig .tc .vmem S2x128x16384 .bf16) (harg12 : arg12.IsWhole) (arg13 : Memref sig .tc .vmem S2x1x1024 .f32) (harg13 : arg13.IsWhole) (arg14 : Memref sig .tc .vmem S2x80x1024 .f32) (harg14 : arg14.IsWhole) (arg15 : Memref sig .tc .vmem S2x2x512x1024 .f32) (harg15 : arg15.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (E : Set ℕ) :
    Held (F := F) c arg3 harg3 arg4 harg4 arg5 harg5 arg6 harg6 arg7 harg7 arg8 harg8 arg9 harg9 arg10 harg10 arg11 harg11 arg12 harg12 arg13 harg13 arg14 harg14 arg15 harg15 X3 X4 X5 X6 X7 X8 X9 X10 X11 X12 X13 X14 X15
      ⊢ wp frame (wpE (defs₀ (F := F)) 𝒱 (c : Thread nD τ) none) E (k0_part12 (F := F) i arg3 harg3 arg4 harg4 arg5 harg5 arg6 harg6 arg7 harg7 arg8 harg8 arg9 harg9 arg10 harg10 arg11 harg11 arg12 harg12 arg13 harg13 arg14 harg14 arg15 harg15)
          (fun ret => iprop(⌜ret = firstRet i arg3 arg8 X3 X8⌝ ∗ Held (F := F) c arg3 harg3 arg4 harg4 arg5 harg5 arg6 harg6 arg7 harg7 arg8 harg8 arg9 harg9 arg10 harg10 arg11 harg11 arg12 harg12 arg13 harg13 arg14 harg14 arg15 harg15 X3 X4 X5 X6 X7 X8 X9 X10 X11 X12 X13 X14 X15)) := by
    unfold k0_part12
    iintro ⟨H3, H4, H5, H6, H7, H8, H9, H10, H11, H12, H13, H14, H15⟩
    sl_exec
    sl_step
    sl_close

/-- The whole body, from what its first part leaves. -/
@[irreducible] def runRest (𝒱 : Variants) (c : Dev nD) (i : grid0.Coords) (arg3 : Memref sig .tc .vmem S1x1024x128 .bf16) (harg3 : arg3.IsWhole) (arg4 : Memref sig .tc .vmem S1x16384x128 .bf16) (harg4 : arg4.IsWhole) (arg5 : Memref sig .tc .vmem S1x128x16384 .bf16) (harg5 : arg5.IsWhole) (arg6 : Memref sig .tc .vmem S1x2x1x16384 .f32) (harg6 : arg6.IsWhole) (arg7 : Memref sig .tc .vmem S1x1024x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S16384x128 .bf16) (harg11 : arg11.IsWhole) (arg12 : Memref sig .tc .vmem S2x128x16384 .bf16) (harg12 : arg12.IsWhole) (arg13 : Memref sig .tc .vmem S2x1x1024 .f32) (harg13 : arg13.IsWhole) (arg14 : Memref sig .tc .vmem S2x80x1024 .f32) (harg14 : arg14.IsWhole) (arg15 : Memref sig .tc .vmem S2x2x512x1024 .f32) (harg15 : arg15.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (Z11 : BufTy.Contents (Elt F) arg11.view.ty) (Z12 : BufTy.Contents (Elt F) arg12.view.ty)
    (hb : ∀ E : Set ℕ, Held (F := F) c arg3 harg3 arg4 harg4 arg5 harg5 arg6 harg6 arg7 harg7 arg8 harg8 arg9 harg9 arg10 harg10 arg11 harg11 arg12 harg12 arg13 harg13 arg14 harg14 arg15 harg15 X3 X4 X5 X6 X7 X8 X9 X10 X11 X12 X13 X14 X15
      ⊢ wp frame (wpE (defs₀ (F := F)) 𝒱 (c : Thread nD τ) none) E (k0_part12 (F := F) i arg3 harg3 arg4 harg4 arg5 harg5 arg6 harg6 arg7 harg7 arg8 harg8 arg9 harg9 arg10 harg10 arg11 harg11 arg12 harg12 arg13 harg13 arg14 harg14 arg15 harg15)
          (fun ret => iprop(⌜ret = firstRet i arg3 arg8 X3 X8⌝ ∗ Held (F := F) c arg3 harg3 arg4 harg4 arg5 harg5 arg6 harg6 arg7 harg7 arg8 harg8 arg9 harg9 arg10 harg10 arg11 harg11 arg12 harg12 arg13 harg13 arg14 harg14 arg15 harg15 X3 X4 X5 X6 X7 X8 X9 X10 Z11 Z12 X13 X14 X15))) :
    Σ' (Y10 : BufTy.Contents (Elt F) arg10.view.ty) (Y13 : BufTy.Contents (Elt F) arg13.view.ty) (Y14 : BufTy.Contents (Elt F) arg14.view.ty), { Y15 : BufTy.Contents (Elt F) arg15.view.ty // ∀ (E : Set ℕ),
      Held (F := F) c arg3 harg3 arg4 harg4 arg5 harg5 arg6 harg6 arg7 harg7 arg8 harg8 arg9 harg9 arg10 harg10 arg11 harg11 arg12 harg12 arg13 harg13 arg14 harg14 arg15 harg15 X3 X4 X5 X6 X7 X8 X9 X10 X11 X12 X13 X14 X15
      ⊢ wp frame (wpE (defs₀ (F := F)) 𝒱 (c : Thread nD τ) none) E (cc0_fox_attention (F := F) i arg3 harg3 arg4 harg4 arg5 harg5 arg6 harg6 arg7 harg7 arg8 harg8 arg9 harg9 arg10 harg10 arg11 harg11 arg12 harg12 arg13 harg13 arg14 harg14 arg15 harg15)
          (fun _ => Held (F := F) c arg3 harg3 arg4 harg4 arg5 harg5 arg6 harg6 arg7 harg7 arg8 harg8 arg9 harg9 arg10 harg10 arg11 harg11 arg12 harg12 arg13 harg13 arg14 harg14 arg15 harg15 X3 X4 X5 X6 X7 X8 X9 Y10 Z11 Z12 Y13 Y14 Y15) } := by
  refine ⟨?_, ?_, ?_, ?_, fun E => ?run⟩
  case run =>
    unfold cc0_fox_attention
    refine (hb E).trans ?_
    rw [wp_bind]
    refine wp_mono _ _ _ fun ret => ?_
    iintro ⟨%hret, H3, H4, H5, H6, H7, H8, H9, H10, H11, H12, H13, H14, H15⟩
    subst hret
    unfold firstRet
    sl_exec
    sl_step
    sl_close

end Cert.KernelIdeal.Body

end
-- ==== Proof.Entry.lean ====
module

public import proofs.«01_k».proof.Proof.Gen.KernelIdeal.Frame
public import proofs.«01_k».proof.Proof.Loop
public import proofs.«01_k».proof.Proof.Masked
public import proofs.«01_k».proof.Proof.Run

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Cert.Attn (acc acc_add acc_zero)

/-- Equal scores have equal maxima. -/
theorem top_congr {s t : ℕ → EReal} {n : ℕ} (h : ∀ j < n, s j = t j) : Attn.top s n = Attn.top t n :=
  Finset.sup_congr rfl fun j hj => h j (Finset.mem_range.mp hj)

/-- Equal scores have equal weighted sums. -/
theorem acc_congr {s t : ℕ → EReal} (v : ℕ → EReal) {n : ℕ} (h : ∀ j < n, s j = t j) : acc s v n = acc t v n := by
  unfold acc
  rw [top_congr h]
  exact Finset.sum_congr rfl fun j hj => by rw [h j (Finset.mem_range.mp hj)]

/-- The maxima after a store of both heads' rows. -/
theorem w13all (v : View sig .tc .vmem S2x1x1024 .f32) (f : v.ty.Contents (Elt Ideal)) (inb : ∀ a, (![0, 0, 0] : Fin 3 → ℕ) a + S2x1x1024.size a ≤ S2x1x1024.size a)
    (w : Vec Ideal S2x1x1024 .f32) (L : List (View.Piece (Elt Ideal) S2x1x1024 .f32)) (h : Fin 2) (b : Fin 1) (r : Fin 1024) :
    v.read (Elt Ideal) (v.writes (Elt Ideal) f ((⟨Rect.unit (s := S2x1x1024) ![0, 0, 0] S2x1x1024.size inb, w⟩ : View.Piece (Elt Ideal) S2x1x1024 .f32) :: L)) (ix3 h b r)
      = w (ix3 h b r) :=
  View.read_writes_cons_unit_of_mem v f inb w L (ix3 h b r) (ix3 h b r) rfl (by
      intro a; fin_cases a
      · show h.val = 0 + h.val; omega
      · show b.val = 0 + b.val; omega
      · show r.val = 0 + r.val; omega)

/-- The weighted sums after a store of both heads' blocks. -/
theorem w14all (v : View sig .tc .vmem S2x80x1024 .f32) (f : v.ty.Contents (Elt Ideal)) (inb : ∀ a, (![0, 0, 0] : Fin 3 → ℕ) a + S2x80x1024.size a ≤ S2x80x1024.size a)
    (w : Vec Ideal S2x80x1024 .f32) (L : List (View.Piece (Elt Ideal) S2x80x1024 .f32)) (h : Fin 2) (d : Fin 80) (r : Fin 1024) :
    v.read (Elt Ideal) (v.writes (Elt Ideal) f ((⟨Rect.unit (s := S2x80x1024) ![0, 0, 0] S2x80x1024.size inb, w⟩ : View.Piece (Elt Ideal) S2x80x1024 .f32) :: L)) (ix3 h d r)
      = w (ix3 h d r) :=
  View.read_writes_cons_unit_of_mem v f inb w L (ix3 h d r) (ix3 h d r) rfl (by
      intro a; fin_cases a
      · show h.val = 0 + h.val; omega
      · show d.val = 0 + d.val; omega
      · show r.val = 0 + r.val; omega)

/-- The scores a query tile meets, before any mask. -/
def SS (i : grid0.Coords) (arg3 : Memref sig .tc .vmem S1x1024x128 .bf16) (arg6 : Memref sig .tc .vmem S1x2x1x16384 .f32) (arg8 : Memref sig .tc .vmem S1x128 .f32) (arg11 : Memref sig .tc .vmem S16384x128 .bf16)
    (X3 : BufTy.Contents (Elt Ideal) arg3.view.ty) (X6 : BufTy.Contents (Elt Ideal) arg6.view.ty) (X8 : BufTy.Contents (Elt Ideal) arg8.view.ty) (Z11 : BufTy.Contents (Elt Ideal) arg11.view.ty) : Fin 2 → Fin 1024 → ℕ → EReal :=
  sc (k0_pay67 (F := Ideal) (arg3.view.readAt (Elt Ideal) (Rect.unit (s := S1x1024x128) ![0, 0, 0] S1x1024x128.size inb_S1x1024x128_S1x1024x128_0_0_0).toLoadRect X3) (arg8.view.readAt (Elt Ideal) (Rect.unit (s := S1x128) ![0, 0] S1x128.size inb_S1x128_S1x128_0_0).toLoadRect X8)) (runRest.sl.r (F := Ideal) arg3 arg8 X3 X8) (runRest.sl.r_1 (F := Ideal) i arg6 X6) (runRest.sl.r_2 (F := Ideal) i arg6 X6) (kn arg11.view Z11) (cm arg6.view X6)

/-- The scores a query tile meets, masked: a query sees the keys up to itself. -/
def TT (i : grid0.Coords) (arg3 : Memref sig .tc .vmem S1x1024x128 .bf16) (arg6 : Memref sig .tc .vmem S1x2x1x16384 .f32) (arg8 : Memref sig .tc .vmem S1x128 .f32) (arg11 : Memref sig .tc .vmem S16384x128 .bf16)
    (X3 : BufTy.Contents (Elt Ideal) arg3.view.ty) (X6 : BufTy.Contents (Elt Ideal) arg6.view.ty) (X8 : BufTy.Contents (Elt Ideal) arg8.view.ty) (Z11 : BufTy.Contents (Elt Ideal) arg11.view.ty) (h : Fin 2) (r : Fin 1024) (n : ℕ) : EReal :=
  if n ≤ (1024 * (i 2).val) + r.val then (SS i arg3 arg6 arg8 arg11 X3 X6 X8 Z11) h r n else ⊥

/-- The loop that does the masked chunks of a wider tile is never entered. -/
theorem t3_trips (i : grid0.Coords) : Scf.trips (k0_t3_loop i).lb (k0_t3_loop i).ub (k0_t3_loop i).st = 0 :=
  Nat.le_zero.mp (k0_t3_abs i).2.1

section

variable {𝒱 : Variants} {c : Dev nD} {bd : Option 𝒱.V} {i : grid0.Coords} {arg3 : Memref sig .tc .vmem S1x1024x128 .bf16} {harg3 : arg3.IsWhole} {arg4 : Memref sig .tc .vmem S1x16384x128 .bf16} {harg4 : arg4.IsWhole} {arg5 : Memref sig .tc .vmem S1x128x16384 .bf16} {harg5 : arg5.IsWhole} {arg6 : Memref sig .tc .vmem S1x2x1x16384 .f32} {harg6 : arg6.IsWhole} {arg7 : Memref sig .tc .vmem S1x1024x128 .bf16} {harg7 : arg7.IsWhole} {arg8 : Memref sig .tc .vmem S1x128 .f32} {harg8 : arg8.IsWhole} {arg9 : Memref sig .tc .vmem S1x128 .f32} {harg9 : arg9.IsWhole} {arg10 : Memref sig .tc .vmem S1x1024x128 .bf16} {harg10 : arg10.IsWhole} {arg11 : Memref sig .tc .vmem S16384x128 .bf16} {harg11 : arg11.IsWhole} {arg12 : Memref sig .tc .vmem S2x128x16384 .bf16} {harg12 : arg12.IsWhole} {arg13 : Memref sig .tc .vmem S2x1x1024 .f32} {harg13 : arg13.IsWhole} {arg14 : Memref sig .tc .vmem S2x80x1024 .f32} {harg14 : arg14.IsWhole} {arg15 : Memref sig .tc .vmem S2x2x512x1024 .f32} {harg15 : arg15.IsWhole} {X3 : BufTy.Contents (Elt Ideal) arg3.view.ty} {X6 : BufTy.Contents (Elt Ideal) arg6.view.ty} {X7 : BufTy.Contents (Elt Ideal) arg7.view.ty} {X8 : BufTy.Contents (Elt Ideal) arg8.view.ty} {X10 : BufTy.Contents (Elt Ideal) arg10.view.ty} {X15 : BufTy.Contents (Elt Ideal) arg15.view.ty} {Z11 : BufTy.Contents (Elt Ideal) arg11.view.ty} {Z12 : BufTy.Contents (Elt Ideal) arg12.view.ty}

theorem entry13 (f : BufTy.Contents (Elt Ideal) arg13.view.ty) (h : Fin 2) (r : Fin 1024) : hm arg13.view (arg13.view.writes (Elt Ideal) f (runRest.sl.H13_1 (F := Ideal))) h r = Attn.top ((SS i arg3 arg6 arg8 arg11 X3 X6 X8 Z11) h r) 0 := by
  unfold hm runRest.sl.H13_1
  rw [w13all]
  pointwise [k0_pay73, Attn.top_zero]
  rfl

theorem entry14 (f : BufTy.Contents (Elt Ideal) arg14.view.ty) (h : Fin 2) (d : Fin 80) (r : Fin 1024) : ha arg14.view (arg14.view.writes (Elt Ideal) f (runRest.sl.H14_1 (F := Ideal))) h d r = acc ((SS i arg3 arg6 arg8 arg11 X3 X6 X8 Z11) h r) ((vl (va arg12.view Z12)) h d) 0 := by
  unfold ha runRest.sl.H14_1
  rw [w14all, acc_zero]
  pointwise [k0_pay74]

theorem entry15 (f : BufTy.Contents (Elt Ideal) arg15.view.ty) (h : Fin 2) (j : Fin 512) (r : Fin 1024) : hs arg15.view (arg15.view.writes (Elt Ideal) f [(⟨Rect.unit (s := S2x2x512x1024) ![0, 1, 0, 0] S1x1x512x1024.size inb_S2x2x512x1024_S1x1x512x1024_0_1_0_0, k0_pay77 (runRest.sl.r (F := Ideal) arg3 arg8 X3 X8) (runRest.sl.r_2 (F := Ideal) i arg6 X6) (runRest.sl.r_3 (F := Ideal) arg11 Z11) (arg6.view.readAt (Elt Ideal) (Rect.unit (s := S1x2x1x16384) ![0, 1, 0, 0] S1x1x1x512.size inb_S1x2x1x16384_S1x1x1x512_0_1_0_0).toLoadRect X6)⟩ : View.Piece (Elt Ideal) S2x2x512x1024 .f32), (⟨Rect.unit (s := S2x2x512x1024) ![0, 0, 0, 0] S1x1x512x1024.size inb_S2x2x512x1024_S1x1x512x1024_0_0_0_0, k0_pay76 (k0_pay67 (F := Ideal) (arg3.view.readAt (Elt Ideal) (Rect.unit (s := S1x1024x128) ![0, 0, 0] S1x1024x128.size inb_S1x1024x128_S1x1024x128_0_0_0).toLoadRect X3) (arg8.view.readAt (Elt Ideal) (Rect.unit (s := S1x128) ![0, 0] S1x128.size inb_S1x128_S1x128_0_0).toLoadRect X8)) (runRest.sl.r_3 (F := Ideal) arg11 Z11) (runRest.sl.r_4 (F := Ideal) i arg6 X6)⟩ : View.Piece (Elt Ideal) S2x2x512x1024 .f32)]) 0 h j r = (SS i arg3 arg6 arg8 arg11 X3 X6 X8 Z11) h r (0 + j.val) := by
  unfold hs
  obtain rfl | rfl := two h
  · rw [w15, if_neg (by decide), w15, if_pos ⟨rfl, rfl⟩]
    unfold runRest.sl.r_3 runRest.sl.r_4
    rw [r11 _ _ (o := 0) rfl, r6_0 _ _ (o := 0) rfl]
    exact pay76_at _ _ _ _ _ j r
  · rw [w15, if_pos ⟨rfl, rfl⟩]
    unfold runRest.sl.r_3
    rw [r11 _ _ (o := 0) rfl, r6_1 _ _ (o := 0) rfl]
    exact pay77_at _ _ _ _ _ j r

/-- What is held before the diagonal. -/
theorem loop_end (hS : ∀ h r n, (SS i arg3 arg6 arg8 arg11 X3 X6 X8 Z11) h r n ≠ ⊤) :
    Inv arg13.view arg14.view arg15.view (SS i arg3 arg6 arg8 arg11 X3 X6 X8 Z11) (vl (va arg12.view Z12)) (1024 * (i 2).val)
      (arg13.view.writes (Elt Ideal) arg13.view.junk ((pb_k0_t2 (F := Ideal) 𝒱 c none i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) (k0_pay67 (F := Ideal) (arg3.view.readAt (Elt Ideal) (Rect.unit (s := S1x1024x128) ![0, 0, 0] S1x1024x128.size inb_S1x1024x128_S1x1024x128_0_0_0).toLoadRect X3) (arg8.view.readAt (Elt Ideal) (Rect.unit (s := S1x128) ![0, 0] S1x128.size inb_S1x128_S1x128_0_0).toLoadRect X8)) (runRest.sl.r (F := Ideal) arg3 arg8 X3 X8) (runRest.sl.v41 i) (runRest.sl.r_1 (F := Ideal) i arg6 X6) (runRest.sl.r_2 (F := Ideal) i arg6 X6) 0#32 (runRest.sl.r_3 (F := Ideal) arg11 Z11) (runRest.sl.r_4 (F := Ideal) i arg6 X6) X6 Z11 Z12 (arg13.view.writes (Elt Ideal) arg13.view.junk (runRest.sl.H13_1 (F := Ideal))) (arg14.view.writes (Elt Ideal) arg14.view.junk (runRest.sl.H14_1 (F := Ideal))) (arg15.view.writes (Elt Ideal) X15 [(⟨Rect.unit (s := S2x2x512x1024) ![0, 1, 0, 0] S1x1x512x1024.size inb_S2x2x512x1024_S1x1x512x1024_0_1_0_0, k0_pay77 (runRest.sl.r (F := Ideal) arg3 arg8 X3 X8) (runRest.sl.r_2 (F := Ideal) i arg6 X6) (runRest.sl.r_3 (F := Ideal) arg11 Z11) (arg6.view.readAt (Elt Ideal) (Rect.unit (s := S1x2x1x16384) ![0, 1, 0, 0] S1x1x1x512.size inb_S1x2x1x16384_S1x1x1x512_0_1_0_0).toLoadRect X6)⟩ : View.Piece (Elt Ideal) S2x2x512x1024 .f32), (⟨Rect.unit (s := S2x2x512x1024) ![0, 0, 0, 0] S1x1x512x1024.size inb_S2x2x512x1024_S1x1x512x1024_0_0_0_0, k0_pay76 (k0_pay67 (F := Ideal) (arg3.view.readAt (Elt Ideal) (Rect.unit (s := S1x1024x128) ![0, 0, 0] S1x1024x128.size inb_S1x1024x128_S1x1024x128_0_0_0).toLoadRect X3) (arg8.view.readAt (Elt Ideal) (Rect.unit (s := S1x128) ![0, 0] S1x128.size inb_S1x128_S1x128_0_0).toLoadRect X8)) (runRest.sl.r_3 (F := Ideal) arg11 Z11) (runRest.sl.r_4 (F := Ideal) i arg6 X6)⟩ : View.Piece (Elt Ideal) S2x2x512x1024 .f32)]) (k0_t2_loop i).trips).1 ++ (runRest.sl.H13_1 (F := Ideal))))
      (arg14.view.writes (Elt Ideal) arg14.view.junk ((pb_k0_t2 (F := Ideal) 𝒱 c none i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) (k0_pay67 (F := Ideal) (arg3.view.readAt (Elt Ideal) (Rect.unit (s := S1x1024x128) ![0, 0, 0] S1x1024x128.size inb_S1x1024x128_S1x1024x128_0_0_0).toLoadRect X3) (arg8.view.readAt (Elt Ideal) (Rect.unit (s := S1x128) ![0, 0] S1x128.size inb_S1x128_S1x128_0_0).toLoadRect X8)) (runRest.sl.r (F := Ideal) arg3 arg8 X3 X8) (runRest.sl.v41 i) (runRest.sl.r_1 (F := Ideal) i arg6 X6) (runRest.sl.r_2 (F := Ideal) i arg6 X6) 0#32 (runRest.sl.r_3 (F := Ideal) arg11 Z11) (runRest.sl.r_4 (F := Ideal) i arg6 X6) X6 Z11 Z12 (arg13.view.writes (Elt Ideal) arg13.view.junk (runRest.sl.H13_1 (F := Ideal))) (arg14.view.writes (Elt Ideal) arg14.view.junk (runRest.sl.H14_1 (F := Ideal))) (arg15.view.writes (Elt Ideal) X15 [(⟨Rect.unit (s := S2x2x512x1024) ![0, 1, 0, 0] S1x1x512x1024.size inb_S2x2x512x1024_S1x1x512x1024_0_1_0_0, k0_pay77 (runRest.sl.r (F := Ideal) arg3 arg8 X3 X8) (runRest.sl.r_2 (F := Ideal) i arg6 X6) (runRest.sl.r_3 (F := Ideal) arg11 Z11) (arg6.view.readAt (Elt Ideal) (Rect.unit (s := S1x2x1x16384) ![0, 1, 0, 0] S1x1x1x512.size inb_S1x2x1x16384_S1x1x1x512_0_1_0_0).toLoadRect X6)⟩ : View.Piece (Elt Ideal) S2x2x512x1024 .f32), (⟨Rect.unit (s := S2x2x512x1024) ![0, 0, 0, 0] S1x1x512x1024.size inb_S2x2x512x1024_S1x1x512x1024_0_0_0_0, k0_pay76 (k0_pay67 (F := Ideal) (arg3.view.readAt (Elt Ideal) (Rect.unit (s := S1x1024x128) ![0, 0, 0] S1x1024x128.size inb_S1x1024x128_S1x1024x128_0_0_0).toLoadRect X3) (arg8.view.readAt (Elt Ideal) (Rect.unit (s := S1x128) ![0, 0] S1x128.size inb_S1x128_S1x128_0_0).toLoadRect X8)) (runRest.sl.r_3 (F := Ideal) arg11 Z11) (runRest.sl.r_4 (F := Ideal) i arg6 X6)⟩ : View.Piece (Elt Ideal) S2x2x512x1024 .f32)]) (k0_t2_loop i).trips).2.1 ++ (runRest.sl.H14_1 (F := Ideal))))
      (arg15.view.writes (Elt Ideal) X15 ((pb_k0_t2 (F := Ideal) 𝒱 c none i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) (k0_pay67 (F := Ideal) (arg3.view.readAt (Elt Ideal) (Rect.unit (s := S1x1024x128) ![0, 0, 0] S1x1024x128.size inb_S1x1024x128_S1x1024x128_0_0_0).toLoadRect X3) (arg8.view.readAt (Elt Ideal) (Rect.unit (s := S1x128) ![0, 0] S1x128.size inb_S1x128_S1x128_0_0).toLoadRect X8)) (runRest.sl.r (F := Ideal) arg3 arg8 X3 X8) (runRest.sl.v41 i) (runRest.sl.r_1 (F := Ideal) i arg6 X6) (runRest.sl.r_2 (F := Ideal) i arg6 X6) 0#32 (runRest.sl.r_3 (F := Ideal) arg11 Z11) (runRest.sl.r_4 (F := Ideal) i arg6 X6) X6 Z11 Z12 (arg13.view.writes (Elt Ideal) arg13.view.junk (runRest.sl.H13_1 (F := Ideal))) (arg14.view.writes (Elt Ideal) arg14.view.junk (runRest.sl.H14_1 (F := Ideal))) (arg15.view.writes (Elt Ideal) X15 [(⟨Rect.unit (s := S2x2x512x1024) ![0, 1, 0, 0] S1x1x512x1024.size inb_S2x2x512x1024_S1x1x512x1024_0_1_0_0, k0_pay77 (runRest.sl.r (F := Ideal) arg3 arg8 X3 X8) (runRest.sl.r_2 (F := Ideal) i arg6 X6) (runRest.sl.r_3 (F := Ideal) arg11 Z11) (arg6.view.readAt (Elt Ideal) (Rect.unit (s := S1x2x1x16384) ![0, 1, 0, 0] S1x1x1x512.size inb_S1x2x1x16384_S1x1x1x512_0_1_0_0).toLoadRect X6)⟩ : View.Piece (Elt Ideal) S2x2x512x1024 .f32), (⟨Rect.unit (s := S2x2x512x1024) ![0, 0, 0, 0] S1x1x512x1024.size inb_S2x2x512x1024_S1x1x512x1024_0_0_0_0, k0_pay76 (k0_pay67 (F := Ideal) (arg3.view.readAt (Elt Ideal) (Rect.unit (s := S1x1024x128) ![0, 0, 0] S1x1024x128.size inb_S1x1024x128_S1x1024x128_0_0_0).toLoadRect X3) (arg8.view.readAt (Elt Ideal) (Rect.unit (s := S1x128) ![0, 0] S1x128.size inb_S1x128_S1x128_0_0).toLoadRect X8)) (runRest.sl.r_3 (F := Ideal) arg11 Z11) (runRest.sl.r_4 (F := Ideal) i arg6 X6)⟩ : View.Piece (Elt Ideal) S2x2x512x1024 .f32)]) (k0_t2_loop i).trips).2.2 ++ [(⟨Rect.unit (s := S2x2x512x1024) ![0, 1, 0, 0] S1x1x512x1024.size inb_S2x2x512x1024_S1x1x512x1024_0_1_0_0, k0_pay77 (runRest.sl.r (F := Ideal) arg3 arg8 X3 X8) (runRest.sl.r_2 (F := Ideal) i arg6 X6) (runRest.sl.r_3 (F := Ideal) arg11 Z11) (arg6.view.readAt (Elt Ideal) (Rect.unit (s := S1x2x1x16384) ![0, 1, 0, 0] S1x1x1x512.size inb_S1x2x1x16384_S1x1x1x512_0_1_0_0).toLoadRect X6)⟩ : View.Piece (Elt Ideal) S2x2x512x1024 .f32), (⟨Rect.unit (s := S2x2x512x1024) ![0, 0, 0, 0] S1x1x512x1024.size inb_S2x2x512x1024_S1x1x512x1024_0_0_0_0, k0_pay76 (k0_pay67 (F := Ideal) (arg3.view.readAt (Elt Ideal) (Rect.unit (s := S1x1024x128) ![0, 0, 0] S1x1024x128.size inb_S1x1024x128_S1x1024x128_0_0_0).toLoadRect X3) (arg8.view.readAt (Elt Ideal) (Rect.unit (s := S1x128) ![0, 0] S1x128.size inb_S1x128_S1x128_0_0).toLoadRect X8)) (runRest.sl.r_3 (F := Ideal) arg11 Z11) (runRest.sl.r_4 (F := Ideal) i arg6 X6)⟩ : View.Piece (Elt Ideal) S2x2x512x1024 .f32)])) := by
  rw [View.writes_append, View.writes_append, View.writes_append, ← t2_trips i]
  exact loop_inv X6 Z11 Z12 _ _ _ hS ⟨entry13 _, entry14 _, entry15 _⟩ _ le_rfl

theorem loop_end15 (f : BufTy.Contents (Elt Ideal) arg15.view.ty) (h : Fin 2) (j : Fin 512) (r : Fin 1024) :
    hs arg15.view (arg15.view.writes (Elt Ideal) f ((pb_k0_t2 (F := Ideal) 𝒱 c none i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) (k0_pay67 (F := Ideal) (arg3.view.readAt (Elt Ideal) (Rect.unit (s := S1x1024x128) ![0, 0, 0] S1x1024x128.size inb_S1x1024x128_S1x1024x128_0_0_0).toLoadRect X3) (arg8.view.readAt (Elt Ideal) (Rect.unit (s := S1x128) ![0, 0] S1x128.size inb_S1x128_S1x128_0_0).toLoadRect X8)) (runRest.sl.r (F := Ideal) arg3 arg8 X3 X8) (runRest.sl.v41 i) (runRest.sl.r_1 (F := Ideal) i arg6 X6) (runRest.sl.r_2 (F := Ideal) i arg6 X6) 0#32 (runRest.sl.r_3 (F := Ideal) arg11 Z11) (runRest.sl.r_4 (F := Ideal) i arg6 X6) X6 Z11 Z12 (arg13.view.writes (Elt Ideal) arg13.view.junk (runRest.sl.H13_1 (F := Ideal))) (arg14.view.writes (Elt Ideal) arg14.view.junk (runRest.sl.H14_1 (F := Ideal))) (arg15.view.writes (Elt Ideal) X15 [(⟨Rect.unit (s := S2x2x512x1024) ![0, 1, 0, 0] S1x1x512x1024.size inb_S2x2x512x1024_S1x1x512x1024_0_1_0_0, k0_pay77 (runRest.sl.r (F := Ideal) arg3 arg8 X3 X8) (runRest.sl.r_2 (F := Ideal) i arg6 X6) (runRest.sl.r_3 (F := Ideal) arg11 Z11) (arg6.view.readAt (Elt Ideal) (Rect.unit (s := S1x2x1x16384) ![0, 1, 0, 0] S1x1x1x512.size inb_S1x2x1x16384_S1x1x1x512_0_1_0_0).toLoadRect X6)⟩ : View.Piece (Elt Ideal) S2x2x512x1024 .f32), (⟨Rect.unit (s := S2x2x512x1024) ![0, 0, 0, 0] S1x1x512x1024.size inb_S2x2x512x1024_S1x1x512x1024_0_0_0_0, k0_pay76 (k0_pay67 (F := Ideal) (arg3.view.readAt (Elt Ideal) (Rect.unit (s := S1x1024x128) ![0, 0, 0] S1x1024x128.size inb_S1x1024x128_S1x1024x128_0_0_0).toLoadRect X3) (arg8.view.readAt (Elt Ideal) (Rect.unit (s := S1x128) ![0, 0] S1x128.size inb_S1x128_S1x128_0_0).toLoadRect X8)) (runRest.sl.r_3 (F := Ideal) arg11 Z11) (runRest.sl.r_4 (F := Ideal) i arg6 X6)⟩ : View.Piece (Elt Ideal) S2x2x512x1024 .f32)]) (k0_t2_loop i).trips).2.2 ++ [(⟨Rect.unit (s := S2x2x512x1024) ![0, 1, 0, 0] S1x1x512x1024.size inb_S2x2x512x1024_S1x1x512x1024_0_1_0_0, k0_pay77 (runRest.sl.r (F := Ideal) arg3 arg8 X3 X8) (runRest.sl.r_2 (F := Ideal) i arg6 X6) (runRest.sl.r_3 (F := Ideal) arg11 Z11) (arg6.view.readAt (Elt Ideal) (Rect.unit (s := S1x2x1x16384) ![0, 1, 0, 0] S1x1x1x512.size inb_S1x2x1x16384_S1x1x1x512_0_1_0_0).toLoadRect X6)⟩ : View.Piece (Elt Ideal) S2x2x512x1024 .f32), (⟨Rect.unit (s := S2x2x512x1024) ![0, 0, 0, 0] S1x1x512x1024.size inb_S2x2x512x1024_S1x1x512x1024_0_0_0_0, k0_pay76 (k0_pay67 (F := Ideal) (arg3.view.readAt (Elt Ideal) (Rect.unit (s := S1x1024x128) ![0, 0, 0] S1x1024x128.size inb_S1x1024x128_S1x1024x128_0_0_0).toLoadRect X3) (arg8.view.readAt (Elt Ideal) (Rect.unit (s := S1x128) ![0, 0] S1x128.size inb_S1x128_S1x128_0_0).toLoadRect X8)) (runRest.sl.r_3 (F := Ideal) arg11 Z11) (runRest.sl.r_4 (F := Ideal) i arg6 X6)⟩ : View.Piece (Elt Ideal) S2x2x512x1024 .f32)])) 0 h j r = (SS i arg3 arg6 arg8 arg11 X3 X6 X8 Z11) h r ((1024 * (i 2).val) + j.val) := by
  rw [View.writes_append, ← t2_trips i]
  exact loop15 X6 Z11 Z12 _ _ _ _ (entry15 f) _ le_rfl h j r

end

end Cert.KernelIdeal.Body

end
-- ==== Proof.Final.lean ====
module

public import proofs.«01_k».proof.Proof.Gen.KernelIdeal.Frame
public import proofs.«01_k».proof.Proof.Entry

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Cert.Attn (acc acc_add acc_zero)

set_option maxHeartbeats 1000000

/-- Head 0's values, 512 keys from key `o`. -/
theorem r12v_0 (v : View sig .tc .vmem S2x128x16384 .bf16) (f : v.ty.Contents (Elt Ideal)) {off : Fin 3 → ℕ} {o : ℕ} (heq : off = ![0, 0, o])
    (inb : ∀ a, off a + S1x80x512.size a ≤ S2x128x16384.size a) :
    v.readAt (Elt Ideal) (Rect.unit (s := S2x128x16384) off S1x80x512.size inb).toLoadRect f
      = fun x : S1x80x512.Idx => (fun (d : Fin 80) (j : Fin 512) => vl (va v f) 0 d (o + j.val)) (x 1 : Fin 80) (x 2 : Fin 512) :=
  r12_0 v f heq inb

/-- Head 1's values, 512 keys from key `o`. -/
theorem r12v_1 (v : View sig .tc .vmem S2x128x16384 .bf16) (f : v.ty.Contents (Elt Ideal)) {off : Fin 3 → ℕ} {o : ℕ} (heq : off = ![1, 48, o])
    (inb : ∀ a, off a + S1x80x512.size a ≤ S2x128x16384.size a) :
    v.readAt (Elt Ideal) (Rect.unit (s := S2x128x16384) off S1x80x512.size inb).toLoadRect f
      = fun x : S1x80x512.Idx => (fun (d : Fin 80) (j : Fin 512) => vl (va v f) 1 d (o + j.val)) (x 1 : Fin 80) (x 2 : Fin 512) :=
  r12_1 v f heq inb

section

variable {𝒱 : Variants} {c : Dev nD} {bd : Option 𝒱.V} {i : grid0.Coords} {arg3 : Memref sig .tc .vmem S1x1024x128 .bf16} {harg3 : arg3.IsWhole} {arg4 : Memref sig .tc .vmem S1x16384x128 .bf16} {harg4 : arg4.IsWhole} {arg5 : Memref sig .tc .vmem S1x128x16384 .bf16} {harg5 : arg5.IsWhole} {arg6 : Memref sig .tc .vmem S1x2x1x16384 .f32} {harg6 : arg6.IsWhole} {arg7 : Memref sig .tc .vmem S1x1024x128 .bf16} {harg7 : arg7.IsWhole} {arg8 : Memref sig .tc .vmem S1x128 .f32} {harg8 : arg8.IsWhole} {arg9 : Memref sig .tc .vmem S1x128 .f32} {harg9 : arg9.IsWhole} {arg10 : Memref sig .tc .vmem S1x1024x128 .bf16} {harg10 : arg10.IsWhole} {arg11 : Memref sig .tc .vmem S16384x128 .bf16} {harg11 : arg11.IsWhole} {arg12 : Memref sig .tc .vmem S2x128x16384 .bf16} {harg12 : arg12.IsWhole} {arg13 : Memref sig .tc .vmem S2x1x1024 .f32} {harg13 : arg13.IsWhole} {arg14 : Memref sig .tc .vmem S2x80x1024 .f32} {harg14 : arg14.IsWhole} {arg15 : Memref sig .tc .vmem S2x2x512x1024 .f32} {harg15 : arg15.IsWhole} {X3 : BufTy.Contents (Elt Ideal) arg3.view.ty} {X6 : BufTy.Contents (Elt Ideal) arg6.view.ty} {X7 : BufTy.Contents (Elt Ideal) arg7.view.ty} {X8 : BufTy.Contents (Elt Ideal) arg8.view.ty} {X10 : BufTy.Contents (Elt Ideal) arg10.view.ty} {X15 : BufTy.Contents (Elt Ideal) arg15.view.ty} {Z11 : BufTy.Contents (Elt Ideal) arg11.view.ty} {Z12 : BufTy.Contents (Elt Ideal) arg12.view.ty}

/-- The scores in both slots when the diagonal is reached. -/
theorem slots (f : BufTy.Contents (Elt Ideal) arg15.view.ty) (g h : Fin 2) (j : Fin 512) (r : Fin 1024) :
    hs arg15.view (arg15.view.writes (Elt Ideal) f (runRest.sl.H15_2 (F := Ideal) 𝒱 c i arg3 harg3 arg4 harg4 arg5 harg5 arg6 harg6 arg7 harg7 arg8 harg8 arg9 harg9 arg10 harg10 arg11 harg11 arg12 harg12 arg13 harg13 arg14 harg14 arg15 harg15 X3 X6 X8 X15 Z11 Z12)) g h j r = (SS i arg3 arg6 arg8 arg11 X3 X6 X8 Z11) h r ((if g = 0 then (1024 * (i 2).val) else (1024 * (i 2).val) + 512) + j.val) := by
  unfold runRest.sl.H15_2 runRest.sl.r_5
  obtain rfl | rfl := two g
  · unfold hs
    rw [t3_trips, pb_k0_t3.eq_1, w15, if_neg (by omega), w15, if_neg (by omega)]
    exact loop_end15 f h j r
  · unfold hs
    obtain rfl | rfl := two h
    · rw [w15, if_neg (by decide), w15, if_pos ⟨rfl, rfl⟩, r11 _ _ (k0_off22_eq i), r6_0 _ _ (k0_off23_eq i)]
      exact pay82_at _ _ _ _ _ j r
    · rw [w15, if_pos ⟨rfl, rfl⟩, r11 _ _ (k0_off22_eq i), r6_1 _ _ (k0_off24_eq i)]
      exact pay83_at _ _ _ _ _ j r

theorem v145_eq : runRest.sl.v145 (F := Ideal) 𝒱 c i arg3 harg3 arg4 harg4 arg5 harg5 arg6 harg6 arg7 harg7 arg8 harg8 arg9 harg9 arg10 harg10 arg11 harg11 arg12 harg12 arg13 harg13 arg14 harg14 arg15 harg15 X3 X6 X8 X15 Z11 Z12 = fun x : S1x1x512x1024.Idx => (fun (j : Fin 512) r => (SS i arg3 arg6 arg8 arg11 X3 X6 X8 Z11) 0 r ((1024 * (i 2).val) + j.val)) (x 2 : Fin 512) (x 3 : Fin 1024) := by
  unfold runRest.sl.v145 View.readCov
  rw [r15_00]
  exact funext fun x => slots _ 0 0 (x 2 : Fin 512) (x 3 : Fin 1024)

theorem v178_eq : runRest.sl.v178 (F := Ideal) 𝒱 c i arg3 harg3 arg4 harg4 arg5 harg5 arg6 harg6 arg7 harg7 arg8 harg8 arg9 harg9 arg10 harg10 arg11 harg11 arg12 harg12 arg13 harg13 arg14 harg14 arg15 harg15 X3 X6 X8 X15 Z11 Z12 = fun x : S1x1x512x1024.Idx => (fun (j : Fin 512) r => (SS i arg3 arg6 arg8 arg11 X3 X6 X8 Z11) 1 r ((1024 * (i 2).val) + j.val)) (x 2 : Fin 512) (x 3 : Fin 1024) := by
  unfold runRest.sl.v178 View.readCov
  rw [r15_01]
  exact funext fun x => slots _ 0 1 (x 2 : Fin 512) (x 3 : Fin 1024)

theorem v213_eq : runRest.sl.v213 (F := Ideal) 𝒱 c i arg3 harg3 arg4 harg4 arg5 harg5 arg6 harg6 arg7 harg7 arg8 harg8 arg9 harg9 arg10 harg10 arg11 harg11 arg12 harg12 arg13 harg13 arg14 harg14 arg15 harg15 X3 X6 X8 X15 Z11 Z12 = fun x : S1x1x512x1024.Idx => (fun (j : Fin 512) r => (SS i arg3 arg6 arg8 arg11 X3 X6 X8 Z11) 0 r ((1024 * (i 2).val) + 512 + j.val)) (x 2 : Fin 512) (x 3 : Fin 1024) := by
  unfold runRest.sl.v213 View.readCov
  rw [r15_10]
  exact funext fun x => slots _ 1 0 (x 2 : Fin 512) (x 3 : Fin 1024)

theorem v246_eq : runRest.sl.v246 (F := Ideal) 𝒱 c i arg3 harg3 arg4 harg4 arg5 harg5 arg6 harg6 arg7 harg7 arg8 harg8 arg9 harg9 arg10 harg10 arg11 harg11 arg12 harg12 arg13 harg13 arg14 harg14 arg15 harg15 X3 X6 X8 X15 Z11 Z12 = fun x : S1x1x512x1024.Idx => (fun (j : Fin 512) r => (SS i arg3 arg6 arg8 arg11 X3 X6 X8 Z11) 1 r ((1024 * (i 2).val) + 512 + j.val)) (x 2 : Fin 512) (x 3 : Fin 1024) := by
  unfold runRest.sl.v246 View.readCov
  rw [r15_11]
  exact funext fun x => slots _ 1 1 (x 2 : Fin 512) (x 3 : Fin 1024)

/-- The program's mask on the diagonal's first half. -/
theorem mk_TT0 (h : Fin 2) : mk (runRest.sl.v41 i) (Scalar.addi (runRest.sl.v41 i) 0#32) (fun j r => (SS i arg3 arg6 arg8 arg11 X3 X6 X8 Z11) h r ((1024 * (i 2).val) + j.val)) = fun j r => (TT i arg3 arg6 arg8 arg11 X3 X6 X8 Z11) h r ((1024 * (i 2).val) + j.val) := by
  funext j r
  rw [mk_eq (runRest.sl.v41 i) 0 (by omega)]
  unfold TT
  exact if_congr (by omega) rfl rfl

/-- The program's mask on the diagonal's second half. -/
theorem mk_TT1 (h : Fin 2) : mk (runRest.sl.v41 i) (Scalar.addi (runRest.sl.v41 i) 512#32) (fun j r => (SS i arg3 arg6 arg8 arg11 X3 X6 X8 Z11) h r ((1024 * (i 2).val) + 512 + j.val)) = fun j r => (TT i arg3 arg6 arg8 arg11 X3 X6 X8 Z11) h r ((1024 * (i 2).val) + 512 + j.val) := by
  funext j r
  rw [mk_eq (runRest.sl.v41 i) 512 (by omega)]
  unfold TT
  exact if_congr (by omega) rfl rfl

/-- Before the diagonal nothing is masked. -/
theorem SS_TT (h : Fin 2) (r : Fin 1024) (j : ℕ) (hj : j < (1024 * (i 2).val)) : (SS i arg3 arg6 arg8 arg11 X3 X6 X8 Z11) h r j = (TT i arg3 arg6 arg8 arg11 X3 X6 X8 Z11) h r j := by
  unfold TT
  rw [if_pos (by omega)]

theorem TT_ne_top (hS : ∀ h r n, (SS i arg3 arg6 arg8 arg11 X3 X6 X8 Z11) h r n ≠ ⊤) (h : Fin 2) (r : Fin 1024) (n : ℕ) : (TT i arg3 arg6 arg8 arg11 X3 X6 X8 Z11) h r n ≠ ⊤ := by
  unfold TT
  split
  · exact hS h r n
  · exact bot_ne_top

variable (hS : ∀ h r n, (SS i arg3 arg6 arg8 arg11 X3 X6 X8 Z11) h r n ≠ ⊤)
include hS

/-- The maxima when the diagonal is reached. -/
theorem start13 (h : Fin 2) (r : Fin 1024) :
    hm arg13.view (arg13.view.writes (Elt Ideal) arg13.view.junk ((pb_k0_t2 (F := Ideal) 𝒱 c none i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) (k0_pay67 (F := Ideal) (arg3.view.readAt (Elt Ideal) (Rect.unit (s := S1x1024x128) ![0, 0, 0] S1x1024x128.size inb_S1x1024x128_S1x1024x128_0_0_0).toLoadRect X3) (arg8.view.readAt (Elt Ideal) (Rect.unit (s := S1x128) ![0, 0] S1x128.size inb_S1x128_S1x128_0_0).toLoadRect X8)) (runRest.sl.r (F := Ideal) arg3 arg8 X3 X8) (runRest.sl.v41 i) (runRest.sl.r_1 (F := Ideal) i arg6 X6) (runRest.sl.r_2 (F := Ideal) i arg6 X6) 0#32 (runRest.sl.r_3 (F := Ideal) arg11 Z11) (runRest.sl.r_4 (F := Ideal) i arg6 X6) X6 Z11 Z12 (arg13.view.writes (Elt Ideal) arg13.view.junk (runRest.sl.H13_1 (F := Ideal))) (arg14.view.writes (Elt Ideal) arg14.view.junk (runRest.sl.H14_1 (F := Ideal))) (arg15.view.writes (Elt Ideal) X15 [(⟨Rect.unit (s := S2x2x512x1024) ![0, 1, 0, 0] S1x1x512x1024.size inb_S2x2x512x1024_S1x1x512x1024_0_1_0_0, k0_pay77 (runRest.sl.r (F := Ideal) arg3 arg8 X3 X8) (runRest.sl.r_2 (F := Ideal) i arg6 X6) (runRest.sl.r_3 (F := Ideal) arg11 Z11) (arg6.view.readAt (Elt Ideal) (Rect.unit (s := S1x2x1x16384) ![0, 1, 0, 0] S1x1x1x512.size inb_S1x2x1x16384_S1x1x1x512_0_1_0_0).toLoadRect X6)⟩ : View.Piece (Elt Ideal) S2x2x512x1024 .f32), (⟨Rect.unit (s := S2x2x512x1024) ![0, 0, 0, 0] S1x1x512x1024.size inb_S2x2x512x1024_S1x1x512x1024_0_0_0_0, k0_pay76 (k0_pay67 (F := Ideal) (arg3.view.readAt (Elt Ideal) (Rect.unit (s := S1x1024x128) ![0, 0, 0] S1x1024x128.size inb_S1x1024x128_S1x1024x128_0_0_0).toLoadRect X3) (arg8.view.readAt (Elt Ideal) (Rect.unit (s := S1x128) ![0, 0] S1x128.size inb_S1x128_S1x128_0_0).toLoadRect X8)) (runRest.sl.r_3 (F := Ideal) arg11 Z11) (runRest.sl.r_4 (F := Ideal) i arg6 X6)⟩ : View.Piece (Elt Ideal) S2x2x512x1024 .f32)]) (k0_t2_loop i).trips).1 ++ (runRest.sl.H13_1 (F := Ideal)))) h r = Attn.top ((TT i arg3 arg6 arg8 arg11 X3 X6 X8 Z11) h r) (1024 * (i 2).val) :=
  ((loop_end hS).hm h r).trans (top_congr (SS_TT h r))

/-- The sums when the diagonal is reached. -/
theorem start14 (h : Fin 2) (d : Fin 80) (r : Fin 1024) :
    ha arg14.view (arg14.view.writes (Elt Ideal) arg14.view.junk ((pb_k0_t2 (F := Ideal) 𝒱 c none i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) (k0_pay67 (F := Ideal) (arg3.view.readAt (Elt Ideal) (Rect.unit (s := S1x1024x128) ![0, 0, 0] S1x1024x128.size inb_S1x1024x128_S1x1024x128_0_0_0).toLoadRect X3) (arg8.view.readAt (Elt Ideal) (Rect.unit (s := S1x128) ![0, 0] S1x128.size inb_S1x128_S1x128_0_0).toLoadRect X8)) (runRest.sl.r (F := Ideal) arg3 arg8 X3 X8) (runRest.sl.v41 i) (runRest.sl.r_1 (F := Ideal) i arg6 X6) (runRest.sl.r_2 (F := Ideal) i arg6 X6) 0#32 (runRest.sl.r_3 (F := Ideal) arg11 Z11) (runRest.sl.r_4 (F := Ideal) i arg6 X6) X6 Z11 Z12 (arg13.view.writes (Elt Ideal) arg13.view.junk (runRest.sl.H13_1 (F := Ideal))) (arg14.view.writes (Elt Ideal) arg14.view.junk (runRest.sl.H14_1 (F := Ideal))) (arg15.view.writes (Elt Ideal) X15 [(⟨Rect.unit (s := S2x2x512x1024) ![0, 1, 0, 0] S1x1x512x1024.size inb_S2x2x512x1024_S1x1x512x1024_0_1_0_0, k0_pay77 (runRest.sl.r (F := Ideal) arg3 arg8 X3 X8) (runRest.sl.r_2 (F := Ideal) i arg6 X6) (runRest.sl.r_3 (F := Ideal) arg11 Z11) (arg6.view.readAt (Elt Ideal) (Rect.unit (s := S1x2x1x16384) ![0, 1, 0, 0] S1x1x1x512.size inb_S1x2x1x16384_S1x1x1x512_0_1_0_0).toLoadRect X6)⟩ : View.Piece (Elt Ideal) S2x2x512x1024 .f32), (⟨Rect.unit (s := S2x2x512x1024) ![0, 0, 0, 0] S1x1x512x1024.size inb_S2x2x512x1024_S1x1x512x1024_0_0_0_0, k0_pay76 (k0_pay67 (F := Ideal) (arg3.view.readAt (Elt Ideal) (Rect.unit (s := S1x1024x128) ![0, 0, 0] S1x1024x128.size inb_S1x1024x128_S1x1024x128_0_0_0).toLoadRect X3) (arg8.view.readAt (Elt Ideal) (Rect.unit (s := S1x128) ![0, 0] S1x128.size inb_S1x128_S1x128_0_0).toLoadRect X8)) (runRest.sl.r_3 (F := Ideal) arg11 Z11) (runRest.sl.r_4 (F := Ideal) i arg6 X6)⟩ : View.Piece (Elt Ideal) S2x2x512x1024 .f32)]) (k0_t2_loop i).trips).2.1 ++ (runRest.sl.H14_1 (F := Ideal)))) h d r = acc ((TT i arg3 arg6 arg8 arg11 X3 X6 X8 Z11) h r) ((vl (va arg12.view Z12)) h d) (1024 * (i 2).val) :=
  ((loop_end hS).ha h d r).trans (acc_congr _ (SS_TT h r))

theorem v152_eq : runRest.sl.v152 (F := Ideal) 𝒱 c i arg3 harg3 arg4 harg4 arg5 harg5 arg6 harg6 arg7 harg7 arg8 harg8 arg9 harg9 arg10 harg10 arg11 harg11 arg12 harg12 arg13 harg13 arg14 harg14 arg15 harg15 X3 X6 X8 X15 Z11 Z12 = fun x : S1x1x1024.Idx => (fun r => Attn.top ((TT i arg3 arg6 arg8 arg11 X3 X6 X8 Z11) 0 r) (1024 * (i 2).val)) (x 2 : Fin 1024) := by
  unfold runRest.sl.v152 View.readCov
  rw [t3_trips, pb_k0_t3.eq_1, r13_0]
  exact funext fun x => start13 hS 0 (x 2 : Fin 1024)

theorem v163_eq : runRest.sl.v163 (F := Ideal) 𝒱 c i arg3 harg3 arg4 harg4 arg5 harg5 arg6 harg6 arg7 harg7 arg8 harg8 arg9 harg9 arg10 harg10 arg11 harg11 arg12 harg12 arg13 harg13 arg14 harg14 arg15 harg15 X3 X6 X8 X15 Z11 Z12 = fun x : S1x80x1024.Idx => (fun d r => acc ((TT i arg3 arg6 arg8 arg11 X3 X6 X8 Z11) 0 r) ((vl (va arg12.view Z12)) 0 d) (1024 * (i 2).val)) (x 1 : Fin 80) (x 2 : Fin 1024) := by
  unfold runRest.sl.v163 View.readCov
  rw [t3_trips, pb_k0_t3.eq_1, r14_0]
  exact funext fun x => start14 hS 0 (x 1 : Fin 80) (x 2 : Fin 1024)

/-- The maxima after head 0's first masked chunk. -/
theorem m_1 (h : Fin 2) (r : Fin 1024) :
    hm arg13.view (arg13.view.writes (Elt Ideal) arg13.view.junk (runRest.sl.H13_1_1 (F := Ideal) 𝒱 c i arg3 harg3 arg4 harg4 arg5 harg5 arg6 harg6 arg7 harg7 arg8 harg8 arg9 harg9 arg10 harg10 arg11 harg11 arg12 harg12 arg13 harg13 arg14 harg14 arg15 harg15 X3 X6 X8 X15 Z11 Z12)) h r = Attn.top ((TT i arg3 arg6 arg8 arg11 X3 X6 X8 Z11) h r) (if h = 0 then (1024 * (i 2).val) + 512 else (1024 * (i 2).val)) := by
  unfold runRest.sl.H13_1_1 hm
  obtain rfl | rfl := two h
  · rw [w13, if_pos (by decide), v145_eq, v152_eq hS]
    unfold runRest.sl.v143
    refine (pay88_at (fun r => Attn.top ((TT i arg3 arg6 arg8 arg11 X3 X6 X8 Z11) 0 r) ((1024 * (i 2).val))) (fun (j : Fin 512) r => (SS i arg3 arg6 arg8 arg11 X3 X6 X8 Z11) 0 r ((1024 * (i 2).val) + j.val)) (runRest.sl.v41 i) (Scalar.addi (runRest.sl.v41 i) 0#32) r).trans ?_
    rw [mk_TT0]
    exact cmax_top ((TT i arg3 arg6 arg8 arg11 X3 X6 X8 Z11) 0) (1024 * (i 2).val) r
  · rw [w13, if_neg (by decide), t3_trips, pb_k0_t3.eq_1]
    exact start13 hS 1 r

/-- The sums after head 0's first masked chunk. -/
theorem a_1 (h : Fin 2) (d : Fin 80) (r : Fin 1024) :
    ha arg14.view (arg14.view.writes (Elt Ideal) arg14.view.junk (runRest.sl.H14_1_1 (F := Ideal) 𝒱 c i arg3 harg3 arg4 harg4 arg5 harg5 arg6 harg6 arg7 harg7 arg8 harg8 arg9 harg9 arg10 harg10 arg11 harg11 arg12 harg12 arg13 harg13 arg14 harg14 arg15 harg15 X3 X6 X8 X15 Z11 Z12)) h d r = acc ((TT i arg3 arg6 arg8 arg11 X3 X6 X8 Z11) h r) ((vl (va arg12.view Z12)) h d) (if h = 0 then (1024 * (i 2).val) + 512 else (1024 * (i 2).val)) := by
  unfold runRest.sl.H14_1_1 ha
  have e25 : k0_off25 i 0#32 = ![0, 0, (1024 * (i 2).val)] := k0_off25_eq i 0
  obtain rfl | rfl := two h
  · rw [w14, if_pos (by decide), v145_eq, v152_eq hS, v163_eq hS, r12v_0 _ _ e25]
    unfold runRest.sl.v143
    refine (pay87_at (fun r => Attn.top ((TT i arg3 arg6 arg8 arg11 X3 X6 X8 Z11) 0 r) ((1024 * (i 2).val))) (fun (j : Fin 512) r => (SS i arg3 arg6 arg8 arg11 X3 X6 X8 Z11) 0 r ((1024 * (i 2).val) + j.val)) (fun d r => acc ((TT i arg3 arg6 arg8 arg11 X3 X6 X8 Z11) 0 r) ((vl (va arg12.view Z12)) 0 d) ((1024 * (i 2).val))) (fun (d : Fin 80) (j : Fin 512) => (vl (va arg12.view Z12)) 0 d ((1024 * (i 2).val) + j.val)) (runRest.sl.v41 i) (Scalar.addi (runRest.sl.v41 i) 0#32) d r).trans ?_
    rw [mk_TT0, funext (cmax_top ((TT i arg3 arg6 arg8 arg11 X3 X6 X8 Z11) 0) (1024 * (i 2).val))]
    exact cacc_acc (TT_ne_top hS 0) ((vl (va arg12.view Z12)) 0) (1024 * (i 2).val) d r
  · rw [w14, if_neg (by decide), t3_trips, pb_k0_t3.eq_1]
    exact start14 hS 1 d r

theorem v185_eq : runRest.sl.v185 (F := Ideal) 𝒱 c i arg3 harg3 arg4 harg4 arg5 harg5 arg6 harg6 arg7 harg7 arg8 harg8 arg9 harg9 arg10 harg10 arg11 harg11 arg12 harg12 arg13 harg13 arg14 harg14 arg15 harg15 X3 X6 X8 X15 Z11 Z12 = fun x : S1x1x1024.Idx => (fun r => Attn.top ((TT i arg3 arg6 arg8 arg11 X3 X6 X8 Z11) 1 r) (1024 * (i 2).val)) (x 2 : Fin 1024) := by
  unfold runRest.sl.v185 View.readCov
  rw [r13_1]
  exact funext fun x => m_1 hS 1 (x 2 : Fin 1024)

theorem v196_eq : runRest.sl.v196 (F := Ideal) 𝒱 c i arg3 harg3 arg4 harg4 arg5 harg5 arg6 harg6 arg7 harg7 arg8 harg8 arg9 harg9 arg10 harg10 arg11 harg11 arg12 harg12 arg13 harg13 arg14 harg14 arg15 harg15 X3 X6 X8 X15 Z11 Z12 = fun x : S1x80x1024.Idx => (fun d r => acc ((TT i arg3 arg6 arg8 arg11 X3 X6 X8 Z11) 1 r) ((vl (va arg12.view Z12)) 1 d) (1024 * (i 2).val)) (x 1 : Fin 80) (x 2 : Fin 1024) := by
  unfold runRest.sl.v196 View.readCov
  rw [r14_1]
  exact funext fun x => a_1 hS 1 (x 1 : Fin 80) (x 2 : Fin 1024)

/-- The maxima after both heads' first masked chunks. -/
theorem m_2 (h : Fin 2) (r : Fin 1024) :
    hm arg13.view (arg13.view.writes (Elt Ideal) arg13.view.junk (runRest.sl.H13_2 (F := Ideal) 𝒱 c i arg3 harg3 arg4 harg4 arg5 harg5 arg6 harg6 arg7 harg7 arg8 harg8 arg9 harg9 arg10 harg10 arg11 harg11 arg12 harg12 arg13 harg13 arg14 harg14 arg15 harg15 X3 X6 X8 X15 Z11 Z12)) h r = Attn.top ((TT i arg3 arg6 arg8 arg11 X3 X6 X8 Z11) h r) ((1024 * (i 2).val) + 512) := by
  unfold runRest.sl.H13_2 hm
  obtain rfl | rfl := two h
  · rw [w13, if_neg (by decide)]
    exact m_1 hS 0 r
  · rw [w13, if_pos (by decide), v185_eq hS]
    unfold runRest.sl.r_6 runRest.sl.r_7 runRest.sl.v143
    rw [v178_eq]
    refine (pay95_at (fun r => Attn.top ((TT i arg3 arg6 arg8 arg11 X3 X6 X8 Z11) 1 r) ((1024 * (i 2).val))) (fun (j : Fin 512) r => (SS i arg3 arg6 arg8 arg11 X3 X6 X8 Z11) 1 r ((1024 * (i 2).val) + j.val)) (runRest.sl.v41 i) (Scalar.addi (runRest.sl.v41 i) 0#32) r).trans ?_
    rw [mk_TT0]
    exact cmax_top ((TT i arg3 arg6 arg8 arg11 X3 X6 X8 Z11) 1) (1024 * (i 2).val) r

/-- The sums after both heads' first masked chunks. -/
theorem a_2 (h : Fin 2) (d : Fin 80) (r : Fin 1024) :
    ha arg14.view (arg14.view.writes (Elt Ideal) arg14.view.junk (runRest.sl.H14_2 (F := Ideal) 𝒱 c i arg3 harg3 arg4 harg4 arg5 harg5 arg6 harg6 arg7 harg7 arg8 harg8 arg9 harg9 arg10 harg10 arg11 harg11 arg12 harg12 arg13 harg13 arg14 harg14 arg15 harg15 X3 X6 X8 X15 Z11 Z12)) h d r = acc ((TT i arg3 arg6 arg8 arg11 X3 X6 X8 Z11) h r) ((vl (va arg12.view Z12)) h d) ((1024 * (i 2).val) + 512) := by
  unfold runRest.sl.H14_2 ha
  have e26 : k0_off26 i 0#32 = ![1, 48, (1024 * (i 2).val)] := k0_off26_eq i 0
  obtain rfl | rfl := two h
  · rw [w14, if_neg (by decide)]
    exact a_1 hS 0 d r
  · rw [w14, if_pos (by decide), v185_eq hS, v196_eq hS, r12v_1 _ _ e26]
    unfold runRest.sl.r_6 runRest.sl.r_7 runRest.sl.v143
    rw [v178_eq]
    refine (pay94_at (fun r => Attn.top ((TT i arg3 arg6 arg8 arg11 X3 X6 X8 Z11) 1 r) ((1024 * (i 2).val))) (fun (j : Fin 512) r => (SS i arg3 arg6 arg8 arg11 X3 X6 X8 Z11) 1 r ((1024 * (i 2).val) + j.val)) (fun d r => acc ((TT i arg3 arg6 arg8 arg11 X3 X6 X8 Z11) 1 r) ((vl (va arg12.view Z12)) 1 d) ((1024 * (i 2).val))) (fun (d : Fin 80) (j : Fin 512) => (vl (va arg12.view Z12)) 1 d ((1024 * (i 2).val) + j.val)) (runRest.sl.v41 i) (Scalar.addi (runRest.sl.v41 i) 0#32) d r).trans ?_
    rw [mk_TT0, funext (cmax_top ((TT i arg3 arg6 arg8 arg11 X3 X6 X8 Z11) 1) (1024 * (i 2).val))]
    exact cacc_acc (TT_ne_top hS 1) ((vl (va arg12.view Z12)) 1) (1024 * (i 2).val) d r

theorem v220_eq : runRest.sl.v220 (F := Ideal) 𝒱 c i arg3 harg3 arg4 harg4 arg5 harg5 arg6 harg6 arg7 harg7 arg8 harg8 arg9 harg9 arg10 harg10 arg11 harg11 arg12 harg12 arg13 harg13 arg14 harg14 arg15 harg15 X3 X6 X8 X15 Z11 Z12 = fun x : S1x1x1024.Idx => (fun r => Attn.top ((TT i arg3 arg6 arg8 arg11 X3 X6 X8 Z11) 0 r) ((1024 * (i 2).val) + 512)) (x 2 : Fin 1024) := by
  unfold runRest.sl.v220 View.readCov
  rw [r13_0]
  exact funext fun x => m_2 hS 0 (x 2 : Fin 1024)

theorem v231_eq : runRest.sl.v231 (F := Ideal) 𝒱 c i arg3 harg3 arg4 harg4 arg5 harg5 arg6 harg6 arg7 harg7 arg8 harg8 arg9 harg9 arg10 harg10 arg11 harg11 arg12 harg12 arg13 harg13 arg14 harg14 arg15 harg15 X3 X6 X8 X15 Z11 Z12 = fun x : S1x80x1024.Idx => (fun d r => acc ((TT i arg3 arg6 arg8 arg11 X3 X6 X8 Z11) 0 r) ((vl (va arg12.view Z12)) 0 d) ((1024 * (i 2).val) + 512)) (x 1 : Fin 80) (x 2 : Fin 1024) := by
  unfold runRest.sl.v231 View.readCov
  rw [r14_0]
  exact funext fun x => a_2 hS 0 (x 1 : Fin 80) (x 2 : Fin 1024)

/-- The sums after head 0's last masked chunk. -/
theorem a_3 (h : Fin 2) (d : Fin 80) (r : Fin 1024) :
    ha arg14.view (arg14.view.writes (Elt Ideal) arg14.view.junk (runRest.sl.H14_3 (F := Ideal) 𝒱 c i arg3 harg3 arg4 harg4 arg5 harg5 arg6 harg6 arg7 harg7 arg8 harg8 arg9 harg9 arg10 harg10 arg11 harg11 arg12 harg12 arg13 harg13 arg14 harg14 arg15 harg15 X3 X6 X8 X15 Z11 Z12)) h d r = acc ((TT i arg3 arg6 arg8 arg11 X3 X6 X8 Z11) h r) ((vl (va arg12.view Z12)) h d) (if h = 0 then (1024 * (i 2).val) + 512 + 512 else (1024 * (i 2).val) + 512) := by
  unfold runRest.sl.H14_3 ha
  have e25 : k0_off25 i 512#32 = ![0, 0, (1024 * (i 2).val) + 512] := k0_off25_eq i 1
  obtain rfl | rfl := two h
  · rw [w14, if_pos (by decide), v220_eq hS, v231_eq hS, r12v_0 _ _ e25]
    unfold runRest.sl.r_8 runRest.sl.r_9
    rw [v213_eq]
    refine (pay101_at (fun r => Attn.top ((TT i arg3 arg6 arg8 arg11 X3 X6 X8 Z11) 0 r) ((1024 * (i 2).val) + 512)) (fun (j : Fin 512) r => (SS i arg3 arg6 arg8 arg11 X3 X6 X8 Z11) 0 r ((1024 * (i 2).val) + 512 + j.val)) (fun d r => acc ((TT i arg3 arg6 arg8 arg11 X3 X6 X8 Z11) 0 r) ((vl (va arg12.view Z12)) 0 d) ((1024 * (i 2).val) + 512)) (fun (d : Fin 80) (j : Fin 512) => (vl (va arg12.view Z12)) 0 d ((1024 * (i 2).val) + 512 + j.val)) (runRest.sl.v41 i) d r).trans ?_
    rw [mk_TT1, funext (cmax_top ((TT i arg3 arg6 arg8 arg11 X3 X6 X8 Z11) 0) ((1024 * (i 2).val) + 512))]
    exact cacc_acc (TT_ne_top hS 0) ((vl (va arg12.view Z12)) 0) ((1024 * (i 2).val) + 512) d r
  · rw [w14, if_neg (by decide)]
    exact a_2 hS 1 d r

theorem v253_eq : runRest.sl.v253 (F := Ideal) 𝒱 c i arg3 harg3 arg4 harg4 arg5 harg5 arg6 harg6 arg7 harg7 arg8 harg8 arg9 harg9 arg10 harg10 arg11 harg11 arg12 harg12 arg13 harg13 arg14 harg14 arg15 harg15 X3 X6 X8 X15 Z11 Z12 = fun x : S1x1x1024.Idx => (fun r => Attn.top ((TT i arg3 arg6 arg8 arg11 X3 X6 X8 Z11) 1 r) ((1024 * (i 2).val) + 512)) (x 2 : Fin 1024) := by
  unfold runRest.sl.v253 runRest.sl.H13_3 View.readCov
  rw [r13_1]
  exact funext fun x => (w13 _ _ 0 _ _ _ 1 0 (x 2 : Fin 1024)).trans ((if_neg (by decide)).trans (m_2 hS 1 (x 2 : Fin 1024)))

theorem v264_eq : runRest.sl.v264 (F := Ideal) 𝒱 c i arg3 harg3 arg4 harg4 arg5 harg5 arg6 harg6 arg7 harg7 arg8 harg8 arg9 harg9 arg10 harg10 arg11 harg11 arg12 harg12 arg13 harg13 arg14 harg14 arg15 harg15 X3 X6 X8 X15 Z11 Z12 = fun x : S1x80x1024.Idx => (fun d r => acc ((TT i arg3 arg6 arg8 arg11 X3 X6 X8 Z11) 1 r) ((vl (va arg12.view Z12)) 1 d) ((1024 * (i 2).val) + 512)) (x 1 : Fin 80) (x 2 : Fin 1024) := by
  unfold runRest.sl.v264 View.readCov
  rw [r14_1]
  exact funext fun x => a_3 hS 1 (x 1 : Fin 80) (x 2 : Fin 1024)

/-- Head 1's last masked chunk: the scores. -/
theorem r10_at (j : Fin 512) (r : Fin 1024) : runRest.sl.r_10 (F := Ideal) 𝒱 c i arg3 harg3 arg4 harg4 arg5 harg5 arg6 harg6 arg7 harg7 arg8 harg8 arg9 harg9 arg10 harg10 arg11 harg11 arg12 harg12 arg13 harg13 arg14 harg14 arg15 harg15 X3 X6 X8 X15 Z11 Z12 (ix2 j r) = (TT i arg3 arg6 arg8 arg11 X3 X6 X8 Z11) 1 r ((1024 * (i 2).val) + 512 + j.val) := by
  unfold runRest.sl.r_10 runRest.sl.v105
  rw [v246_eq]
  refine (pay103_at (fun (j : Fin 512) r => (SS i arg3 arg6 arg8 arg11 X3 X6 X8 Z11) 1 r ((1024 * (i 2).val) + 512 + j.val)) _ _ j r).trans ?_
  rw [mk_TT1]

/-- Head 1's last masked chunk: the maxima. -/
theorem v257_at (r : Fin 1024) : runRest.sl.v257 (F := Ideal) 𝒱 c i arg3 harg3 arg4 harg4 arg5 harg5 arg6 harg6 arg7 harg7 arg8 harg8 arg9 harg9 arg10 harg10 arg11 harg11 arg12 harg12 arg13 harg13 arg14 harg14 arg15 harg15 X3 X6 X8 X15 Z11 Z12 (ix2 0 r) = Attn.top ((TT i arg3 arg6 arg8 arg11 X3 X6 X8 Z11) 1 r) ((1024 * (i 2).val) + 512 + 512) := by
  unfold runRest.sl.v257 runRest.sl.v254 runRest.sl.v256 runRest.sl.v255
  rw [v253_eq hS]
  pointwise [neg_inf, r10_at hS]
  exact cmax_top ((TT i arg3 arg6 arg8 arg11 X3 X6 X8 Z11) 1) ((1024 * (i 2).val) + 512) r

/-- Head 1's last masked chunk: the sums. -/
theorem v275_at (d : Fin 80) (r : Fin 1024) : runRest.sl.v275 (F := Ideal) 𝒱 c i arg3 harg3 arg4 harg4 arg5 harg5 arg6 harg6 arg7 harg7 arg8 harg8 arg9 harg9 arg10 harg10 arg11 harg11 arg12 harg12 arg13 harg13 arg14 harg14 arg15 harg15 X3 X6 X8 X15 Z11 Z12 (ix3 0 d r) = acc ((TT i arg3 arg6 arg8 arg11 X3 X6 X8 Z11) 1 r) ((vl (va arg12.view Z12)) 1 d) ((1024 * (i 2).val) + 512 + 512) := by
  have e26 : k0_off26 i 512#32 = ![1, 48, (1024 * (i 2).val) + 512] := k0_off26_eq i 1
  unfold runRest.sl.v275 runRest.sl.v272 runRest.sl.v267 runRest.sl.v271 runRest.sl.v266 runRest.sl.v265 runRest.sl.v263 runRest.sl.v262 runRest.sl.v261 runRest.sl.v260 runRest.sl.v259 runRest.sl.v258 runRest.sl.v254 runRest.sl.v270 runRest.sl.cst_148
  rw [v253_eq hS, v264_eq hS, r12v_1 _ _ e26]
  pointwise [r10_at hS, v257_at hS]
  exact cacc_acc (TT_ne_top hS 1) ((vl (va arg12.view Z12)) 1) ((1024 * (i 2).val) + 512) d r

/-- The sums at the end. -/
theorem a_4 (h : Fin 2) (d : Fin 80) (r : Fin 1024) :
    ha arg14.view (arg14.view.writes (Elt Ideal) arg14.view.junk (runRest.sl.H14_4 (F := Ideal) 𝒱 c i arg3 harg3 arg4 harg4 arg5 harg5 arg6 harg6 arg7 harg7 arg8 harg8 arg9 harg9 arg10 harg10 arg11 harg11 arg12 harg12 arg13 harg13 arg14 harg14 arg15 harg15 X3 X6 X8 X15 Z11 Z12)) h d r = acc ((TT i arg3 arg6 arg8 arg11 X3 X6 X8 Z11) h r) ((vl (va arg12.view Z12)) h d) ((1024 * (i 2).val) + 512 + 512) := by
  unfold runRest.sl.H14_4 ha
  obtain rfl | rfl := two h
  · rw [w14, if_neg (by decide)]
    exact a_3 hS 0 d r
  · rw [w14, if_pos (by decide)]
    exact v275_at hS d r

end

end Cert.KernelIdeal.Body

end
-- ==== Proof.Out.lean ====
module

public import proofs.«01_k».proof.Proof.Gen.KernelIdeal.Frame
public import proofs.«01_k».proof.Proof.Final

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Cert.Attn (acc acc_add acc_zero)

set_option maxHeartbeats 1000000

/-- A whole block of rows, as loaded. -/
theorem rRow (v : View sig .tc .vmem S1x1024x128 .bf16) (f : v.ty.Contents (Elt Ideal)) (inb : ∀ a, (![0, 0, 0] : Fin 3 → ℕ) a + S1x1024x128.size a ≤ S1x1024x128.size a) :
    v.readAt (Elt Ideal) (Rect.unit (s := S1x1024x128) ![0, 0, 0] S1x1024x128.size inb).toLoadRect f = v.read (Elt Ideal) f :=
  funext fun x => readAt_at v f inb x x rfl (by
    intro a; fin_cases a
    · show (x 0 : Fin 1).val = 0 + (x 0 : Fin 1).val; omega
    · show (x 1 : Fin 1024).val = 0 + (x 1 : Fin 1024).val; omega
    · show (x 2 : Fin 128).val = 0 + (x 2 : Fin 128).val; omega)

section

variable {𝒱 : Variants} {c : Dev nD} {bd : Option 𝒱.V} {i : grid0.Coords} {arg3 : Memref sig .tc .vmem S1x1024x128 .bf16} {harg3 : arg3.IsWhole} {arg4 : Memref sig .tc .vmem S1x16384x128 .bf16} {harg4 : arg4.IsWhole} {arg5 : Memref sig .tc .vmem S1x128x16384 .bf16} {harg5 : arg5.IsWhole} {arg6 : Memref sig .tc .vmem S1x2x1x16384 .f32} {harg6 : arg6.IsWhole} {arg7 : Memref sig .tc .vmem S1x1024x128 .bf16} {harg7 : arg7.IsWhole} {arg8 : Memref sig .tc .vmem S1x128 .f32} {harg8 : arg8.IsWhole} {arg9 : Memref sig .tc .vmem S1x128 .f32} {harg9 : arg9.IsWhole} {arg10 : Memref sig .tc .vmem S1x1024x128 .bf16} {harg10 : arg10.IsWhole} {arg11 : Memref sig .tc .vmem S16384x128 .bf16} {harg11 : arg11.IsWhole} {arg12 : Memref sig .tc .vmem S2x128x16384 .bf16} {harg12 : arg12.IsWhole} {arg13 : Memref sig .tc .vmem S2x1x1024 .f32} {harg13 : arg13.IsWhole} {arg14 : Memref sig .tc .vmem S2x80x1024 .f32} {harg14 : arg14.IsWhole} {arg15 : Memref sig .tc .vmem S2x2x512x1024 .f32} {harg15 : arg15.IsWhole} {X3 : BufTy.Contents (Elt Ideal) arg3.view.ty} {X6 : BufTy.Contents (Elt Ideal) arg6.view.ty} {X7 : BufTy.Contents (Elt Ideal) arg7.view.ty} {X8 : BufTy.Contents (Elt Ideal) arg8.view.ty} {X10 : BufTy.Contents (Elt Ideal) arg10.view.ty} {X15 : BufTy.Contents (Elt Ideal) arg15.view.ty} {Z11 : BufTy.Contents (Elt Ideal) arg11.view.ty} {Z12 : BufTy.Contents (Elt Ideal) arg12.view.ty}

variable (hS : ∀ h (r : Fin 1024) n, (SS i arg3 arg6 arg8 arg11 X3 X6 X8 Z11) h r n ≠ ⊤)

include hS

theorem v279_eq : runRest.sl.v279 (F := Ideal) 𝒱 c i arg3 harg3 arg4 harg4 arg5 harg5 arg6 harg6 arg7 harg7 arg8 harg8 arg9 harg9 arg10 harg10 arg11 harg11 arg12 harg12 arg13 harg13 arg14 harg14 arg15 harg15 X3 X6 X8 X15 Z11 Z12 = fun x : S1x80x1024.Idx => acc ((TT i arg3 arg6 arg8 arg11 X3 X6 X8 Z11) 0 (x 2 : Fin 1024)) ((vl (va arg12.view Z12)) 0 (x 1 : Fin 80)) ((1024 * (i 2).val) + 512 + 512) := by
  unfold runRest.sl.v279 View.readCov
  rw [r14_0]
  exact funext fun x => a_4 hS 0 (x 1 : Fin 80) (x 2 : Fin 1024)

theorem v281_eq : runRest.sl.v281 (F := Ideal) 𝒱 c i arg3 harg3 arg4 harg4 arg5 harg5 arg6 harg6 arg7 harg7 arg8 harg8 arg9 harg9 arg10 harg10 arg11 harg11 arg12 harg12 arg13 harg13 arg14 harg14 arg15 harg15 X3 X6 X8 X15 Z11 Z12 = fun x : S1x80x1024.Idx => acc ((TT i arg3 arg6 arg8 arg11 X3 X6 X8 Z11) 1 (x 2 : Fin 1024)) ((vl (va arg12.view Z12)) 1 (x 1 : Fin 80)) ((1024 * (i 2).val) + 512 + 512) := by
  unfold runRest.sl.v281 View.readCov
  rw [r14_1]
  exact funext fun x => a_4 hS 1 (x 1 : Fin 80) (x 2 : Fin 1024)

theorem v286_at (d : Fin 64) (r : Fin 1024) : runRest.sl.v286 (F := Ideal) 𝒱 c i arg3 harg3 arg4 harg4 arg5 harg5 arg6 harg6 arg7 harg7 arg8 harg8 arg9 harg9 arg10 harg10 arg11 harg11 arg12 harg12 arg13 harg13 arg14 harg14 arg15 harg15 X3 X6 X8 X15 Z11 Z12 (ix2 d r)
    = Ideal.div (acc ((TT i arg3 arg6 arg8 arg11 X3 X6 X8 Z11) 0 r) ((vl (va arg12.view Z12)) 0 ⟨d.val, by omega⟩) ((1024 * (i 2).val) + 512 + 512)) (acc ((TT i arg3 arg6 arg8 arg11 X3 X6 X8 Z11) 0 r) ((vl (va arg12.view Z12)) 0 ⟨64, by omega⟩) ((1024 * (i 2).val) + 512 + 512)) := by
  unfold runRest.sl.v286 runRest.sl.v283 runRest.sl.v285 runRest.sl.v284 runRest.sl.v280
  rw [v279_eq hS]
  pointwise []

theorem v290_at (d : Fin 64) (r : Fin 1024) : runRest.sl.v290 (F := Ideal) 𝒱 c i arg3 harg3 arg4 harg4 arg5 harg5 arg6 harg6 arg7 harg7 arg8 harg8 arg9 harg9 arg10 harg10 arg11 harg11 arg12 harg12 arg13 harg13 arg14 harg14 arg15 harg15 X3 X6 X8 X15 Z11 Z12 (ix2 d r)
    = Ideal.div (acc ((TT i arg3 arg6 arg8 arg11 X3 X6 X8 Z11) 1 r) ((vl (va arg12.view Z12)) 1 ⟨16 + d.val, by omega⟩) ((1024 * (i 2).val) + 512 + 512)) (acc ((TT i arg3 arg6 arg8 arg11 X3 X6 X8 Z11) 1 r) ((vl (va arg12.view Z12)) 1 ⟨15, by omega⟩) ((1024 * (i 2).val) + 512 + 512)) := by
  unfold runRest.sl.v290 runRest.sl.v287 runRest.sl.v289 runRest.sl.v288 runRest.sl.v282
  rw [v281_eq hS]
  pointwise []

/-- The output of head 0's lanes. -/
theorem v302_0 (r : Fin 1024) (l : Fin 128) (hl : l.val < 64) :
    runRest.sl.v302 (F := Ideal) 𝒱 c i arg3 harg3 arg4 harg4 arg5 harg5 arg6 harg6 arg7 harg7 arg8 harg8 arg9 harg9 arg10 harg10 arg11 harg11 arg12 harg12 arg13 harg13 arg14 harg14 arg15 harg15 X3 X6 X7 X8 X15 Z11 Z12 (ix3 0 r l)
      = Ideal.div (acc ((TT i arg3 arg6 arg8 arg11 X3 X6 X8 Z11) 0 r) ((vl (va arg12.view Z12)) 0 ⟨l.val, by omega⟩) ((1024 * (i 2).val) + 512 + 512)) (acc ((TT i arg3 arg6 arg8 arg11 X3 X6 X8 Z11) 0 r) ((vl (va arg12.view Z12)) 0 ⟨64, by omega⟩) ((1024 * (i 2).val) + 512 + 512))
        * (arg7.view.read (Elt Ideal) X7 (ix3 0 r l) * Ideal.logistic (arg7.view.read (Elt Ideal) X7 (ix3 0 r l))) := by
  unfold runRest.sl.v302 runRest.sl.v299 runRest.sl.v298 runRest.sl.v295 runRest.sl.v291
  unfold runRest.sl.v297 runRest.sl.v296 runRest.sl.v294 runRest.sl.v293
  rw [rRow]
  pointwise []
  rw [dif_pos hl, v286_at hS]
  rfl

theorem v302_1 (r : Fin 1024) (l : Fin 128) (hl : ¬ l.val < 64) :
    runRest.sl.v302 (F := Ideal) 𝒱 c i arg3 harg3 arg4 harg4 arg5 harg5 arg6 harg6 arg7 harg7 arg8 harg8 arg9 harg9 arg10 harg10 arg11 harg11 arg12 harg12 arg13 harg13 arg14 harg14 arg15 harg15 X3 X6 X7 X8 X15 Z11 Z12 (ix3 0 r l)
      = Ideal.div (acc ((TT i arg3 arg6 arg8 arg11 X3 X6 X8 Z11) 1 r) ((vl (va arg12.view Z12)) 1 ⟨16 + (l.val - 64), by omega⟩) ((1024 * (i 2).val) + 512 + 512)) (acc ((TT i arg3 arg6 arg8 arg11 X3 X6 X8 Z11) 1 r) ((vl (va arg12.view Z12)) 1 ⟨15, by omega⟩) ((1024 * (i 2).val) + 512 + 512))
        * (arg7.view.read (Elt Ideal) X7 (ix3 0 r l) * Ideal.logistic (arg7.view.read (Elt Ideal) X7 (ix3 0 r l))) := by
  unfold runRest.sl.v302 runRest.sl.v299 runRest.sl.v298 runRest.sl.v295 runRest.sl.v291
  unfold runRest.sl.v297 runRest.sl.v296 runRest.sl.v294 runRest.sl.v293
  rw [rRow]
  pointwise []
  rw [dif_neg hl, v290_at hS]
  rfl

end
end Cert.KernelIdeal.Body

end
-- ==== Proof.Build.lean ====
module

public import proofs.«01_k».proof.Proof.Gen.KernelIdeal.Frame
public import proofs.«01_k».proof.Proof.Reads
public import proofs.«01_k».proof.Proof.Softmax
public import proofs.«01_k».proof.Proof.Run

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Cert.Attn (rms)

set_option maxHeartbeats 1000000

/-- The epsilon of the norms. -/
def ep : EReal := Ideal.ofBits .f32 0x358637BD#32

/-- Lane `d` of head `h` of a pair of heads. -/
def ln (h : Fin 2) (d : Fin 64) : Fin 128 := ⟨64 * h.val + d.val, by omega⟩

/-- A sum over the lanes is the sum over both heads. -/
theorem lanes (g : Fin 128 → EReal) : ∑ x, g x = ∑ d, g (ln 0 d) + ∑ d, g (ln 1 d) := by
  refine (Fin.sum_univ_add (a := 64) (b := 64) g).trans ?_
  refine congrArg₂ _ (Finset.sum_congr rfl fun d _ => congrArg g (Fin.ext ?_)) (Finset.sum_congr rfl fun d _ => congrArg g (Fin.ext ?_))
  · show d.val = 64 * 0 + d.val; omega
  · show 64 + d.val = 64 * 1 + d.val; omega

theorem lane_lt : ∀ n : Fin 128, IntOp.cmpi .slt (BitVec.ofNat 32 n.val) 64#32 = if n.val < 64 then 1#1 else 0#1 := by decide +kernel

theorem lane_64 : ∀ n : Fin 128, IntOp.cmpi .eq (BitVec.ofNat 32 n.val) 64#32 = if n.val = 64 then 1#1 else 0#1 := by decide +kernel

theorem lane_63 : ∀ n : Fin 128, IntOp.cmpi .eq (BitVec.ofNat 32 n.val) 63#32 = if n.val = 63 then 1#1 else 0#1 := by decide +kernel

theorem sel_ite {p : Prop} [Decidable p] (a b : EReal) : Scalar.select (if p then 1#1 else 0#1) a b = if p then a else b := by
  by_cases h : p
  · rw [if_pos h, if_pos h]; rfl
  · rw [if_neg h, if_neg h]; rfl

theorem sel1 (a b : EReal) : Scalar.select 1#1 a b = a := rfl

theorem sel0 (a b : EReal) : Scalar.select 0#1 a b = b := rfl

theorem ln_lt (h : Fin 2) (d : Fin 64) : (ln h d).val < 64 ↔ h = 0 := by
  show 64 * h.val + d.val < 64 ↔ h = 0
  rw [Fin.ext_iff]
  show _ ↔ h.val = 0
  omega

theorem sum_lo (g : Fin 128 → EReal) : ∑ x : Fin 128, Scalar.select (IntOp.cmpi .slt (BitVec.ofNat 32 x.val) 64#32) (g x) 0 = ∑ d, g (ln 0 d) := by
  rw [lanes]
  simp only [lane_lt, sel1, sel0, ln_lt, if_true, one_ne_zero, if_false, Finset.sum_const_zero, add_zero]

theorem sum_hi (g : Fin 128 → EReal) : ∑ x : Fin 128, Scalar.select (IntOp.cmpi .slt (BitVec.ofNat 32 x.val) 64#32) 0 (g x) = ∑ d, g (ln 1 d) := by
  rw [lanes]
  simp only [lane_lt, sel1, sel0, ln_lt, if_true, one_ne_zero, if_false, Finset.sum_const_zero, zero_add]

theorem inv64 : Ideal.ofBits .f32 0x3C800000#32 = ((1 / 64 : ℝ) : EReal) := by
  simp [Ideal.ofBits, Ideal.ieee]
  rw [← EReal.coe_mul]
  norm_num

theorem named_scale : (Named.named κ "scale" 0x3E38AA3B#32 : Ideal .f32) = (((1 / 8) * (Real.log 2)⁻¹ : ℝ) : EReal) := rfl

/-- The norm of one head of a row, as the kernel takes it. -/
theorem pair_norm (x : Fin 128 → EReal) (w : EReal) (h : Fin 2) (d : Fin 64) :
    x (ln h d) * Ideal.rsqrt (Scalar.select (IntOp.cmpi .slt (BitVec.ofNat 32 (ln h d).val) 64#32)
        (∑ l : Fin 128, Scalar.select (IntOp.cmpi .slt (BitVec.ofNat 32 l.val) 64#32) (x l * x l) 0)
        (∑ l : Fin 128, Scalar.select (IntOp.cmpi .slt (BitVec.ofNat 32 l.val) 64#32) 0 (x l * x l))
          * Ideal.ofBits .f32 0x3C800000#32 + Ideal.ofBits .f32 0x358637BD#32) * w
      = rms ep (fun k => x (ln h k)) d * w := by
  rw [sum_lo fun l => x l * x l, sum_hi fun l => x l * x l, lane_lt, sel_ite, inv64]
  simp only [ln_lt]
  have h2 : h = 0 ∨ h = 1 := by omega
  obtain rfl | rfl := h2
  · rw [if_pos rfl]; rfl
  · rw [if_neg (by decide)]; rfl

/-- A block of keys, normalised. -/
theorem pay2_at (X : Vec Ideal S1x512x128 .bf16) (W : Vec Ideal S1x128 .f32) (j : Fin 512) (h : Fin 2) (d : Fin 64) :
    k0_pay2 (F := Ideal) k0_pay61 X W (ix2 j (ln h d)) = rms ep (fun k => X (ix3 0 j (ln h k))) d * W (ix2 0 (ln h d)) := by
  pointwise [k0_pay2, k0_pay61]
  exact pair_norm (fun l => X (ix3 0 j l)) (W (ix2 0 (ln h d))) h d

/-- A tile of queries, normalised and scaled. -/
theorem pay66_at (X : Vec Ideal S1x1024x128 .bf16) (W : Vec Ideal S1x128 .f32) (j : Fin 1024) (h : Fin 2) (d : Fin 64) :
    k0_pay66 (F := Ideal) X W (ix2 j (ln h d)) = rms ep (fun k => X (ix3 0 j (ln h k))) d * (W (ix2 0 (ln h d)) * (((1 / 8) * (Real.log 2)⁻¹ : ℝ) : EReal)) := by
  pointwise [k0_pay66, k0_pay65]
  exact pair_norm (fun l => X (ix3 0 j l)) (W (ix2 0 (ln h d)) * _) h d

/-- Head 0's queries. -/
theorem pay67_at (X : Vec Ideal S1x1024x128 .bf16) (W : Vec Ideal S1x128 .f32) (j : Fin 1024) (h : Fin 2) (d : Fin 64) :
    k0_pay67 (F := Ideal) X W (ix2 j (ln h d)) = if h = 0 then k0_pay66 (F := Ideal) X W (ix2 j (ln h d)) else 0 := by
  pointwise [k0_pay67, k0_pay65]
  rw [lane_lt, sel_ite]
  simp only [ln_lt]

/-- Head 1's queries. -/
theorem pay69_at (X : FVec Ideal S1024x128 .f32) (j : Fin 1024) (h : Fin 2) (d : Fin 64) :
    k0_pay69 (F := Ideal) k0_pay65 X k0_pay68 (ix2 j (ln h d)) = if h = 0 then 0 else X (ix2 j (ln h d)) := by
  pointwise [k0_pay69, k0_pay65, k0_pay68]
  rw [lane_lt, sel_ite]
  simp only [ln_lt]

/-- A head's values and its row of ones, among 128 rows. -/
def wv (v : Fin 128 → ℕ → EReal) (h : Fin 2) (d : Fin 128) (n : ℕ) : EReal :=
  if h = 0 then (if d.val < 64 then v d n else if d.val = 64 then 1 else 0)
  else (if d.val < 64 then (if d.val = 63 then 1 else 0) else v d n)

theorem pay63_at (X : Vec Ideal S1x128x512 .bf16) (d : Fin 128) (j : Fin 512) :
    k0_pay63 (F := Ideal) (k0_pay3 X) (k0_pay4 (iota .tc S128x512 32 [0] iota_S128x512_d0_w32)) (FloatOps.ofBits FTy.f32 0x3F800000#32) (FloatOps.ofBits FTy.f32 0#32) (ix3 0 d j)
      = if d.val < 64 then X (ix3 0 d j) else if d.val = 64 then 1 else 0 := by
  pointwise [k0_pay63, k0_pay3, k0_pay4, k0_pay62]
  rw [lane_lt, lane_64, sel_ite, sel_ite]

theorem pay64_at (X : Vec Ideal S1x128x512 .bf16) (d : Fin 128) (j : Fin 512) :
    k0_pay64 (F := Ideal) (k0_pay3 X) (ix3 0 d j)
      = if d.val < 64 then (if d.val = 63 then 1 else 0) else X (ix3 0 d j) := by
  pointwise [k0_pay64, k0_pay3, k0_pay62]
  rw [lane_lt, lane_63, sel_ite, sel_ite]

section

variable {𝒱 : Variants} {c : Dev nD} {bd : Option 𝒱.V} {i : grid0.Coords} {arg3 : Memref sig .tc .vmem S1x1024x128 .bf16} {harg3 : arg3.IsWhole} {arg4 : Memref sig .tc .vmem S1x16384x128 .bf16} {harg4 : arg4.IsWhole} {arg5 : Memref sig .tc .vmem S1x128x16384 .bf16} {harg5 : arg5.IsWhole} {arg6 : Memref sig .tc .vmem S1x2x1x16384 .f32} {harg6 : arg6.IsWhole} {arg7 : Memref sig .tc .vmem S1x1024x128 .bf16} {harg7 : arg7.IsWhole} {arg8 : Memref sig .tc .vmem S1x128 .f32} {harg8 : arg8.IsWhole} {arg9 : Memref sig .tc .vmem S1x128 .f32} {harg9 : arg9.IsWhole} {arg10 : Memref sig .tc .vmem S1x1024x128 .bf16} {harg10 : arg10.IsWhole} {arg11 : Memref sig .tc .vmem S16384x128 .bf16} {harg11 : arg11.IsWhole} {arg12 : Memref sig .tc .vmem S2x128x16384 .bf16} {harg12 : arg12.IsWhole} {arg13 : Memref sig .tc .vmem S2x1x1024 .f32} {harg13 : arg13.IsWhole} {arg14 : Memref sig .tc .vmem S2x80x1024 .f32} {harg14 : arg14.IsWhole} {arg15 : Memref sig .tc .vmem S2x2x512x1024 .f32} {harg15 : arg15.IsWhole} (hc : k0_cond1 i = 1#1) (X4 : BufTy.Contents (Elt Ideal) arg4.view.ty) (X5 : BufTy.Contents (Elt Ideal) arg5.view.ty) (X9 : BufTy.Contents (Elt Ideal) arg9.view.ty)

/-- The keys of the block written by trip `k`. -/
theorem v344_at (k : Fin k0_t1_loop.trips) (j : Fin 512) (h : Fin 2) (d : Fin 64) :
    trip_k0_t1.sl.v344 (F := Ideal) i arg4 arg9 hc X4 X9 k (ix2 j (ln h d))
      = rms ep (fun e => arg4.view.read (Elt Ideal) X4 (ix3 0 (Fin.ofNat 16384 (512 * k.val + j.val)) (ln h e))) d * arg9.view.read (Elt Ideal) X9 (ix2 0 (ln h d)) := by
  have hk : k.val < 32 := Nat.lt_of_lt_of_le k.isLt k0_t1_abs.2.1
  refine Eq.trans (b := k0_pay2 (F := Ideal) k0_pay61 (arg4.view.readAt (Elt Ideal) (Rect.unit (s := S1x16384x128) (k0_off1 k) S1x512x128.size (k0_off1_inb i k hc)).toLoadRect X4) (arg9.view.readAt (Elt Ideal) (Rect.unit (s := S1x128) ![0, 0] S1x128.size inb_S1x128_S1x128_0_0).toLoadRect X9) (ix2 j (ln h d))) rfl ?_
  have e4 : ∀ l : Fin 128, arg4.view.readAt (Elt Ideal) (Rect.unit (s := S1x16384x128) (k0_off1 k) S1x512x128.size (k0_off1_inb i k hc)).toLoadRect X4 (ix3 0 j l)
      = arg4.view.read (Elt Ideal) X4 (ix3 0 (Fin.ofNat 16384 (512 * k.val + j.val)) l) := fun l =>
    readAt_at _ _ _ _ _ (k0_off1_eq k) (by
      intro a; fin_cases a
      · show 0 = 0 + 0; rfl
      · show (512 * k.val + j.val) % 16384 = 512 * k.val + j.val; omega
      · show l.val = 0 + l.val; omega)
  have e9 : ∀ l : Fin 128, arg9.view.readAt (Elt Ideal) (Rect.unit (s := S1x128) ![0, 0] S1x128.size inb_S1x128_S1x128_0_0).toLoadRect X9 (ix2 0 l)
      = arg9.view.read (Elt Ideal) X9 (ix2 0 l) := fun l =>
    readAt_at _ _ _ _ _ rfl (by
      intro a; fin_cases a
      · show 0 = 0 + 0; rfl
      · show l.val = 0 + l.val; omega)
  rw [pay2_at, e9]
  simp only [e4]

/-- The values of the block read by trip `k`. -/
theorem v5_at (k : Fin k0_t1_loop.trips) (d : Fin 128) (j : Fin 512) :
    arg5.view.readAt (Elt Ideal) (Rect.unit (s := S1x128x16384) (k0_off3 k) S1x128x512.size (k0_off3_inb i k hc)).toLoadRect X5 (ix3 0 d j)
      = arg5.view.read (Elt Ideal) X5 (ix3 0 d (Fin.ofNat 16384 (512 * k.val + j.val))) := by
  have hk : k.val < 32 := Nat.lt_of_lt_of_le k.isLt k0_t1_abs.2.1
  exact readAt_at _ _ _ _ _ (k0_off3_eq k) (by
      intro a; fin_cases a
      · show 0 = 0 + 0; rfl
      · show d.val = 0 + d.val; omega
      · show (512 * k.val + j.val) % 16384 = 512 * k.val + j.val; omega)

theorem v363_at (k : Fin k0_t1_loop.trips) (d : Fin 128) (j : Fin 512) :
    k0_pay63 (F := Ideal) (trip_k0_t1.sl.v348 i arg5 hc X5 k) (trip_k0_t1.sl.v350 (runBuild.sl.v306)) trip_k0_t1.sl.cst_187 trip_k0_t1.sl.cst_177 (ix3 0 d j)
      = wv (fun d n => arg5.view.read (Elt Ideal) X5 (ix3 0 d (Fin.ofNat 16384 n))) 0 d (512 * k.val + j.val) := by
  refine Eq.trans (b := k0_pay63 (F := Ideal) (k0_pay3 (arg5.view.readAt (Elt Ideal) (Rect.unit (s := S1x128x16384) (k0_off3 k) S1x128x512.size (k0_off3_inb i k hc)).toLoadRect X5)) (k0_pay4 (iota .tc S128x512 32 [0] iota_S128x512_d0_w32)) (FloatOps.ofBits FTy.f32 0x3F800000#32) (FloatOps.ofBits FTy.f32 0#32) (ix3 0 d j)) rfl ?_
  rw [pay63_at, v5_at hc]
  rfl

theorem v364_at (k : Fin k0_t1_loop.trips) (d : Fin 128) (j : Fin 512) :
    k0_pay64 (F := Ideal) (trip_k0_t1.sl.v348 i arg5 hc X5 k) (ix3 0 d j)
      = wv (fun d n => arg5.view.read (Elt Ideal) X5 (ix3 0 d (Fin.ofNat 16384 n))) 1 d (512 * k.val + j.val) := by
  refine Eq.trans (b := k0_pay64 (F := Ideal) (k0_pay3 (arg5.view.readAt (Elt Ideal) (Rect.unit (s := S1x128x16384) (k0_off3 k) S1x128x512.size (k0_off3_inb i k hc)).toLoadRect X5)) (ix3 0 d j)) rfl ?_
  rw [pay64_at, v5_at hc]
  rfl

end

end Cert.KernelIdeal.Body

end
-- ==== Proof.Built.lean ====
module

public import proofs.«01_k».proof.Proof.Gen.KernelIdeal.Frame
public import proofs.«01_k».proof.Proof.Build

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Cert.Attn (rms)

set_option maxHeartbeats 1000000

/-- Key `n`'s lane `d` of head `h`, normalised. -/
def KN (x : ℕ → Fin 128 → EReal) (w : Fin 128 → EReal) (h : Fin 2) (d : Fin 64) (n : ℕ) : EReal :=
  rms ep (fun e => x n (ln h e)) d * w (ln h d)

/-- The rows of a staged block of keys. -/
def kx (v : View sig .tc .vmem S1x16384x128 .bf16) (f : v.ty.Contents (Elt Ideal)) (n : ℕ) (l : Fin 128) : EReal :=
  v.read (Elt Ideal) f (ix3 0 (Fin.ofNat 16384 n) l)

/-- The rows of a staged block of values. -/
def vx (v : View sig .tc .vmem S1x128x16384 .bf16) (f : v.ty.Contents (Elt Ideal)) (d : Fin 128) (n : ℕ) : EReal :=
  v.read (Elt Ideal) f (ix3 0 d (Fin.ofNat 16384 n))

/-- A staged row of weights. -/
def wx (v : View sig .tc .vmem S1x128 .f32) (f : v.ty.Contents (Elt Ideal)) (l : Fin 128) : EReal :=
  v.read (Elt Ideal) f (ix2 0 l)

section

variable {𝒱 : Variants} {c : Dev nD} {i : grid0.Coords} {arg3 : Memref sig .tc .vmem S1x1024x128 .bf16} {harg3 : arg3.IsWhole} {arg4 : Memref sig .tc .vmem S1x16384x128 .bf16} {harg4 : arg4.IsWhole} {arg5 : Memref sig .tc .vmem S1x128x16384 .bf16} {harg5 : arg5.IsWhole} {arg6 : Memref sig .tc .vmem S1x2x1x16384 .f32} {harg6 : arg6.IsWhole} {arg7 : Memref sig .tc .vmem S1x1024x128 .bf16} {harg7 : arg7.IsWhole} {arg8 : Memref sig .tc .vmem S1x128 .f32} {harg8 : arg8.IsWhole} {arg9 : Memref sig .tc .vmem S1x128 .f32} {harg9 : arg9.IsWhole} {arg10 : Memref sig .tc .vmem S1x1024x128 .bf16} {harg10 : arg10.IsWhole} {arg11 : Memref sig .tc .vmem S16384x128 .bf16} {harg11 : arg11.IsWhole} {arg12 : Memref sig .tc .vmem S2x128x16384 .bf16} {harg12 : arg12.IsWhole} {arg13 : Memref sig .tc .vmem S2x1x1024 .f32} {harg13 : arg13.IsWhole} {arg14 : Memref sig .tc .vmem S2x80x1024 .f32} {harg14 : arg14.IsWhole} {arg15 : Memref sig .tc .vmem S2x2x512x1024 .f32} {harg15 : arg15.IsWhole} (hc : k0_cond1 i = 1#1) (X4 : BufTy.Contents (Elt Ideal) arg4.view.ty) (X5 : BufTy.Contents (Elt Ideal) arg5.view.ty) (X9 : BufTy.Contents (Elt Ideal) arg9.view.ty)

theorem tripK (k : Fin k0_t1_loop.trips) (f : BufTy.Contents (Elt Ideal) arg11.view.ty) (n : ℕ) (hn : n < 16384) (h : Fin 2) (d : Fin 64) :
    kn arg11.view (arg11.view.writes (Elt Ideal) f (tripL_k0_t1 (F := Ideal) 𝒱 c none i (arg3 : Memref sig .tc .vmem S1x1024x128 .bf16) (harg3 : arg3.IsWhole) (arg4 : Memref sig .tc .vmem S1x16384x128 .bf16) (harg4 : arg4.IsWhole) (arg5 : Memref sig .tc .vmem S1x128x16384 .bf16) (harg5 : arg5.IsWhole) (arg6 : Memref sig .tc .vmem S1x2x1x16384 .f32) (harg6 : arg6.IsWhole) (arg7 : Memref sig .tc .vmem S1x1024x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S16384x128 .bf16) (harg11 : arg11.IsWhole) (arg12 : Memref sig .tc .vmem S2x128x16384 .bf16) (harg12 : arg12.IsWhole) (arg13 : Memref sig .tc .vmem S2x1x1024 .f32) (harg13 : arg13.IsWhole) (arg14 : Memref sig .tc .vmem S2x80x1024 .f32) (harg14 : arg14.IsWhole) (arg15 : Memref sig .tc .vmem S2x2x512x1024 .f32) (harg15 : arg15.IsWhole) hc runBuild.sl.v306 X4 X5 X9 k).1) n (ln h d)
      = if 512 * k.val ≤ n ∧ n < 512 * k.val + 512 then KN (kx arg4.view X4) (wx arg9.view X9) h d n else kn arg11.view f n (ln h d) := by
  have hk : k.val < 32 := Nat.lt_of_lt_of_le k.isLt k0_t1_abs.2.1
  have hm : n % 16384 = n := Nat.mod_eq_of_lt hn
  unfold tripL_k0_t1 trip_k0_t1 kn
  dsimp only
  by_cases hp : 512 * k.val ≤ n ∧ n < 512 * k.val + 512
  · rw [if_pos hp]
    refine (View.read_writes_cons_unit_of_mem arg11.view f _ _ [] (ix2 (Fin.ofNat 16384 n) (ln h d)) (ix2 (⟨n - 512 * k.val, by omega⟩ : Fin 512) (ln h d)) (k0_off2_eq k) (by
      intro a; fin_cases a
      · show n % 16384 = 512 * k.val + (n - 512 * k.val); omega
      · show (ln h d).val = 0 + (ln h d).val; omega)).trans ?_
    refine (v344_at hc X4 X9 k _ h d).trans ?_
    rw [show 512 * k.val + (⟨n - 512 * k.val, by omega⟩ : Fin 512).val = n from by show 512 * k.val + (n - 512 * k.val) = n; omega]
    rfl
  · rw [if_neg hp]
    exact View.read_writes_cons_unit_of_not_mem arg11.view f _ _ [] (ix2 (Fin.ofNat 16384 n) (ln h d)) (k0_off2_eq k) (0 : Fin 2) (by
      show n % 16384 < 512 * k.val ∨ 512 * k.val + 512 ≤ n % 16384; omega)

theorem tripV (k : Fin k0_t1_loop.trips) (f : BufTy.Contents (Elt Ideal) arg12.view.ty) (n : ℕ) (hn : n < 16384) (h : Fin 2) (d : Fin 128) :
    va arg12.view (arg12.view.writes (Elt Ideal) f (tripL_k0_t1 (F := Ideal) 𝒱 c none i (arg3 : Memref sig .tc .vmem S1x1024x128 .bf16) (harg3 : arg3.IsWhole) (arg4 : Memref sig .tc .vmem S1x16384x128 .bf16) (harg4 : arg4.IsWhole) (arg5 : Memref sig .tc .vmem S1x128x16384 .bf16) (harg5 : arg5.IsWhole) (arg6 : Memref sig .tc .vmem S1x2x1x16384 .f32) (harg6 : arg6.IsWhole) (arg7 : Memref sig .tc .vmem S1x1024x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S16384x128 .bf16) (harg11 : arg11.IsWhole) (arg12 : Memref sig .tc .vmem S2x128x16384 .bf16) (harg12 : arg12.IsWhole) (arg13 : Memref sig .tc .vmem S2x1x1024 .f32) (harg13 : arg13.IsWhole) (arg14 : Memref sig .tc .vmem S2x80x1024 .f32) (harg14 : arg14.IsWhole) (arg15 : Memref sig .tc .vmem S2x2x512x1024 .f32) (harg15 : arg15.IsWhole) hc runBuild.sl.v306 X4 X5 X9 k).2) h d n
      = if 512 * k.val ≤ n ∧ n < 512 * k.val + 512 then wv (vx arg5.view X5) h d n else va arg12.view f h d n := by
  have hk : k.val < 32 := Nat.lt_of_lt_of_le k.isLt k0_t1_abs.2.1
  have hm : n % 16384 = n := Nat.mod_eq_of_lt hn
  have h2 : h = 0 ∨ h = 1 := by omega
  unfold tripL_k0_t1 trip_k0_t1 va
  dsimp only
  by_cases hp : 512 * k.val ≤ n ∧ n < 512 * k.val + 512
  · have hw : 512 * k.val + (⟨n - 512 * k.val, by omega⟩ : Fin 512).val = n := by show 512 * k.val + (n - 512 * k.val) = n; omega
    rw [if_pos hp]
    obtain rfl | rfl := h2
    · refine (View.read_writes_cons_unit_of_not_mem arg12.view f _ _ _ (ix3 0 d (Fin.ofNat 16384 n)) (k0_off5_eq k) (0 : Fin 3) (.inl Nat.zero_lt_one)).trans ?_
      refine (View.read_writes_cons_unit_of_mem arg12.view f _ _ [] (ix3 0 d (Fin.ofNat 16384 n)) (ix3 0 d (⟨n - 512 * k.val, by omega⟩ : Fin 512)) (k0_off4_eq k) (by
        intro a; fin_cases a
        · show 0 = 0 + 0; rfl
        · show d.val = 0 + d.val; omega
        · show n % 16384 = 512 * k.val + (n - 512 * k.val); omega)).trans ?_
      refine (v363_at hc X5 k d _).trans ?_
      rw [hw]
      rfl
    · refine (View.read_writes_cons_unit_of_mem arg12.view f _ _ _ (ix3 1 d (Fin.ofNat 16384 n)) (ix3 0 d (⟨n - 512 * k.val, by omega⟩ : Fin 512)) (k0_off5_eq k) (by
        intro a; fin_cases a
        · show 1 = 1 + 0; rfl
        · show d.val = 0 + d.val; omega
        · show n % 16384 = 512 * k.val + (n - 512 * k.val); omega)).trans ?_
      refine (v364_at hc X5 k d _).trans ?_
      rw [hw]
      rfl
  · rw [if_neg hp]
    refine (View.read_writes_cons_unit_of_not_mem arg12.view f _ _ _ (ix3 h d (Fin.ofNat 16384 n)) (k0_off5_eq k) (2 : Fin 3) (by
      show n % 16384 < 512 * k.val ∨ 512 * k.val + 512 ≤ n % 16384; omega)).trans ?_
    exact View.read_writes_cons_unit_of_not_mem arg12.view f _ _ [] (ix3 h d (Fin.ofNat 16384 n)) (k0_off4_eq k) (2 : Fin 3) (by
      show n % 16384 < 512 * k.val ∨ 512 * k.val + 512 ≤ n % 16384; omega)

theorem loopK (f : BufTy.Contents (Elt Ideal) arg11.view.ty) (m : ℕ) (hm : m ≤ k0_t1_loop.trips) (n : ℕ) (hn : n < 16384) (hb : n < 512 * m) (h : Fin 2) (d : Fin 64) :
    kn arg11.view (arg11.view.writes (Elt Ideal) f (pb_k0_t1 (F := Ideal) 𝒱 c none i (arg3 : Memref sig .tc .vmem S1x1024x128 .bf16) (harg3 : arg3.IsWhole) (arg4 : Memref sig .tc .vmem S1x16384x128 .bf16) (harg4 : arg4.IsWhole) (arg5 : Memref sig .tc .vmem S1x128x16384 .bf16) (harg5 : arg5.IsWhole) (arg6 : Memref sig .tc .vmem S1x2x1x16384 .f32) (harg6 : arg6.IsWhole) (arg7 : Memref sig .tc .vmem S1x1024x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S16384x128 .bf16) (harg11 : arg11.IsWhole) (arg12 : Memref sig .tc .vmem S2x128x16384 .bf16) (harg12 : arg12.IsWhole) (arg13 : Memref sig .tc .vmem S2x1x1024 .f32) (harg13 : arg13.IsWhole) (arg14 : Memref sig .tc .vmem S2x80x1024 .f32) (harg14 : arg14.IsWhole) (arg15 : Memref sig .tc .vmem S2x2x512x1024 .f32) (harg15 : arg15.IsWhole) hc runBuild.sl.v306 X4 X5 X9 m).1) n (ln h d) = KN (kx arg4.view X4) (wx arg9.view X9) h d n := by
  induction m with
  | zero => omega
  | succ m ih =>
    have e := pb_k0_t1_succ (F := Ideal) 𝒱 c none i (arg3 : Memref sig .tc .vmem S1x1024x128 .bf16) (harg3 : arg3.IsWhole) (arg4 : Memref sig .tc .vmem S1x16384x128 .bf16) (harg4 : arg4.IsWhole) (arg5 : Memref sig .tc .vmem S1x128x16384 .bf16) (harg5 : arg5.IsWhole) (arg6 : Memref sig .tc .vmem S1x2x1x16384 .f32) (harg6 : arg6.IsWhole) (arg7 : Memref sig .tc .vmem S1x1024x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S16384x128 .bf16) (harg11 : arg11.IsWhole) (arg12 : Memref sig .tc .vmem S2x128x16384 .bf16) (harg12 : arg12.IsWhole) (arg13 : Memref sig .tc .vmem S2x1x1024 .f32) (harg13 : arg13.IsWhole) (arg14 : Memref sig .tc .vmem S2x80x1024 .f32) (harg14 : arg14.IsWhole) (arg15 : Memref sig .tc .vmem S2x2x512x1024 .f32) (harg15 : arg15.IsWhole) hc runBuild.sl.v306 X4 X5 X9 ⟨m, hm⟩
    rw [show m + 1 = (⟨m, hm⟩ : Fin k0_t1_loop.trips).val + 1 from rfl, e, View.writes_append, tripK hc X4 X5 X9 ⟨m, hm⟩ _ n hn h d]
    by_cases hp : 512 * m ≤ n ∧ n < 512 * m + 512
    · exact if_pos hp
    · exact (if_neg hp).trans (ih (by omega) (by omega))

theorem loopV (f : BufTy.Contents (Elt Ideal) arg12.view.ty) (m : ℕ) (hm : m ≤ k0_t1_loop.trips) (n : ℕ) (hn : n < 16384) (hb : n < 512 * m) (h : Fin 2) (d : Fin 128) :
    va arg12.view (arg12.view.writes (Elt Ideal) f (pb_k0_t1 (F := Ideal) 𝒱 c none i (arg3 : Memref sig .tc .vmem S1x1024x128 .bf16) (harg3 : arg3.IsWhole) (arg4 : Memref sig .tc .vmem S1x16384x128 .bf16) (harg4 : arg4.IsWhole) (arg5 : Memref sig .tc .vmem S1x128x16384 .bf16) (harg5 : arg5.IsWhole) (arg6 : Memref sig .tc .vmem S1x2x1x16384 .f32) (harg6 : arg6.IsWhole) (arg7 : Memref sig .tc .vmem S1x1024x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S16384x128 .bf16) (harg11 : arg11.IsWhole) (arg12 : Memref sig .tc .vmem S2x128x16384 .bf16) (harg12 : arg12.IsWhole) (arg13 : Memref sig .tc .vmem S2x1x1024 .f32) (harg13 : arg13.IsWhole) (arg14 : Memref sig .tc .vmem S2x80x1024 .f32) (harg14 : arg14.IsWhole) (arg15 : Memref sig .tc .vmem S2x2x512x1024 .f32) (harg15 : arg15.IsWhole) hc runBuild.sl.v306 X4 X5 X9 m).2) h d n = wv (vx arg5.view X5) h d n := by
  induction m with
  | zero => omega
  | succ m ih =>
    have e := pb_k0_t1_succ (F := Ideal) 𝒱 c none i (arg3 : Memref sig .tc .vmem S1x1024x128 .bf16) (harg3 : arg3.IsWhole) (arg4 : Memref sig .tc .vmem S1x16384x128 .bf16) (harg4 : arg4.IsWhole) (arg5 : Memref sig .tc .vmem S1x128x16384 .bf16) (harg5 : arg5.IsWhole) (arg6 : Memref sig .tc .vmem S1x2x1x16384 .f32) (harg6 : arg6.IsWhole) (arg7 : Memref sig .tc .vmem S1x1024x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S16384x128 .bf16) (harg11 : arg11.IsWhole) (arg12 : Memref sig .tc .vmem S2x128x16384 .bf16) (harg12 : arg12.IsWhole) (arg13 : Memref sig .tc .vmem S2x1x1024 .f32) (harg13 : arg13.IsWhole) (arg14 : Memref sig .tc .vmem S2x80x1024 .f32) (harg14 : arg14.IsWhole) (arg15 : Memref sig .tc .vmem S2x2x512x1024 .f32) (harg15 : arg15.IsWhole) hc runBuild.sl.v306 X4 X5 X9 ⟨m, hm⟩
    rw [show m + 1 = (⟨m, hm⟩ : Fin k0_t1_loop.trips).val + 1 from rfl, e, View.writes_append, tripV hc X4 X5 X9 ⟨m, hm⟩ _ n hn h d]
    by_cases hp : 512 * m ≤ n ∧ n < 512 * m + 512
    · exact if_pos hp
    · exact (if_neg hp).trans (ih (by omega) (by omega))

theorem t1_trips : k0_t1_loop.trips = 32 := by decide +kernel

variable (X3 : BufTy.Contents (Elt Ideal) arg3.view.ty) (X6 : BufTy.Contents (Elt Ideal) arg6.view.ty) (X7 : BufTy.Contents (Elt Ideal) arg7.view.ty) (X8 : BufTy.Contents (Elt Ideal) arg8.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty)

/-- The keys kept for the tiles of a pair of heads. -/
theorem builtK (n : ℕ) (hn : n < 16384) (h : Fin 2) (d : Fin 64) :
    kn arg11.view (runBuild (F := Ideal) 𝒱 c i hc (arg3 : Memref sig .tc .vmem S1x1024x128 .bf16) (harg3 : arg3.IsWhole) (arg4 : Memref sig .tc .vmem S1x16384x128 .bf16) (harg4 : arg4.IsWhole) (arg5 : Memref sig .tc .vmem S1x128x16384 .bf16) (harg5 : arg5.IsWhole) (arg6 : Memref sig .tc .vmem S1x2x1x16384 .f32) (harg6 : arg6.IsWhole) (arg7 : Memref sig .tc .vmem S1x1024x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S16384x128 .bf16) (harg11 : arg11.IsWhole) (arg12 : Memref sig .tc .vmem S2x128x16384 .bf16) (harg12 : arg12.IsWhole) (arg13 : Memref sig .tc .vmem S2x1x1024 .f32) (harg13 : arg13.IsWhole) (arg14 : Memref sig .tc .vmem S2x80x1024 .f32) (harg14 : arg14.IsWhole) (arg15 : Memref sig .tc .vmem S2x2x512x1024 .f32) (harg15 : arg15.IsWhole) X3 X4 X5 X6 X7 X8 X9 X10 X11 X12 X13 X14 X15).1 n (ln h d) = KN (kx arg4.view X4) (wx arg9.view X9) h d n := by
  unfold runBuild
  dsimp only
  exact loopK hc X4 X5 X9 _ _ le_rfl n hn (by have := t1_trips; omega) h d

/-- The values kept for the tiles of a pair of heads. -/
theorem builtV (n : ℕ) (hn : n < 16384) (h : Fin 2) (d : Fin 128) :
    va arg12.view (runBuild (F := Ideal) 𝒱 c i hc (arg3 : Memref sig .tc .vmem S1x1024x128 .bf16) (harg3 : arg3.IsWhole) (arg4 : Memref sig .tc .vmem S1x16384x128 .bf16) (harg4 : arg4.IsWhole) (arg5 : Memref sig .tc .vmem S1x128x16384 .bf16) (harg5 : arg5.IsWhole) (arg6 : Memref sig .tc .vmem S1x2x1x16384 .f32) (harg6 : arg6.IsWhole) (arg7 : Memref sig .tc .vmem S1x1024x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S16384x128 .bf16) (harg11 : arg11.IsWhole) (arg12 : Memref sig .tc .vmem S2x128x16384 .bf16) (harg12 : arg12.IsWhole) (arg13 : Memref sig .tc .vmem S2x1x1024 .f32) (harg13 : arg13.IsWhole) (arg14 : Memref sig .tc .vmem S2x80x1024 .f32) (harg14 : arg14.IsWhole) (arg15 : Memref sig .tc .vmem S2x2x512x1024 .f32) (harg15 : arg15.IsWhole) X3 X4 X5 X6 X7 X8 X9 X10 X11 X12 X13 X14 X15).2.1 h d n = wv (vx arg5.view X5) h d n := by
  unfold runBuild
  dsimp only
  exact loopV hc X4 X5 X9 _ _ le_rfl n hn (by have := t1_trips; omega) h d

end

end Cert.KernelIdeal.Body

end
-- ==== Proof.Block.lean ====
module

public import proofs.«01_k».proof.Proof.Gen.KernelIdeal.Frame
public import proofs.«01_k».proof.Proof.Out
public import proofs.«01_k».proof.Proof.Built

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Cert.Attn (acc acc_add acc_zero)

open Cert.Attn (rms masked rms_real tie)

set_option maxHeartbeats 1000000

theorem ep_pos : ∃ e : ℝ, 0 < e ∧ ep = (e : EReal) := by
  refine ⟨8796093 * (2 ^ 43)⁻¹, by positivity, ?_⟩
  unfold ep
  simp [Ideal.ofBits, Ideal.ieee]

/-- A sum of reals over the lanes is a real. -/
theorem coe64 (f : Fin 64 → ℝ) : ∑ d, ((f d : ℝ) : EReal) = ((∑ d, f d : ℝ) : EReal) :=
  (map_sum (⟨⟨Real.toEReal, rfl⟩, EReal.coe_add⟩ : ℝ →+ EReal) f Finset.univ).symm

/-- One query's attention over the keys up to itself, gated: the scores, the softmax and the weighted sum, over the reals. -/
def outv (q : Fin 64 → EReal) (K : ℕ → Fin 64 → EReal) (V C : ℕ → EReal) (wq wk : Fin 64 → EReal) (z : EReal) (I : ℕ) : EReal :=
  (∑ j ∈ Finset.range 16384,
    Ideal.div (Ideal.exp ((if j ≤ I then (∑ d, (rms ep q d * wq d) * (rms ep (K j) d * wk d)) * ((1 / 8 : ℝ) : EReal) + C I - C j else ⊥)
        - Attn.top (fun j => if j ≤ I then (∑ d, (rms ep q d * wq d) * (rms ep (K j) d * wk d)) * ((1 / 8 : ℝ) : EReal) + C I - C j else ⊥) 16384))
      (∑ k ∈ Finset.range 16384, Ideal.exp ((if k ≤ I then (∑ d, (rms ep q d * wq d) * (rms ep (K k) d * wk d)) * ((1 / 8 : ℝ) : EReal) + C I - C k else ⊥)
        - Attn.top (fun j => if j ≤ I then (∑ d, (rms ep q d * wq d) * (rms ep (K j) d * wk d)) * ((1 / 8 : ℝ) : EReal) + C I - C j else ⊥) 16384))
      * V j) * (z * Ideal.logistic z)

/-- The kernel's way to one query's attention is the plain one: base two, a reference bias, the keys of its tile only. -/
theorem outv_tie (q : Fin 64 → EReal) (K : ℕ → Fin 64 → EReal) (V C : ℕ → EReal) (wq wk : Fin 64 → EReal) (z : EReal) (I N c0 : ℕ)
    (hI : I < N) (hN : N ≤ 16384) (hC : ∀ n, ∃ r : ℝ, C n = r) (hq : ∀ d, ∃ r : ℝ, wq d = r) (hk : ∀ d, ∃ r : ℝ, wk d = r)
    (T : ℕ → EReal) (hT : ∀ n, T n = if n ≤ I then ∑ d, (rms ep (K n) d * wk d) * (rms ep q d * (wq d * (((1 / 8) * (Real.log 2)⁻¹ : ℝ) : EReal))) + (C c0 - C n) * lg else ⊥) :
    Ideal.div (acc T V N) (acc T (fun _ => 1) N) * (z * Ideal.logistic z) = outv q K V C wq wk z I := by
  obtain ⟨e, he, hep⟩ := ep_pos
  choose C' hC' using hC
  choose wq' hq' using hq
  choose wk' hk' using hk
  choose q' hq2 using fun d => rms_real he q d
  choose K' hK2 using fun n d => rms_real he (K n) d
  have hx : ∀ n, (∑ d, (rms ep q d * wq d) * (rms ep (K n) d * wk d)) * ((1 / 8 : ℝ) : EReal) + C I - C n
      = (((∑ d, (q' d * wq' d) * (K' n d * wk' d)) * (1 / 8) + C' I - C' n : ℝ) : EReal) := fun n => by
    simp only [hep, hq2, hK2, hq', hk', hC', ← EReal.coe_mul, coe64, ← EReal.coe_add, ← EReal.coe_sub]
  have hT' : T = masked I fun n => (((∑ d, (q' d * wq' d) * (K' n d * wk' d)) * (1 / 8) + C' I - C' n) + (C' c0 - C' I)) * (Real.log 2)⁻¹ := by
    funext n
    rw [hT]
    unfold masked
    by_cases hn : n ≤ I
    · rw [if_pos hn, if_pos hn]
      unfold lg
      simp only [hep, hq2, hK2, hq', hk', hC', ← EReal.coe_mul, coe64, ← EReal.coe_add, ← EReal.coe_sub]
      congr 1
      have : ∑ d, K' n d * wk' d * (q' d * (wq' d * (1 / 8 * (Real.log 2)⁻¹))) = (∑ d, (q' d * wq' d) * (K' n d * wk' d)) * (1 / 8) * (Real.log 2)⁻¹ := by
        rw [Finset.sum_mul, Finset.sum_mul]
        exact Finset.sum_congr rfl fun d _ => by ring
      rw [this]
      ring
    · rw [if_neg hn, if_neg hn]
  rw [hT', tie hI hN]
  unfold outv
  simp only [hx]
  rfl

section

variable {𝒱 : Variants} {c : Dev nD} {bd : Option 𝒱.V} {i : grid0.Coords} {arg3 : Memref sig .tc .vmem S1x1024x128 .bf16} {harg3 : arg3.IsWhole} {arg4 : Memref sig .tc .vmem S1x16384x128 .bf16} {harg4 : arg4.IsWhole} {arg5 : Memref sig .tc .vmem S1x128x16384 .bf16} {harg5 : arg5.IsWhole} {arg6 : Memref sig .tc .vmem S1x2x1x16384 .f32} {harg6 : arg6.IsWhole} {arg7 : Memref sig .tc .vmem S1x1024x128 .bf16} {harg7 : arg7.IsWhole} {arg8 : Memref sig .tc .vmem S1x128 .f32} {harg8 : arg8.IsWhole} {arg9 : Memref sig .tc .vmem S1x128 .f32} {harg9 : arg9.IsWhole} {arg10 : Memref sig .tc .vmem S1x1024x128 .bf16} {harg10 : arg10.IsWhole} {arg11 : Memref sig .tc .vmem S16384x128 .bf16} {harg11 : arg11.IsWhole} {arg12 : Memref sig .tc .vmem S2x128x16384 .bf16} {harg12 : arg12.IsWhole} {arg13 : Memref sig .tc .vmem S2x1x1024 .f32} {harg13 : arg13.IsWhole} {arg14 : Memref sig .tc .vmem S2x80x1024 .f32} {harg14 : arg14.IsWhole} {arg15 : Memref sig .tc .vmem S2x2x512x1024 .f32} {harg15 : arg15.IsWhole} {X3 : BufTy.Contents (Elt Ideal) arg3.view.ty} {X6 : BufTy.Contents (Elt Ideal) arg6.view.ty} {X7 : BufTy.Contents (Elt Ideal) arg7.view.ty} {X8 : BufTy.Contents (Elt Ideal) arg8.view.ty} {X10 : BufTy.Contents (Elt Ideal) arg10.view.ty} {X15 : BufTy.Contents (Elt Ideal) arg15.view.ty} {Z11 : BufTy.Contents (Elt Ideal) arg11.view.ty} {Z12 : BufTy.Contents (Elt Ideal) arg12.view.ty} {X4 : BufTy.Contents (Elt Ideal) arg4.view.ty} {X5 : BufTy.Contents (Elt Ideal) arg5.view.ty} {X9 : BufTy.Contents (Elt Ideal) arg9.view.ty}

/-- A tile's scores, as sums over the lanes of the head. -/
theorem SS_eq (h : Fin 2) (r : Fin 1024) (n : ℕ) :
    (SS i arg3 arg6 arg8 arg11 X3 X6 X8 Z11) h r n = ∑ d : Fin 64, kn arg11.view Z11 n (ln h d) * (rms ep (fun e => arg3.view.read (Elt Ideal) X3 (ix3 0 r (ln h e))) d * (wx arg8.view X8 (ln h d) * (((1 / 8) * (Real.log 2)⁻¹ : ℝ) : EReal)))
      + (cm arg6.view X6 h (1024 * (i 2).val) - cm arg6.view X6 h n) * lg := by
  have e8 : ∀ l : Fin 128, (arg8.view.readAt (Elt Ideal) (Rect.unit (s := S1x128) ![0, 0] S1x128.size inb_S1x128_S1x128_0_0).toLoadRect X8) (ix2 0 l) = wx arg8.view X8 l := fun l =>
    readAt_at _ _ _ _ _ rfl (by
      intro a; fin_cases a
      · show 0 = 0 + 0; rfl
      · show l.val = 0 + l.val; omega)
  have hi : (i 2).val < 16 := (i 2).isLt
  have h2 : h = 0 ∨ h = 1 := by omega
  have eQ : ∀ d : Fin 64, k0_pay66 (F := Ideal) (arg3.view.readAt (Elt Ideal) (Rect.unit (s := S1x1024x128) ![0, 0, 0] S1x1024x128.size inb_S1x1024x128_S1x1024x128_0_0_0).toLoadRect X3) (arg8.view.readAt (Elt Ideal) (Rect.unit (s := S1x128) ![0, 0] S1x128.size inb_S1x128_S1x128_0_0).toLoadRect X8) (ix2 r (ln h d))
      = rms ep (fun e => arg3.view.read (Elt Ideal) X3 (ix3 0 r (ln h e))) d * (wx arg8.view X8 (ln h d) * (((1 / 8) * (Real.log 2)⁻¹ : ℝ) : EReal)) := fun d => by
    rw [pay66_at, e8, rRow]
  unfold SS sc raw
  rw [lanes]
  obtain rfl | rfl := h2
  · have e1 : (runRest.sl.r_1 (F := Ideal) i arg6 X6) (ix2 0 0) = cm arg6.view X6 0 (1024 * (i 2).val) := by
      unfold runRest.sl.r_1
      pointwise [k0_pay70]
      exact readAt_at _ _ _ _ _ (k0_off6_eq i) (by
        intro a; fin_cases a
        · show 0 = 0 + 0; rfl
        · show 0 = 0 + 0; rfl
        · show 0 = 0 + 0; rfl
        · show (1024 * (i 2).val) % 16384 = (1024 * (i 2).val) + 0; omega)
    rw [if_pos rfl, if_pos rfl, e1]
    congr 1
    rw [Finset.sum_eq_zero (s := Finset.univ) (f := fun d : Fin 64 => kn arg11.view Z11 n (ln 1 d) * (k0_pay67 (F := Ideal) (arg3.view.readAt (Elt Ideal) (Rect.unit (s := S1x1024x128) ![0, 0, 0] S1x1024x128.size inb_S1x1024x128_S1x1024x128_0_0_0).toLoadRect X3) (arg8.view.readAt (Elt Ideal) (Rect.unit (s := S1x128) ![0, 0] S1x128.size inb_S1x128_S1x128_0_0).toLoadRect X8)) (ix2 r (ln 1 d))) (fun d _ => by rw [pay67_at, if_neg (by decide), mul_zero]), add_zero]
    exact Finset.sum_congr rfl fun d _ => by rw [pay67_at, if_pos rfl, eQ]
  · have e1 : (runRest.sl.r_2 (F := Ideal) i arg6 X6) (ix2 0 0) = cm arg6.view X6 1 (1024 * (i 2).val) := by
      unfold runRest.sl.r_2
      pointwise [k0_pay71]
      exact readAt_at _ _ _ _ _ (k0_off7_eq i) (by
        intro a; fin_cases a
        · show 0 = 0 + 0; rfl
        · show 1 = 1 + 0; rfl
        · show 0 = 0 + 0; rfl
        · show (1024 * (i 2).val) % 16384 = (1024 * (i 2).val) + 0; omega)
    rw [if_neg (by decide), if_neg (by decide), e1]
    unfold runRest.sl.r
    congr 1
    rw [Finset.sum_eq_zero (s := Finset.univ) (f := fun d : Fin 64 => kn arg11.view Z11 n (ln 0 d) * k0_pay69 (F := Ideal) k0_pay65 (k0_pay66 (F := Ideal) (arg3.view.readAt (Elt Ideal) (Rect.unit (s := S1x1024x128) ![0, 0, 0] S1x1024x128.size inb_S1x1024x128_S1x1024x128_0_0_0).toLoadRect X3) (arg8.view.readAt (Elt Ideal) (Rect.unit (s := S1x128) ![0, 0] S1x128.size inb_S1x128_S1x128_0_0).toLoadRect X8)) k0_pay68 (ix2 r (ln 0 d))) (fun d _ => by rw [pay69_at, if_pos rfl, mul_zero]), zero_add]
    exact Finset.sum_congr rfl fun d _ => by rw [pay69_at, if_neg (by decide), eQ]

/-- What a grid point stores: each query's attention, gated. -/
theorem block_out (hK : ∀ n h d, kn arg11.view Z11 n (ln h d) = KN (kx arg4.view X4) (wx arg9.view X9) h d n)
    (hV : ∀ n h d, va arg12.view Z12 h d n = wv (vx arg5.view X5) h d n)
    (hc : ∀ h n, ∃ r : ℝ, cm arg6.view X6 h n = r) (h8 : ∀ l, ∃ r : ℝ, wx arg8.view X8 l = r) (h9 : ∀ l, ∃ r : ℝ, wx arg9.view X9 l = r)
    (h : Fin 2) (d : Fin 64) (r : Fin 1024) :
    runRest.sl.v302 (F := Ideal) 𝒱 c i arg3 harg3 arg4 harg4 arg5 harg5 arg6 harg6 arg7 harg7 arg8 harg8 arg9 harg9 arg10 harg10 arg11 harg11 arg12 harg12 arg13 harg13 arg14 harg14 arg15 harg15 X3 X6 X7 X8 X15 Z11 Z12 (ix3 0 r (ln h d))
      = outv (fun e => arg3.view.read (Elt Ideal) X3 (ix3 0 r (ln h e))) (fun n e => kx arg4.view X4 n (ln h e)) (vx arg5.view X5 (ln h d)) (cm arg6.view X6 h)
          (fun e => wx arg8.view X8 (ln h e)) (fun e => wx arg9.view X9 (ln h e)) (arg7.view.read (Elt Ideal) X7 (ix3 0 r (ln h d))) ((1024 * (i 2).val) + r.val) := by
  have hi : (i 2).val < 16 := (i 2).isLt
  have hr : r.val < 1024 := r.isLt
  have h2 : h = 0 ∨ h = 1 := by omega
  have hTT : ∀ h r n, (TT i arg3 arg6 arg8 arg11 X3 X6 X8 Z11) h r n = if n ≤ (1024 * (i 2).val) + r.val then ∑ d, (rms ep (fun e => kx arg4.view X4 n (ln h e)) d * wx arg9.view X9 (ln h d))
      * (rms ep (fun e => arg3.view.read (Elt Ideal) X3 (ix3 0 r (ln h e))) d * (wx arg8.view X8 (ln h d) * (((1 / 8) * (Real.log 2)⁻¹ : ℝ) : EReal)))
        + (cm arg6.view X6 h (1024 * (i 2).val) - cm arg6.view X6 h n) * lg else ⊥ := fun h r n => by
    unfold TT
    rw [SS_eq]
    simp only [hK]
    rfl
  have hS : ∀ h (r : Fin 1024) n, (SS i arg3 arg6 arg8 arg11 X3 X6 X8 Z11) h r n ≠ ⊤ := fun h r n => by
    obtain ⟨e, he, hep⟩ := ep_pos
    rw [SS_eq]
    simp only [hK, KN]
    choose c' hc' using hc
    choose w8 h8' using h8
    choose w9 h9' using h9
    choose q' hq2 using fun d => rms_real he (fun e => arg3.view.read (Elt Ideal) X3 (ix3 0 r (ln h e))) d
    choose K' hK2 using fun d => rms_real he (fun e => kx arg4.view X4 n (ln h e)) d
    unfold lg
    simp only [hep, hq2, hK2, hc', h8', h9', ← EReal.coe_mul, coe64, ← EReal.coe_add, ← EReal.coe_sub]
    exact EReal.coe_ne_top _
  obtain rfl | rfl := h2
  · have e1 : (vl (va arg12.view Z12)) 0 ⟨64, by omega⟩ = fun _ => 1 := funext fun n => (hV n 0 _).trans rfl
    have e2 : (vl (va arg12.view Z12)) 0 ⟨(ln 0 d).val, by have : (ln 0 d).val = 64 * 0 + d.val := rfl; omega⟩ = vx arg5.view X5 (ln 0 d) := funext fun n => (hV n 0 _).trans (by
      have hv : (Fin.ofNat 128 ((ln 0 d).val + 48 * (0 : Fin 2).val)) = ln 0 d := Fin.ext (by show (64 * 0 + d.val + 48 * 0) % 128 = 64 * 0 + d.val; omega)
      show wv (vx arg5.view X5) 0 (Fin.ofNat 128 ((ln 0 d).val + 48 * (0 : Fin 2).val)) n = _
      rw [hv]
      unfold wv
      rw [if_pos rfl, if_pos ((ln_lt 0 d).mpr rfl)])
    rw [v302_0 hS r (ln 0 d) ((ln_lt 0 d).mpr rfl), e1, e2]
    exact outv_tie _ _ _ _ _ _ _ ((1024 * (i 2).val) + r.val) ((1024 * (i 2).val) + 512 + 512) (1024 * (i 2).val) (by omega) (by omega) (hc 0) (fun _ => h8 _) (fun _ => h9 _) _ (hTT 0 r)
  · have hl : ¬ (ln 1 d).val < 64 := fun hl => absurd ((ln_lt 1 d).mp hl) (by decide)
    have e1 : (vl (va arg12.view Z12)) 1 ⟨15, by omega⟩ = fun _ => 1 := funext fun n => (hV n 1 _).trans rfl
    have e2 : (vl (va arg12.view Z12)) 1 ⟨16 + ((ln 1 d).val - 64), by have : (ln 1 d).val = 64 * 1 + d.val := rfl; omega⟩ = vx arg5.view X5 (ln 1 d) := funext fun n => (hV n 1 _).trans (by
      have hv : (Fin.ofNat 128 ((16 + ((ln 1 d).val - 64)) + 48 * (1 : Fin 2).val)) = ln 1 d := Fin.ext (by show (16 + (64 * 1 + d.val - 64) + 48 * 1) % 128 = 64 * 1 + d.val; omega)
      show wv (vx arg5.view X5) 1 (Fin.ofNat 128 ((16 + ((ln 1 d).val - 64)) + 48 * (1 : Fin 2).val)) n = _
      rw [hv]
      unfold wv
      rw [if_neg (by decide), if_neg hl])
    rw [v302_1 hS r (ln 1 d) hl, e1, e2]
    exact outv_tie _ _ _ _ _ _ _ ((1024 * (i 2).val) + r.val) ((1024 * (i 2).val) + 512 + 512) (1024 * (i 2).val) (by omega) (by omega) (hc 1) (fun _ => h8 _) (fun _ => h9 _) _ (hTT 1 r)

end

end Cert.KernelIdeal.Body

end
-- ==== Proof.Blocks.lean ====
module

public import proofs.«01_k».proof.Proof.Gen.KernelIdeal.Frame
public import proofs.«01_k».proof.Proof.FrameRun
public import proofs.«01_k».proof.Proof.Block
public import Idealize.ShloMosaic.Lib.Pipeline.ValueKit

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable (m : (ℓ : Loc nD τ sig) → Buf (Elt Ideal) ℓ)

/-- The windows' block indices, at every grid point. -/
theorem idx : ∀ t : Fin cfg0.N, win0_0.index t = ![t.val / 256, t.val % 16, t.val / 16 % 16] ∧ win0_1.index t = ![t.val / 256, 0, 16 + t.val / 16 % 16]
    ∧ win0_2.index t = ![t.val / 256, t.val / 16 % 16, 0] ∧ win0_3.index t = ![t.val / 256, t.val / 16 % 16, 0, 0]
    ∧ win0_4.index t = ![t.val / 256, t.val % 16, t.val / 16 % 16] ∧ win0_5.index t = ![0, 0] ∧ win0_6.index t = ![0, 0]
    ∧ win0_7.index t = ![t.val / 256, t.val % 16, t.val / 16 % 16] :=
  (by decide +kernel : ∀ t : Fin grid0.N, _)

theorem coords2 : ∀ t : Fin cfg0.N, (grid0.coords t 2).val = t.val % 16 := (by decide +kernel : ∀ t : Fin grid0.N, _)

theorem cond_iff : ∀ t : Fin cfg0.N, k0_cond1 (grid0.coords t) = 1#1 ↔ t.val % 16 = 0 := (by decide +kernel : ∀ t : Fin grid0.N, _)

theorem t_lt (t : Fin cfg0.N) : t.val < 512 := (by decide +kernel : ∀ t : Fin grid0.N, t.val < 512) t

/-- The batch a grid point works on. -/
def bN (n : ℕ) : Fin 2 := Fin.ofNat 2 (n / 256)

/-- The pair of heads a grid point works on. -/
def hN (n : ℕ) : Fin 16 := Fin.ofNat 16 (n / 16)

/-- Row `n` of the queries of a pair of heads. -/
def qA (X : Vec Ideal S2x16384x4096 .bf16) (b : Fin 2) (p : Fin 16) (n : ℕ) (l : Fin 128) : EReal :=
  X (ix3 b (Fin.ofNat 16384 n) (⟨128 * p.val + l.val, by omega⟩ : Fin 4096))

/-- Row `n` of the keys of a pair of heads. -/
def kA (X : Vec Ideal S2x16384x4096 .bf16) (b : Fin 2) (p : Fin 16) (n : ℕ) (l : Fin 128) : EReal :=
  X (ix3 b (Fin.ofNat 16384 n) (⟨2048 + 128 * p.val + l.val, by omega⟩ : Fin 4096))

/-- The values of a pair of heads. -/
def vA (X : Vec Ideal S2x2048x16384 .bf16) (b : Fin 2) (p : Fin 16) (d : Fin 128) (n : ℕ) : EReal :=
  X (ix3 b (⟨128 * p.val + d.val, by omega⟩ : Fin 2048) (Fin.ofNat 16384 n))

/-- The cumulative log gates of a pair of heads. -/
def cA (X : Vec Ideal S2x32x1x16384 .f32) (b : Fin 2) (p : Fin 16) (h : Fin 2) (n : ℕ) : EReal :=
  X (ix4 b (⟨2 * p.val + h.val, by omega⟩ : Fin 32) 0 (Fin.ofNat 16384 n))

/-- Row `n` of the gate of a pair of heads. -/
def zA (X : Vec Ideal S2x16384x2048 .bf16) (b : Fin 2) (p : Fin 16) (n : ℕ) (l : Fin 128) : EReal :=
  X (ix3 b (Fin.ofNat 16384 n) (⟨128 * p.val + l.val, by omega⟩ : Fin 2048))

/-- A head's weights, once for each head of the pair. -/
def wA (X : Vec Ideal S64 .f32) (l : Fin 128) : EReal := X (ix1 (Fin.ofNat 64 l.val))

theorem blk_q (c : Dev nD) (t : Fin cfg0.N) (r : Fin 1024) (l : Fin 128) :
    (iblk m c 0 t : Vec Ideal S1x1024x128 .bf16) (ix3 0 r l) = qA (m ((c : Thread nD τ).loc main_arg0)) (bN t) (hN t) (1024 * (t.val % 16) + r.val) l := by
  have ht := t_lt t
  unfold qA bN hN
  blk_ext [iblk, V, idx t]
  all_goals (simp only [Fin.val_ofNat]; omega)

theorem blk_k (c : Dev nD) (t : Fin cfg0.N) (n : ℕ) (l : Fin 128) :
    (iblk m c 1 t : Vec Ideal S1x16384x128 .bf16) (ix3 0 (Fin.ofNat 16384 n) l) = kA (m ((c : Thread nD τ).loc main_arg0)) (bN t) (hN t) n l := by
  have ht := t_lt t
  unfold kA bN hN
  blk_ext [iblk, V, idx t]
  all_goals (simp only [Fin.val_ofNat]; omega)

theorem blk_v (c : Dev nD) (t : Fin cfg0.N) (d : Fin 128) (n : ℕ) :
    (iblk m c 2 t : Vec Ideal S1x128x16384 .bf16) (ix3 0 d (Fin.ofNat 16384 n)) = vA (m ((c : Thread nD τ).loc main_arg1)) (bN t) (hN t) d n := by
  have ht := t_lt t
  unfold vA bN hN
  blk_ext [iblk, V, idx t]
  all_goals (simp only [Fin.val_ofNat]; omega)

theorem blk_c (c : Dev nD) (t : Fin cfg0.N) (h : Fin 2) (n : ℕ) :
    (iblk m c 3 t : Vec Ideal S1x2x1x16384 .f32) (ix4 0 h 0 (Fin.ofNat 16384 n)) = cA (m ((c : Thread nD τ).loc main_arg2)) (bN t) (hN t) h n := by
  have ht := t_lt t
  unfold cA bN hN
  blk_ext [iblk, V, idx t]
  all_goals (simp only [Fin.val_ofNat]; omega)

theorem blk_z (c : Dev nD) (t : Fin cfg0.N) (r : Fin 1024) (l : Fin 128) :
    (iblk m c 4 t : Vec Ideal S1x1024x128 .bf16) (ix3 0 r l) = zA (m ((c : Thread nD τ).loc main_arg3)) (bN t) (hN t) (1024 * (t.val % 16) + r.val) l := by
  have ht := t_lt t
  unfold zA bN hN
  blk_ext [iblk, V, idx t]
  all_goals (simp only [Fin.val_ofNat]; omega)

theorem blk_wq (c : Dev nD) (t : Fin cfg0.N) (l : Fin 128) :
    (iblk m c 5 t : Vec Ideal S1x128 .f32) (ix2 0 l) = wA (m ((c : Thread nD τ).loc main_arg4)) l := by
  unfold wA
  have e : (iblk m c 5 t : Vec Ideal S1x128 .f32) (ix2 0 l) = (V m c main_v3 : Vec Ideal S1x128 .f32) (ix2 0 l) := by
    blk_ext [iblk, idx t]
  rw [e]
  entry_read
  pointwise []
  blk_ext []
  all_goals simp only [Fin.val_ofNat]

theorem blk_wk (c : Dev nD) (t : Fin cfg0.N) (l : Fin 128) :
    (iblk m c 6 t : Vec Ideal S1x128 .f32) (ix2 0 l) = wA (m ((c : Thread nD τ).loc main_arg5)) l := by
  unfold wA
  have e : (iblk m c 6 t : Vec Ideal S1x128 .f32) (ix2 0 l) = (V m c main_v7 : Vec Ideal S1x128 .f32) (ix2 0 l) := by
    blk_ext [iblk, idx t]
  rw [e]
  entry_read
  pointwise []
  blk_ext []
  all_goals simp only [Fin.val_ofNat]

end Cert.KernelIdeal.Body

end
-- ==== Proof.Point.lean ====
module

public import proofs.«01_k».proof.Proof.Gen.KernelIdeal.Frame
public import proofs.«01_k».proof.Proof.FrameRun
public import proofs.«01_k».proof.Proof.Blocks
public import proofs.«01_k».proof.Proof.Built
public import proofs.«01_k».proof.Proof.Block

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

/-- The rows of a block of keys. -/
def bk (x : Vec Ideal S1x16384x128 .bf16) (n : ℕ) (l : Fin 128) : EReal := x (ix3 0 (Fin.ofNat 16384 n) l)

/-- The rows of a block of values. -/
def bv (x : Vec Ideal S1x128x16384 .bf16) (d : Fin 128) (n : ℕ) : EReal := x (ix3 0 d (Fin.ofNat 16384 n))

/-- The cumulative log gates of a block. -/
def bc (x : Vec Ideal S1x2x1x16384 .f32) (h : Fin 2) (n : ℕ) : EReal := x (ix4 0 h 0 (Fin.ofNat 16384 n))

/-- The weights of a block. -/
def bw (x : Vec Ideal S1x128 .f32) (l : Fin 128) : EReal := x (ix2 0 l)

/-- The head of the pair a lane belongs to. -/
def hd (l : Fin 128) : Fin 2 := Fin.ofNat 2 (l.val / 64)

/-- A lane within its head. -/
def ld (l : Fin 128) : Fin 64 := Fin.ofNat 64 l.val

theorem ln_of (l : Fin 128) : ln (hd l) (ld l) = l := by
  apply Fin.ext
  show 64 * (Fin.ofNat 2 (l.val / 64)).val + (Fin.ofNat 64 l.val).val = l.val
  simp only [Fin.val_ofNat]
  have := l.isLt
  omega

/-- The block of the output at query tile `qi`, from the blocks of the inputs. -/
def blkOut (qi : ℕ) (x3 : Vec Ideal S1x1024x128 .bf16) (x4 : Vec Ideal S1x16384x128 .bf16) (x5 : Vec Ideal S1x128x16384 .bf16) (x6 : Vec Ideal S1x2x1x16384 .f32) (x7 : Vec Ideal S1x1024x128 .bf16) (x8 : Vec Ideal S1x128 .f32) (x9 : Vec Ideal S1x128 .f32) (y : S1x1024x128.Idx) : EReal :=
  outv (fun e => x3 (ix3 0 (y 1 : Fin 1024) (ln (hd (y 2 : Fin 128)) e))) (fun n e => bk x4 n (ln (hd (y 2 : Fin 128)) e)) (bv x5 (y 2 : Fin 128)) (bc x6 (hd (y 2 : Fin 128)))
    (fun e => bw x8 (ln (hd (y 2 : Fin 128)) e)) (fun e => bw x9 (ln (hd (y 2 : Fin 128)) e)) (x7 (ix3 0 (y 1 : Fin 1024) (y 2 : Fin 128))) (1024 * qi + (y 1 : Fin 1024).val)

/-- A store of the whole output block is read back. -/
theorem w10 (v : View sig .tc .vmem S1x1024x128 .bf16) (f : v.ty.Contents (Elt Ideal)) (inb : ∀ a, (![0, 0, 0] : Fin 3 → ℕ) a + S1x1024x128.size a ≤ S1x1024x128.size a)
    (w : Vec Ideal S1x1024x128 .bf16) (L : List (View.Piece (Elt Ideal) S1x1024x128 .bf16)) (y : S1x1024x128.Idx) :
    v.read (Elt Ideal) (v.writes (Elt Ideal) f ((⟨Rect.unit (s := S1x1024x128) ![0, 0, 0] S1x1024x128.size inb, w⟩ : View.Piece (Elt Ideal) S1x1024x128 .bf16) :: L)) y
      = w y :=
  View.read_writes_cons_unit_of_mem v f inb w L y y rfl (by
    intro a; fin_cases a
    · show (y 0 : Fin 1).val = 0 + (y 0 : Fin 1).val; omega
    · show (y 1 : Fin 1024).val = 0 + (y 1 : Fin 1024).val; omega
    · show (y 2 : Fin 128).val = 0 + (y 2 : Fin 128).val; omega)

theorem bk_eq (v : View sig .tc .vmem S1x16384x128 .bf16) (x : Vec Ideal S1x16384x128 .bf16) : kx v (v.rep x) = bk x := by
  funext n l; unfold kx bk; rw [View.read_rep]
theorem bv_eq (v : View sig .tc .vmem S1x128x16384 .bf16) (x : Vec Ideal S1x128x16384 .bf16) : vx v (v.rep x) = bv x := by
  funext d n; unfold vx bv; rw [View.read_rep]
theorem bc_eq (v : View sig .tc .vmem S1x2x1x16384 .f32) (x : Vec Ideal S1x2x1x16384 .f32) : cm v (v.rep x) = bc x := by
  funext h n; unfold cm bc; rw [View.read_rep]
theorem bw_eq (v : View sig .tc .vmem S1x128 .f32) (x : Vec Ideal S1x128 .f32) : wx v (v.rep x) = bw x := by
  funext l; unfold wx bw; rw [View.read_rep]

theorem kn_wrap (v : View sig .tc .vmem S16384x128 .bf16) (f : v.ty.Contents (Elt Ideal)) (n : ℕ) (l : Fin 128) : kn v f (n % 16384) l = kn v f n l := by
  unfold kn; congr 2; apply Fin.ext; simp only [Fin.val_ofNat]; omega
theorem va_wrap (v : View sig .tc .vmem S2x128x16384 .bf16) (f : v.ty.Contents (Elt Ideal)) (h : Fin 2) (d : Fin 128) (n : ℕ) : va v f h d (n % 16384) = va v f h d n := by
  unfold va; congr 2; apply Fin.ext; simp only [Fin.val_ofNat]; omega
theorem bk_wrap (x : Vec Ideal S1x16384x128 .bf16) (n : ℕ) (l : Fin 128) : bk x (n % 16384) l = bk x n l := by
  unfold bk; congr 2; apply Fin.ext; simp only [Fin.val_ofNat]; omega
theorem bv_wrap (x : Vec Ideal S1x128x16384 .bf16) (d : Fin 128) (n : ℕ) : bv x d (n % 16384) = bv x d n := by
  unfold bv; congr 2; apply Fin.ext; simp only [Fin.val_ofNat]; omega
theorem KN_wrap (x : Vec Ideal S1x16384x128 .bf16) (w : Fin 128 → EReal) (h : Fin 2) (d : Fin 64) (n : ℕ) : KN (bk x) w h d (n % 16384) = KN (bk x) w h d n := by
  unfold KN; simp only [bk_wrap]
theorem wv_wrap (x : Vec Ideal S1x128x16384 .bf16) (h : Fin 2) (d : Fin 128) (n : ℕ) : wv (bv x) h d (n % 16384) = wv (bv x) h d n := by
  unfold wv; simp only [bv_wrap]

section

variable {𝒱 : Variants} {c : Dev nD} {i : grid0.Coords}  {arg3 : Memref sig .tc .vmem S1x1024x128 .bf16} {harg3 : arg3.IsWhole} {arg4 : Memref sig .tc .vmem S1x16384x128 .bf16} {harg4 : arg4.IsWhole} {arg5 : Memref sig .tc .vmem S1x128x16384 .bf16} {harg5 : arg5.IsWhole} {arg6 : Memref sig .tc .vmem S1x2x1x16384 .f32} {harg6 : arg6.IsWhole} {arg7 : Memref sig .tc .vmem S1x1024x128 .bf16} {harg7 : arg7.IsWhole} {arg8 : Memref sig .tc .vmem S1x128 .f32} {harg8 : arg8.IsWhole} {arg9 : Memref sig .tc .vmem S1x128 .f32} {harg9 : arg9.IsWhole} {arg10 : Memref sig .tc .vmem S1x1024x128 .bf16} {harg10 : arg10.IsWhole} {arg11 : Memref sig .tc .vmem S16384x128 .bf16} {harg11 : arg11.IsWhole} {arg12 : Memref sig .tc .vmem S2x128x16384 .bf16} {harg12 : arg12.IsWhole} {arg13 : Memref sig .tc .vmem S2x1x1024 .f32} {harg13 : arg13.IsWhole} {arg14 : Memref sig .tc .vmem S2x80x1024 .f32} {harg14 : arg14.IsWhole} {arg15 : Memref sig .tc .vmem S2x2x512x1024 .f32} {harg15 : arg15.IsWhole}
  {x3 : Vec Ideal S1x1024x128 .bf16} {x4 : Vec Ideal S1x16384x128 .bf16} {x5 : Vec Ideal S1x128x16384 .bf16} {x6 : Vec Ideal S1x2x1x16384 .f32} {x7 : Vec Ideal S1x1024x128 .bf16} {x8 : Vec Ideal S1x128 .f32} {x9 : Vec Ideal S1x128 .f32} {X10 : BufTy.Contents (Elt Ideal) arg10.view.ty} {X11 : BufTy.Contents (Elt Ideal) arg11.view.ty} {X12 : BufTy.Contents (Elt Ideal) arg12.view.ty} {X13 : BufTy.Contents (Elt Ideal) arg13.view.ty} {X14 : BufTy.Contents (Elt Ideal) arg14.view.ty} {X15 : BufTy.Contents (Elt Ideal) arg15.view.ty}

/-- One grid point on known keys and values: the output's block is the attention of the blocks. -/
theorem point_of (hc : ∀ h n, ∃ r : ℝ, bc x6 h n = r) (h8 : ∀ l, ∃ r : ℝ, bw x8 l = r) (h9 : ∀ l, ∃ r : ℝ, bw x9 l = r)
    (Z11 : BufTy.Contents (Elt Ideal) arg11.view.ty) (Z12 : BufTy.Contents (Elt Ideal) arg12.view.ty) (hK : (∀ n h d, kn arg11.view Z11 n (ln h d) = KN (bk x4) (bw x9) h d n)) (hV : (∀ n h d, va arg12.view Z12 h d n = wv (bv x5) h d n))
    (hb : ∀ E : Set ℕ, Held (F := Ideal) c arg3 harg3 arg4 harg4 arg5 harg5 arg6 harg6 arg7 harg7 arg8 harg8 arg9 harg9 arg10 harg10 arg11 harg11 arg12 harg12 arg13 harg13 arg14 harg14 arg15 harg15 (arg3.view.rep x3) (arg4.view.rep x4) (arg5.view.rep x5) (arg6.view.rep x6) (arg7.view.rep x7) (arg8.view.rep x8) (arg9.view.rep x9) X10 X11 X12 X13 X14 X15
      ⊢ wp frame (wpE (defs₀ (F := Ideal)) 𝒱 (c : Thread nD τ) none) E (k0_part12 (F := Ideal) i arg3 harg3 arg4 harg4 arg5 harg5 arg6 harg6 arg7 harg7 arg8 harg8 arg9 harg9 arg10 harg10 arg11 harg11 arg12 harg12 arg13 harg13 arg14 harg14 arg15 harg15)
          (fun ret => iprop(⌜ret = firstRet i arg3 arg8 (arg3.view.rep x3) (arg8.view.rep x8)⌝ ∗ Held (F := Ideal) c arg3 harg3 arg4 harg4 arg5 harg5 arg6 harg6 arg7 harg7 arg8 harg8 arg9 harg9 arg10 harg10 arg11 harg11 arg12 harg12 arg13 harg13 arg14 harg14 arg15 harg15 (arg3.view.rep x3) (arg4.view.rep x4) (arg5.view.rep x5) (arg6.view.rep x6) (arg7.view.rep x7) (arg8.view.rep x8) (arg9.view.rep x9) X10 Z11 Z12 X13 X14 X15))) (E : Set ℕ) :
    Held (F := Ideal) c arg3 harg3 arg4 harg4 arg5 harg5 arg6 harg6 arg7 harg7 arg8 harg8 arg9 harg9 arg10 harg10 arg11 harg11 arg12 harg12 arg13 harg13 arg14 harg14 arg15 harg15 (arg3.view.rep x3) (arg4.view.rep x4) (arg5.view.rep x5) (arg6.view.rep x6) (arg7.view.rep x7) (arg8.view.rep x8) (arg9.view.rep x9) X10 X11 X12 X13 X14 X15
      ⊢ wp frame (wpE (defs₀ (F := Ideal)) 𝒱 (c : Thread nD τ) none) E (cc0_fox_attention (F := Ideal) i arg3 harg3 arg4 harg4 arg5 harg5 arg6 harg6 arg7 harg7 arg8 harg8 arg9 harg9 arg10 harg10 arg11 harg11 arg12 harg12 arg13 harg13 arg14 harg14 arg15 harg15)
          (fun _ => iprop(∃ Y10, ∃ Y11, ∃ Y12, ∃ Y13, ∃ Y14, ∃ Y15, ⌜arg10.view.read (Elt Ideal) Y10 = blkOut (i 2).val x3 x4 x5 x6 x7 x8 x9 ∧ (∀ n h d, kn arg11.view Y11 n (ln h d) = KN (bk x4) (bw x9) h d n) ∧ (∀ n h d, va arg12.view Y12 h d n = wv (bv x5) h d n)⌝ ∗ Held (F := Ideal) c arg3 harg3 arg4 harg4 arg5 harg5 arg6 harg6 arg7 harg7 arg8 harg8 arg9 harg9 arg10 harg10 arg11 harg11 arg12 harg12 arg13 harg13 arg14 harg14 arg15 harg15 (arg3.view.rep x3) (arg4.view.rep x4) (arg5.view.rep x5) (arg6.view.rep x6) (arg7.view.rep x7) (arg8.view.rep x8) (arg9.view.rep x9) Y10 Y11 Y12 Y13 Y14 Y15)) := by
  have hY : arg10.view.read (Elt Ideal) (runRest (F := Ideal) 𝒱 c i arg3 harg3 arg4 harg4 arg5 harg5 arg6 harg6 arg7 harg7 arg8 harg8 arg9 harg9 arg10 harg10 arg11 harg11 arg12 harg12 arg13 harg13 arg14 harg14 arg15 harg15 (arg3.view.rep x3) (arg4.view.rep x4) (arg5.view.rep x5) (arg6.view.rep x6) (arg7.view.rep x7) (arg8.view.rep x8) (arg9.view.rep x9) X10 X11 X12 X13 X14 X15 Z11 Z12 hb).1 = blkOut (i 2).val x3 x4 x5 x6 x7 x8 x9 := by
    unfold runRest
    dsimp only
    funext y
    rw [w10, ← ix3_eta y]
    obtain ⟨a, r, l, rfl⟩ : ∃ (a : Fin 1) (r : Fin 1024) (l : Fin 128), y = ix3 a r l := ⟨y 0, y 1, y 2, (ix3_eta y).symm⟩
    obtain rfl : a = 0 := Subsingleton.elim _ _
    have e := block_out (𝒱 := 𝒱) (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (X3 := arg3.view.rep x3) (X4 := arg4.view.rep x4) (X5 := arg5.view.rep x5) (X6 := arg6.view.rep x6) (X7 := arg7.view.rep x7) (X8 := arg8.view.rep x8) (X9 := arg9.view.rep x9) (X15 := X15) (Z11 := Z11) (Z12 := Z12)
      (by rw [bk_eq, bw_eq]; exact hK) (by rw [bv_eq]; exact hV) (by rw [bc_eq]; exact hc) (by rw [bw_eq]; exact h8) (by rw [bw_eq]; exact h9) (hd l) (ld l) r
    rw [bk_eq, bv_eq, bc_eq, bw_eq, bw_eq, View.read_rep, View.read_rep, ln_of] at e
    exact e
  refine ((runRest (F := Ideal) 𝒱 c i arg3 harg3 arg4 harg4 arg5 harg5 arg6 harg6 arg7 harg7 arg8 harg8 arg9 harg9 arg10 harg10 arg11 harg11 arg12 harg12 arg13 harg13 arg14 harg14 arg15 harg15 (arg3.view.rep x3) (arg4.view.rep x4) (arg5.view.rep x5) (arg6.view.rep x6) (arg7.view.rep x7) (arg8.view.rep x8) (arg9.view.rep x9) X10 X11 X12 X13 X14 X15 Z11 Z12 hb).2.2.2.2 E).trans (wp_mono _ _ _ fun _ => ?_)
  iintro H
  iexists _; iexists _; iexists _; iexists _; iexists _; iexists _
  isplitr
  · ipureintro; exact ⟨hY, hK, hV⟩
  · iexact H

/-- A first query tile. -/
theorem run_first (hi : k0_cond1 i = 1#1) (hc : ∀ h n, ∃ r : ℝ, bc x6 h n = r) (h8 : ∀ l, ∃ r : ℝ, bw x8 l = r) (h9 : ∀ l, ∃ r : ℝ, bw x9 l = r) (E : Set ℕ) :
    Held (F := Ideal) c arg3 harg3 arg4 harg4 arg5 harg5 arg6 harg6 arg7 harg7 arg8 harg8 arg9 harg9 arg10 harg10 arg11 harg11 arg12 harg12 arg13 harg13 arg14 harg14 arg15 harg15 (arg3.view.rep x3) (arg4.view.rep x4) (arg5.view.rep x5) (arg6.view.rep x6) (arg7.view.rep x7) (arg8.view.rep x8) (arg9.view.rep x9) X10 X11 X12 X13 X14 X15
      ⊢ wp frame (wpE (defs₀ (F := Ideal)) 𝒱 (c : Thread nD τ) none) E (cc0_fox_attention (F := Ideal) i arg3 harg3 arg4 harg4 arg5 harg5 arg6 harg6 arg7 harg7 arg8 harg8 arg9 harg9 arg10 harg10 arg11 harg11 arg12 harg12 arg13 harg13 arg14 harg14 arg15 harg15)
          (fun _ => iprop(∃ Y10, ∃ Y11, ∃ Y12, ∃ Y13, ∃ Y14, ∃ Y15, ⌜arg10.view.read (Elt Ideal) Y10 = blkOut (i 2).val x3 x4 x5 x6 x7 x8 x9 ∧ (∀ n h d, kn arg11.view Y11 n (ln h d) = KN (bk x4) (bw x9) h d n) ∧ (∀ n h d, va arg12.view Y12 h d n = wv (bv x5) h d n)⌝ ∗ Held (F := Ideal) c arg3 harg3 arg4 harg4 arg5 harg5 arg6 harg6 arg7 harg7 arg8 harg8 arg9 harg9 arg10 harg10 arg11 harg11 arg12 harg12 arg13 harg13 arg14 harg14 arg15 harg15 (arg3.view.rep x3) (arg4.view.rep x4) (arg5.view.rep x5) (arg6.view.rep x6) (arg7.view.rep x7) (arg8.view.rep x8) (arg9.view.rep x9) Y10 Y11 Y12 Y13 Y14 Y15)) :=
  point_of hc h8 h9 (runBuild (F := Ideal) 𝒱 c i hi arg3 harg3 arg4 harg4 arg5 harg5 arg6 harg6 arg7 harg7 arg8 harg8 arg9 harg9 arg10 harg10 arg11 harg11 arg12 harg12 arg13 harg13 arg14 harg14 arg15 harg15 (arg3.view.rep x3) (arg4.view.rep x4) (arg5.view.rep x5) (arg6.view.rep x6) (arg7.view.rep x7) (arg8.view.rep x8) (arg9.view.rep x9) X10 X11 X12 X13 X14 X15).1
    (runBuild (F := Ideal) 𝒱 c i hi arg3 harg3 arg4 harg4 arg5 harg5 arg6 harg6 arg7 harg7 arg8 harg8 arg9 harg9 arg10 harg10 arg11 harg11 arg12 harg12 arg13 harg13 arg14 harg14 arg15 harg15 (arg3.view.rep x3) (arg4.view.rep x4) (arg5.view.rep x5) (arg6.view.rep x6) (arg7.view.rep x7) (arg8.view.rep x8) (arg9.view.rep x9) X10 X11 X12 X13 X14 X15).2.1
    (fun n h d => by
      rw [← kn_wrap, ← KN_wrap, ← bk_eq arg4.view, ← bw_eq arg9.view]
      exact builtK hi (arg4.view.rep x4) (arg5.view.rep x5) (arg9.view.rep x9) _ _ _ _ _ _ _ _ _ _ (n % 16384) (Nat.mod_lt _ (by norm_num)) h d)
    (fun n h d => by
      rw [← va_wrap, ← wv_wrap, ← bv_eq arg5.view]
      exact builtV hi (arg4.view.rep x4) (arg5.view.rep x5) (arg9.view.rep x9) _ _ _ _ _ _ _ _ _ _ (n % 16384) (Nat.mod_lt _ (by norm_num)) h d)
    (runBuild (F := Ideal) 𝒱 c i hi arg3 harg3 arg4 harg4 arg5 harg5 arg6 harg6 arg7 harg7 arg8 harg8 arg9 harg9 arg10 harg10 arg11 harg11 arg12 harg12 arg13 harg13 arg14 harg14 arg15 harg15 (arg3.view.rep x3) (arg4.view.rep x4) (arg5.view.rep x5) (arg6.view.rep x6) (arg7.view.rep x7) (arg8.view.rep x8) (arg9.view.rep x9) X10 X11 X12 X13 X14 X15).2.2 E

/-- A later query tile, on the keys and values kept. -/
theorem run_later (hi : ¬ k0_cond1 i = 1#1) (hc : ∀ h n, ∃ r : ℝ, bc x6 h n = r) (h8 : ∀ l, ∃ r : ℝ, bw x8 l = r) (h9 : ∀ l, ∃ r : ℝ, bw x9 l = r) (hK : (∀ n h d, kn arg11.view X11 n (ln h d) = KN (bk x4) (bw x9) h d n)) (hV : (∀ n h d, va arg12.view X12 h d n = wv (bv x5) h d n)) (E : Set ℕ) :
    Held (F := Ideal) c arg3 harg3 arg4 harg4 arg5 harg5 arg6 harg6 arg7 harg7 arg8 harg8 arg9 harg9 arg10 harg10 arg11 harg11 arg12 harg12 arg13 harg13 arg14 harg14 arg15 harg15 (arg3.view.rep x3) (arg4.view.rep x4) (arg5.view.rep x5) (arg6.view.rep x6) (arg7.view.rep x7) (arg8.view.rep x8) (arg9.view.rep x9) X10 X11 X12 X13 X14 X15
      ⊢ wp frame (wpE (defs₀ (F := Ideal)) 𝒱 (c : Thread nD τ) none) E (cc0_fox_attention (F := Ideal) i arg3 harg3 arg4 harg4 arg5 harg5 arg6 harg6 arg7 harg7 arg8 harg8 arg9 harg9 arg10 harg10 arg11 harg11 arg12 harg12 arg13 harg13 arg14 harg14 arg15 harg15)
          (fun _ => iprop(∃ Y10, ∃ Y11, ∃ Y12, ∃ Y13, ∃ Y14, ∃ Y15, ⌜arg10.view.read (Elt Ideal) Y10 = blkOut (i 2).val x3 x4 x5 x6 x7 x8 x9 ∧ (∀ n h d, kn arg11.view Y11 n (ln h d) = KN (bk x4) (bw x9) h d n) ∧ (∀ n h d, va arg12.view Y12 h d n = wv (bv x5) h d n)⌝ ∗ Held (F := Ideal) c arg3 harg3 arg4 harg4 arg5 harg5 arg6 harg6 arg7 harg7 arg8 harg8 arg9 harg9 arg10 harg10 arg11 harg11 arg12 harg12 arg13 harg13 arg14 harg14 arg15 harg15 (arg3.view.rep x3) (arg4.view.rep x4) (arg5.view.rep x5) (arg6.view.rep x6) (arg7.view.rep x7) (arg8.view.rep x8) (arg9.view.rep x9) Y10 Y11 Y12 Y13 Y14 Y15)) :=
  point_of hc h8 h9 X11 X12 hK hV (fun E => runKeep (F := Ideal) 𝒱 c i hi arg3 harg3 arg4 harg4 arg5 harg5 arg6 harg6 arg7 harg7 arg8 harg8 arg9 harg9 arg10 harg10 arg11 harg11 arg12 harg12 arg13 harg13 arg14 harg14 arg15 harg15 (arg3.view.rep x3) (arg4.view.rep x4) (arg5.view.rep x5) (arg6.view.rep x6) (arg7.view.rep x7) (arg8.view.rep x8) (arg9.view.rep x9) X10 X11 X12 X13 X14 X15 E) E

end

/-- The scratch buffers with the keys and the values of a pair of heads in them. -/
abbrev Kept (c : Dev nD) (Kf : Fin 2 → Fin 64 → ℕ → EReal) (Vf : Fin 2 → Fin 128 → ℕ → EReal) (arg11 : Memref sig .tc .vmem S16384x128 .bf16) (arg12 : Memref sig .tc .vmem S2x128x16384 .bf16) (arg13 : Memref sig .tc .vmem S2x1x1024 .f32) (arg14 : Memref sig .tc .vmem S2x80x1024 .f32) (arg15 : Memref sig .tc .vmem S2x2x512x1024 .f32) : sProp 𝕄 :=
  iprop((∃ f, ⌜∀ n h d, kn arg11.view f n (ln h d) = Kf h d n⌝ ∗ (arg11.view.loc (c : Thread nD τ) ↦[arg11.view.set]{fullShare} f)) ∗ (∃ f, ⌜∀ n h d, va arg12.view f h d n = Vf h d n⌝ ∗ (arg12.view.loc (c : Thread nD τ) ↦[arg12.view.set]{fullShare} f))
    ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)))

theorem kept_scr (c : Dev nD) (Kf : Fin 2 → Fin 64 → ℕ → EReal) (Vf : Fin 2 → Fin 128 → ℕ → EReal) (arg11 : Memref sig .tc .vmem S16384x128 .bf16) (arg12 : Memref sig .tc .vmem S2x128x16384 .bf16) (arg13 : Memref sig .tc .vmem S2x1x1024 .f32) (arg14 : Memref sig .tc .vmem S2x80x1024 .f32) (arg15 : Memref sig .tc .vmem S2x2x512x1024 .f32) :
    Kept c Kf Vf arg11 arg12 arg13 arg14 arg15 ⊢ Scr (F := Ideal) c arg11 arg12 arg13 arg14 arg15 := by
  iintro ⟨⟨%f, %_, H11⟩, ⟨%g, %_, H12⟩, H⟩
  isplitl [H11]; · iexists _; iexact H11
  isplitl [H12]; · iexists _; iexact H12
  iexact H

/-- A first query tile on the staging buffers as the pipeline hands them over. -/
theorem sound_first (𝒱 : Variants) (c : Dev nD) (i : grid0.Coords) (arg3 : Memref sig .tc .vmem S1x1024x128 .bf16) (harg3 : arg3.IsWhole) (arg4 : Memref sig .tc .vmem S1x16384x128 .bf16) (harg4 : arg4.IsWhole) (arg5 : Memref sig .tc .vmem S1x128x16384 .bf16) (harg5 : arg5.IsWhole) (arg6 : Memref sig .tc .vmem S1x2x1x16384 .f32) (harg6 : arg6.IsWhole) (arg7 : Memref sig .tc .vmem S1x1024x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S16384x128 .bf16) (harg11 : arg11.IsWhole) (arg12 : Memref sig .tc .vmem S2x128x16384 .bf16) (harg12 : arg12.IsWhole) (arg13 : Memref sig .tc .vmem S2x1x1024 .f32) (harg13 : arg13.IsWhole) (arg14 : Memref sig .tc .vmem S2x80x1024 .f32) (harg14 : arg14.IsWhole) (arg15 : Memref sig .tc .vmem S2x2x512x1024 .f32) (harg15 : arg15.IsWhole) {D3 : Type} (x3 : Vec Ideal S1x1024x128 .bf16) {D4 : Type} (x4 : Vec Ideal S1x16384x128 .bf16) {D5 : Type} (x5 : Vec Ideal S1x128x16384 .bf16) {D6 : Type} (x6 : Vec Ideal S1x2x1x16384 .f32) {D7 : Type} (x7 : Vec Ideal S1x1024x128 .bf16) {D8 : Type} (x8 : Vec Ideal S1x128 .f32) {D9 : Type} (x9 : Vec Ideal S1x128 .f32) {D10 : Type} (x10 : D10 → Vec Ideal S1x1024x128 .bf16) (Rp Ro : sProp 𝕄)
    (hi : k0_cond1 i = 1#1) (hc : ∀ h n, ∃ r : ℝ, bc x6 h n = r) (h8 : ∀ l, ∃ r : ℝ, bw x8 l = r) (h9 : ∀ l, ∃ r : ℝ, bw x9 l = r) :
    iprop((Scr (F := Ideal) c arg11 arg12 arg13 arg14 arg15 ∗ Rp) ∗ Ro ∗ (∃ _d : D3, owns c arg3 fullShare x3) ∗ (∃ _d : D4, owns c arg4 fullShare x4) ∗ (∃ _d : D5, owns c arg5 fullShare x5) ∗ (∃ _d : D6, owns c arg6 fullShare x6) ∗ (∃ _d : D7, owns c arg7 fullShare x7) ∗ (∃ _d : D8, owns c arg8 fullShare x8) ∗ (∃ _d : D9, owns c arg9 fullShare x9) ∗ (∃ d : D10, owns c arg10 fullShare (x10 d)))
      ⊢ wp frame (wpE (defs₀ (F := Ideal)) 𝒱 (c : Thread nD τ) none) Set.univ (cc0_fox_attention (F := Ideal) i arg3 harg3 arg4 harg4 arg5 harg5 arg6 harg6 arg7 harg7 arg8 harg8 arg9 harg9 arg10 harg10 arg11 harg11 arg12 harg12 arg13 harg13 arg14 harg14 arg15 harg15)
          (fun _ => iprop((Kept c (KN (bk x4) (bw x9)) (wv (bv x5)) arg11 arg12 arg13 arg14 arg15 ∗ Rp) ∗ Ro ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9 ∗ owns c arg10 fullShare (blkOut (i 2).val x3 x4 x5 x6 x7 x8 x9))) := by
  simp only [owns_eq_rep (Val := Elt Ideal)]
  iintro ⟨⟨⟨⟨%X11, H11⟩, ⟨%X12, H12⟩, ⟨%X13, H13⟩, ⟨%X14, H14⟩, ⟨%X15, H15⟩⟩, Hp⟩, Ho, ⟨%d0, H3⟩, ⟨%d1, H4⟩, ⟨%d2, H5⟩, ⟨%d3, H6⟩, ⟨%d4, H7⟩, ⟨%d5, H8⟩, ⟨%d6, H9⟩, ⟨%d7, H10⟩⟩
  iapply (wp_wand_r Idealize.ShloMosaic.frame (wpE (defs₀ (F := Ideal)) 𝒱 (c : Thread nD τ) none) Set.univ)
  isplitl [H3 H4 H5 H6 H7 H8 H9 H10 H11 H12 H13 H14 H15]
  · iapply (run_first (𝒱 := 𝒱) (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (x3 := x3) (x4 := x4) (x5 := x5) (x6 := x6) (x7 := x7) (x8 := x8) (x9 := x9) (X10 := arg10.view.rep (x10 d7)) (X11 := X11) (X12 := X12) (X13 := X13) (X14 := X14) (X15 := X15) hi hc h8 h9 Set.univ)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iintro %_ ⟨%Y10, %Y11, %Y12, %Y13, %Y14, %Y15, %hY, H3, H4, H5, H6, H7, H8, H9, H10, H11, H12, H13, H14, H15⟩
    isplitl [H11 H12 H13 H14 H15 Hp]
    · isplitr [Hp]
      · isplitl [H11]
        · iexists Y11; isplitr
          · ipureintro; exact hY.2.1
          · iexact H11
        isplitl [H12]
        · iexists Y12; isplitr
          · ipureintro; exact hY.2.2
          · iexact H12
        isplitl [H13]; · iexists _; iexact H13
        isplitl [H14]; · iexists _; iexact H14
        iexists _; iexact H15
      · iexact Hp
    isplitl [Ho]; · iexact Ho
    isplitl [H3]; · iexact H3
    isplitl [H4]; · iexact H4
    isplitl [H5]; · iexact H5
    isplitl [H6]; · iexact H6
    isplitl [H7]; · iexact H7
    isplitl [H8]; · iexact H8
    isplitl [H9]; · iexact H9
    iapply (rep_of_owns (Val := Elt Ideal) (c : Thread nD τ) arg10 fullShare)
    unfold owns
    iexists Y10
    isplitr
    · ipureintro; exact hY.1
    · iexact H10

/-- A later query tile on the staging buffers as the pipeline hands them over. -/
theorem sound_later (𝒱 : Variants) (c : Dev nD) (i : grid0.Coords) (arg3 : Memref sig .tc .vmem S1x1024x128 .bf16) (harg3 : arg3.IsWhole) (arg4 : Memref sig .tc .vmem S1x16384x128 .bf16) (harg4 : arg4.IsWhole) (arg5 : Memref sig .tc .vmem S1x128x16384 .bf16) (harg5 : arg5.IsWhole) (arg6 : Memref sig .tc .vmem S1x2x1x16384 .f32) (harg6 : arg6.IsWhole) (arg7 : Memref sig .tc .vmem S1x1024x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S16384x128 .bf16) (harg11 : arg11.IsWhole) (arg12 : Memref sig .tc .vmem S2x128x16384 .bf16) (harg12 : arg12.IsWhole) (arg13 : Memref sig .tc .vmem S2x1x1024 .f32) (harg13 : arg13.IsWhole) (arg14 : Memref sig .tc .vmem S2x80x1024 .f32) (harg14 : arg14.IsWhole) (arg15 : Memref sig .tc .vmem S2x2x512x1024 .f32) (harg15 : arg15.IsWhole) {D3 : Type} (x3 : Vec Ideal S1x1024x128 .bf16) {D4 : Type} (x4 : Vec Ideal S1x16384x128 .bf16) {D5 : Type} (x5 : Vec Ideal S1x128x16384 .bf16) {D6 : Type} (x6 : Vec Ideal S1x2x1x16384 .f32) {D7 : Type} (x7 : Vec Ideal S1x1024x128 .bf16) {D8 : Type} (x8 : Vec Ideal S1x128 .f32) {D9 : Type} (x9 : Vec Ideal S1x128 .f32) {D10 : Type} (x10 : D10 → Vec Ideal S1x1024x128 .bf16) (Rp Ro : sProp 𝕄)
    (hi : ¬ k0_cond1 i = 1#1) (hc : ∀ h n, ∃ r : ℝ, bc x6 h n = r) (h8 : ∀ l, ∃ r : ℝ, bw x8 l = r) (h9 : ∀ l, ∃ r : ℝ, bw x9 l = r) :
    iprop((Kept c (KN (bk x4) (bw x9)) (wv (bv x5)) arg11 arg12 arg13 arg14 arg15 ∗ Rp) ∗ Ro ∗ (∃ _d : D3, owns c arg3 fullShare x3) ∗ (∃ _d : D4, owns c arg4 fullShare x4) ∗ (∃ _d : D5, owns c arg5 fullShare x5) ∗ (∃ _d : D6, owns c arg6 fullShare x6) ∗ (∃ _d : D7, owns c arg7 fullShare x7) ∗ (∃ _d : D8, owns c arg8 fullShare x8) ∗ (∃ _d : D9, owns c arg9 fullShare x9) ∗ (∃ d : D10, owns c arg10 fullShare (x10 d)))
      ⊢ wp frame (wpE (defs₀ (F := Ideal)) 𝒱 (c : Thread nD τ) none) Set.univ (cc0_fox_attention (F := Ideal) i arg3 harg3 arg4 harg4 arg5 harg5 arg6 harg6 arg7 harg7 arg8 harg8 arg9 harg9 arg10 harg10 arg11 harg11 arg12 harg12 arg13 harg13 arg14 harg14 arg15 harg15)
          (fun _ => iprop((Kept c (KN (bk x4) (bw x9)) (wv (bv x5)) arg11 arg12 arg13 arg14 arg15 ∗ Rp) ∗ Ro ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9 ∗ owns c arg10 fullShare (blkOut (i 2).val x3 x4 x5 x6 x7 x8 x9))) := by
  simp only [owns_eq_rep (Val := Elt Ideal)]
  iintro ⟨⟨⟨⟨%X11, %hK, H11⟩, ⟨%X12, %hV, H12⟩, ⟨%X13, H13⟩, ⟨%X14, H14⟩, ⟨%X15, H15⟩⟩, Hp⟩, Ho, ⟨%d0, H3⟩, ⟨%d1, H4⟩, ⟨%d2, H5⟩, ⟨%d3, H6⟩, ⟨%d4, H7⟩, ⟨%d5, H8⟩, ⟨%d6, H9⟩, ⟨%d7, H10⟩⟩
  iapply (wp_wand_r Idealize.ShloMosaic.frame (wpE (defs₀ (F := Ideal)) 𝒱 (c : Thread nD τ) none) Set.univ)
  isplitl [H3 H4 H5 H6 H7 H8 H9 H10 H11 H12 H13 H14 H15]
  · iapply (run_later (𝒱 := 𝒱) (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (x3 := x3) (x4 := x4) (x5 := x5) (x6 := x6) (x7 := x7) (x8 := x8) (x9 := x9) (X10 := arg10.view.rep (x10 d7)) (X11 := X11) (X12 := X12) (X13 := X13) (X14 := X14) (X15 := X15) hi hc h8 h9 hK hV Set.univ)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iintro %_ ⟨%Y10, %Y11, %Y12, %Y13, %Y14, %Y15, %hY, H3, H4, H5, H6, H7, H8, H9, H10, H11, H12, H13, H14, H15⟩
    isplitl [H11 H12 H13 H14 H15 Hp]
    · isplitr [Hp]
      · isplitl [H11]
        · iexists Y11; isplitr
          · ipureintro; exact hY.2.1
          · iexact H11
        isplitl [H12]
        · iexists Y12; isplitr
          · ipureintro; exact hY.2.2
          · iexact H12
        isplitl [H13]; · iexists _; iexact H13
        isplitl [H14]; · iexists _; iexact H14
        iexists _; iexact H15
      · iexact Hp
    isplitl [Ho]; · iexact Ho
    isplitl [H3]; · iexact H3
    isplitl [H4]; · iexact H4
    isplitl [H5]; · iexact H5
    isplitl [H6]; · iexact H6
    isplitl [H7]; · iexact H7
    isplitl [H8]; · iexact H8
    isplitl [H9]; · iexact H9
    iapply (rep_of_owns (Val := Elt Ideal) (c : Thread nD τ) arg10 fullShare)
    unfold owns
    iexists Y10
    isplitr
    · ipureintro; exact hY.1
    · iexact H10

end Cert.KernelIdeal.Body

end
-- ==== Proof.ValueRun.lean ====
module

public import proofs.«01_k».proof.Proof.Gen.KernelIdeal.Frame
public import proofs.«01_k».proof.Proof.Point
public import Idealize.ShloMosaic.Lib.Pipeline.ValueKit

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

/-- The attention of batch `b`, pair of heads `p`, at row `n` and lane `l`, from the arguments. -/
def outA (X0 : Vec Ideal S2x16384x4096 .bf16) (X1 : Vec Ideal S2x2048x16384 .bf16) (X2 : Vec Ideal S2x32x1x16384 .f32) (X3 : Vec Ideal S2x16384x2048 .bf16)
    (X4 X5 : Vec Ideal S64 .f32) (b : Fin 2) (p : Fin 16) (n : ℕ) (l : Fin 128) : EReal :=
  outv (fun e => qA X0 b p n (ln (hd l) e)) (fun j e => kA X0 b p j (ln (hd l) e)) (vA X1 b p l) (cA X2 b p (hd l))
    (fun e => wA X4 (ln (hd l) e)) (fun e => wA X5 (ln (hd l) e)) (zA X3 b p n l) n

/-- The attention as an array. -/
def OUT (X0 : Vec Ideal S2x16384x4096 .bf16) (X1 : Vec Ideal S2x2048x16384 .bf16) (X2 : Vec Ideal S2x32x1x16384 .f32) (X3 : Vec Ideal S2x16384x2048 .bf16)
    (X4 X5 : Vec Ideal S64 .f32) : Vec Ideal S2x16384x2048 .bf16 := fun y =>
  outA X0 X1 X2 X3 X4 X5 (y 0 : Fin 2) (Fin.ofNat 16 ((y 2 : Fin 2048).val / 128)) (y 1 : Fin 16384).val (Fin.ofNat 128 (y 2 : Fin 2048).val)

variable (m : (ℓ : Loc nD τ sig) → Buf (Elt Ideal) ℓ)

/-- `outA` of the arguments as the machine starts with them. -/
abbrev outM (c : Dev nD) : Fin 2 → Fin 16 → ℕ → Fin 128 → EReal :=
  outA (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))

/-- What the body leaves in the output's buffer. -/
def A7 (c : Dev nD) (t : Fin cfg0.N) : S1x1024x128.Idx → EReal := fun y =>
  outM m c (bN t) (hN t) (1024 * (t.val % 16) + (y 1 : Fin 1024).val) (y 2 : Fin 128)

/-- The keys and values of the pair of heads of a grid point. -/
def Kf (c : Dev nD) (n : ℕ) : Fin 2 → Fin 64 → ℕ → EReal := KN (kA (m ((c : Thread nD τ).loc main_arg0)) (bN n) (hN n)) (wA (m ((c : Thread nD τ).loc main_arg5)))
def Vf (c : Dev nD) (n : ℕ) : Fin 2 → Fin 128 → ℕ → EReal := wv (vA (m ((c : Thread nD τ).loc main_arg1)) (bN n) (hN n))

/-- The scratch before grid point `n`: at a first query tile at anything, later the pair's keys and values. -/
def PhiV (c : Dev nD) (n : ℕ) : sProp 𝕄 :=
  if n % 16 = 0 then Pipeline.ΦA spec0 c
  else iprop(Kept c (Kf m c n) (Vf m c n) (Memref.whole cc0_scratch0) (Memref.whole cc0_scratch1) (Memref.whole cc0_scratch2) (Memref.whole cc0_scratch3) (Memref.whole cc0_scratch4) ∗ ∃ r, prngReg c r)

theorem PhiV_next (c : Dev nD) (n : ℕ) : iprop(Kept c (Kf m c n) (Vf m c n) (Memref.whole cc0_scratch0) (Memref.whole cc0_scratch1) (Memref.whole cc0_scratch2) (Memref.whole cc0_scratch3) (Memref.whole cc0_scratch4) ∗ ∃ r, prngReg c r) ⊢ PhiV m c (n + 1) := by
  unfold PhiV
  split_ifs with h
  · rw [ΦA_eq]
    iintro ⟨H, Hp⟩
    isplitl [H]
    · iapply (kept_scr c (Kf m c n) (Vf m c n) (Memref.whole cc0_scratch0) (Memref.whole cc0_scratch1) (Memref.whole cc0_scratch2) (Memref.whole cc0_scratch3) (Memref.whole cc0_scratch4)) $$ H
    · iexact Hp
  · have e1 : bN (n + 1) = bN n := by unfold bN; congr 1; omega
    have e2 : hN (n + 1) = hN n := by unfold hN; congr 1; omega
    unfold Kf Vf
    rw [e1, e2]

/-- The proof data of the value run. -/
abbrev datsV : (p : Fin 1) → (c : Dev nD) → Dat τ (Elt Ideal) Unit ℕ (UR sig nD τ) ℕ cfg0 c :=
  dats (F := Ideal) m (A7 m) (fun c n => PhiV m c n.val)

theorem bk_blk (c : Dev nD) (t : Fin cfg0.N) : bk (iblk m c 1 t) = kA (m ((c : Thread nD τ).loc main_arg0)) (bN t) (hN t) := by
  funext n l; exact blk_k m c t n l
theorem bv_blk (c : Dev nD) (t : Fin cfg0.N) : bv (iblk m c 2 t) = vA (m ((c : Thread nD τ).loc main_arg1)) (bN t) (hN t) := by
  funext d n; exact blk_v m c t d n
theorem bc_blk (c : Dev nD) (t : Fin cfg0.N) : bc (iblk m c 3 t) = cA (m ((c : Thread nD τ).loc main_arg2)) (bN t) (hN t) := by
  funext h n; exact blk_c m c t h n
theorem bwq_blk (c : Dev nD) (t : Fin cfg0.N) : bw (iblk m c 5 t) = wA (m ((c : Thread nD τ).loc main_arg4)) := by
  funext l; exact blk_wq m c t l
theorem bwk_blk (c : Dev nD) (t : Fin cfg0.N) : bw (iblk m c 6 t) = wA (m ((c : Thread nD τ).loc main_arg5)) := by
  funext l; exact blk_wk m c t l

theorem Kf_blk (c : Dev nD) (t : Fin cfg0.N) : KN (bk (iblk m c 1 t)) (bw (iblk m c 6 t)) = Kf m c t.val := by
  rw [bk_blk, bwk_blk]; rfl
theorem Vf_blk (c : Dev nD) (t : Fin cfg0.N) : wv (bv (iblk m c 2 t)) = Vf m c t.val := by
  rw [bv_blk]; rfl

theorem A7_blk (c : Dev nD) (t : Fin cfg0.N) :
    blkOut (grid0.coords t 2).val (iblk m c 0 t) (iblk m c 1 t) (iblk m c 2 t) (iblk m c 3 t) (iblk m c 4 t) (iblk m c 5 t) (iblk m c 6 t) = A7 m c t := by
  funext y
  unfold blkOut A7 outM outA
  rw [bk_blk, bv_blk, bc_blk, bwq_blk, bwk_blk, coords2]
  have hz := blk_z m c t (y 1 : Fin 1024) (y 2 : Fin 128)
  have hq := fun e => blk_q m c t (y 1 : Fin 1024) (ln (hd (y 2 : Fin 128)) e)
  rw [← hz]
  simp only [← hq]

/-- Every entry of the gates and the weights is a real number. -/
structure Reals (X2 : Vec Ideal S2x32x1x16384 .f32) (X4 X5 : Vec Ideal S64 .f32) : Prop where
  cum : ∀ x, ∃ r : ℝ, X2 x = r
  wq : ∀ x, ∃ r : ℝ, X4 x = r
  wk : ∀ x, ∃ r : ℝ, X5 x = r

variable (hR : ∀ c : Dev nD, Reals (m ((c : Thread nD τ).loc main_arg2)) (m ((c : Thread nD τ).loc main_arg4)) (m ((c : Thread nD τ).loc main_arg5)))

include hR in
/-- The body obligation of the value run, at every point. -/
theorem obligationV (𝒱 : Variants) (c : Dev nD) : BodyObligation (datsV m 0 c) (defs₀ (F := Ideal)) 𝒱 () Set.univ := fun t => by
  have hc : ∀ h n, ∃ r : ℝ, bc (iblk m c 3 t) h n = r := fun h n => by rw [bc_blk]; exact (hR c).cum _
  have h8 : ∀ l, ∃ r : ℝ, bw (iblk m c 5 t) l = r := fun l => by rw [bwq_blk]; exact (hR c).wq _
  have h9 : ∀ l, ∃ r : ℝ, bw (iblk m c 6 t) l = r := fun l => by rw [bwk_blk]; exact (hR c).wk _
  rw [bigSep_W0, bigSep_W0, row]
  show iprop(PhiV m c t.val ∗ (datsV m 0 c).owesAt () t.castSucc
    ∗ (∃ d, owns c (win0_0.stage (cfg0.slots t 0)) fullShare ((datsV m 0 c).before 0 t d))
    ∗ (∃ d, owns c (win0_1.stage (cfg0.slots t 1)) fullShare ((datsV m 0 c).before 1 t d))
    ∗ (∃ d, owns c (win0_2.stage (cfg0.slots t 2)) fullShare ((datsV m 0 c).before 2 t d))
    ∗ (∃ d, owns c (win0_3.stage (cfg0.slots t 3)) fullShare ((datsV m 0 c).before 3 t d))
    ∗ (∃ d, owns c (win0_4.stage (cfg0.slots t 4)) fullShare ((datsV m 0 c).before 4 t d))
    ∗ (∃ d, owns c (win0_5.stage (cfg0.slots t 5)) fullShare ((datsV m 0 c).before 5 t d))
    ∗ (∃ d, owns c (win0_6.stage (cfg0.slots t 6)) fullShare ((datsV m 0 c).before 6 t d))
    ∗ (∃ d, owns c (win0_7.stage (cfg0.slots t 7)) fullShare ((datsV m 0 c).before 7 t d)))
    ⊢ wp frame (wpE (defs₀ (F := Ideal)) 𝒱 c none) Set.univ (bodyAt t) (fun _ => iprop(PhiV m c (t.val + 1) ∗ (datsV m 0 c).owesAt () t.castSucc
    ∗ owns c (win0_0.stage (cfg0.slots t 0)) fullShare (iblk m c 0 t)
    ∗ owns c (win0_1.stage (cfg0.slots t 1)) fullShare (iblk m c 1 t)
    ∗ owns c (win0_2.stage (cfg0.slots t 2)) fullShare (iblk m c 2 t)
    ∗ owns c (win0_3.stage (cfg0.slots t 3)) fullShare (iblk m c 3 t)
    ∗ owns c (win0_4.stage (cfg0.slots t 4)) fullShare (iblk m c 4 t)
    ∗ owns c (win0_5.stage (cfg0.slots t 5)) fullShare (iblk m c 5 t)
    ∗ owns c (win0_6.stage (cfg0.slots t 6)) fullShare (iblk m c 6 t)
    ∗ owns c (win0_7.stage (cfg0.slots t 7)) fullShare (A7 m c t)))
  simp only [before0_0_of m (datsV m 0 c) rfl (fun _ => rfl), before0_1_of m (datsV m 0 c) rfl (fun _ => rfl),
    before0_2_of m (datsV m 0 c) rfl (fun _ => rfl), before0_3_of m (datsV m 0 c) rfl (fun _ => rfl),
    before0_4_of m (datsV m 0 c) rfl (fun _ => rfl), before0_5_of m (datsV m 0 c) rfl (fun _ => rfl),
    before0_6_of m (datsV m 0 c) rfl (fun _ => rfl)]
  refine BI.BIBase.Entails.trans ?_ (wp_mono _ _ _ fun _ => BI.sep_mono (PhiV_next m c t.val) (.refl _))
  rw [← A7_blk, ← Kf_blk, ← Vf_blk]
  by_cases h0 : t.val % 16 = 0
  · rw [show PhiV m c t.val = Pipeline.ΦA spec0 c from if_pos h0, ΦA_eq]
    exact sound_first 𝒱 c (grid0.coords t) _ _ _ _ _ _ _ _ _ _ _ _ _ _ _ _ _ _ _ _ _ _ _ _ _ _  _ _ _ _ _ _ _ _ _ _ ((cond_iff t).2 h0) hc h8 h9
  · rw [show PhiV m c t.val = iprop(Kept c (Kf m c t.val) (Vf m c t.val) (Memref.whole cc0_scratch0) (Memref.whole cc0_scratch1) (Memref.whole cc0_scratch2) (Memref.whole cc0_scratch3) (Memref.whole cc0_scratch4) ∗ ∃ r, prngReg c r) from if_neg h0, ← Kf_blk, ← Vf_blk]
    exact sound_later 𝒱 c (grid0.coords t) _ _ _ _ _ _ _ _ _ _ _ _ _ _ _ _ _ _ _ _ _ _ _ _ _ _  _ _ _ _ _ _ _ _ _ _ (fun h => h0 ((cond_iff t).1 h)) hc h8 h9

/-- The output array after the last grid point. -/
theorem final (c : Dev nD) : (datsV m 0 c).arrAt 7 cfg0.N
    = OUT (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) := by
  refine (datsV m 0 c).arrAt_eq_of_covers 7 _ (by decide +kernel) fun t _ y => ?_
  have ht := t_lt t
  blk_simp
  have h1 : (y 1 : Fin 1024).val < 1024 := (y 1 : Fin 1024).isLt
  have h2 : (y 2 : Fin 128).val < 128 := (y 2 : Fin 128).isLt
  have e : (win0_7.blk t).view.emb y = ix3 (bN t) (⟨1024 * (t.val % 16) + (y 1 : Fin 1024).val, by omega⟩ : Fin 16384)
      (⟨128 * (t.val / 16 % 16) + (y 2 : Fin 128).val, by omega⟩ : Fin 2048) := by
    unfold bN
    blk_ext [idx t]
    all_goals (simp only [Fin.val_ofNat]; omega)
  rw [e]
  show A7 m c t y = outM m c (bN t) (Fin.ofNat 16 ((128 * (t.val / 16 % 16) + (y 2 : Fin 128).val) / 128)) (1024 * (t.val % 16) + (y 1 : Fin 1024).val)
    (Fin.ofNat 128 (128 * (t.val / 16 % 16) + (y 2 : Fin 128).val))
  unfold A7
  congr 1
  · rw [show (128 * (t.val / 16 % 16) + (y 2 : Fin 128).val) / 128 = t.val / 16 % 16 by omega]
    unfold hN
    rw [show (Fin.ofNat 16 (t.val / 16 % 16)) = Fin.ofNat 16 (t.val / 16) from Fin.ext (by simp only [Fin.val_ofNat]; omega)]
  · apply Fin.ext
    simp only [Fin.val_ofNat]
    show (y 2 : Fin 128).val = _
    omega

include hR in
/-- The program runs, its result is the attention of its arguments, and its arguments end as they were. -/
theorem run (ρ : Dev nD → PrngReg) : θ_run defs (onTc (τ := τ) (main (F := Ideal))) ⟨m, fun _ => 0, ρ⟩ (fun r => ∀ c : Dev nD,
      r.2.mem ((c.tc : Thread nD τ).loc main_v8)
        = OUT (m ((c : Thread nD τ).loc main_arg0)) (m ((c : Thread nD τ).loc main_arg1)) (m ((c : Thread nD τ).loc main_arg2)) (m ((c : Thread nD τ).loc main_arg3))
            (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_frame_track_shared cfgs (datsV m) 0 launch₀0 defs₀ Variants.none m ρ main
    (fun c => (obligationV m hR Variants.none c).loose) (fun _ _ _ => rfl) (fun _ _ => rfl) (V m) (hmain m Variants.none) (fun _ _ => rfl)
    (fun c => by rw [show (datsV m 0 c).Φ 0 = PhiV m c 0 from rfl]; unfold PhiV; rw [if_pos (by norm_num)])
    (fun c => by rw [show (datsV m 0 c).Φ (Fin.last cfg0.N) = PhiV m c cfg0.N from rfl]; unfold PhiV; rw [if_pos (by decide +kernel)]) _ (fun r h c =>
      ⟨((h.1 c).1 7).trans (final m c),
       ((h.1 c).1 1).trans (((datsV m 0 c).arrAt_in 1 rfl _).trans (V_main_arg0 m c)),
       ((h.1 c).1 2).trans (((datsV m 0 c).arrAt_in 2 rfl _).trans (V_main_arg1 m c)),
       ((h.1 c).1 3).trans (((datsV m 0 c).arrAt_in 3 rfl _).trans (V_main_arg2 m c)),
       ((h.1 c).1 4).trans (((datsV m 0 c).arrAt_in 4 rfl _).trans (V_main_arg3 m c)),
       ((h.1 c).2 main_arg4 (Pipeline.mem_restRefs_of main_arg4 (by decide) (by decide))).trans (V_main_arg4 m c),
       ((h.1 c).2 main_arg5 (Pipeline.mem_restRefs_of main_arg5 (by decide) (by decide))).trans (V_main_arg5 m c)⟩)

end Cert.KernelIdeal.Body

end
-- ==== Proof.Finite.lean ====
module

public import proofs.«01_k».proof.Proof.Gen.Pre_finite
public import proofs.«01_k».proof.Proof.ValueRun

@[expose] public section

noncomputable section

namespace Cert.Finite

open Idealize.ShloMosaic Idealize.SL.Sem

/-- A number whose absolute value is below infinity is a real number. -/
theorem real_of_lt {x : EReal} (h : FloatOps.cmpf (F := Ideal) (φ := .f32) .olt (FloatOps.hostAbsf x) (FloatOps.ofBits (F := Ideal) .f32 0x7F800000#32) = 1#1) :
    ∃ r : ℝ, x = r := by
  have htop : FloatOps.ofBits (F := Ideal) .f32 0x7F800000#32 = (⊤ : EReal) := by
    simp [FloatOps.ofBits, Ideal.ofBits, Ideal.ieee]
  induction x using EReal.rec with
  | bot => rw [htop] at h; simp [FloatOps.cmpf, FloatOps.hostAbsf, Ideal.cmp] at h
  | top => rw [htop] at h; simp [FloatOps.cmpf, FloatOps.hostAbsf, Ideal.cmp] at h
  | coe r => exact ⟨r, rfl⟩

/-- The precondition's three arrays of ones say that the gates and the two norm weights are real numbers. -/
theorem reals (X0 : FVec Ideal Cert.Pre_finite.S2x16384x4096 .bf16) (X1 : FVec Ideal Cert.Pre_finite.S2x2048x16384 .bf16) (X2 : FVec Ideal Cert.Pre_finite.S2x32x1x16384 .f32)
    (X3 : FVec Ideal Cert.Pre_finite.S2x16384x2048 .bf16) (X4 X5 : FVec Ideal Cert.Pre_finite.S64 .f32)
    (h : (Cert.Pre_finite.fn (F := Ideal) X0 X1 X2 X3 X4 X5).1 = (fun _ => 1#1) ∧ (Cert.Pre_finite.fn (F := Ideal) X0 X1 X2 X3 X4 X5).2.1 = (fun _ => 1#1)
      ∧ (Cert.Pre_finite.fn (F := Ideal) X0 X1 X2 X3 X4 X5).2.2 = (fun _ => 1#1)) :
    Cert.KernelIdeal.Body.Reals X2 X4 X5 :=
  ⟨fun x => real_of_lt (congrFun h.1 x), fun x => real_of_lt (congrFun h.2.1 x), fun x => real_of_lt (congrFun h.2.2 x)⟩

end Cert.Finite

end
-- ==== Proof.ValueLi.lean ====
module

public import proofs.«01_k».proof.Defs
public import proofs.«01_k».proof.Proof.Gen.LiIdeal.Value
public import proofs.«01_k».proof.Proof.Gen.RefLiIdeal.Run
public import proofs.«01_k».proof.Proof.Dense
public import proofs.«01_k».proof.Proof.Gen.Pre_finite_li
public import proofs.«01_k».proof.Proof.Finite

@[expose] public section

set_option maxRecDepth 16384

noncomputable section

namespace Cert.LiIdeal.Value

open Cert.Dense Cert.LiIdeal Cert.LiIdeal.Gen Idealize.ShloMosaic Idealize.ShloMosaic.TcCoe Idealize.SL.Sem
open Idealize.ShloMosaic.Pipeline (Dat)

variable (m : (ℓ : Loc nD τ sig) → Buf (Elt Ideal) ℓ)

/-- The sum of the two products of a pair of states with a pair of weights, entry by entry. -/
def both (H X : FVec Ideal S32768x2048 .bf16) (A B : FVec Ideal S2048x256 .bf16) (i : S32768x256.Idx) : EReal :=
  (∑ l : Fin 2048, H (ix2 (i 0) l) * A (ix2 l (i 1))) + ∑ l : Fin 2048, X (ix2 (i 0) l) * B (ix2 l (i 1))

/-- That sum, under a hyperbolic tangent in the first ninety-six columns. -/
def bent (H X : FVec Ideal S32768x2048 .bf16) (A B : FVec Ideal S2048x256 .bf16) : FVec Ideal S32768x256 .bf16 :=
  fun i => Scalar.select (IntOp.cmpi .slt (BitVec.ofNat 32 (i 1).val) 96#32) (Ideal.tanh (both H X A B i)) (both H X A B i)

/-- The blocks of the five windows at a grid point. -/
theorem idx : ∀ t : Fin cfg0.N, win0_0.index t = ![(grid0.coords t 0).val, 0] ∧ win0_1.index t = ![(grid0.coords t 0).val, 0]
    ∧ win0_2.index t = ![0, 0] ∧ win0_3.index t = ![0, 0] ∧ win0_4.index t = ![(grid0.coords t 0).val, 0] :=
  (by decide +kernel : ∀ t : Fin grid0.N, _)

/-- What a point stores is the bent sum at the place its block has in the result. -/
theorem point (c : Dev nD) (t : Fin cfg0.N) (y) : k0_pay1 (F := Ideal) (iblk m c 0 t) (iblk m c 2 t) (iblk m c 1 t) (iblk m c 3 t) y
    = bent (m ((c : Thread nD τ).loc main_arg0)) (m ((c : Thread nD τ).loc main_arg1)) (V m c main_v11) (V m c main_v12) (((cfg0.win 4).blk t).view.emb y) := by
  pointwise [k0_pay1, bent, both]
  blk_point [iblk, idx t, V_main_arg0, V_main_arg1]

/-- The result after the run is the bent sum of the arguments. -/
theorem result (c : Dev nD) : (dats m 0 c).arrAt 4 (cfgs 0).N
    = bent (m ((c : Thread nD τ).loc main_arg0)) (m ((c : Thread nD τ).loc main_arg1)) (V m c main_v11) (V m c main_v12) := by
  refine (dats m 0 c).arrAt_eq_of_covers 4 _ (by decide +kernel) fun t _ y => ?_
  blk_simp
  rw [after0_4]; frame_out
  exact point m c t y

/-- The first columns are those of a word below ninety-six. -/
theorem col_lt : ∀ n : Fin 256, IntOp.cmpi .slt (BitVec.ofNat 32 n.val) 96#32 = if n.val < 96 then 1#1 else 0#1 := by decide +kernel

/-- The three weights side by side. -/
abbrev side (w1 a1 : FVec Ideal S2048x96 .f32) (v1 : FVec Ideal S2048x64 .f32) : FVec Ideal S2048x256 .bf16 :=
  truncf (F := Ideal) (φ := .f32) .bf16 (concatenate S2048x256 1 [⟨S2048x96, w1⟩, ⟨S2048x96, a1⟩, ⟨S2048x64, v1⟩] concatenates_S2048x96_S2048x96_S2048x64_S2048x256_d1) bitsLt_bf16_f32

/-- A weight with each row times the mix of that row. -/
abbrev mixed (μ : FVec Ideal S2048 .f32) (w : FVec Ideal S2048x96 .f32) : FVec Ideal S2048x96 .f32 :=
  mulf (broadcastInDim S2048x96 ![0, 1] bcast_S2048x1_S2048x96_0_1 (broadcastInDim S2048x1 ![0] bcast_S2048_S2048x1_0 μ)) w

/-- The narrower weight with each row times the mix of that row. -/
abbrev mixedV (μ : FVec Ideal S2048 .f32) (w : FVec Ideal S2048x64 .f32) : FVec Ideal S2048x64 .f32 :=
  mulf (broadcastInDim S2048x64 ![0, 1] bcast_S2048x1_S2048x64_0_1 (broadcastInDim S2048x1 ![0] bcast_S2048_S2048x1_0 μ)) w

/-- The first weights at the launch. -/
theorem fst (c : Dev nD) : V m c main_v11 = side (m ((c : Thread nD τ).loc main_arg5)) (m ((c : Thread nD τ).loc main_arg6)) (m ((c : Thread nD τ).loc main_arg7)) := by
  entry_read; rfl

/-- The last three operations lay three arrays side by side. -/
theorem last (σ) : StableHlo.after ((hostOps0 (F := Ideal)).drop 10) σ (Proc.tc.devRef main_v12)
    = side (σ (Proc.tc.devRef main_v3)) (σ (Proc.tc.devRef main_v6)) (σ (Proc.tc.devRef main_v9)) := by
  simp only [hostOps0, List.drop_succ_cons, List.drop_zero]
  after_results
  rfl

/-- The first mixed weight. -/
theorem mixW (c : Dev nD) : StableHlo.after ((hostOps0 (F := Ideal)).take 10) (fun b => m (c, b)) (Proc.tc.devRef main_v3) = mixed (m ((c : Thread nD τ).loc main_arg2)) (m ((c : Thread nD τ).loc main_arg5)) := by
  simp only [hostOps0, List.take_succ_cons, List.take_zero]
  after_results

/-- The second mixed weight. -/
theorem mixA (c : Dev nD) : StableHlo.after ((hostOps0 (F := Ideal)).take 10) (fun b => m (c, b)) (Proc.tc.devRef main_v6) = mixed (m ((c : Thread nD τ).loc main_arg3)) (m ((c : Thread nD τ).loc main_arg6)) := by
  simp only [hostOps0, List.take_succ_cons, List.take_zero]
  after_results

/-- The third mixed weight. -/
theorem mixV (c : Dev nD) : StableHlo.after ((hostOps0 (F := Ideal)).take 10) (fun b => m (c, b)) (Proc.tc.devRef main_v9) = mixedV (m ((c : Thread nD τ).loc main_arg4)) (m ((c : Thread nD τ).loc main_arg7)) := by
  simp only [hostOps0, List.take_succ_cons, List.take_zero]
  after_results

/-- The second weights at the launch. -/
theorem snd (c : Dev nD) : V m c main_v12 = side (mixed (m ((c : Thread nD τ).loc main_arg2)) (m ((c : Thread nD τ).loc main_arg5)))
    (mixed (m ((c : Thread nD τ).loc main_arg3)) (m ((c : Thread nD τ).loc main_arg6))) (mixedV (m ((c : Thread nD τ).loc main_arg4)) (m ((c : Thread nD τ).loc main_arg7))) := by
  show StableHlo.after ((hostOps0 (F := Ideal)).drop 10) (StableHlo.after ((hostOps0 (F := Ideal)).take 10) (fun b => m (c, b))) (Proc.tc.devRef main_v12) = _
  rw [last, mixW, mixA, mixV]

/-- The precondition's four arrays of ones say that the states and the three weights are real numbers. -/
theorem reals (X0 X1 : FVec Ideal S32768x2048 .bf16) (X2 X3 X4 : FVec Ideal S2048 .f32) (X5 X6 : FVec Ideal S2048x96 .f32) (X7 : FVec Ideal S2048x64 .f32)
    (h : (Cert.Pre_finite_li.fn (F := Ideal) X0 X1 X2 X3 X4 X5 X6 X7).1 = (fun _ => 1#1) ∧ (Cert.Pre_finite_li.fn (F := Ideal) X0 X1 X2 X3 X4 X5 X6 X7).2.1 = (fun _ => 1#1)
      ∧ (Cert.Pre_finite_li.fn (F := Ideal) X0 X1 X2 X3 X4 X5 X6 X7).2.2.1 = (fun _ => 1#1) ∧ (Cert.Pre_finite_li.fn (F := Ideal) X0 X1 X2 X3 X4 X5 X6 X7).2.2.2 = (fun _ => 1#1)) :
    (∀ x, ∃ r : ℝ, X0 x = (r : EReal)) ∧ (∀ x, ∃ r : ℝ, X5 x = (r : EReal)) ∧ (∀ x, ∃ r : ℝ, X6 x = (r : EReal)) ∧ (∀ x, ∃ r : ℝ, X7 x = (r : EReal)) :=
  ⟨fun x => Cert.Finite.real_of_lt (x := X0 x) (congrFun h.1 x), fun x => Cert.Finite.real_of_lt (congrFun h.2.1 x),
    fun x => Cert.Finite.real_of_lt (congrFun h.2.2.1 x), fun x => Cert.Finite.real_of_lt (congrFun h.2.2.2 x)⟩

/-- The reference's three maps side by side are the bent sum, entry by entry. -/
theorem tie (H X : FVec Ideal S32768x2048 .bf16) (μ ν ξ : FVec Ideal S2048 .f32) (w1 a1 : FVec Ideal S2048x96 .f32) (v1 : FVec Ideal S2048x64 .f32)
    (hH : ∀ x, ∃ r : ℝ, H x = (r : EReal)) (hw : ∀ x, ∃ r : ℝ, w1 x = (r : EReal)) (ha : ∀ x, ∃ r : ℝ, a1 x = (r : EReal)) (hv : ∀ x, ∃ r : ℝ, v1 x = (r : EReal)) (i : S32768x256.Idx) :
    truncf .bf16 ((concatenate Cert.RefLiIdeal.S32768x256 1 [⟨Cert.RefLiIdeal.S32768x96, Host.tanh (Host.dotGeneral Cert.RefLiIdeal.dot_S32768x2048_S2048x96_S32768x96_1_0_0_1_n_n none (addf (extf .f32 H Cert.RefLiIdeal.Gen.bitsLt_bf16_f32) (mulf (extf .f32 X Cert.RefLiIdeal.Gen.bitsLt_bf16_f32) (broadcastInDim Cert.RefLiIdeal.S32768x2048 ![0, 1] Cert.RefLiIdeal.Gen.bcast_S1x2048_S32768x2048_0_1 (broadcastInDim Cert.RefLiIdeal.S1x2048 ![1] Cert.RefLiIdeal.Gen.bcast_S2048_S1x2048_1 μ)))) w1)⟩, ⟨Cert.RefLiIdeal.S32768x96, Host.dotGeneral Cert.RefLiIdeal.dot_S32768x2048_S2048x96_S32768x96_1_0_0_1_n_n none (addf (extf .f32 H Cert.RefLiIdeal.Gen.bitsLt_bf16_f32) (mulf (extf .f32 X Cert.RefLiIdeal.Gen.bitsLt_bf16_f32) (broadcastInDim Cert.RefLiIdeal.S32768x2048 ![0, 1] Cert.RefLiIdeal.Gen.bcast_S1x2048_S32768x2048_0_1 (broadcastInDim Cert.RefLiIdeal.S1x2048 ![1] Cert.RefLiIdeal.Gen.bcast_S2048_S1x2048_1 ν)))) a1⟩, ⟨Cert.RefLiIdeal.S32768x64, Host.dotGeneral Cert.RefLiIdeal.dot_S32768x2048_S2048x64_S32768x64_1_0_0_1_n_n none (addf (extf .f32 H Cert.RefLiIdeal.Gen.bitsLt_bf16_f32) (mulf (extf .f32 X Cert.RefLiIdeal.Gen.bitsLt_bf16_f32) (broadcastInDim Cert.RefLiIdeal.S32768x2048 ![0, 1] Cert.RefLiIdeal.Gen.bcast_S1x2048_S32768x2048_0_1 (broadcastInDim Cert.RefLiIdeal.S1x2048 ![1] Cert.RefLiIdeal.Gen.bcast_S2048_S1x2048_1 ξ)))) v1⟩] Cert.RefLiIdeal.Gen.concatenates_S32768x96_S32768x96_S32768x64_S32768x256_d1)) Cert.RefLiIdeal.Gen.bitsLt_bf16_f32 i = bent H X (side w1 a1 v1) (side (mixed μ w1) (mixed ν a1) (mixedV ξ v1)) i := by
  have hc : IntOp.cmpi .slt (BitVec.ofNat 32 (i 1).val) 96#32 = if (i 1).val < 96 then 1#1 else 0#1 := col_lt (i 1)
  pointwise [bent, both]
  simp only [hc]
  by_cases h1 : (i 1).val < 96
  · simp only [h1, ↓reduceDIte, ↓reduceIte, Scalar.select]
    exact congrArg Ideal.tanh (mix_mul _ _ _ _ (fun l => hH _) (fun l => hw _)).symm
  · by_cases h2 : (i 1).val - 96 < 96
    · simp only [h1, h2, ↓reduceDIte, ↓reduceIte, Scalar.select]
      exact (mix_mul _ _ _ _ (fun l => hH _) (fun l => ha _)).symm
    · simp only [h1, h2, ↓reduceDIte, ↓reduceIte, Scalar.select]
      exact (mix_mul _ _ _ _ (fun l => hH _) (fun l => hv _)).symm

/-- The kernel and the reference end with the same three maps, from finite states and weights. -/
theorem claim : Cert.algebraic_LiIdeal_RefLiIdeal_pre_finite_li := by
  pair_intro
  · run_from Cert.LiIdeal.Value.run_blocks m g
  · run_from Cert.RefLiIdeal.Value.run m' g'
    obtain ⟨-, -, -, -, e4, e5, e6, e7⟩ := hagree c
    rw [result, fst, snd, e4, e5, e6, e7]
    funext i
    obtain ⟨h0, h5, h6, h7⟩ := reals _ _ _ _ _ _ _ _ (hpre c)
    exact tie _ _ _ _ _ _ _ _ h0 h5 h6 h7 i

end Cert.LiIdeal.Value

end
-- ==== Proof.RefValue.lean ====
module

public import proofs.«01_k».proof.Proof.Gen.ReferenceIdeal.Run
public import proofs.«01_k».proof.Proof.Softmax
public import Idealize.ShloMosaic.Lib.IdealHost
public import Idealize.ShloMosaic.Lib.Pipeline.ValueKit

@[expose] public section

set_option maxRecDepth 16384

noncomputable section

namespace Cert.ReferenceIdeal.Value

open Cert.ReferenceIdeal Cert.ReferenceIdeal.Gen Cert.Attn Idealize.ShloMosaic Idealize.ShloMosaic.TcCoe

/-- The queries by head. -/
def HQ (A : FVec Ideal S2x16384x4096 .bf16) : FVec Ideal S2x16384x32x64 .f32 :=
  shapeCast _ (extractStridedSlice S2x16384x2048 ![0, 0, 0] (extf .f32 A bitsLt_bf16_f32) slices_S2x16384x4096_S2x16384x2048_0_0_0) shapeCasts_S2x16384x2048_S2x16384x32x64

/-- The keys by head. -/
def HKk (A : FVec Ideal S2x16384x4096 .bf16) : FVec Ideal S2x16384x32x64 .f32 :=
  shapeCast _ (extractStridedSlice S2x16384x2048 ![0, 0, 2048] (extf .f32 A bitsLt_bf16_f32) slices_S2x16384x4096_S2x16384x2048_0_0_2048) shapeCasts_S2x16384x2048_S2x16384x32x64

/-- Rows divided by their root mean square and weighed, heads first. -/
def nrm (Y : FVec Ideal S2x16384x32x64 .f32) (W : FVec Ideal S64 .f32) : FVec Ideal S2x32x16384x64 .f32 :=
  transpose S2x32x16384x64 [0, 2, 1, 3] (mulf (mulf Y (broadcastInDim S2x16384x32x64 ![0, 1, 2, 3] bcast_S2x16384x32x1_S2x16384x32x64_0_1_2_3 (Host.rsqrt (addf (Host.divf (broadcastInDim S2x16384x32x1 ![0, 1, 2] bcast_S2x16384x32_S2x16384x32x1_0_1_2 (Host.reduceAdd (mulf Y Y) (constant S_ .f32 0x00000000#32) reducesTo_S2x16384x32x64_S2x16384x32_d3 h_S_)) (broadcastInDim S2x16384x32x1 ![] bcast_S_S2x16384x32x1 (constant S_ .f32 0x42800000#32))) (broadcastInDim S2x16384x32x1 ![] bcast_S_S2x16384x32x1 (constant S_ .f32 0x358637BD#32)))))) (broadcastInDim S2x16384x32x64 ![0, 1, 2, 3] bcast_S1x1x1x64_S2x16384x32x64_0_1_2_3 (broadcastInDim S1x1x1x64 ![3] bcast_S64_S1x1x1x64_3 W))) transposes_S2x16384x32x64_S2x32x16384x64_0_2_1_3

/-- The scores, the masked ones at minus infinity. -/
def SC (Q K : FVec Ideal S2x32x16384x64 .f32) (A2 : FVec Ideal S2x32x1x16384 .f32) : FVec Ideal S2x32x16384x16384 .f32 :=
  select (broadcastInDim S2x32x16384x16384 ![2, 3] bcast_S16384x16384_S2x32x16384x16384_2_3 (cmpi .sle (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0))))) (subf (addf (mulf (Host.dotGeneral dot_S2x32x16384x64_S2x32x16384x64_S2x32x16384x16384_3_3_2_2_01_01 none Q K) (broadcastInDim S2x32x16384x16384 ![] bcast_S_S2x32x16384x16384 (constant S_ .f32 0x3E000000#32))) (broadcastInDim S2x32x16384x16384 ![0, 1, 2, 3] bcast_S2x32x16384x1_S2x32x16384x16384_0_1_2_3 (broadcastInDim S2x32x16384x1 ![0, 1, 2] bcast_S2x32x16384_S2x32x16384x1_0_1_2 (shapeCast _ A2 shapeCasts_S2x32x1x16384_S2x32x16384)))) (broadcastInDim S2x32x16384x16384 ![0, 1, 2, 3] bcast_S2x32x1x16384_S2x32x16384x16384_0_1_2_3 (broadcastInDim S2x32x1x16384 ![0, 1, 3] bcast_S2x32x16384_S2x32x1x16384_0_1_3 (shapeCast _ A2 shapeCasts_S2x32x1x16384_S2x32x16384)))) (broadcastInDim S2x32x16384x16384 ![] bcast_S_S2x32x16384x16384 (id (constant S_ .f32 0xFF800000#32)))

/-- The largest score of each row, as the reduction takes it. -/
def RM (S : FVec Ideal S2x32x16384x16384 .f32) : FVec Ideal S2x32x16384 .f32 :=
  Host.reduce FloatOps.maximumf S (constant S_ .f32 0xFF800000#32) reducesTo_S2x32x16384x16384_S2x32x16384_d3 h_S_

/-- The largest score of each row. -/
def MX (S : FVec Ideal S2x32x16384x16384 .f32) : FVec Ideal S2x32x16384 .f32 :=
  maximumf (broadcastInDim S2x32x16384 ![] bcast_S_S2x32x16384 (constant S_ .f32 0xFF800000#32)) (RM S)

/-- The exponentials of the scores less their row's largest. -/
def EX (S : FVec Ideal S2x32x16384x16384 .f32) : FVec Ideal S2x32x16384x16384 .f32 :=
  Host.exp (subf S (broadcastInDim S2x32x16384x16384 ![0, 1, 2, 3] bcast_S2x32x16384x1_S2x32x16384x16384_0_1_2_3 (broadcastInDim S2x32x16384x1 ![0, 1, 2] bcast_S2x32x16384_S2x32x16384x1_0_1_2 (MX S))))

/-- The weights: each exponential divided by its row's sum. -/
def PW (E : FVec Ideal S2x32x16384x16384 .f32) : FVec Ideal S2x32x16384x16384 .f32 :=
  Host.divf E (broadcastInDim S2x32x16384x16384 ![0, 1, 2, 3] bcast_S2x32x16384x1_S2x32x16384x16384_0_1_2_3 (broadcastInDim S2x32x16384x1 ![0, 1, 2] bcast_S2x32x16384_S2x32x16384x1_0_1_2 (Host.reduceAdd E (constant S_ .f32 0x00000000#32) reducesTo_S2x32x16384x16384_S2x32x16384_d3 h_S_)))

/-- The values by head. -/
def HV (A : FVec Ideal S2x2048x16384 .bf16) : FVec Ideal S2x32x16384x64 .f32 :=
  transpose S2x32x16384x64 [0, 1, 3, 2] (shapeCast _ (extf .f32 A bitsLt_bf16_f32) shapeCasts_S2x2048x16384_S2x32x64x16384) transposes_S2x32x64x16384_S2x32x16384x64_0_1_3_2

/-- The weighted values, gated. -/
def OU (P : FVec Ideal S2x32x16384x16384 .f32) (X : FVec Ideal S2x32x16384x64 .f32) (A3 : FVec Ideal S2x16384x2048 .bf16) : FVec Ideal S2x16384x2048 .bf16 :=
  truncf .bf16 (mulf (shapeCast _ (transpose S2x16384x32x64 [0, 2, 1, 3] (Host.dotGeneral dot_S2x32x16384x16384_S2x32x16384x64_S2x32x16384x64_3_2_2_3_01_01 none P X) transposes_S2x32x16384x64_S2x16384x32x64_0_2_1_3) shapeCasts_S2x16384x32x64_S2x16384x2048) (mulf (extf .f32 A3 bitsLt_bf16_f32) (Host.divf (broadcastInDim S2x16384x2048 ![] bcast_S_S2x16384x2048 (constant S_ .f32 0x3F800000#32)) (addf (broadcastInDim S2x16384x2048 ![] bcast_S_S2x16384x2048 (constant S_ .f32 0x3F800000#32)) (Host.exp (Host.negf (extf .f32 A3 bitsLt_bf16_f32))))))) bitsLt_bf16_f32

/-- The reference's result, in these steps. -/
theorem res_eq (m : (ℓ : Loc nD τ sig) → Buf (Elt Ideal) ℓ) (c : Dev nD) :
    res_main_v70 (F := Ideal) m c = OU (PW (EX (SC (nrm (HQ (m ((c.tc : Thread nD τ).loc main_arg0))) (m ((c.tc : Thread nD τ).loc main_arg4)))
      (nrm (HKk (m ((c.tc : Thread nD τ).loc main_arg0))) (m ((c.tc : Thread nD τ).loc main_arg5))) (m ((c.tc : Thread nD τ).loc main_arg2)))))
      (HV (m ((c.tc : Thread nD τ).loc main_arg1))) (m ((c.tc : Thread nD τ).loc main_arg3)) := by
  rfl

theorem c64 : Ideal.ofBits .f32 0x42800000#32 = ((64 : ℝ) : EReal) := by
  simp [Ideal.ofBits, Ideal.ieee]
  rw [← EReal.coe_mul]; norm_num

theorem c8 : Ideal.ofBits .f32 0x3E000000#32 = ((1 / 8 : ℝ) : EReal) := by
  simp [Ideal.ofBits, Ideal.ieee]
  rw [← EReal.coe_mul]; norm_num

theorem cbot : Ideal.ofBits .f32 0xFF800000#32 = ⊥ := by
  simp [Ideal.ofBits, Ideal.ieee]

theorem HQ_at (A : FVec Ideal S2x16384x4096 .bf16) (b : Fin 2) (n : Fin 16384) (h : Fin 32) (e : Fin 64) :
    HQ A (ix4 b n h e) = A (ix3 b n (⟨64 * h.val + e.val, by omega⟩ : Fin 4096)) := by
  pointwise [HQ]
  blk_ext []

theorem HKk_at (A : FVec Ideal S2x16384x4096 .bf16) (b : Fin 2) (n : Fin 16384) (h : Fin 32) (e : Fin 64) :
    HKk A (ix4 b n h e) = A (ix3 b n (⟨2048 + (64 * h.val + e.val), by omega⟩ : Fin 4096)) := by
  pointwise [HKk]
  blk_ext []

theorem HV_at (A : FVec Ideal S2x2048x16384 .bf16) (b : Fin 2) (h : Fin 32) (n : Fin 16384) (e : Fin 64) :
    HV A (ix4 b h n e) = A (ix3 b (⟨64 * h.val + e.val, by omega⟩ : Fin 2048) n) := by
  pointwise [HV]
  blk_ext []

theorem nrm_at (Y : FVec Ideal S2x16384x32x64 .f32) (W : FVec Ideal S64 .f32) (b : Fin 2) (h : Fin 32) (n : Fin 16384) (e : Fin 64) :
    nrm Y W (ix4 b h n e) = rms (Ideal.ofBits .f32 0x358637BD#32) (fun e => Y (ix4 b n h e)) e * W (ix1 e) := by
  pointwise [nrm]
  unfold rms
  rw [c64, Ideal.div_coe (by norm_num)]

theorem sle_iff (i j : Fin 16384) : IntOp.cmpi .sle (BitVec.ofNat 32 j.val) (BitVec.ofNat 32 i.val) = if j.val ≤ i.val then 1#1 else 0#1 := by
  have hi := i.isLt
  have hj := j.isLt
  have e : (BitVec.ofNat 32 j.val).sle (BitVec.ofNat 32 i.val) = decide (j.val ≤ i.val) := by
    rw [BitVec.sle_eq_decide, BitVec.toInt_eq_toNat_of_lt (by rw [BitVec.toNat_ofNat]; omega), BitVec.toInt_eq_toNat_of_lt (by rw [BitVec.toNat_ofNat]; omega)]
    rw [BitVec.toNat_ofNat, BitVec.toNat_ofNat, Nat.mod_eq_of_lt (by omega), Nat.mod_eq_of_lt (by omega)]
    simp
  by_cases h : j.val ≤ i.val
  · simp [IntOp.cmpi, e, h]
  · simp [IntOp.cmpi, e, h]

theorem SC_at (Q K : FVec Ideal S2x32x16384x64 .f32) (A2 : FVec Ideal S2x32x1x16384 .f32) (b : Fin 2) (h : Fin 32) (i j : Fin 16384) :
    SC Q K A2 (ix4 b h i j) = if j.val ≤ i.val then (∑ d : Fin 64, Q (ix4 b h i d) * K (ix4 b h j d)) * ((1 / 8 : ℝ) : EReal) + A2 (ix4 b h 0 i) - A2 (ix4 b h 0 j) else ⊥ := by
  pointwise [SC]
  rw [sle_iff, c8]
  by_cases hji : j.val ≤ i.val
  · rw [if_pos hji, if_pos hji]; rfl
  · rw [if_neg hji, if_neg hji]; exact cbot

/-- The largest entry along the last axis. -/
theorem maxred {n0 n1 n2 n3 : ℕ} (hr : (⟨4, ![n0, n1, n2, n3]⟩ : Shape).ReducesTo [3] ⟨3, ![n0, n1, n2]⟩) (S : FVec Ideal ⟨4, ![n0, n1, n2, n3]⟩ .f32)
    (hu : 0 < S_.numel) (b : Fin n0) (h : Fin n1) (i : Fin n2) :
    Host.reduce FloatOps.maximumf S (constant S_ .f32 0xFF800000#32) hr hu (ix3 b h i) = (Finset.univ : Finset (Fin n3)).sup fun j => S (ix4 b h i j) := by
  pointwise []
  rw [cbot]
  rfl

theorem RM_at (S : FVec Ideal S2x32x16384x16384 .f32) (b : Fin 2) (h : Fin 32) (i : Fin 16384) :
    RM S (ix3 b h i) = (Finset.univ : Finset (Fin 16384)).sup fun j => S (ix4 b h i j) := by
  unfold RM
  exact maxred _ S _ b h i

theorem max_bot (R : FVec Ideal S2x32x16384 .f32) (b : Fin 2) (h : Fin 32) (i : Fin 16384) :
    maximumf (broadcastInDim S2x32x16384 ![] bcast_S_S2x32x16384 (constant S_ .f32 0xFF800000#32)) R (ix3 b h i) = R (ix3 b h i) := by
  pointwise []
  rw [cbot]
  exact max_eq_right bot_le

theorem MX_at (S : FVec Ideal S2x32x16384x16384 .f32) (b : Fin 2) (h : Fin 32) (i : Fin 16384) :
    MX S (ix3 b h i) = (Finset.univ : Finset (Fin 16384)).sup fun j => S (ix4 b h i j) := by
  unfold MX
  exact (max_bot (RM S) b h i).trans (RM_at S b h i)

theorem EX_at (S : FVec Ideal S2x32x16384x16384 .f32) (b : Fin 2) (h : Fin 32) (i j : Fin 16384) :
    EX S (ix4 b h i j) = Ideal.exp (S (ix4 b h i j) - MX S (ix3 b h i)) := by
  pointwise [EX]

theorem PW_at (E : FVec Ideal S2x32x16384x16384 .f32) (b : Fin 2) (h : Fin 32) (i j : Fin 16384) :
    PW E (ix4 b h i j) = Ideal.div (E (ix4 b h i j)) (∑ k : Fin 16384, E (ix4 b h i k)) := by
  pointwise [PW]

theorem OU_at (P : FVec Ideal S2x32x16384x16384 .f32) (X : FVec Ideal S2x32x16384x64 .f32) (A3 : FVec Ideal S2x16384x2048 .bf16) (b : Fin 2) (i : Fin 16384) (h : Fin 32) (d : Fin 64) :
    OU P X A3 (ix3 b i (⟨64 * h.val + d.val, by omega⟩ : Fin 2048))
      = (∑ j : Fin 16384, P (ix4 b h i j) * X (ix4 b h j d))
        * (A3 (ix3 b i (⟨64 * h.val + d.val, by omega⟩ : Fin 2048)) * Ideal.logistic (A3 (ix3 b i (⟨64 * h.val + d.val, by omega⟩ : Fin 2048)))) := by
  pointwise [OU]
  rfl

end Cert.ReferenceIdeal.Value

end
-- ==== Proof.RefTie.lean ====
module

public import proofs.«01_k».proof.Proof.RefValue
public import proofs.«01_k».proof.Proof.ValueRun

@[expose] public section

set_option maxRecDepth 16384

noncomputable section

namespace Cert.Tie

open Cert.Attn Cert.KernelIdeal.Body Cert.ReferenceIdeal.Value Idealize.ShloMosaic Idealize.ShloMosaic.TcCoe

/-- The largest of the first `n` scores, over the numbers below `n`. -/
theorem top_fin (S : ℕ → EReal) (n : ℕ) : Attn.top S n = (Finset.univ : Finset (Fin n)).sup fun j => S j.val := by
  unfold Attn.top
  apply le_antisymm
  · exact Finset.sup_le fun j hj => Finset.le_sup (f := fun k : Fin n => S k.val) (Finset.mem_univ (⟨j, Finset.mem_range.1 hj⟩ : Fin n))
  · exact Finset.sup_le fun j _ => Finset.le_sup (f := S) (Finset.mem_range.2 j.isLt)

/-- A softmax-weighted sum, over the numbers below `n`. -/
theorem soft_fin (S V : ℕ → EReal) (n : ℕ) :
    (∑ j ∈ Finset.range n, Ideal.div (Ideal.exp (S j - Attn.top S n)) (∑ k ∈ Finset.range n, Ideal.exp (S k - Attn.top S n)) * V j)
      = ∑ j : Fin n, Ideal.div (Ideal.exp (S j.val - (Finset.univ : Finset (Fin n)).sup fun j => S j.val))
          (∑ k : Fin n, Ideal.exp (S k.val - (Finset.univ : Finset (Fin n)).sup fun j => S j.val)) * V j.val := by
  rw [Finset.sum_range, Finset.sum_range, top_fin]

theorem of_val (n : Fin 16384) : Fin.ofNat 16384 n.val = n := Fin.ext (Nat.mod_eq_of_lt n.isLt)

section

variable (b : Fin 2) (h : Fin 32) (d : Fin 64)

/-- The pair a head is in, its place in the pair, and the lane of one of its coordinates. -/
def pr : Fin 16 := ⟨h.val / 2, by omega⟩
def pl : Fin 2 := ⟨h.val % 2, by omega⟩
def lam : Fin 128 := ⟨64 * (h.val % 2) + d.val, by omega⟩

theorem hd_lam : hd (lam h d) = pl h := by
  apply Fin.ext
  show (Fin.ofNat 2 ((64 * (h.val % 2) + d.val) / 64)).val = h.val % 2
  simp only [Fin.val_ofNat]; omega

theorem q_at (X : Vec Ideal Cert.KernelIdeal.S2x16384x4096 .bf16) (n : Fin 16384) :
    qA X b (pr h) n.val (ln (pl h) d) = X (ix3 b n (⟨64 * h.val + d.val, by omega⟩ : Fin 4096)) := by
  unfold qA
  rw [of_val]
  congr 2
  apply Fin.ext
  show 128 * (h.val / 2) + (64 * (h.val % 2) + d.val) = 64 * h.val + d.val
  omega

theorem k_at (X : Vec Ideal Cert.KernelIdeal.S2x16384x4096 .bf16) (n : Fin 16384) :
    kA X b (pr h) n.val (ln (pl h) d) = X (ix3 b n (⟨2048 + (64 * h.val + d.val), by omega⟩ : Fin 4096)) := by
  unfold kA
  rw [of_val]
  congr 2
  apply Fin.ext
  show 2048 + 128 * (h.val / 2) + (64 * (h.val % 2) + d.val) = 2048 + (64 * h.val + d.val)
  omega

theorem v_at (X : Vec Ideal Cert.KernelIdeal.S2x2048x16384 .bf16) (n : Fin 16384) :
    vA X b (pr h) (lam h d) n.val = X (ix3 b (⟨64 * h.val + d.val, by omega⟩ : Fin 2048) n) := by
  unfold vA
  rw [of_val]
  congr 2
  apply Fin.ext
  show 128 * (h.val / 2) + (64 * (h.val % 2) + d.val) = 64 * h.val + d.val
  omega

theorem c_at (X : Vec Ideal Cert.KernelIdeal.S2x32x1x16384 .f32) (n : Fin 16384) :
    cA X b (pr h) (pl h) n.val = X (ix4 b h 0 n) := by
  unfold cA
  rw [of_val]
  congr 2
  apply Fin.ext
  show 2 * (h.val / 2) + h.val % 2 = h.val
  omega

theorem z_at (X : Vec Ideal Cert.KernelIdeal.S2x16384x2048 .bf16) (n : Fin 16384) :
    zA X b (pr h) n.val (lam h d) = X (ix3 b n (⟨64 * h.val + d.val, by omega⟩ : Fin 2048)) := by
  unfold zA
  rw [of_val]
  congr 2
  apply Fin.ext
  show 128 * (h.val / 2) + (64 * (h.val % 2) + d.val) = 64 * h.val + d.val
  omega

theorem w_at (X : Vec Ideal Cert.KernelIdeal.S64 .f32) : wA X (ln (pl h) d) = X (ix1 d) := by
  unfold wA
  congr 2
  apply Fin.ext
  show (Fin.ofNat 64 (64 * (h.val % 2) + d.val)).val = d.val
  simp only [Fin.val_ofNat]; omega

end

/-- The score of query `i` and key `j`, masked. -/
def Sk (A0 : Vec Ideal Cert.KernelIdeal.S2x16384x4096 .bf16) (A2 : Vec Ideal Cert.KernelIdeal.S2x32x1x16384 .f32) (A4 A5 : Vec Ideal Cert.KernelIdeal.S64 .f32)
    (b : Fin 2) (h : Fin 32) (i j : ℕ) : EReal :=
  if j ≤ i then (∑ d, (rms ep (fun e => qA A0 b (pr h) i (ln (pl h) e)) d * wA A4 (ln (pl h) d)) * (rms ep (fun e => kA A0 b (pr h) j (ln (pl h) e)) d * wA A5 (ln (pl h) d)))
    * ((1 / 8 : ℝ) : EReal) + cA A2 b (pr h) (pl h) i - cA A2 b (pr h) (pl h) j else ⊥

/-- The reference's steps, composed, are the kernel's attention. -/
theorem ref_out (A0 : FVec Ideal Cert.ReferenceIdeal.S2x16384x4096 .bf16) (A1 : FVec Ideal Cert.ReferenceIdeal.S2x2048x16384 .bf16)
    (A2 : FVec Ideal Cert.ReferenceIdeal.S2x32x1x16384 .f32) (A3 : FVec Ideal Cert.ReferenceIdeal.S2x16384x2048 .bf16) (A4 A5 : FVec Ideal Cert.ReferenceIdeal.S64 .f32) :
    OU (PW (EX (SC (nrm (HQ A0) A4) (nrm (HKk A0) A5) A2))) (HV A1) A3 = OUT A0 A1 A2 A3 A4 A5 := by
  funext y
  obtain ⟨b, i, l, rfl⟩ : ∃ (b : Fin 2) (i : Fin 16384) (l : Fin 2048), y = ix3 b i l := ⟨y 0, y 1, y 2, (ix3_eta y).symm⟩
  obtain ⟨h, d, rfl⟩ : ∃ (h : Fin 32) (d : Fin 64), l = (⟨64 * h.val + d.val, by omega⟩ : Fin 2048) :=
    ⟨⟨l.val / 64, by omega⟩, ⟨l.val % 64, by omega⟩, Fin.ext (by show l.val = 64 * (l.val / 64) + l.val % 64; omega)⟩
  rw [OU_at]
  have eO : OUT A0 A1 A2 A3 A4 A5 (ix3 b i (⟨64 * h.val + d.val, by omega⟩ : Fin 2048)) = outA A0 A1 A2 A3 A4 A5 b (pr h) i.val (lam h d) := by
    show outA A0 A1 A2 A3 A4 A5 b (Fin.ofNat 16 ((64 * h.val + d.val) / 128)) i.val (Fin.ofNat 128 (64 * h.val + d.val)) = _
    congr 1
    · apply Fin.ext
      show (Fin.ofNat 16 ((64 * h.val + d.val) / 128)).val = h.val / 2
      simp only [Fin.val_ofNat]; omega
    · apply Fin.ext
      show (Fin.ofNat 128 (64 * h.val + d.val)).val = 64 * (h.val % 2) + d.val
      simp only [Fin.val_ofNat]; omega
  rw [eO]
  unfold outA outv
  rw [hd_lam, z_at, soft_fin]
  have hS : ∀ j : Fin 16384, SC (nrm (HQ A0) A4) (nrm (HKk A0) A5) A2 (ix4 b h i j)
      = Sk A0 A2 A4 A5 b h i.val j.val := by
    intro j
    rw [SC_at]
    unfold Sk
    simp only [nrm_at, HQ_at, HKk_at, q_at, k_at, w_at, c_at]
    rfl
  have hT : ∀ j : Fin 16384, PW (EX (SC (nrm (HQ A0) A4) (nrm (HKk A0) A5) A2)) (ix4 b h i j) * HV A1 (ix4 b h j d)
      = Ideal.div (Ideal.exp (Sk A0 A2 A4 A5 b h i.val j.val - (Finset.univ : Finset (Fin 16384)).sup fun j => Sk A0 A2 A4 A5 b h i.val j.val))
          (∑ k : Fin 16384, Ideal.exp (Sk A0 A2 A4 A5 b h i.val k.val - (Finset.univ : Finset (Fin 16384)).sup fun j => Sk A0 A2 A4 A5 b h i.val j.val)) * vA A1 b (pr h) (lam h d) j.val := by
    intro j
    rw [PW_at, HV_at, v_at]
    simp only [EX_at, MX_at, hS]
  simp only [hT]
  rfl

end Cert.Tie

end
-- ==== Proof.lean ====
/- The assembly of the claim. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.Qk
public import proofs.«01_k».proof.Proof.Gen.Qk.Frame
public import proofs.«01_k».proof.Proof.Gen.QkIdeal
public import proofs.«01_k».proof.Proof.Gen.QkIdeal.Frame
public import proofs.«01_k».proof.Proof.Gen.QkIdeal.Value
public import proofs.«01_k».proof.Proof.Gen.RefQkIdeal
public import proofs.«01_k».proof.Proof.Gen.RefQkIdeal.Run
public import proofs.«01_k».proof.Proof.Gen.Vt
public import proofs.«01_k».proof.Proof.Gen.Vt.Frame
public import proofs.«01_k».proof.Proof.Gen.VtIdeal
public import proofs.«01_k».proof.Proof.Gen.VtIdeal.Frame
public import proofs.«01_k».proof.Proof.Gen.VtIdeal.Value
public import proofs.«01_k».proof.Proof.Gen.RefVtIdeal
public import proofs.«01_k».proof.Proof.Gen.RefVtIdeal.Run
public import proofs.«01_k».proof.Proof.Gen.Rkv
public import proofs.«01_k».proof.Proof.Gen.Rkv.Frame
public import proofs.«01_k».proof.Proof.Gen.RkvIdeal
public import proofs.«01_k».proof.Proof.Gen.RkvIdeal.Frame
public import proofs.«01_k».proof.Proof.Gen.RkvIdeal.Value
public import proofs.«01_k».proof.Proof.Gen.RefRkvIdeal
public import proofs.«01_k».proof.Proof.Gen.RefRkvIdeal.Run
public import proofs.«01_k».proof.Proof.Gen.Gg
public import proofs.«01_k».proof.Proof.Gen.Gg.Frame
public import proofs.«01_k».proof.Proof.Gen.GgIdeal
public import proofs.«01_k».proof.Proof.Gen.GgIdeal.Frame
public import proofs.«01_k».proof.Proof.Gen.GgIdeal.Value
public import proofs.«01_k».proof.Proof.Gen.RefGgIdeal
public import proofs.«01_k».proof.Proof.Gen.RefGgIdeal.Run
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.RefOutIdeal
public import proofs.«01_k».proof.Proof.Gen.RefOutIdeal.Run
public import proofs.«01_k».proof.Proof.Gen.Nm
public import proofs.«01_k».proof.Proof.Gen.Nm.Frame
public import proofs.«01_k».proof.Proof.Gen.NmIdeal
public import proofs.«01_k».proof.Proof.Gen.NmIdeal.Frame
public import proofs.«01_k».proof.Proof.Gen.NmIdeal.Value
public import proofs.«01_k».proof.Proof.Gen.RefNmIdeal
public import proofs.«01_k».proof.Proof.Gen.RefNmIdeal.Run
public import proofs.«01_k».proof.Proof.Gen.Mx
public import proofs.«01_k».proof.Proof.Gen.Mx.Frame
public import proofs.«01_k».proof.Proof.Gen.MxIdeal
public import proofs.«01_k».proof.Proof.Gen.MxIdeal.Frame
public import proofs.«01_k».proof.Proof.Gen.MxIdeal.Value
public import proofs.«01_k».proof.Proof.Gen.RefMxIdeal
public import proofs.«01_k».proof.Proof.Gen.RefMxIdeal.Run
public import proofs.«01_k».proof.Proof.Gen.Lo
public import proofs.«01_k».proof.Proof.Gen.Lo.Frame
public import proofs.«01_k».proof.Proof.Gen.LoIdeal
public import proofs.«01_k».proof.Proof.Gen.LoIdeal.Frame
public import proofs.«01_k».proof.Proof.Gen.LoIdeal.Value
public import proofs.«01_k».proof.Proof.Gen.RefLoIdeal
public import proofs.«01_k».proof.Proof.Gen.RefLoIdeal.Run
public import proofs.«01_k».proof.Proof.Gen.Lp
public import proofs.«01_k».proof.Proof.Gen.Lp.Frame
public import proofs.«01_k».proof.Proof.Gen.LpIdeal
public import proofs.«01_k».proof.Proof.Gen.LpIdeal.Frame
public import proofs.«01_k».proof.Proof.Gen.LpIdeal.Value
public import proofs.«01_k».proof.Proof.Gen.RefLpIdeal
public import proofs.«01_k».proof.Proof.Gen.RefLpIdeal.Run
public import proofs.«01_k».proof.Proof.Gen.Li
public import proofs.«01_k».proof.Proof.Gen.Li.Frame
public import proofs.«01_k».proof.Proof.Gen.LiIdeal
public import proofs.«01_k».proof.Proof.Gen.LiIdeal.Frame
public import proofs.«01_k».proof.Proof.Gen.LiIdeal.Value
public import proofs.«01_k».proof.Proof.Gen.RefLiIdeal
public import proofs.«01_k».proof.Proof.Gen.RefLiIdeal.Run
public import proofs.«01_k».proof.Proof.Gen.Pre_finite_li
public import proofs.«01_k».proof.Proof.K.FrameRun
public import proofs.«01_k».proof.Proof.FrameRun
public import proofs.«01_k».proof.Proof.ValueQk
public import proofs.«01_k».proof.Proof.ValueVt
public import proofs.«01_k».proof.Proof.ValueRkv
public import proofs.«01_k».proof.Proof.ValueGg
public import proofs.«01_k».proof.Proof.ValueOut
public import proofs.«01_k».proof.Proof.ValueNm
public import proofs.«01_k».proof.Proof.ValueMx
public import proofs.«01_k».proof.Proof.ValueLo
public import proofs.«01_k».proof.Proof.ValueLp
public import proofs.«01_k».proof.Proof.ValueLi
public import proofs.«01_k».proof.Proof.ValueRun
public import proofs.«01_k».proof.Proof.RefTie
public import proofs.«01_k».proof.Proof.Finite
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The reference, run from any memory: its arguments keep their contents and every semaphore counter ends at zero. -/
theorem referenceQuiet : Cert.quiescent_ReferenceIdeal := by
  intro m g _
  exact θ_run_mono (Cert.ReferenceIdeal.Value.run m g) fun _ h => ⟨fun c => (h c).2, sem_eq_zero_of_no_sems rfl _⟩

/-- Over the reals, and from gates and norm weights that are finite, the kernel and the reference end with the same array. -/
theorem value : Cert.algebraic_KernelIdeal_ReferenceIdeal_pre_finite := by
  intro m g m' g' hpre hagree
  refine ⟨_, Cert.KernelIdeal.Body.run m (fun c => Cert.Finite.reals _ _ _ _ _ _ (hpre c)) g, θ_run_mono (Cert.ReferenceIdeal.Value.run m' g') fun r h c => ⟨?_, (h c).2⟩⟩
  obtain ⟨h0, h1, h2, h3, h4, h5⟩ := hagree c
  rw [(h c).1, Cert.ReferenceIdeal.Value.res_eq, h0, h1, h2, h3, h4, h5]
  exact Cert.Tie.ref_out _ _ _ _ _ _

/-! ## The products around the attention and the recurrence: their references, run from any memory -/

/-- The reference of the projection on queries and keys: its arguments keep their contents and every semaphore counter ends at zero. -/
theorem quietQk : Cert.quiescent_RefQkIdeal := fun m g _ =>
  θ_run_mono (Cert.RefQkIdeal.Value.run m g) fun _ h => ⟨fun c => (h c).2, sem_eq_zero_of_no_sems rfl _⟩

/-- The reference of the projection on values: its arguments keep their contents and every semaphore counter ends at zero. -/
theorem quietVt : Cert.quiescent_RefVtIdeal := fun m g _ =>
  θ_run_mono (Cert.RefVtIdeal.Value.run m g) fun _ h => ⟨fun c => (h c).2.2, sem_eq_zero_of_no_sems rfl _⟩

/-- The reference of a projection of the recurrence: its arguments keep their contents and every semaphore counter ends at zero. -/
theorem quietRkv : Cert.quiescent_RefRkvIdeal := fun m g _ =>
  θ_run_mono (Cert.RefRkvIdeal.Value.run m g) fun _ h => ⟨fun c => (h c).2, sem_eq_zero_of_no_sems rfl _⟩

/-- The reference of the projection on a gate: its arguments keep their contents and every semaphore counter ends at zero. -/
theorem quietGg : Cert.quiescent_RefGgIdeal := fun m g _ =>
  θ_run_mono (Cert.RefGgIdeal.Value.run m g) fun _ h => ⟨fun c => (h c).2, sem_eq_zero_of_no_sems rfl _⟩

/-- The reference of the output product with the gated residual: its arguments keep their contents and every semaphore counter ends at zero. -/
theorem quietOut : Cert.quiescent_RefOutIdeal := fun m g _ =>
  θ_run_mono (Cert.RefOutIdeal.Value.run m g) fun _ h => ⟨fun c => (h c).2, sem_eq_zero_of_no_sems rfl _⟩

/-- The reference of the norm with modulation: its arguments keep their contents and every semaphore counter ends at zero. -/
theorem quietNm : Cert.quiescent_RefNmIdeal := fun m g _ =>
  θ_run_mono (Cert.RefNmIdeal.Value.run m g) fun _ h => ⟨fun c => (h c).2, sem_eq_zero_of_no_sems rfl _⟩

/-- The reference of the norm with modulation and the mixes with the row above: its arguments keep their contents and every semaphore counter ends at zero. -/
theorem quietMx : Cert.quiescent_RefMxIdeal := fun m g _ =>
  θ_run_mono (Cert.RefMxIdeal.Value.run m g) fun _ h => ⟨fun c => (h c).2.2.2.2.2.2, sem_eq_zero_of_no_sems rfl _⟩

/-- The reference of a low-rank map's second product: its arguments keep their contents and every semaphore counter ends at zero. -/
theorem quietLo : Cert.quiescent_RefLoIdeal := fun m g _ =>
  θ_run_mono (Cert.RefLoIdeal.Value.run m g) fun _ h => ⟨fun c => (h c).2, sem_eq_zero_of_no_sems rfl _⟩

/-- The reference of the value's low-rank map's second product: its arguments keep their contents and every semaphore counter ends at zero. -/
theorem quietLp : Cert.quiescent_RefLpIdeal := fun m g _ =>
  θ_run_mono (Cert.RefLpIdeal.Value.run m g) fun _ h => ⟨fun c => (h c).2, sem_eq_zero_of_no_sems rfl _⟩

/-- The reference of the low-rank maps' first products: its arguments keep their contents and every semaphore counter ends at zero. -/
theorem quietLi : Cert.quiescent_RefLiIdeal := fun m g _ =>
  θ_run_mono (Cert.RefLiIdeal.Value.run m g) fun _ h => ⟨fun c => (h c).2, sem_eq_zero_of_no_sems rfl _⟩

/-- The claim: the frames, the naming of the constants, and the value over the reals of the attention, of the products, of the norms and of the low-rank maps. -/
theorem claim : Cert.Claim :=
  ⟨Cert.Kernel.Gen.facts, Cert.KernelIdeal.Gen.facts, Cert.ReferenceIdeal.Gen.facts,
    Cert.Qk.Gen.facts, Cert.QkIdeal.Gen.facts, Cert.RefQkIdeal.Gen.facts,
    Cert.Vt.Gen.facts, Cert.VtIdeal.Gen.facts, Cert.RefVtIdeal.Gen.facts,
    Cert.Rkv.Gen.facts, Cert.RkvIdeal.Gen.facts, Cert.RefRkvIdeal.Gen.facts,
    Cert.Gg.Gen.facts, Cert.GgIdeal.Gen.facts, Cert.RefGgIdeal.Gen.facts,
    Cert.Out.Gen.facts, Cert.OutIdeal.Gen.facts, Cert.RefOutIdeal.Gen.facts,
    Cert.Nm.Gen.facts, Cert.NmIdeal.Gen.facts, Cert.RefNmIdeal.Gen.facts,
    Cert.Mx.Gen.facts, Cert.MxIdeal.Gen.facts, Cert.RefMxIdeal.Gen.facts,
    Cert.Lo.Gen.facts, Cert.LoIdeal.Gen.facts, Cert.RefLoIdeal.Gen.facts,
    Cert.Lp.Gen.facts, Cert.LpIdeal.Gen.facts, Cert.RefLpIdeal.Gen.facts,
    Cert.Li.Gen.facts, Cert.LiIdeal.Gen.facts, Cert.RefLiIdeal.Gen.facts,
    Cert.Pre_finite.Gen.facts, Cert.Pre_finite_li.Gen.facts,
    fun m g _ => Cert.Kernel.Body.quiescent m g,
    fun m g _ => Cert.KernelIdeal.Body.quiescent m g,
    fun m g _ => Cert.KernelIdeal.Body.quiescent m g,
    referenceQuiet,
    fun m g _ => referenceQuiet m g trivial,
    fun m g _ => Cert.Qk.Gen.frame m g, fun m g _ => Cert.QkIdeal.Gen.frame m g, quietQk,
    fun m g _ => Cert.Vt.Gen.frame m g, fun m g _ => Cert.VtIdeal.Gen.frame m g, quietVt,
    fun m g _ => Cert.Rkv.Gen.frame m g, fun m g _ => Cert.RkvIdeal.Gen.frame m g, quietRkv,
    fun m g _ => Cert.Gg.Gen.frame m g, fun m g _ => Cert.GgIdeal.Gen.frame m g, quietGg,
    fun m g _ => Cert.Out.Gen.frame m g, fun m g _ => Cert.OutIdeal.Gen.frame m g, quietOut,
    fun m g _ => Cert.Nm.Gen.frame m g, fun m g _ => Cert.NmIdeal.Gen.frame m g, quietNm,
    fun m g _ => Cert.Mx.Gen.frame m g, fun m g _ => Cert.MxIdeal.Gen.frame m g, quietMx,
    fun m g _ => Cert.Lo.Gen.frame m g, fun m g _ => Cert.LoIdeal.Gen.frame m g, quietLo,
    fun m g _ => Cert.Lp.Gen.frame m g, fun m g _ => Cert.LpIdeal.Gen.frame m g, quietLp,
    fun m g _ => Cert.Li.Gen.frame m g, fun m g _ => Cert.LiIdeal.Gen.frame m g, fun m g _ => Cert.LiIdeal.Gen.frame m g, quietLi,
    fun m g _ => quietLi m g trivial,
    ⟨IdealRules.named_const.statement _ _ _ _ _ rfl, IdealRules.named_const.statement _ _ _ _ _ rfl,
      IdealRules.named_const.statement _ _ _ _ _ rfl⟩,
    value,
    trivial, Cert.QkIdeal.Value.claim,
    trivial, Cert.VtIdeal.Value.claim,
    trivial, Cert.RkvIdeal.Value.claim,
    trivial, Cert.GgIdeal.Value.claim,
    trivial, Cert.OutIdeal.Value.claim,
    trivial, Cert.NmIdeal.Value.claim,
    trivial, Cert.MxIdeal.Value.claim,
    trivial, Cert.LoIdeal.Value.claim,
    trivial, Cert.LpIdeal.Value.claim,
    trivial, Cert.LiIdeal.Value.claim⟩

end Cert.Proof

end
